-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Ffa (m : (ℓ : Loc Cert.Ffa.nD Cert.Ffa.τ Cert.Ffa.sig) → Buf (Elt Bits) ℓ) : Prop :=
  True

def Pre_FfaIdeal (m : (ℓ : Loc Cert.FfaIdeal.nD Cert.FfaIdeal.τ Cert.FfaIdeal.sig) → Buf (Elt Ideal) ℓ) : Prop :=
  True

def Pre_FfaReferenceIdeal (m : (ℓ : Loc Cert.FfaReferenceIdeal.nD Cert.FfaReferenceIdeal.τ Cert.FfaReferenceIdeal.sig) → Buf (Elt Ideal) ℓ) : Prop :=
  True

def Pre_Ffb (m : (ℓ : Loc Cert.Ffb.nD Cert.Ffb.τ Cert.Ffb.sig) → Buf (Elt Bits) ℓ) : Prop :=
  True

def Pre_FfbIdeal (m : (ℓ : Loc Cert.FfbIdeal.nD Cert.FfbIdeal.τ Cert.FfbIdeal.sig) → Buf (Elt Ideal) ℓ) : Prop :=
  True

def Pre_FfbReferenceIdeal (m : (ℓ : Loc Cert.FfbReferenceIdeal.nD Cert.FfbReferenceIdeal.τ Cert.FfbReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluReferenceIdeal (m : (ℓ : Loc Cert.GluReferenceIdeal.nD Cert.GluReferenceIdeal.τ Cert.GluReferenceIdeal.sig) → Buf (Elt Ideal) ℓ) : Prop :=
  True

def Pre_Key (m : (ℓ : Loc Cert.Key.nD Cert.Key.τ Cert.Key.sig) → Buf (Elt Bits) ℓ) : Prop :=
  True

def Pre_KeyIdeal (m : (ℓ : Loc Cert.KeyIdeal.nD Cert.KeyIdeal.τ Cert.KeyIdeal.sig) → Buf (Elt Ideal) ℓ) : Prop :=
  True

def Pre_KeyReferenceIdeal (m : (ℓ : Loc Cert.KeyReferenceIdeal.nD Cert.KeyReferenceIdeal.τ Cert.KeyReferenceIdeal.sig) → Buf (Elt Ideal) ℓ) : Prop :=
  True

def Pre_Val (m : (ℓ : Loc Cert.Val.nD Cert.Val.τ Cert.Val.sig) → Buf (Elt Bits) ℓ) : Prop :=
  True

def Pre_ValIdeal (m : (ℓ : Loc Cert.ValIdeal.nD Cert.ValIdeal.τ Cert.ValIdeal.sig) → Buf (Elt Ideal) ℓ) : Prop :=
  True

def Pre_ValReferenceIdeal (m : (ℓ : Loc Cert.ValReferenceIdeal.nD Cert.ValReferenceIdeal.τ Cert.ValReferenceIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryReferenceIdeal (m : (ℓ : Loc Cert.QueryReferenceIdeal.nD Cert.QueryReferenceIdeal.τ Cert.QueryReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Fin (m : (ℓ : Loc Cert.Fin.nD Cert.Fin.τ Cert.Fin.sig) → Buf (Elt Bits) ℓ) : Prop :=
  True

def Pre_FinIdeal (m : (ℓ : Loc Cert.FinIdeal.nD Cert.FinIdeal.τ Cert.FinIdeal.sig) → Buf (Elt Ideal) ℓ) : Prop :=
  True

def Pre_FinReferenceIdeal (m : (ℓ : Loc Cert.FinReferenceIdeal.nD Cert.FinReferenceIdeal.τ Cert.FinReferenceIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def Pre_Sfin (m : (ℓ : Loc Cert.Sfin.nD Cert.Sfin.τ Cert.Sfin.sig) → Buf (Elt Bits) ℓ) : Prop :=
  True

def Pre_SfinIdeal (m : (ℓ : Loc Cert.SfinIdeal.nD Cert.SfinIdeal.τ Cert.SfinIdeal.sig) → Buf (Elt Ideal) ℓ) : Prop :=
  True

def Pre_SfinReferenceIdeal (m : (ℓ : Loc Cert.SfinReferenceIdeal.nD Cert.SfinReferenceIdeal.τ Cert.SfinReferenceIdeal.sig) → Buf (Elt Ideal) ℓ) : Prop :=
  True

def Pre_Skey (m : (ℓ : Loc Cert.Skey.nD Cert.Skey.τ Cert.Skey.sig) → Buf (Elt Bits) ℓ) : Prop :=
  True

def Pre_SkeyIdeal (m : (ℓ : Loc Cert.SkeyIdeal.nD Cert.SkeyIdeal.τ Cert.SkeyIdeal.sig) → Buf (Elt Ideal) ℓ) : Prop :=
  True

def Pre_SkeyReferenceIdeal (m : (ℓ : Loc Cert.SkeyReferenceIdeal.nD Cert.SkeyReferenceIdeal.τ Cert.SkeyReferenceIdeal.sig) → Buf (Elt Ideal) ℓ) : Prop :=
  True

def Pre_Sval (m : (ℓ : Loc Cert.Sval.nD Cert.Sval.τ Cert.Sval.sig) → Buf (Elt Bits) ℓ) : Prop :=
  True

def Pre_SvalIdeal (m : (ℓ : Loc Cert.SvalIdeal.nD Cert.SvalIdeal.τ Cert.SvalIdeal.sig) → Buf (Elt Ideal) ℓ) : Prop :=
  True

def Pre_SvalReferenceIdeal (m : (ℓ : Loc Cert.SvalReferenceIdeal.nD Cert.SvalReferenceIdeal.τ Cert.SvalReferenceIdeal.sig) → Buf (Elt Ideal) ℓ) : Prop :=
  True

def Pre_Sglu (m : (ℓ : Loc Cert.Sglu.nD Cert.Sglu.τ Cert.Sglu.sig) → Buf (Elt Bits) ℓ) : Prop :=
  True

def Pre_SgluIdeal (m : (ℓ : Loc Cert.SgluIdeal.nD Cert.SgluIdeal.τ Cert.SgluIdeal.sig) → Buf (Elt Ideal) ℓ) : Prop :=
  True

def Pre_SgluReferenceIdeal (m : (ℓ : Loc Cert.SgluReferenceIdeal.nD Cert.SgluReferenceIdeal.τ Cert.SgluReferenceIdeal.sig) → Buf (Elt Ideal) ℓ) : Prop :=
  True

def Pre_Sconv (m : (ℓ : Loc Cert.Sconv.nD Cert.Sconv.τ Cert.Sconv.sig) → Buf (Elt Bits) ℓ) : Prop :=
  True

def Pre_SconvIdeal (m : (ℓ : Loc Cert.SconvIdeal.nD Cert.SconvIdeal.τ Cert.SconvIdeal.sig) → Buf (Elt Ideal) ℓ) : Prop :=
  True

def Pre_SconvReferenceIdeal (m : (ℓ : Loc Cert.SconvReferenceIdeal.nD Cert.SconvReferenceIdeal.τ Cert.SconvReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffa [hFfa : Cert.Ffa.Facts] : Prop :=
  ∀ (m : (ℓ : Loc Cert.Ffa.nD Cert.Ffa.τ Cert.Ffa.sig) → Buf (Elt Bits) ℓ) (g : Dev Cert.Ffa.nD → PrngReg), Pre_Ffa m →
    θ_run (Cert.Ffa.defs (F := Bits)) (onTc (τ := Cert.Ffa.τ) (Cert.Ffa.main (F := Bits))) ⟨m, fun _ => 0, g⟩ (fun r => (∀ c : Dev Cert.Ffa.nD,
      r.2.mem ((c.tc : Thread Cert.Ffa.nD Cert.Ffa.τ).loc Cert.Ffa.main_arg0) = m ((c.tc : Thread Cert.Ffa.nD Cert.Ffa.τ).loc Cert.Ffa.main_arg0)
      ∧ r.2.mem ((c.tc : Thread Cert.Ffa.nD Cert.Ffa.τ).loc Cert.Ffa.main_arg1) = m ((c.tc : Thread Cert.Ffa.nD Cert.Ffa.τ).loc Cert.Ffa.main_arg1))
      ∧ r.2.sem = fun _ => 0)

def quiescent_FfaIdeal [hFfaIdeal : Cert.FfaIdeal.Facts] : Prop :=
  ∀ (m : (ℓ : Loc Cert.FfaIdeal.nD Cert.FfaIdeal.τ Cert.FfaIdeal.sig) → Buf (Elt Ideal) ℓ) (g : Dev Cert.FfaIdeal.nD → PrngReg), Pre_FfaIdeal m →
    θ_run (Cert.FfaIdeal.defs (F := Ideal)) (onTc (τ := Cert.FfaIdeal.τ) (Cert.FfaIdeal.main (F := Ideal))) ⟨m, fun _ => 0, g⟩ (fun r => (∀ c : Dev Cert.FfaIdeal.nD,
      r.2.mem ((c.tc : Thread Cert.FfaIdeal.nD Cert.FfaIdeal.τ).loc Cert.FfaIdeal.main_arg0) = m ((c.tc : Thread Cert.FfaIdeal.nD Cert.FfaIdeal.τ).loc Cert.FfaIdeal.main_arg0)
      ∧ r.2.mem ((c.tc : Thread Cert.FfaIdeal.nD Cert.FfaIdeal.τ).loc Cert.FfaIdeal.main_arg1) = m ((c.tc : Thread Cert.FfaIdeal.nD Cert.FfaIdeal.τ).loc Cert.FfaIdeal.main_arg1))
      ∧ r.2.sem = fun _ => 0)

def quiescent_FfaReferenceIdeal [hFfaReferenceIdeal : Cert.FfaReferenceIdeal.Facts] : Prop :=
  ∀ (m : (ℓ : Loc Cert.FfaReferenceIdeal.nD Cert.FfaReferenceIdeal.τ Cert.FfaReferenceIdeal.sig) → Buf (Elt Ideal) ℓ) (g : Dev Cert.FfaReferenceIdeal.nD → PrngReg), Pre_FfaReferenceIdeal m →
    θ_run (Cert.FfaReferenceIdeal.defs (F := Ideal)) (onTc (τ := Cert.FfaReferenceIdeal.τ) (Cert.FfaReferenceIdeal.main (F := Ideal))) ⟨m, fun _ => 0, g⟩ (fun r => (∀ c : Dev Cert.FfaReferenceIdeal.nD,
      r.2.mem ((c.tc : Thread Cert.FfaReferenceIdeal.nD Cert.FfaReferenceIdeal.τ).loc Cert.FfaReferenceIdeal.main_arg0) = m ((c.tc : Thread Cert.FfaReferenceIdeal.nD Cert.FfaReferenceIdeal.τ).loc Cert.FfaReferenceIdeal.main_arg0)
      ∧ r.2.mem ((c.tc : Thread Cert.FfaReferenceIdeal.nD Cert.FfaReferenceIdeal.τ).loc Cert.FfaReferenceIdeal.main_arg1) = m ((c.tc : Thread Cert.FfaReferenceIdeal.nD Cert.FfaReferenceIdeal.τ).loc Cert.FfaReferenceIdeal.main_arg1))
      ∧ r.2.sem = fun _ => 0)

def quiescent_Ffb [hFfb : Cert.Ffb.Facts] : Prop :=
  ∀ (m : (ℓ : Loc Cert.Ffb.nD Cert.Ffb.τ Cert.Ffb.sig) → Buf (Elt Bits) ℓ) (g : Dev Cert.Ffb.nD → PrngReg), Pre_Ffb m →
    θ_run (Cert.Ffb.defs (F := Bits)) (onTc (τ := Cert.Ffb.τ) (Cert.Ffb.main (F := Bits))) ⟨m, fun _ => 0, g⟩ (fun r => (∀ c : Dev Cert.Ffb.nD,
      r.2.mem ((c.tc : Thread Cert.Ffb.nD Cert.Ffb.τ).loc Cert.Ffb.main_arg0) = m ((c.tc : Thread Cert.Ffb.nD Cert.Ffb.τ).loc Cert.Ffb.main_arg0)
      ∧ r.2.mem ((c.tc : Thread Cert.Ffb.nD Cert.Ffb.τ).loc Cert.Ffb.main_arg1) = m ((c.tc : Thread Cert.Ffb.nD Cert.Ffb.τ).loc Cert.Ffb.main_arg1)
      ∧ r.2.mem ((c.tc : Thread Cert.Ffb.nD Cert.Ffb.τ).loc Cert.Ffb.main_arg2) = m ((c.tc : Thread Cert.Ffb.nD Cert.Ffb.τ).loc Cert.Ffb.main_arg2)
      ∧ r.2.mem ((c.tc : Thread Cert.Ffb.nD Cert.Ffb.τ).loc Cert.Ffb.main_arg3) = m ((c.tc : Thread Cert.Ffb.nD Cert.Ffb.τ).loc Cert.Ffb.main_arg3))
      ∧ r.2.sem = fun _ => 0)

def quiescent_FfbIdeal [hFfbIdeal : Cert.FfbIdeal.Facts] : Prop :=
  ∀ (m : (ℓ : Loc Cert.FfbIdeal.nD Cert.FfbIdeal.τ Cert.FfbIdeal.sig) → Buf (Elt Ideal) ℓ) (g : Dev Cert.FfbIdeal.nD → PrngReg), Pre_FfbIdeal m →
    θ_run (Cert.FfbIdeal.defs (F := Ideal)) (onTc (τ := Cert.FfbIdeal.τ) (Cert.FfbIdeal.main (F := Ideal))) ⟨m, fun _ => 0, g⟩ (fun r => (∀ c : Dev Cert.FfbIdeal.nD,
      r.2.mem ((c.tc : Thread Cert.FfbIdeal.nD Cert.FfbIdeal.τ).loc Cert.FfbIdeal.main_arg0) = m ((c.tc : Thread Cert.FfbIdeal.nD Cert.FfbIdeal.τ).loc Cert.FfbIdeal.main_arg0)
      ∧ r.2.mem ((c.tc : Thread Cert.FfbIdeal.nD Cert.FfbIdeal.τ).loc Cert.FfbIdeal.main_arg1) = m ((c.tc : Thread Cert.FfbIdeal.nD Cert.FfbIdeal.τ).loc Cert.FfbIdeal.main_arg1)
      ∧ r.2.mem ((c.tc : Thread Cert.FfbIdeal.nD Cert.FfbIdeal.τ).loc Cert.FfbIdeal.main_arg2) = m ((c.tc : Thread Cert.FfbIdeal.nD Cert.FfbIdeal.τ).loc Cert.FfbIdeal.main_arg2)
      ∧ r.2.mem ((c.tc : Thread Cert.FfbIdeal.nD Cert.FfbIdeal.τ).loc Cert.FfbIdeal.main_arg3) = m ((c.tc : Thread Cert.FfbIdeal.nD Cert.FfbIdeal.τ).loc Cert.FfbIdeal.main_arg3))
      ∧ r.2.sem = fun _ => 0)

def quiescent_FfbReferenceIdeal [hFfbReferenceIdeal : Cert.FfbReferenceIdeal.Facts] : Prop :=
  ∀ (m : (ℓ : Loc Cert.FfbReferenceIdeal.nD Cert.FfbReferenceIdeal.τ Cert.FfbReferenceIdeal.sig) → Buf (Elt Ideal) ℓ) (g : Dev Cert.FfbReferenceIdeal.nD → PrngReg), Pre_FfbReferenceIdeal m →
    θ_run (Cert.FfbReferenceIdeal.defs (F := Ideal)) (onTc (τ := Cert.FfbReferenceIdeal.τ) (Cert.FfbReferenceIdeal.main (F := Ideal))) ⟨m, fun _ => 0, g⟩ (fun r => (∀ c : Dev Cert.FfbReferenceIdeal.nD,
      r.2.mem ((c.tc : Thread Cert.FfbReferenceIdeal.nD Cert.FfbReferenceIdeal.τ).loc Cert.FfbReferenceIdeal.main_arg0) = m ((c.tc : Thread Cert.FfbReferenceIdeal.nD Cert.FfbReferenceIdeal.τ).loc Cert.FfbReferenceIdeal.main_arg0)
      ∧ r.2.mem ((c.tc : Thread Cert.FfbReferenceIdeal.nD Cert.FfbReferenceIdeal.τ).loc Cert.FfbReferenceIdeal.main_arg1) = m ((c.tc : Thread Cert.FfbReferenceIdeal.nD Cert.FfbReferenceIdeal.τ).loc Cert.FfbReferenceIdeal.main_arg1)
      ∧ r.2.mem ((c.tc : Thread Cert.FfbReferenceIdeal.nD Cert.FfbReferenceIdeal.τ).loc Cert.FfbReferenceIdeal.main_arg2) = m ((c.tc : Thread Cert.FfbReferenceIdeal.nD Cert.FfbReferenceIdeal.τ).loc Cert.FfbReferenceIdeal.main_arg2)
      ∧ r.2.mem ((c.tc : Thread Cert.FfbReferenceIdeal.nD Cert.FfbReferenceIdeal.τ).loc Cert.FfbReferenceIdeal.main_arg3) = m ((c.tc : Thread Cert.FfbReferenceIdeal.nD Cert.FfbReferenceIdeal.τ).loc Cert.FfbReferenceIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1))
      ∧ r.2.sem = fun _ => 0)

def quiescent_Key [hKey : Cert.Key.Facts] : Prop :=
  ∀ (m : (ℓ : Loc Cert.Key.nD Cert.Key.τ Cert.Key.sig) → Buf (Elt Bits) ℓ) (g : Dev Cert.Key.nD → PrngReg), Pre_Key m →
    θ_run (Cert.Key.defs (F := Bits)) (onTc (τ := Cert.Key.τ) (Cert.Key.main (F := Bits))) ⟨m, fun _ => 0, g⟩ (fun r => (∀ c : Dev Cert.Key.nD,
      r.2.mem ((c.tc : Thread Cert.Key.nD Cert.Key.τ).loc Cert.Key.main_arg0) = m ((c.tc : Thread Cert.Key.nD Cert.Key.τ).loc Cert.Key.main_arg0)
      ∧ r.2.mem ((c.tc : Thread Cert.Key.nD Cert.Key.τ).loc Cert.Key.main_arg1) = m ((c.tc : Thread Cert.Key.nD Cert.Key.τ).loc Cert.Key.main_arg1))
      ∧ r.2.sem = fun _ => 0)

def quiescent_KeyIdeal [hKeyIdeal : Cert.KeyIdeal.Facts] : Prop :=
  ∀ (m : (ℓ : Loc Cert.KeyIdeal.nD Cert.KeyIdeal.τ Cert.KeyIdeal.sig) → Buf (Elt Ideal) ℓ) (g : Dev Cert.KeyIdeal.nD → PrngReg), Pre_KeyIdeal m →
    θ_run (Cert.KeyIdeal.defs (F := Ideal)) (onTc (τ := Cert.KeyIdeal.τ) (Cert.KeyIdeal.main (F := Ideal))) ⟨m, fun _ => 0, g⟩ (fun r => (∀ c : Dev Cert.KeyIdeal.nD,
      r.2.mem ((c.tc : Thread Cert.KeyIdeal.nD Cert.KeyIdeal.τ).loc Cert.KeyIdeal.main_arg0) = m ((c.tc : Thread Cert.KeyIdeal.nD Cert.KeyIdeal.τ).loc Cert.KeyIdeal.main_arg0)
      ∧ r.2.mem ((c.tc : Thread Cert.KeyIdeal.nD Cert.KeyIdeal.τ).loc Cert.KeyIdeal.main_arg1) = m ((c.tc : Thread Cert.KeyIdeal.nD Cert.KeyIdeal.τ).loc Cert.KeyIdeal.main_arg1))
      ∧ r.2.sem = fun _ => 0)

def quiescent_KeyReferenceIdeal [hKeyReferenceIdeal : Cert.KeyReferenceIdeal.Facts] : Prop :=
  ∀ (m : (ℓ : Loc Cert.KeyReferenceIdeal.nD Cert.KeyReferenceIdeal.τ Cert.KeyReferenceIdeal.sig) → Buf (Elt Ideal) ℓ) (g : Dev Cert.KeyReferenceIdeal.nD → PrngReg), Pre_KeyReferenceIdeal m →
    θ_run (Cert.KeyReferenceIdeal.defs (F := Ideal)) (onTc (τ := Cert.KeyReferenceIdeal.τ) (Cert.KeyReferenceIdeal.main (F := Ideal))) ⟨m, fun _ => 0, g⟩ (fun r => (∀ c : Dev Cert.KeyReferenceIdeal.nD,
      r.2.mem ((c.tc : Thread Cert.KeyReferenceIdeal.nD Cert.KeyReferenceIdeal.τ).loc Cert.KeyReferenceIdeal.main_arg0) = m ((c.tc : Thread Cert.KeyReferenceIdeal.nD Cert.KeyReferenceIdeal.τ).loc Cert.KeyReferenceIdeal.main_arg0)
      ∧ r.2.mem ((c.tc : Thread Cert.KeyReferenceIdeal.nD Cert.KeyReferenceIdeal.τ).loc Cert.KeyReferenceIdeal.main_arg1) = m ((c.tc : Thread Cert.KeyReferenceIdeal.nD Cert.KeyReferenceIdeal.τ).loc Cert.KeyReferenceIdeal.main_arg1))
      ∧ r.2.sem = fun _ => 0)

def quiescent_Val [hVal : Cert.Val.Facts] : Prop :=
  ∀ (m : (ℓ : Loc Cert.Val.nD Cert.Val.τ Cert.Val.sig) → Buf (Elt Bits) ℓ) (g : Dev Cert.Val.nD → PrngReg), Pre_Val m →
    θ_run (Cert.Val.defs (F := Bits)) (onTc (τ := Cert.Val.τ) (Cert.Val.main (F := Bits))) ⟨m, fun _ => 0, g⟩ (fun r => (∀ c : Dev Cert.Val.nD,
      r.2.mem ((c.tc : Thread Cert.Val.nD Cert.Val.τ).loc Cert.Val.main_arg0) = m ((c.tc : Thread Cert.Val.nD Cert.Val.τ).loc Cert.Val.main_arg0)
      ∧ r.2.mem ((c.tc : Thread Cert.Val.nD Cert.Val.τ).loc Cert.Val.main_arg1) = m ((c.tc : Thread Cert.Val.nD Cert.Val.τ).loc Cert.Val.main_arg1))
      ∧ r.2.sem = fun _ => 0)

def quiescent_ValIdeal [hValIdeal : Cert.ValIdeal.Facts] : Prop :=
  ∀ (m : (ℓ : Loc Cert.ValIdeal.nD Cert.ValIdeal.τ Cert.ValIdeal.sig) → Buf (Elt Ideal) ℓ) (g : Dev Cert.ValIdeal.nD → PrngReg), Pre_ValIdeal m →
    θ_run (Cert.ValIdeal.defs (F := Ideal)) (onTc (τ := Cert.ValIdeal.τ) (Cert.ValIdeal.main (F := Ideal))) ⟨m, fun _ => 0, g⟩ (fun r => (∀ c : Dev Cert.ValIdeal.nD,
      r.2.mem ((c.tc : Thread Cert.ValIdeal.nD Cert.ValIdeal.τ).loc Cert.ValIdeal.main_arg0) = m ((c.tc : Thread Cert.ValIdeal.nD Cert.ValIdeal.τ).loc Cert.ValIdeal.main_arg0)
      ∧ r.2.mem ((c.tc : Thread Cert.ValIdeal.nD Cert.ValIdeal.τ).loc Cert.ValIdeal.main_arg1) = m ((c.tc : Thread Cert.ValIdeal.nD Cert.ValIdeal.τ).loc Cert.ValIdeal.main_arg1))
      ∧ r.2.sem = fun _ => 0)

def quiescent_ValReferenceIdeal [hValReferenceIdeal : Cert.ValReferenceIdeal.Facts] : Prop :=
  ∀ (m : (ℓ : Loc Cert.ValReferenceIdeal.nD Cert.ValReferenceIdeal.τ Cert.ValReferenceIdeal.sig) → Buf (Elt Ideal) ℓ) (g : Dev Cert.ValReferenceIdeal.nD → PrngReg), Pre_ValReferenceIdeal m →
    θ_run (Cert.ValReferenceIdeal.defs (F := Ideal)) (onTc (τ := Cert.ValReferenceIdeal.τ) (Cert.ValReferenceIdeal.main (F := Ideal))) ⟨m, fun _ => 0, g⟩ (fun r => (∀ c : Dev Cert.ValReferenceIdeal.nD,
      r.2.mem ((c.tc : Thread Cert.ValReferenceIdeal.nD Cert.ValReferenceIdeal.τ).loc Cert.ValReferenceIdeal.main_arg0) = m ((c.tc : Thread Cert.ValReferenceIdeal.nD Cert.ValReferenceIdeal.τ).loc Cert.ValReferenceIdeal.main_arg0)
      ∧ r.2.mem ((c.tc : Thread Cert.ValReferenceIdeal.nD Cert.ValReferenceIdeal.τ).loc Cert.ValReferenceIdeal.main_arg1) = m ((c.tc : Thread Cert.ValReferenceIdeal.nD Cert.ValReferenceIdeal.τ).loc Cert.ValReferenceIdeal.main_arg1))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ r.2.sem = fun _ => 0)

def quiescent_QueryReferenceIdeal [hQueryReferenceIdeal : Cert.QueryReferenceIdeal.Facts] : Prop :=
  ∀ (m : (ℓ : Loc Cert.QueryReferenceIdeal.nD Cert.QueryReferenceIdeal.τ Cert.QueryReferenceIdeal.sig) → Buf (Elt Ideal) ℓ) (g : Dev Cert.QueryReferenceIdeal.nD → PrngReg), Pre_QueryReferenceIdeal m →
    θ_run (Cert.QueryReferenceIdeal.defs (F := Ideal)) (onTc (τ := Cert.QueryReferenceIdeal.τ) (Cert.QueryReferenceIdeal.main (F := Ideal))) ⟨m, fun _ => 0, g⟩ (fun r => (∀ c : Dev Cert.QueryReferenceIdeal.nD,
      r.2.mem ((c.tc : Thread Cert.QueryReferenceIdeal.nD Cert.QueryReferenceIdeal.τ).loc Cert.QueryReferenceIdeal.main_arg0) = m ((c.tc : Thread Cert.QueryReferenceIdeal.nD Cert.QueryReferenceIdeal.τ).loc Cert.QueryReferenceIdeal.main_arg0)
      ∧ r.2.mem ((c.tc : Thread Cert.QueryReferenceIdeal.nD Cert.QueryReferenceIdeal.τ).loc Cert.QueryReferenceIdeal.main_arg1) = m ((c.tc : Thread Cert.QueryReferenceIdeal.nD Cert.QueryReferenceIdeal.τ).loc Cert.QueryReferenceIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2))
      ∧ r.2.sem = fun _ => 0)

def quiescent_Fin [hFin : Cert.Fin.Facts] : Prop :=
  ∀ (m : (ℓ : Loc Cert.Fin.nD Cert.Fin.τ Cert.Fin.sig) → Buf (Elt Bits) ℓ) (g : Dev Cert.Fin.nD → PrngReg), Pre_Fin m →
    θ_run (Cert.Fin.defs (F := Bits)) (onTc (τ := Cert.Fin.τ) (Cert.Fin.main (F := Bits))) ⟨m, fun _ => 0, g⟩ (fun r => (∀ c : Dev Cert.Fin.nD,
      r.2.mem ((c.tc : Thread Cert.Fin.nD Cert.Fin.τ).loc Cert.Fin.main_arg0) = m ((c.tc : Thread Cert.Fin.nD Cert.Fin.τ).loc Cert.Fin.main_arg0)
      ∧ r.2.mem ((c.tc : Thread Cert.Fin.nD Cert.Fin.τ).loc Cert.Fin.main_arg1) = m ((c.tc : Thread Cert.Fin.nD Cert.Fin.τ).loc Cert.Fin.main_arg1))
      ∧ r.2.sem = fun _ => 0)

def quiescent_FinIdeal [hFinIdeal : Cert.FinIdeal.Facts] : Prop :=
  ∀ (m : (ℓ : Loc Cert.FinIdeal.nD Cert.FinIdeal.τ Cert.FinIdeal.sig) → Buf (Elt Ideal) ℓ) (g : Dev Cert.FinIdeal.nD → PrngReg), Pre_FinIdeal m →
    θ_run (Cert.FinIdeal.defs (F := Ideal)) (onTc (τ := Cert.FinIdeal.τ) (Cert.FinIdeal.main (F := Ideal))) ⟨m, fun _ => 0, g⟩ (fun r => (∀ c : Dev Cert.FinIdeal.nD,
      r.2.mem ((c.tc : Thread Cert.FinIdeal.nD Cert.FinIdeal.τ).loc Cert.FinIdeal.main_arg0) = m ((c.tc : Thread Cert.FinIdeal.nD Cert.FinIdeal.τ).loc Cert.FinIdeal.main_arg0)
      ∧ r.2.mem ((c.tc : Thread Cert.FinIdeal.nD Cert.FinIdeal.τ).loc Cert.FinIdeal.main_arg1) = m ((c.tc : Thread Cert.FinIdeal.nD Cert.FinIdeal.τ).loc Cert.FinIdeal.main_arg1))
      ∧ r.2.sem = fun _ => 0)

def quiescent_FinReferenceIdeal [hFinReferenceIdeal : Cert.FinReferenceIdeal.Facts] : Prop :=
  ∀ (m : (ℓ : Loc Cert.FinReferenceIdeal.nD Cert.FinReferenceIdeal.τ Cert.FinReferenceIdeal.sig) → Buf (Elt Ideal) ℓ) (g : Dev Cert.FinReferenceIdeal.nD → PrngReg), Pre_FinReferenceIdeal m →
    θ_run (Cert.FinReferenceIdeal.defs (F := Ideal)) (onTc (τ := Cert.FinReferenceIdeal.τ) (Cert.FinReferenceIdeal.main (F := Ideal))) ⟨m, fun _ => 0, g⟩ (fun r => (∀ c : Dev Cert.FinReferenceIdeal.nD,
      r.2.mem ((c.tc : Thread Cert.FinReferenceIdeal.nD Cert.FinReferenceIdeal.τ).loc Cert.FinReferenceIdeal.main_arg0) = m ((c.tc : Thread Cert.FinReferenceIdeal.nD Cert.FinReferenceIdeal.τ).loc Cert.FinReferenceIdeal.main_arg0)
      ∧ r.2.mem ((c.tc : Thread Cert.FinReferenceIdeal.nD Cert.FinReferenceIdeal.τ).loc Cert.FinReferenceIdeal.main_arg1) = m ((c.tc : Thread Cert.FinReferenceIdeal.nD Cert.FinReferenceIdeal.τ).loc Cert.FinReferenceIdeal.main_arg1))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2)
      ∧ r.2.mem ((c.tc : Thread Cert.AdaReferenceIdeal.nD Cert.AdaReferenceIdeal.τ).loc Cert.AdaReferenceIdeal.main_arg3) = m ((c.tc : Thread Cert.AdaReferenceIdeal.nD Cert.AdaReferenceIdeal.τ).loc Cert.AdaReferenceIdeal.main_arg3))
      ∧ r.2.sem = fun _ => 0)

def quiescent_Sfin [hSfin : Cert.Sfin.Facts] : Prop :=
  ∀ (m : (ℓ : Loc Cert.Sfin.nD Cert.Sfin.τ Cert.Sfin.sig) → Buf (Elt Bits) ℓ) (g : Dev Cert.Sfin.nD → PrngReg), Pre_Sfin m →
    θ_run (Cert.Sfin.defs (F := Bits)) (onTc (τ := Cert.Sfin.τ) (Cert.Sfin.main (F := Bits))) ⟨m, fun _ => 0, g⟩ (fun r => (∀ c : Dev Cert.Sfin.nD,
      r.2.mem ((c.tc : Thread Cert.Sfin.nD Cert.Sfin.τ).loc Cert.Sfin.main_arg0) = m ((c.tc : Thread Cert.Sfin.nD Cert.Sfin.τ).loc Cert.Sfin.main_arg0)
      ∧ r.2.mem ((c.tc : Thread Cert.Sfin.nD Cert.Sfin.τ).loc Cert.Sfin.main_arg1) = m ((c.tc : Thread Cert.Sfin.nD Cert.Sfin.τ).loc Cert.Sfin.main_arg1))
      ∧ r.2.sem = fun _ => 0)

def quiescent_SfinIdeal [hSfinIdeal : Cert.SfinIdeal.Facts] : Prop :=
  ∀ (m : (ℓ : Loc Cert.SfinIdeal.nD Cert.SfinIdeal.τ Cert.SfinIdeal.sig) → Buf (Elt Ideal) ℓ) (g : Dev Cert.SfinIdeal.nD → PrngReg), Pre_SfinIdeal m →
    θ_run (Cert.SfinIdeal.defs (F := Ideal)) (onTc (τ := Cert.SfinIdeal.τ) (Cert.SfinIdeal.main (F := Ideal))) ⟨m, fun _ => 0, g⟩ (fun r => (∀ c : Dev Cert.SfinIdeal.nD,
      r.2.mem ((c.tc : Thread Cert.SfinIdeal.nD Cert.SfinIdeal.τ).loc Cert.SfinIdeal.main_arg0) = m ((c.tc : Thread Cert.SfinIdeal.nD Cert.SfinIdeal.τ).loc Cert.SfinIdeal.main_arg0)
      ∧ r.2.mem ((c.tc : Thread Cert.SfinIdeal.nD Cert.SfinIdeal.τ).loc Cert.SfinIdeal.main_arg1) = m ((c.tc : Thread Cert.SfinIdeal.nD Cert.SfinIdeal.τ).loc Cert.SfinIdeal.main_arg1))
      ∧ r.2.sem = fun _ => 0)

def quiescent_SfinReferenceIdeal [hSfinReferenceIdeal : Cert.SfinReferenceIdeal.Facts] : Prop :=
  ∀ (m : (ℓ : Loc Cert.SfinReferenceIdeal.nD Cert.SfinReferenceIdeal.τ Cert.SfinReferenceIdeal.sig) → Buf (Elt Ideal) ℓ) (g : Dev Cert.SfinReferenceIdeal.nD → PrngReg), Pre_SfinReferenceIdeal m →
    θ_run (Cert.SfinReferenceIdeal.defs (F := Ideal)) (onTc (τ := Cert.SfinReferenceIdeal.τ) (Cert.SfinReferenceIdeal.main (F := Ideal))) ⟨m, fun _ => 0, g⟩ (fun r => (∀ c : Dev Cert.SfinReferenceIdeal.nD,
      r.2.mem ((c.tc : Thread Cert.SfinReferenceIdeal.nD Cert.SfinReferenceIdeal.τ).loc Cert.SfinReferenceIdeal.main_arg0) = m ((c.tc : Thread Cert.SfinReferenceIdeal.nD Cert.SfinReferenceIdeal.τ).loc Cert.SfinReferenceIdeal.main_arg0)
      ∧ r.2.mem ((c.tc : Thread Cert.SfinReferenceIdeal.nD Cert.SfinReferenceIdeal.τ).loc Cert.SfinReferenceIdeal.main_arg1) = m ((c.tc : Thread Cert.SfinReferenceIdeal.nD Cert.SfinReferenceIdeal.τ).loc Cert.SfinReferenceIdeal.main_arg1))
      ∧ r.2.sem = fun _ => 0)

def quiescent_Skey [hSkey : Cert.Skey.Facts] : Prop :=
  ∀ (m : (ℓ : Loc Cert.Skey.nD Cert.Skey.τ Cert.Skey.sig) → Buf (Elt Bits) ℓ) (g : Dev Cert.Skey.nD → PrngReg), Pre_Skey m →
    θ_run (Cert.Skey.defs (F := Bits)) (onTc (τ := Cert.Skey.τ) (Cert.Skey.main (F := Bits))) ⟨m, fun _ => 0, g⟩ (fun r => (∀ c : Dev Cert.Skey.nD,
      r.2.mem ((c.tc : Thread Cert.Skey.nD Cert.Skey.τ).loc Cert.Skey.main_arg0) = m ((c.tc : Thread Cert.Skey.nD Cert.Skey.τ).loc Cert.Skey.main_arg0)
      ∧ r.2.mem ((c.tc : Thread Cert.Skey.nD Cert.Skey.τ).loc Cert.Skey.main_arg1) = m ((c.tc : Thread Cert.Skey.nD Cert.Skey.τ).loc Cert.Skey.main_arg1))
      ∧ r.2.sem = fun _ => 0)

def quiescent_SkeyIdeal [hSkeyIdeal : Cert.SkeyIdeal.Facts] : Prop :=
  ∀ (m : (ℓ : Loc Cert.SkeyIdeal.nD Cert.SkeyIdeal.τ Cert.SkeyIdeal.sig) → Buf (Elt Ideal) ℓ) (g : Dev Cert.SkeyIdeal.nD → PrngReg), Pre_SkeyIdeal m →
    θ_run (Cert.SkeyIdeal.defs (F := Ideal)) (onTc (τ := Cert.SkeyIdeal.τ) (Cert.SkeyIdeal.main (F := Ideal))) ⟨m, fun _ => 0, g⟩ (fun r => (∀ c : Dev Cert.SkeyIdeal.nD,
      r.2.mem ((c.tc : Thread Cert.SkeyIdeal.nD Cert.SkeyIdeal.τ).loc Cert.SkeyIdeal.main_arg0) = m ((c.tc : Thread Cert.SkeyIdeal.nD Cert.SkeyIdeal.τ).loc Cert.SkeyIdeal.main_arg0)
      ∧ r.2.mem ((c.tc : Thread Cert.SkeyIdeal.nD Cert.SkeyIdeal.τ).loc Cert.SkeyIdeal.main_arg1) = m ((c.tc : Thread Cert.SkeyIdeal.nD Cert.SkeyIdeal.τ).loc Cert.SkeyIdeal.main_arg1))
      ∧ r.2.sem = fun _ => 0)

def quiescent_SkeyReferenceIdeal [hSkeyReferenceIdeal : Cert.SkeyReferenceIdeal.Facts] : Prop :=
  ∀ (m : (ℓ : Loc Cert.SkeyReferenceIdeal.nD Cert.SkeyReferenceIdeal.τ Cert.SkeyReferenceIdeal.sig) → Buf (Elt Ideal) ℓ) (g : Dev Cert.SkeyReferenceIdeal.nD → PrngReg), Pre_SkeyReferenceIdeal m →
    θ_run (Cert.SkeyReferenceIdeal.defs (F := Ideal)) (onTc (τ := Cert.SkeyReferenceIdeal.τ) (Cert.SkeyReferenceIdeal.main (F := Ideal))) ⟨m, fun _ => 0, g⟩ (fun r => (∀ c : Dev Cert.SkeyReferenceIdeal.nD,
      r.2.mem ((c.tc : Thread Cert.SkeyReferenceIdeal.nD Cert.SkeyReferenceIdeal.τ).loc Cert.SkeyReferenceIdeal.main_arg0) = m ((c.tc : Thread Cert.SkeyReferenceIdeal.nD Cert.SkeyReferenceIdeal.τ).loc Cert.SkeyReferenceIdeal.main_arg0)
      ∧ r.2.mem ((c.tc : Thread Cert.SkeyReferenceIdeal.nD Cert.SkeyReferenceIdeal.τ).loc Cert.SkeyReferenceIdeal.main_arg1) = m ((c.tc : Thread Cert.SkeyReferenceIdeal.nD Cert.SkeyReferenceIdeal.τ).loc Cert.SkeyReferenceIdeal.main_arg1))
      ∧ r.2.sem = fun _ => 0)

def quiescent_Sval [hSval : Cert.Sval.Facts] : Prop :=
  ∀ (m : (ℓ : Loc Cert.Sval.nD Cert.Sval.τ Cert.Sval.sig) → Buf (Elt Bits) ℓ) (g : Dev Cert.Sval.nD → PrngReg), Pre_Sval m →
    θ_run (Cert.Sval.defs (F := Bits)) (onTc (τ := Cert.Sval.τ) (Cert.Sval.main (F := Bits))) ⟨m, fun _ => 0, g⟩ (fun r => (∀ c : Dev Cert.Sval.nD,
      r.2.mem ((c.tc : Thread Cert.Sval.nD Cert.Sval.τ).loc Cert.Sval.main_arg0) = m ((c.tc : Thread Cert.Sval.nD Cert.Sval.τ).loc Cert.Sval.main_arg0)
      ∧ r.2.mem ((c.tc : Thread Cert.Sval.nD Cert.Sval.τ).loc Cert.Sval.main_arg1) = m ((c.tc : Thread Cert.Sval.nD Cert.Sval.τ).loc Cert.Sval.main_arg1))
      ∧ r.2.sem = fun _ => 0)

def quiescent_SvalIdeal [hSvalIdeal : Cert.SvalIdeal.Facts] : Prop :=
  ∀ (m : (ℓ : Loc Cert.SvalIdeal.nD Cert.SvalIdeal.τ Cert.SvalIdeal.sig) → Buf (Elt Ideal) ℓ) (g : Dev Cert.SvalIdeal.nD → PrngReg), Pre_SvalIdeal m →
    θ_run (Cert.SvalIdeal.defs (F := Ideal)) (onTc (τ := Cert.SvalIdeal.τ) (Cert.SvalIdeal.main (F := Ideal))) ⟨m, fun _ => 0, g⟩ (fun r => (∀ c : Dev Cert.SvalIdeal.nD,
      r.2.mem ((c.tc : Thread Cert.SvalIdeal.nD Cert.SvalIdeal.τ).loc Cert.SvalIdeal.main_arg0) = m ((c.tc : Thread Cert.SvalIdeal.nD Cert.SvalIdeal.τ).loc Cert.SvalIdeal.main_arg0)
      ∧ r.2.mem ((c.tc : Thread Cert.SvalIdeal.nD Cert.SvalIdeal.τ).loc Cert.SvalIdeal.main_arg1) = m ((c.tc : Thread Cert.SvalIdeal.nD Cert.SvalIdeal.τ).loc Cert.SvalIdeal.main_arg1))
      ∧ r.2.sem = fun _ => 0)

def quiescent_SvalReferenceIdeal [hSvalReferenceIdeal : Cert.SvalReferenceIdeal.Facts] : Prop :=
  ∀ (m : (ℓ : Loc Cert.SvalReferenceIdeal.nD Cert.SvalReferenceIdeal.τ Cert.SvalReferenceIdeal.sig) → Buf (Elt Ideal) ℓ) (g : Dev Cert.SvalReferenceIdeal.nD → PrngReg), Pre_SvalReferenceIdeal m →
    θ_run (Cert.SvalReferenceIdeal.defs (F := Ideal)) (onTc (τ := Cert.SvalReferenceIdeal.τ) (Cert.SvalReferenceIdeal.main (F := Ideal))) ⟨m, fun _ => 0, g⟩ (fun r => (∀ c : Dev Cert.SvalReferenceIdeal.nD,
      r.2.mem ((c.tc : Thread Cert.SvalReferenceIdeal.nD Cert.SvalReferenceIdeal.τ).loc Cert.SvalReferenceIdeal.main_arg0) = m ((c.tc : Thread Cert.SvalReferenceIdeal.nD Cert.SvalReferenceIdeal.τ).loc Cert.SvalReferenceIdeal.main_arg0)
      ∧ r.2.mem ((c.tc : Thread Cert.SvalReferenceIdeal.nD Cert.SvalReferenceIdeal.τ).loc Cert.SvalReferenceIdeal.main_arg1) = m ((c.tc : Thread Cert.SvalReferenceIdeal.nD Cert.SvalReferenceIdeal.τ).loc Cert.SvalReferenceIdeal.main_arg1))
      ∧ r.2.sem = fun _ => 0)

def quiescent_Sglu [hSglu : Cert.Sglu.Facts] : Prop :=
  ∀ (m : (ℓ : Loc Cert.Sglu.nD Cert.Sglu.τ Cert.Sglu.sig) → Buf (Elt Bits) ℓ) (g : Dev Cert.Sglu.nD → PrngReg), Pre_Sglu m →
    θ_run (Cert.Sglu.defs (F := Bits)) (onTc (τ := Cert.Sglu.τ) (Cert.Sglu.main (F := Bits))) ⟨m, fun _ => 0, g⟩ (fun r => (∀ c : Dev Cert.Sglu.nD,
      r.2.mem ((c.tc : Thread Cert.Sglu.nD Cert.Sglu.τ).loc Cert.Sglu.main_arg0) = m ((c.tc : Thread Cert.Sglu.nD Cert.Sglu.τ).loc Cert.Sglu.main_arg0)
      ∧ r.2.mem ((c.tc : Thread Cert.Sglu.nD Cert.Sglu.τ).loc Cert.Sglu.main_arg1) = m ((c.tc : Thread Cert.Sglu.nD Cert.Sglu.τ).loc Cert.Sglu.main_arg1))
      ∧ r.2.sem = fun _ => 0)

def quiescent_SgluIdeal [hSgluIdeal : Cert.SgluIdeal.Facts] : Prop :=
  ∀ (m : (ℓ : Loc Cert.SgluIdeal.nD Cert.SgluIdeal.τ Cert.SgluIdeal.sig) → Buf (Elt Ideal) ℓ) (g : Dev Cert.SgluIdeal.nD → PrngReg), Pre_SgluIdeal m →
    θ_run (Cert.SgluIdeal.defs (F := Ideal)) (onTc (τ := Cert.SgluIdeal.τ) (Cert.SgluIdeal.main (F := Ideal))) ⟨m, fun _ => 0, g⟩ (fun r => (∀ c : Dev Cert.SgluIdeal.nD,
      r.2.mem ((c.tc : Thread Cert.SgluIdeal.nD Cert.SgluIdeal.τ).loc Cert.SgluIdeal.main_arg0) = m ((c.tc : Thread Cert.SgluIdeal.nD Cert.SgluIdeal.τ).loc Cert.SgluIdeal.main_arg0)
      ∧ r.2.mem ((c.tc : Thread Cert.SgluIdeal.nD Cert.SgluIdeal.τ).loc Cert.SgluIdeal.main_arg1) = m ((c.tc : Thread Cert.SgluIdeal.nD Cert.SgluIdeal.τ).loc Cert.SgluIdeal.main_arg1))
      ∧ r.2.sem = fun _ => 0)

def quiescent_SgluReferenceIdeal [hSgluReferenceIdeal : Cert.SgluReferenceIdeal.Facts] : Prop :=
  ∀ (m : (ℓ : Loc Cert.SgluReferenceIdeal.nD Cert.SgluReferenceIdeal.τ Cert.SgluReferenceIdeal.sig) → Buf (Elt Ideal) ℓ) (g : Dev Cert.SgluReferenceIdeal.nD → PrngReg), Pre_SgluReferenceIdeal m →
    θ_run (Cert.SgluReferenceIdeal.defs (F := Ideal)) (onTc (τ := Cert.SgluReferenceIdeal.τ) (Cert.SgluReferenceIdeal.main (F := Ideal))) ⟨m, fun _ => 0, g⟩ (fun r => (∀ c : Dev Cert.SgluReferenceIdeal.nD,
      r.2.mem ((c.tc : Thread Cert.SgluReferenceIdeal.nD Cert.SgluReferenceIdeal.τ).loc Cert.SgluReferenceIdeal.main_arg0) = m ((c.tc : Thread Cert.SgluReferenceIdeal.nD Cert.SgluReferenceIdeal.τ).loc Cert.SgluReferenceIdeal.main_arg0)
      ∧ r.2.mem ((c.tc : Thread Cert.SgluReferenceIdeal.nD Cert.SgluReferenceIdeal.τ).loc Cert.SgluReferenceIdeal.main_arg1) = m ((c.tc : Thread Cert.SgluReferenceIdeal.nD Cert.SgluReferenceIdeal.τ).loc Cert.SgluReferenceIdeal.main_arg1))
      ∧ r.2.sem = fun _ => 0)

def quiescent_Sconv [hSconv : Cert.Sconv.Facts] : Prop :=
  ∀ (m : (ℓ : Loc Cert.Sconv.nD Cert.Sconv.τ Cert.Sconv.sig) → Buf (Elt Bits) ℓ) (g : Dev Cert.Sconv.nD → PrngReg), Pre_Sconv m →
    θ_run (Cert.Sconv.defs (F := Bits)) (onTc (τ := Cert.Sconv.τ) (Cert.Sconv.main (F := Bits))) ⟨m, fun _ => 0, g⟩ (fun r => (∀ c : Dev Cert.Sconv.nD,
      r.2.mem ((c.tc : Thread Cert.Sconv.nD Cert.Sconv.τ).loc Cert.Sconv.main_arg0) = m ((c.tc : Thread Cert.Sconv.nD Cert.Sconv.τ).loc Cert.Sconv.main_arg0)
      ∧ r.2.mem ((c.tc : Thread Cert.Sconv.nD Cert.Sconv.τ).loc Cert.Sconv.main_arg1) = m ((c.tc : Thread Cert.Sconv.nD Cert.Sconv.τ).loc Cert.Sconv.main_arg1)
      ∧ r.2.mem ((c.tc : Thread Cert.Sconv.nD Cert.Sconv.τ).loc Cert.Sconv.main_arg2) = m ((c.tc : Thread Cert.Sconv.nD Cert.Sconv.τ).loc Cert.Sconv.main_arg2)
      ∧ r.2.mem ((c.tc : Thread Cert.Sconv.nD Cert.Sconv.τ).loc Cert.Sconv.main_arg3) = m ((c.tc : Thread Cert.Sconv.nD Cert.Sconv.τ).loc Cert.Sconv.main_arg3)
      ∧ r.2.mem ((c.tc : Thread Cert.Sconv.nD Cert.Sconv.τ).loc Cert.Sconv.main_arg4) = m ((c.tc : Thread Cert.Sconv.nD Cert.Sconv.τ).loc Cert.Sconv.main_arg4)
      ∧ r.2.mem ((c.tc : Thread Cert.Sconv.nD Cert.Sconv.τ).loc Cert.Sconv.main_arg5) = m ((c.tc : Thread Cert.Sconv.nD Cert.Sconv.τ).loc Cert.Sconv.main_arg5))
      ∧ r.2.sem = fun _ => 0)

def quiescent_SconvIdeal [hSconvIdeal : Cert.SconvIdeal.Facts] : Prop :=
  ∀ (m : (ℓ : Loc Cert.SconvIdeal.nD Cert.SconvIdeal.τ Cert.SconvIdeal.sig) → Buf (Elt Ideal) ℓ) (g : Dev Cert.SconvIdeal.nD → PrngReg), Pre_SconvIdeal m →
    θ_run (Cert.SconvIdeal.defs (F := Ideal)) (onTc (τ := Cert.SconvIdeal.τ) (Cert.SconvIdeal.main (F := Ideal))) ⟨m, fun _ => 0, g⟩ (fun r => (∀ c : Dev Cert.SconvIdeal.nD,
      r.2.mem ((c.tc : Thread Cert.SconvIdeal.nD Cert.SconvIdeal.τ).loc Cert.SconvIdeal.main_arg0) = m ((c.tc : Thread Cert.SconvIdeal.nD Cert.SconvIdeal.τ).loc Cert.SconvIdeal.main_arg0)
      ∧ r.2.mem ((c.tc : Thread Cert.SconvIdeal.nD Cert.SconvIdeal.τ).loc Cert.SconvIdeal.main_arg1) = m ((c.tc : Thread Cert.SconvIdeal.nD Cert.SconvIdeal.τ).loc Cert.SconvIdeal.main_arg1)
      ∧ r.2.mem ((c.tc : Thread Cert.SconvIdeal.nD Cert.SconvIdeal.τ).loc Cert.SconvIdeal.main_arg2) = m ((c.tc : Thread Cert.SconvIdeal.nD Cert.SconvIdeal.τ).loc Cert.SconvIdeal.main_arg2)
      ∧ r.2.mem ((c.tc : Thread Cert.SconvIdeal.nD Cert.SconvIdeal.τ).loc Cert.SconvIdeal.main_arg3) = m ((c.tc : Thread Cert.SconvIdeal.nD Cert.SconvIdeal.τ).loc Cert.SconvIdeal.main_arg3)
      ∧ r.2.mem ((c.tc : Thread Cert.SconvIdeal.nD Cert.SconvIdeal.τ).loc Cert.SconvIdeal.main_arg4) = m ((c.tc : Thread Cert.SconvIdeal.nD Cert.SconvIdeal.τ).loc Cert.SconvIdeal.main_arg4)
      ∧ r.2.mem ((c.tc : Thread Cert.SconvIdeal.nD Cert.SconvIdeal.τ).loc Cert.SconvIdeal.main_arg5) = m ((c.tc : Thread Cert.SconvIdeal.nD Cert.SconvIdeal.τ).loc Cert.SconvIdeal.main_arg5))
      ∧ r.2.sem = fun _ => 0)

def quiescent_SconvReferenceIdeal [hSconvReferenceIdeal : Cert.SconvReferenceIdeal.Facts] : Prop :=
  ∀ (m : (ℓ : Loc Cert.SconvReferenceIdeal.nD Cert.SconvReferenceIdeal.τ Cert.SconvReferenceIdeal.sig) → Buf (Elt Ideal) ℓ) (g : Dev Cert.SconvReferenceIdeal.nD → PrngReg), Pre_SconvReferenceIdeal m →
    θ_run (Cert.SconvReferenceIdeal.defs (F := Ideal)) (onTc (τ := Cert.SconvReferenceIdeal.τ) (Cert.SconvReferenceIdeal.main (F := Ideal))) ⟨m, fun _ => 0, g⟩ (fun r => (∀ c : Dev Cert.SconvReferenceIdeal.nD,
      r.2.mem ((c.tc : Thread Cert.SconvReferenceIdeal.nD Cert.SconvReferenceIdeal.τ).loc Cert.SconvReferenceIdeal.main_arg0) = m ((c.tc : Thread Cert.SconvReferenceIdeal.nD Cert.SconvReferenceIdeal.τ).loc Cert.SconvReferenceIdeal.main_arg0)
      ∧ r.2.mem ((c.tc : Thread Cert.SconvReferenceIdeal.nD Cert.SconvReferenceIdeal.τ).loc Cert.SconvReferenceIdeal.main_arg1) = m ((c.tc : Thread Cert.SconvReferenceIdeal.nD Cert.SconvReferenceIdeal.τ).loc Cert.SconvReferenceIdeal.main_arg1)
      ∧ r.2.mem ((c.tc : Thread Cert.SconvReferenceIdeal.nD Cert.SconvReferenceIdeal.τ).loc Cert.SconvReferenceIdeal.main_arg2) = m ((c.tc : Thread Cert.SconvReferenceIdeal.nD Cert.SconvReferenceIdeal.τ).loc Cert.SconvReferenceIdeal.main_arg2)
      ∧ r.2.mem ((c.tc : Thread Cert.SconvReferenceIdeal.nD Cert.SconvReferenceIdeal.τ).loc Cert.SconvReferenceIdeal.main_arg3) = m ((c.tc : Thread Cert.SconvReferenceIdeal.nD Cert.SconvReferenceIdeal.τ).loc Cert.SconvReferenceIdeal.main_arg3)
      ∧ r.2.mem ((c.tc : Thread Cert.SconvReferenceIdeal.nD Cert.SconvReferenceIdeal.τ).loc Cert.SconvReferenceIdeal.main_arg4) = m ((c.tc : Thread Cert.SconvReferenceIdeal.nD Cert.SconvReferenceIdeal.τ).loc Cert.SconvReferenceIdeal.main_arg4)
      ∧ r.2.mem ((c.tc : Thread Cert.SconvReferenceIdeal.nD Cert.SconvReferenceIdeal.τ).loc Cert.SconvReferenceIdeal.main_arg5) = m ((c.tc : Thread Cert.SconvReferenceIdeal.nD Cert.SconvReferenceIdeal.τ).loc Cert.SconvReferenceIdeal.main_arg5))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffa_FfaIdeal : Prop :=
  True

def algebraic_FfaIdeal_FfaReferenceIdeal [hFfaIdeal : Cert.FfaIdeal.Facts] [hFfaReferenceIdeal : Cert.FfaReferenceIdeal.Facts] : Prop :=
  ∀ (m : (ℓ : Loc Cert.FfaIdeal.nD Cert.FfaIdeal.τ Cert.FfaIdeal.sig) → Buf (Elt Ideal) ℓ) (g : Dev Cert.FfaIdeal.nD → PrngReg)
    (m' : (ℓ : Loc Cert.FfaReferenceIdeal.nD Cert.FfaReferenceIdeal.τ Cert.FfaReferenceIdeal.sig) → Buf (Elt Ideal) ℓ) (g' : Dev Cert.FfaReferenceIdeal.nD → PrngReg), Pre_FfaIdeal m →
    (∀ c : Dev Cert.FfaIdeal.nD,
      m' ((c.tc : Thread Cert.FfaReferenceIdeal.nD Cert.FfaReferenceIdeal.τ).loc Cert.FfaReferenceIdeal.main_arg0) = m ((c.tc : Thread Cert.FfaIdeal.nD Cert.FfaIdeal.τ).loc Cert.FfaIdeal.main_arg0)
      ∧ m' ((c.tc : Thread Cert.FfaReferenceIdeal.nD Cert.FfaReferenceIdeal.τ).loc Cert.FfaReferenceIdeal.main_arg1) = m ((c.tc : Thread Cert.FfaIdeal.nD Cert.FfaIdeal.τ).loc Cert.FfaIdeal.main_arg1)) →
    ∃ (v0 : (c : Dev Cert.FfaIdeal.nD) → Buf (Elt Ideal) ((c.tc : Thread Cert.FfaIdeal.nD Cert.FfaIdeal.τ).loc Cert.FfaIdeal.main_v1)),
      θ_run (Cert.FfaIdeal.defs (F := Ideal)) (onTc (τ := Cert.FfaIdeal.τ) (Cert.FfaIdeal.main (F := Ideal))) ⟨m, fun _ => 0, g⟩ (fun r => ∀ c : Dev Cert.FfaIdeal.nD,
          r.2.mem ((c.tc : Thread Cert.FfaIdeal.nD Cert.FfaIdeal.τ).loc Cert.FfaIdeal.main_v1) = v0 c
          ∧ r.2.mem ((c.tc : Thread Cert.FfaIdeal.nD Cert.FfaIdeal.τ).loc Cert.FfaIdeal.main_arg0) = m ((c.tc : Thread Cert.FfaIdeal.nD Cert.FfaIdeal.τ).loc Cert.FfaIdeal.main_arg0)
          ∧ r.2.mem ((c.tc : Thread Cert.FfaIdeal.nD Cert.FfaIdeal.τ).loc Cert.FfaIdeal.main_arg1) = m ((c.tc : Thread Cert.FfaIdeal.nD Cert.FfaIdeal.τ).loc Cert.FfaIdeal.main_arg1))
      ∧ θ_run (Cert.FfaReferenceIdeal.defs (F := Ideal)) (onTc (τ := Cert.FfaReferenceIdeal.τ) (Cert.FfaReferenceIdeal.main (F := Ideal))) ⟨m', fun _ => 0, g'⟩ (fun r => ∀ c : Dev Cert.FfaReferenceIdeal.nD,
          r.2.mem ((c.tc : Thread Cert.FfaReferenceIdeal.nD Cert.FfaReferenceIdeal.τ).loc Cert.FfaReferenceIdeal.main_v4) = v0 c
          ∧ r.2.mem ((c.tc : Thread Cert.FfaReferenceIdeal.nD Cert.FfaReferenceIdeal.τ).loc Cert.FfaReferenceIdeal.main_arg0) = m' ((c.tc : Thread Cert.FfaReferenceIdeal.nD Cert.FfaReferenceIdeal.τ).loc Cert.FfaReferenceIdeal.main_arg0)
          ∧ r.2.mem ((c.tc : Thread Cert.FfaReferenceIdeal.nD Cert.FfaReferenceIdeal.τ).loc Cert.FfaReferenceIdeal.main_arg1) = m' ((c.tc : Thread Cert.FfaReferenceIdeal.nD Cert.FfaReferenceIdeal.τ).loc Cert.FfaReferenceIdeal.main_arg1))

def preserves_Ffb_FfbIdeal : Prop :=
  True

def algebraic_FfbIdeal_FfbReferenceIdeal [hFfbIdeal : Cert.FfbIdeal.Facts] [hFfbReferenceIdeal : Cert.FfbReferenceIdeal.Facts] : Prop :=
  ∀ (m : (ℓ : Loc Cert.FfbIdeal.nD Cert.FfbIdeal.τ Cert.FfbIdeal.sig) → Buf (Elt Ideal) ℓ) (g : Dev Cert.FfbIdeal.nD → PrngReg)
    (m' : (ℓ : Loc Cert.FfbReferenceIdeal.nD Cert.FfbReferenceIdeal.τ Cert.FfbReferenceIdeal.sig) → Buf (Elt Ideal) ℓ) (g' : Dev Cert.FfbReferenceIdeal.nD → PrngReg), Pre_FfbIdeal m →
    (∀ c : Dev Cert.FfbIdeal.nD,
      m' ((c.tc : Thread Cert.FfbReferenceIdeal.nD Cert.FfbReferenceIdeal.τ).loc Cert.FfbReferenceIdeal.main_arg0) = m ((c.tc : Thread Cert.FfbIdeal.nD Cert.FfbIdeal.τ).loc Cert.FfbIdeal.main_arg0)
      ∧ m' ((c.tc : Thread Cert.FfbReferenceIdeal.nD Cert.FfbReferenceIdeal.τ).loc Cert.FfbReferenceIdeal.main_arg1) = m ((c.tc : Thread Cert.FfbIdeal.nD Cert.FfbIdeal.τ).loc Cert.FfbIdeal.main_arg1)
      ∧ m' ((c.tc : Thread Cert.FfbReferenceIdeal.nD Cert.FfbReferenceIdeal.τ).loc Cert.FfbReferenceIdeal.main_arg2) = m ((c.tc : Thread Cert.FfbIdeal.nD Cert.FfbIdeal.τ).loc Cert.FfbIdeal.main_arg2)
      ∧ m' ((c.tc : Thread Cert.FfbReferenceIdeal.nD Cert.FfbReferenceIdeal.τ).loc Cert.FfbReferenceIdeal.main_arg3) = m ((c.tc : Thread Cert.FfbIdeal.nD Cert.FfbIdeal.τ).loc Cert.FfbIdeal.main_arg3)) →
    ∃ (v0 : (c : Dev Cert.FfbIdeal.nD) → Buf (Elt Ideal) ((c.tc : Thread Cert.FfbIdeal.nD Cert.FfbIdeal.τ).loc Cert.FfbIdeal.main_v2)),
      θ_run (Cert.FfbIdeal.defs (F := Ideal)) (onTc (τ := Cert.FfbIdeal.τ) (Cert.FfbIdeal.main (F := Ideal))) ⟨m, fun _ => 0, g⟩ (fun r => ∀ c : Dev Cert.FfbIdeal.nD,
          r.2.mem ((c.tc : Thread Cert.FfbIdeal.nD Cert.FfbIdeal.τ).loc Cert.FfbIdeal.main_v2) = v0 c
          ∧ r.2.mem ((c.tc : Thread Cert.FfbIdeal.nD Cert.FfbIdeal.τ).loc Cert.FfbIdeal.main_arg0) = m ((c.tc : Thread Cert.FfbIdeal.nD Cert.FfbIdeal.τ).loc Cert.FfbIdeal.main_arg0)
          ∧ r.2.mem ((c.tc : Thread Cert.FfbIdeal.nD Cert.FfbIdeal.τ).loc Cert.FfbIdeal.main_arg1) = m ((c.tc : Thread Cert.FfbIdeal.nD Cert.FfbIdeal.τ).loc Cert.FfbIdeal.main_arg1)
          ∧ r.2.mem ((c.tc : Thread Cert.FfbIdeal.nD Cert.FfbIdeal.τ).loc Cert.FfbIdeal.main_arg2) = m ((c.tc : Thread Cert.FfbIdeal.nD Cert.FfbIdeal.τ).loc Cert.FfbIdeal.main_arg2)
          ∧ r.2.mem ((c.tc : Thread Cert.FfbIdeal.nD Cert.FfbIdeal.τ).loc Cert.FfbIdeal.main_arg3) = m ((c.tc : Thread Cert.FfbIdeal.nD Cert.FfbIdeal.τ).loc Cert.FfbIdeal.main_arg3))
      ∧ θ_run (Cert.FfbReferenceIdeal.defs (F := Ideal)) (onTc (τ := Cert.FfbReferenceIdeal.τ) (Cert.FfbReferenceIdeal.main (F := Ideal))) ⟨m', fun _ => 0, g'⟩ (fun r => ∀ c : Dev Cert.FfbReferenceIdeal.nD,
          r.2.mem ((c.tc : Thread Cert.FfbReferenceIdeal.nD Cert.FfbReferenceIdeal.τ).loc Cert.FfbReferenceIdeal.main_v14) = v0 c
          ∧ r.2.mem ((c.tc : Thread Cert.FfbReferenceIdeal.nD Cert.FfbReferenceIdeal.τ).loc Cert.FfbReferenceIdeal.main_arg0) = m' ((c.tc : Thread Cert.FfbReferenceIdeal.nD Cert.FfbReferenceIdeal.τ).loc Cert.FfbReferenceIdeal.main_arg0)
          ∧ r.2.mem ((c.tc : Thread Cert.FfbReferenceIdeal.nD Cert.FfbReferenceIdeal.τ).loc Cert.FfbReferenceIdeal.main_arg1) = m' ((c.tc : Thread Cert.FfbReferenceIdeal.nD Cert.FfbReferenceIdeal.τ).loc Cert.FfbReferenceIdeal.main_arg1)
          ∧ r.2.mem ((c.tc : Thread Cert.FfbReferenceIdeal.nD Cert.FfbReferenceIdeal.τ).loc Cert.FfbReferenceIdeal.main_arg2) = m' ((c.tc : Thread Cert.FfbReferenceIdeal.nD Cert.FfbReferenceIdeal.τ).loc Cert.FfbReferenceIdeal.main_arg2)
          ∧ r.2.mem ((c.tc : Thread Cert.FfbReferenceIdeal.nD Cert.FfbReferenceIdeal.τ).loc Cert.FfbReferenceIdeal.main_arg3) = m' ((c.tc : Thread Cert.FfbReferenceIdeal.nD Cert.FfbReferenceIdeal.τ).loc Cert.FfbReferenceIdeal.main_arg3))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v24) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v14) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def preserves_Glu_GluIdeal : Prop :=
  True

def algebraic_GluIdeal_GluReferenceIdeal [hGluIdeal : Cert.GluIdeal.Facts] [hGluReferenceIdeal : Cert.GluReferenceIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluIdeal m →
    (∀ c : Dev Cert.GluIdeal.nD,
      m' ((c.tc : Thread Cert.GluReferenceIdeal.nD Cert.GluReferenceIdeal.τ).loc Cert.GluReferenceIdeal.main_arg0) = m ((c.tc : Thread Cert.GluIdeal.nD Cert.GluIdeal.τ).loc Cert.GluIdeal.main_arg0)
      ∧ m' ((c.tc : Thread Cert.GluReferenceIdeal.nD Cert.GluReferenceIdeal.τ).loc Cert.GluReferenceIdeal.main_arg1) = m ((c.tc : Thread Cert.GluIdeal.nD Cert.GluIdeal.τ).loc Cert.GluIdeal.main_arg1)) →
    ∃ (v0 : (c : Dev Cert.GluIdeal.nD) → Buf (Elt Ideal) ((c.tc : Thread Cert.GluIdeal.nD Cert.GluIdeal.τ).loc Cert.GluIdeal.main_v1)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v1) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v11) = v0 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0)
          ∧ r.2.mem ((c.tc : Thread Cert.GluReferenceIdeal.nD Cert.GluReferenceIdeal.τ).loc Cert.GluReferenceIdeal.main_arg1) = m' ((c.tc : Thread Cert.GluReferenceIdeal.nD Cert.GluReferenceIdeal.τ).loc Cert.GluReferenceIdeal.main_arg1))

def preserves_Key_KeyIdeal : Prop :=
  True

def algebraic_KeyIdeal_KeyReferenceIdeal [hKeyIdeal : Cert.KeyIdeal.Facts] [hKeyReferenceIdeal : Cert.KeyReferenceIdeal.Facts] : Prop :=
  ∀ (m : (ℓ : Loc Cert.KeyIdeal.nD Cert.KeyIdeal.τ Cert.KeyIdeal.sig) → Buf (Elt Ideal) ℓ) (g : Dev Cert.KeyIdeal.nD → PrngReg)
    (m' : (ℓ : Loc Cert.KeyReferenceIdeal.nD Cert.KeyReferenceIdeal.τ Cert.KeyReferenceIdeal.sig) → Buf (Elt Ideal) ℓ) (g' : Dev Cert.KeyReferenceIdeal.nD → PrngReg), Pre_KeyIdeal m →
    (∀ c : Dev Cert.KeyIdeal.nD,
      m' ((c.tc : Thread Cert.KeyReferenceIdeal.nD Cert.KeyReferenceIdeal.τ).loc Cert.KeyReferenceIdeal.main_arg0) = m ((c.tc : Thread Cert.KeyIdeal.nD Cert.KeyIdeal.τ).loc Cert.KeyIdeal.main_arg0)
      ∧ m' ((c.tc : Thread Cert.KeyReferenceIdeal.nD Cert.KeyReferenceIdeal.τ).loc Cert.KeyReferenceIdeal.main_arg1) = m ((c.tc : Thread Cert.KeyIdeal.nD Cert.KeyIdeal.τ).loc Cert.KeyIdeal.main_arg1)) →
    ∃ (v0 : (c : Dev Cert.KeyIdeal.nD) → Buf (Elt Ideal) ((c.tc : Thread Cert.KeyIdeal.nD Cert.KeyIdeal.τ).loc Cert.KeyIdeal.main_v19_0)) (v1 : (c : Dev Cert.KeyIdeal.nD) → Buf (Elt Ideal) ((c.tc : Thread Cert.KeyIdeal.nD Cert.KeyIdeal.τ).loc Cert.KeyIdeal.main_v19_1)),
      θ_run (Cert.KeyIdeal.defs (F := Ideal)) (onTc (τ := Cert.KeyIdeal.τ) (Cert.KeyIdeal.main (F := Ideal))) ⟨m, fun _ => 0, g⟩ (fun r => ∀ c : Dev Cert.KeyIdeal.nD,
          r.2.mem ((c.tc : Thread Cert.KeyIdeal.nD Cert.KeyIdeal.τ).loc Cert.KeyIdeal.main_v19_0) = v0 c
          ∧ r.2.mem ((c.tc : Thread Cert.KeyIdeal.nD Cert.KeyIdeal.τ).loc Cert.KeyIdeal.main_v19_1) = v1 c
          ∧ r.2.mem ((c.tc : Thread Cert.KeyIdeal.nD Cert.KeyIdeal.τ).loc Cert.KeyIdeal.main_arg0) = m ((c.tc : Thread Cert.KeyIdeal.nD Cert.KeyIdeal.τ).loc Cert.KeyIdeal.main_arg0)
          ∧ r.2.mem ((c.tc : Thread Cert.KeyIdeal.nD Cert.KeyIdeal.τ).loc Cert.KeyIdeal.main_arg1) = m ((c.tc : Thread Cert.KeyIdeal.nD Cert.KeyIdeal.τ).loc Cert.KeyIdeal.main_arg1))
      ∧ θ_run (Cert.KeyReferenceIdeal.defs (F := Ideal)) (onTc (τ := Cert.KeyReferenceIdeal.τ) (Cert.KeyReferenceIdeal.main (F := Ideal))) ⟨m', fun _ => 0, g'⟩ (fun r => ∀ c : Dev Cert.KeyReferenceIdeal.nD,
          r.2.mem ((c.tc : Thread Cert.KeyReferenceIdeal.nD Cert.KeyReferenceIdeal.τ).loc Cert.KeyReferenceIdeal.main_v34) = v0 c
          ∧ r.2.mem ((c.tc : Thread Cert.KeyReferenceIdeal.nD Cert.KeyReferenceIdeal.τ).loc Cert.KeyReferenceIdeal.main_v35) = v1 c
          ∧ r.2.mem ((c.tc : Thread Cert.KeyReferenceIdeal.nD Cert.KeyReferenceIdeal.τ).loc Cert.KeyReferenceIdeal.main_arg0) = m' ((c.tc : Thread Cert.KeyReferenceIdeal.nD Cert.KeyReferenceIdeal.τ).loc Cert.KeyReferenceIdeal.main_arg0)
          ∧ r.2.mem ((c.tc : Thread Cert.KeyReferenceIdeal.nD Cert.KeyReferenceIdeal.τ).loc Cert.KeyReferenceIdeal.main_arg1) = m' ((c.tc : Thread Cert.KeyReferenceIdeal.nD Cert.KeyReferenceIdeal.τ).loc Cert.KeyReferenceIdeal.main_arg1))

def preserves_Val_ValIdeal : Prop :=
  True

def algebraic_ValIdeal_ValReferenceIdeal [hValIdeal : Cert.ValIdeal.Facts] [hValReferenceIdeal : Cert.ValReferenceIdeal.Facts] : Prop :=
  ∀ (m : (ℓ : Loc Cert.ValIdeal.nD Cert.ValIdeal.τ Cert.ValIdeal.sig) → Buf (Elt Ideal) ℓ) (g : Dev Cert.ValIdeal.nD → PrngReg)
    (m' : (ℓ : Loc Cert.ValReferenceIdeal.nD Cert.ValReferenceIdeal.τ Cert.ValReferenceIdeal.sig) → Buf (Elt Ideal) ℓ) (g' : Dev Cert.ValReferenceIdeal.nD → PrngReg), Pre_ValIdeal m →
    (∀ c : Dev Cert.ValIdeal.nD,
      m' ((c.tc : Thread Cert.ValReferenceIdeal.nD Cert.ValReferenceIdeal.τ).loc Cert.ValReferenceIdeal.main_arg0) = m ((c.tc : Thread Cert.ValIdeal.nD Cert.ValIdeal.τ).loc Cert.ValIdeal.main_arg0)
      ∧ m' ((c.tc : Thread Cert.ValReferenceIdeal.nD Cert.ValReferenceIdeal.τ).loc Cert.ValReferenceIdeal.main_arg1) = m ((c.tc : Thread Cert.ValIdeal.nD Cert.ValIdeal.τ).loc Cert.ValIdeal.main_arg1)) →
    ∃ (v0 : (c : Dev Cert.ValIdeal.nD) → Buf (Elt Ideal) ((c.tc : Thread Cert.ValIdeal.nD Cert.ValIdeal.τ).loc Cert.ValIdeal.main_v1_0)) (v1 : (c : Dev Cert.ValIdeal.nD) → Buf (Elt Ideal) ((c.tc : Thread Cert.ValIdeal.nD Cert.ValIdeal.τ).loc Cert.ValIdeal.main_v1_1)),
      θ_run (Cert.ValIdeal.defs (F := Ideal)) (onTc (τ := Cert.ValIdeal.τ) (Cert.ValIdeal.main (F := Ideal))) ⟨m, fun _ => 0, g⟩ (fun r => ∀ c : Dev Cert.ValIdeal.nD,
          r.2.mem ((c.tc : Thread Cert.ValIdeal.nD Cert.ValIdeal.τ).loc Cert.ValIdeal.main_v1_0) = v0 c
          ∧ r.2.mem ((c.tc : Thread Cert.ValIdeal.nD Cert.ValIdeal.τ).loc Cert.ValIdeal.main_v1_1) = v1 c
          ∧ r.2.mem ((c.tc : Thread Cert.ValIdeal.nD Cert.ValIdeal.τ).loc Cert.ValIdeal.main_arg0) = m ((c.tc : Thread Cert.ValIdeal.nD Cert.ValIdeal.τ).loc Cert.ValIdeal.main_arg0)
          ∧ r.2.mem ((c.tc : Thread Cert.ValIdeal.nD Cert.ValIdeal.τ).loc Cert.ValIdeal.main_arg1) = m ((c.tc : Thread Cert.ValIdeal.nD Cert.ValIdeal.τ).loc Cert.ValIdeal.main_arg1))
      ∧ θ_run (Cert.ValReferenceIdeal.defs (F := Ideal)) (onTc (τ := Cert.ValReferenceIdeal.τ) (Cert.ValReferenceIdeal.main (F := Ideal))) ⟨m', fun _ => 0, g'⟩ (fun r => ∀ c : Dev Cert.ValReferenceIdeal.nD,
          r.2.mem ((c.tc : Thread Cert.ValReferenceIdeal.nD Cert.ValReferenceIdeal.τ).loc Cert.ValReferenceIdeal.main_v2) = v0 c
          ∧ r.2.mem ((c.tc : Thread Cert.ValReferenceIdeal.nD Cert.ValReferenceIdeal.τ).loc Cert.ValReferenceIdeal.main_v3) = v1 c
          ∧ r.2.mem ((c.tc : Thread Cert.ValReferenceIdeal.nD Cert.ValReferenceIdeal.τ).loc Cert.ValReferenceIdeal.main_arg0) = m' ((c.tc : Thread Cert.ValReferenceIdeal.nD Cert.ValReferenceIdeal.τ).loc Cert.ValReferenceIdeal.main_arg0)
          ∧ r.2.mem ((c.tc : Thread Cert.ValReferenceIdeal.nD Cert.ValReferenceIdeal.τ).loc Cert.ValReferenceIdeal.main_arg1) = m' ((c.tc : Thread Cert.ValReferenceIdeal.nD Cert.ValReferenceIdeal.τ).loc Cert.ValReferenceIdeal.main_arg1))

def preserves_Query_QueryIdeal : Prop :=
  True

def algebraic_QueryIdeal_QueryReferenceIdeal [hQueryIdeal : Cert.QueryIdeal.Facts] [hQueryReferenceIdeal : Cert.QueryReferenceIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryReferenceIdeal.nD Cert.QueryReferenceIdeal.τ Cert.QueryReferenceIdeal.sig) → Buf (Elt Ideal) ℓ) (g' : Dev Cert.QueryReferenceIdeal.nD → PrngReg), Pre_QueryIdeal m →
    (∀ c : Dev Cert.QueryIdeal.nD,
      m' ((c.tc : Thread Cert.QueryReferenceIdeal.nD Cert.QueryReferenceIdeal.τ).loc Cert.QueryReferenceIdeal.main_arg0) = m ((c.tc : Thread Cert.QueryIdeal.nD Cert.QueryIdeal.τ).loc Cert.QueryIdeal.main_arg0)
      ∧ m' ((c.tc : Thread Cert.QueryReferenceIdeal.nD Cert.QueryReferenceIdeal.τ).loc Cert.QueryReferenceIdeal.main_arg1) = m ((c.tc : Thread Cert.QueryIdeal.nD Cert.QueryIdeal.τ).loc Cert.QueryIdeal.main_arg1)) →
    ∃ (v0 : (c : Dev Cert.QueryIdeal.nD) → Buf (Elt Ideal) ((c.tc : Thread Cert.QueryIdeal.nD Cert.QueryIdeal.τ).loc Cert.QueryIdeal.main_v19)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v19) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ θ_run (Cert.QueryReferenceIdeal.defs (F := Ideal)) (onTc (τ := Cert.QueryReferenceIdeal.τ) (Cert.QueryReferenceIdeal.main (F := Ideal))) ⟨m', fun _ => 0, g'⟩ (fun r => ∀ c : Dev Cert.QueryReferenceIdeal.nD,
          r.2.mem ((c.tc : Thread Cert.QueryReferenceIdeal.nD Cert.QueryReferenceIdeal.τ).loc Cert.QueryReferenceIdeal.main_v35) = v0 c
          ∧ r.2.mem ((c.tc : Thread Cert.QueryReferenceIdeal.nD Cert.QueryReferenceIdeal.τ).loc Cert.QueryReferenceIdeal.main_arg0) = m' ((c.tc : Thread Cert.QueryReferenceIdeal.nD Cert.QueryReferenceIdeal.τ).loc Cert.QueryReferenceIdeal.main_arg0)
          ∧ r.2.mem ((c.tc : Thread Cert.QueryReferenceIdeal.nD Cert.QueryReferenceIdeal.τ).loc Cert.QueryReferenceIdeal.main_arg1) = m' ((c.tc : Thread Cert.QueryReferenceIdeal.nD Cert.QueryReferenceIdeal.τ).loc Cert.QueryReferenceIdeal.main_arg1))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v28) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2))

def preserves_Fin_FinIdeal : Prop :=
  True

def algebraic_FinIdeal_FinReferenceIdeal [hFinIdeal : Cert.FinIdeal.Facts] [hFinReferenceIdeal : Cert.FinReferenceIdeal.Facts] : Prop :=
  ∀ (m : (ℓ : Loc Cert.FinIdeal.nD Cert.FinIdeal.τ Cert.FinIdeal.sig) → Buf (Elt Ideal) ℓ) (g : Dev Cert.FinIdeal.nD → PrngReg)
    (m' : (ℓ : Loc Cert.FinReferenceIdeal.nD Cert.FinReferenceIdeal.τ Cert.FinReferenceIdeal.sig) → Buf (Elt Ideal) ℓ) (g' : Dev Cert.FinReferenceIdeal.nD → PrngReg), Pre_FinIdeal m →
    (∀ c : Dev Cert.FinIdeal.nD,
      m' ((c.tc : Thread Cert.FinReferenceIdeal.nD Cert.FinReferenceIdeal.τ).loc Cert.FinReferenceIdeal.main_arg0) = m ((c.tc : Thread Cert.FinIdeal.nD Cert.FinIdeal.τ).loc Cert.FinIdeal.main_arg0)
      ∧ m' ((c.tc : Thread Cert.FinReferenceIdeal.nD Cert.FinReferenceIdeal.τ).loc Cert.FinReferenceIdeal.main_arg1) = m ((c.tc : Thread Cert.FinIdeal.nD Cert.FinIdeal.τ).loc Cert.FinIdeal.main_arg1)) →
    ∃ (v0 : (c : Dev Cert.FinIdeal.nD) → Buf (Elt Ideal) ((c.tc : Thread Cert.FinIdeal.nD Cert.FinIdeal.τ).loc Cert.FinIdeal.main_v1)),
      θ_run (Cert.FinIdeal.defs (F := Ideal)) (onTc (τ := Cert.FinIdeal.τ) (Cert.FinIdeal.main (F := Ideal))) ⟨m, fun _ => 0, g⟩ (fun r => ∀ c : Dev Cert.FinIdeal.nD,
          r.2.mem ((c.tc : Thread Cert.FinIdeal.nD Cert.FinIdeal.τ).loc Cert.FinIdeal.main_v1) = v0 c
          ∧ r.2.mem ((c.tc : Thread Cert.FinIdeal.nD Cert.FinIdeal.τ).loc Cert.FinIdeal.main_arg0) = m ((c.tc : Thread Cert.FinIdeal.nD Cert.FinIdeal.τ).loc Cert.FinIdeal.main_arg0)
          ∧ r.2.mem ((c.tc : Thread Cert.FinIdeal.nD Cert.FinIdeal.τ).loc Cert.FinIdeal.main_arg1) = m ((c.tc : Thread Cert.FinIdeal.nD Cert.FinIdeal.τ).loc Cert.FinIdeal.main_arg1))
      ∧ θ_run (Cert.FinReferenceIdeal.defs (F := Ideal)) (onTc (τ := Cert.FinReferenceIdeal.τ) (Cert.FinReferenceIdeal.main (F := Ideal))) ⟨m', fun _ => 0, g'⟩ (fun r => ∀ c : Dev Cert.FinReferenceIdeal.nD,
          r.2.mem ((c.tc : Thread Cert.FinReferenceIdeal.nD Cert.FinReferenceIdeal.τ).loc Cert.FinReferenceIdeal.main_v14) = v0 c
          ∧ r.2.mem ((c.tc : Thread Cert.FinReferenceIdeal.nD Cert.FinReferenceIdeal.τ).loc Cert.FinReferenceIdeal.main_arg0) = m' ((c.tc : Thread Cert.FinReferenceIdeal.nD Cert.FinReferenceIdeal.τ).loc Cert.FinReferenceIdeal.main_arg0)
          ∧ r.2.mem ((c.tc : Thread Cert.FinReferenceIdeal.nD Cert.FinReferenceIdeal.τ).loc Cert.FinReferenceIdeal.main_arg1) = m' ((c.tc : Thread Cert.FinReferenceIdeal.nD Cert.FinReferenceIdeal.τ).loc Cert.FinReferenceIdeal.main_arg1))

def preserves_Ada_AdaIdeal : Prop :=
  True

def algebraic_AdaIdeal_AdaReferenceIdeal [hAdaIdeal : Cert.AdaIdeal.Facts] [hAdaReferenceIdeal : Cert.AdaReferenceIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaIdeal m →
    (∀ c : Dev Cert.AdaIdeal.nD,
      m' ((c.tc : Thread Cert.AdaReferenceIdeal.nD Cert.AdaReferenceIdeal.τ).loc Cert.AdaReferenceIdeal.main_arg0) = m ((c.tc : Thread Cert.AdaIdeal.nD Cert.AdaIdeal.τ).loc Cert.AdaIdeal.main_arg0)
      ∧ m' ((c.tc : Thread Cert.AdaReferenceIdeal.nD Cert.AdaReferenceIdeal.τ).loc Cert.AdaReferenceIdeal.main_arg1) = m ((c.tc : Thread Cert.AdaIdeal.nD Cert.AdaIdeal.τ).loc Cert.AdaIdeal.main_arg1)
      ∧ m' ((c.tc : Thread Cert.AdaReferenceIdeal.nD Cert.AdaReferenceIdeal.τ).loc Cert.AdaReferenceIdeal.main_arg2) = m ((c.tc : Thread Cert.AdaIdeal.nD Cert.AdaIdeal.τ).loc Cert.AdaIdeal.main_arg2)
      ∧ m' ((c.tc : Thread Cert.AdaReferenceIdeal.nD Cert.AdaReferenceIdeal.τ).loc Cert.AdaReferenceIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v3)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v3) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v9) = v0 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2)
          ∧ r.2.mem ((c.tc : Thread Cert.AdaReferenceIdeal.nD Cert.AdaReferenceIdeal.τ).loc Cert.AdaReferenceIdeal.main_arg3) = m' ((c.tc : Thread Cert.AdaReferenceIdeal.nD Cert.AdaReferenceIdeal.τ).loc Cert.AdaReferenceIdeal.main_arg3))

def preserves_Sfin_SfinIdeal : Prop :=
  True

def algebraic_SfinIdeal_SfinReferenceIdeal [hSfinIdeal : Cert.SfinIdeal.Facts] [hSfinReferenceIdeal : Cert.SfinReferenceIdeal.Facts] : Prop :=
  ∀ (m : (ℓ : Loc Cert.SfinIdeal.nD Cert.SfinIdeal.τ Cert.SfinIdeal.sig) → Buf (Elt Ideal) ℓ) (g : Dev Cert.SfinIdeal.nD → PrngReg)
    (m' : (ℓ : Loc Cert.SfinReferenceIdeal.nD Cert.SfinReferenceIdeal.τ Cert.SfinReferenceIdeal.sig) → Buf (Elt Ideal) ℓ) (g' : Dev Cert.SfinReferenceIdeal.nD → PrngReg), Pre_SfinIdeal m →
    (∀ c : Dev Cert.SfinIdeal.nD,
      m' ((c.tc : Thread Cert.SfinReferenceIdeal.nD Cert.SfinReferenceIdeal.τ).loc Cert.SfinReferenceIdeal.main_arg0) = m ((c.tc : Thread Cert.SfinIdeal.nD Cert.SfinIdeal.τ).loc Cert.SfinIdeal.main_arg0)
      ∧ m' ((c.tc : Thread Cert.SfinReferenceIdeal.nD Cert.SfinReferenceIdeal.τ).loc Cert.SfinReferenceIdeal.main_arg1) = m ((c.tc : Thread Cert.SfinIdeal.nD Cert.SfinIdeal.τ).loc Cert.SfinIdeal.main_arg1)) →
    ∃ (v0 : (c : Dev Cert.SfinIdeal.nD) → Buf (Elt Ideal) ((c.tc : Thread Cert.SfinIdeal.nD Cert.SfinIdeal.τ).loc Cert.SfinIdeal.main_v1)),
      θ_run (Cert.SfinIdeal.defs (F := Ideal)) (onTc (τ := Cert.SfinIdeal.τ) (Cert.SfinIdeal.main (F := Ideal))) ⟨m, fun _ => 0, g⟩ (fun r => ∀ c : Dev Cert.SfinIdeal.nD,
          r.2.mem ((c.tc : Thread Cert.SfinIdeal.nD Cert.SfinIdeal.τ).loc Cert.SfinIdeal.main_v1) = v0 c
          ∧ r.2.mem ((c.tc : Thread Cert.SfinIdeal.nD Cert.SfinIdeal.τ).loc Cert.SfinIdeal.main_arg0) = m ((c.tc : Thread Cert.SfinIdeal.nD Cert.SfinIdeal.τ).loc Cert.SfinIdeal.main_arg0)
          ∧ r.2.mem ((c.tc : Thread Cert.SfinIdeal.nD Cert.SfinIdeal.τ).loc Cert.SfinIdeal.main_arg1) = m ((c.tc : Thread Cert.SfinIdeal.nD Cert.SfinIdeal.τ).loc Cert.SfinIdeal.main_arg1))
      ∧ θ_run (Cert.SfinReferenceIdeal.defs (F := Ideal)) (onTc (τ := Cert.SfinReferenceIdeal.τ) (Cert.SfinReferenceIdeal.main (F := Ideal))) ⟨m', fun _ => 0, g'⟩ (fun r => ∀ c : Dev Cert.SfinReferenceIdeal.nD,
          r.2.mem ((c.tc : Thread Cert.SfinReferenceIdeal.nD Cert.SfinReferenceIdeal.τ).loc Cert.SfinReferenceIdeal.main_v14) = v0 c
          ∧ r.2.mem ((c.tc : Thread Cert.SfinReferenceIdeal.nD Cert.SfinReferenceIdeal.τ).loc Cert.SfinReferenceIdeal.main_arg0) = m' ((c.tc : Thread Cert.SfinReferenceIdeal.nD Cert.SfinReferenceIdeal.τ).loc Cert.SfinReferenceIdeal.main_arg0)
          ∧ r.2.mem ((c.tc : Thread Cert.SfinReferenceIdeal.nD Cert.SfinReferenceIdeal.τ).loc Cert.SfinReferenceIdeal.main_arg1) = m' ((c.tc : Thread Cert.SfinReferenceIdeal.nD Cert.SfinReferenceIdeal.τ).loc Cert.SfinReferenceIdeal.main_arg1))

def preserves_Skey_SkeyIdeal : Prop :=
  True

def algebraic_SkeyIdeal_SkeyReferenceIdeal [hSkeyIdeal : Cert.SkeyIdeal.Facts] [hSkeyReferenceIdeal : Cert.SkeyReferenceIdeal.Facts] : Prop :=
  ∀ (m : (ℓ : Loc Cert.SkeyIdeal.nD Cert.SkeyIdeal.τ Cert.SkeyIdeal.sig) → Buf (Elt Ideal) ℓ) (g : Dev Cert.SkeyIdeal.nD → PrngReg)
    (m' : (ℓ : Loc Cert.SkeyReferenceIdeal.nD Cert.SkeyReferenceIdeal.τ Cert.SkeyReferenceIdeal.sig) → Buf (Elt Ideal) ℓ) (g' : Dev Cert.SkeyReferenceIdeal.nD → PrngReg), Pre_SkeyIdeal m →
    (∀ c : Dev Cert.SkeyIdeal.nD,
      m' ((c.tc : Thread Cert.SkeyReferenceIdeal.nD Cert.SkeyReferenceIdeal.τ).loc Cert.SkeyReferenceIdeal.main_arg0) = m ((c.tc : Thread Cert.SkeyIdeal.nD Cert.SkeyIdeal.τ).loc Cert.SkeyIdeal.main_arg0)
      ∧ m' ((c.tc : Thread Cert.SkeyReferenceIdeal.nD Cert.SkeyReferenceIdeal.τ).loc Cert.SkeyReferenceIdeal.main_arg1) = m ((c.tc : Thread Cert.SkeyIdeal.nD Cert.SkeyIdeal.τ).loc Cert.SkeyIdeal.main_arg1)) →
    ∃ (v0 : (c : Dev Cert.SkeyIdeal.nD) → Buf (Elt Ideal) ((c.tc : Thread Cert.SkeyIdeal.nD Cert.SkeyIdeal.τ).loc Cert.SkeyIdeal.main_v24)),
      θ_run (Cert.SkeyIdeal.defs (F := Ideal)) (onTc (τ := Cert.SkeyIdeal.τ) (Cert.SkeyIdeal.main (F := Ideal))) ⟨m, fun _ => 0, g⟩ (fun r => ∀ c : Dev Cert.SkeyIdeal.nD,
          r.2.mem ((c.tc : Thread Cert.SkeyIdeal.nD Cert.SkeyIdeal.τ).loc Cert.SkeyIdeal.main_v24) = v0 c
          ∧ r.2.mem ((c.tc : Thread Cert.SkeyIdeal.nD Cert.SkeyIdeal.τ).loc Cert.SkeyIdeal.main_arg0) = m ((c.tc : Thread Cert.SkeyIdeal.nD Cert.SkeyIdeal.τ).loc Cert.SkeyIdeal.main_arg0)
          ∧ r.2.mem ((c.tc : Thread Cert.SkeyIdeal.nD Cert.SkeyIdeal.τ).loc Cert.SkeyIdeal.main_arg1) = m ((c.tc : Thread Cert.SkeyIdeal.nD Cert.SkeyIdeal.τ).loc Cert.SkeyIdeal.main_arg1))
      ∧ θ_run (Cert.SkeyReferenceIdeal.defs (F := Ideal)) (onTc (τ := Cert.SkeyReferenceIdeal.τ) (Cert.SkeyReferenceIdeal.main (F := Ideal))) ⟨m', fun _ => 0, g'⟩ (fun r => ∀ c : Dev Cert.SkeyReferenceIdeal.nD,
          r.2.mem ((c.tc : Thread Cert.SkeyReferenceIdeal.nD Cert.SkeyReferenceIdeal.τ).loc Cert.SkeyReferenceIdeal.main_v36) = v0 c
          ∧ r.2.mem ((c.tc : Thread Cert.SkeyReferenceIdeal.nD Cert.SkeyReferenceIdeal.τ).loc Cert.SkeyReferenceIdeal.main_arg0) = m' ((c.tc : Thread Cert.SkeyReferenceIdeal.nD Cert.SkeyReferenceIdeal.τ).loc Cert.SkeyReferenceIdeal.main_arg0)
          ∧ r.2.mem ((c.tc : Thread Cert.SkeyReferenceIdeal.nD Cert.SkeyReferenceIdeal.τ).loc Cert.SkeyReferenceIdeal.main_arg1) = m' ((c.tc : Thread Cert.SkeyReferenceIdeal.nD Cert.SkeyReferenceIdeal.τ).loc Cert.SkeyReferenceIdeal.main_arg1))

def preserves_Sval_SvalIdeal : Prop :=
  True

def algebraic_SvalIdeal_SvalReferenceIdeal [hSvalIdeal : Cert.SvalIdeal.Facts] [hSvalReferenceIdeal : Cert.SvalReferenceIdeal.Facts] : Prop :=
  ∀ (m : (ℓ : Loc Cert.SvalIdeal.nD Cert.SvalIdeal.τ Cert.SvalIdeal.sig) → Buf (Elt Ideal) ℓ) (g : Dev Cert.SvalIdeal.nD → PrngReg)
    (m' : (ℓ : Loc Cert.SvalReferenceIdeal.nD Cert.SvalReferenceIdeal.τ Cert.SvalReferenceIdeal.sig) → Buf (Elt Ideal) ℓ) (g' : Dev Cert.SvalReferenceIdeal.nD → PrngReg), Pre_SvalIdeal m →
    (∀ c : Dev Cert.SvalIdeal.nD,
      m' ((c.tc : Thread Cert.SvalReferenceIdeal.nD Cert.SvalReferenceIdeal.τ).loc Cert.SvalReferenceIdeal.main_arg0) = m ((c.tc : Thread Cert.SvalIdeal.nD Cert.SvalIdeal.τ).loc Cert.SvalIdeal.main_arg0)
      ∧ m' ((c.tc : Thread Cert.SvalReferenceIdeal.nD Cert.SvalReferenceIdeal.τ).loc Cert.SvalReferenceIdeal.main_arg1) = m ((c.tc : Thread Cert.SvalIdeal.nD Cert.SvalIdeal.τ).loc Cert.SvalIdeal.main_arg1)) →
    ∃ (v0 : (c : Dev Cert.SvalIdeal.nD) → Buf (Elt Ideal) ((c.tc : Thread Cert.SvalIdeal.nD Cert.SvalIdeal.τ).loc Cert.SvalIdeal.main_v1)),
      θ_run (Cert.SvalIdeal.defs (F := Ideal)) (onTc (τ := Cert.SvalIdeal.τ) (Cert.SvalIdeal.main (F := Ideal))) ⟨m, fun _ => 0, g⟩ (fun r => ∀ c : Dev Cert.SvalIdeal.nD,
          r.2.mem ((c.tc : Thread Cert.SvalIdeal.nD Cert.SvalIdeal.τ).loc Cert.SvalIdeal.main_v1) = v0 c
          ∧ r.2.mem ((c.tc : Thread Cert.SvalIdeal.nD Cert.SvalIdeal.τ).loc Cert.SvalIdeal.main_arg0) = m ((c.tc : Thread Cert.SvalIdeal.nD Cert.SvalIdeal.τ).loc Cert.SvalIdeal.main_arg0)
          ∧ r.2.mem ((c.tc : Thread Cert.SvalIdeal.nD Cert.SvalIdeal.τ).loc Cert.SvalIdeal.main_arg1) = m ((c.tc : Thread Cert.SvalIdeal.nD Cert.SvalIdeal.τ).loc Cert.SvalIdeal.main_arg1))
      ∧ θ_run (Cert.SvalReferenceIdeal.defs (F := Ideal)) (onTc (τ := Cert.SvalReferenceIdeal.τ) (Cert.SvalReferenceIdeal.main (F := Ideal))) ⟨m', fun _ => 0, g'⟩ (fun r => ∀ c : Dev Cert.SvalReferenceIdeal.nD,
          r.2.mem ((c.tc : Thread Cert.SvalReferenceIdeal.nD Cert.SvalReferenceIdeal.τ).loc Cert.SvalReferenceIdeal.main_v2) = v0 c
          ∧ r.2.mem ((c.tc : Thread Cert.SvalReferenceIdeal.nD Cert.SvalReferenceIdeal.τ).loc Cert.SvalReferenceIdeal.main_arg0) = m' ((c.tc : Thread Cert.SvalReferenceIdeal.nD Cert.SvalReferenceIdeal.τ).loc Cert.SvalReferenceIdeal.main_arg0)
          ∧ r.2.mem ((c.tc : Thread Cert.SvalReferenceIdeal.nD Cert.SvalReferenceIdeal.τ).loc Cert.SvalReferenceIdeal.main_arg1) = m' ((c.tc : Thread Cert.SvalReferenceIdeal.nD Cert.SvalReferenceIdeal.τ).loc Cert.SvalReferenceIdeal.main_arg1))

def preserves_Sglu_SgluIdeal : Prop :=
  True

def algebraic_SgluIdeal_SgluReferenceIdeal [hSgluIdeal : Cert.SgluIdeal.Facts] [hSgluReferenceIdeal : Cert.SgluReferenceIdeal.Facts] : Prop :=
  ∀ (m : (ℓ : Loc Cert.SgluIdeal.nD Cert.SgluIdeal.τ Cert.SgluIdeal.sig) → Buf (Elt Ideal) ℓ) (g : Dev Cert.SgluIdeal.nD → PrngReg)
    (m' : (ℓ : Loc Cert.SgluReferenceIdeal.nD Cert.SgluReferenceIdeal.τ Cert.SgluReferenceIdeal.sig) → Buf (Elt Ideal) ℓ) (g' : Dev Cert.SgluReferenceIdeal.nD → PrngReg), Pre_SgluIdeal m →
    (∀ c : Dev Cert.SgluIdeal.nD,
      m' ((c.tc : Thread Cert.SgluReferenceIdeal.nD Cert.SgluReferenceIdeal.τ).loc Cert.SgluReferenceIdeal.main_arg0) = m ((c.tc : Thread Cert.SgluIdeal.nD Cert.SgluIdeal.τ).loc Cert.SgluIdeal.main_arg0)
      ∧ m' ((c.tc : Thread Cert.SgluReferenceIdeal.nD Cert.SgluReferenceIdeal.τ).loc Cert.SgluReferenceIdeal.main_arg1) = m ((c.tc : Thread Cert.SgluIdeal.nD Cert.SgluIdeal.τ).loc Cert.SgluIdeal.main_arg1)) →
    ∃ (v0 : (c : Dev Cert.SgluIdeal.nD) → Buf (Elt Ideal) ((c.tc : Thread Cert.SgluIdeal.nD Cert.SgluIdeal.τ).loc Cert.SgluIdeal.main_v1)),
      θ_run (Cert.SgluIdeal.defs (F := Ideal)) (onTc (τ := Cert.SgluIdeal.τ) (Cert.SgluIdeal.main (F := Ideal))) ⟨m, fun _ => 0, g⟩ (fun r => ∀ c : Dev Cert.SgluIdeal.nD,
          r.2.mem ((c.tc : Thread Cert.SgluIdeal.nD Cert.SgluIdeal.τ).loc Cert.SgluIdeal.main_v1) = v0 c
          ∧ r.2.mem ((c.tc : Thread Cert.SgluIdeal.nD Cert.SgluIdeal.τ).loc Cert.SgluIdeal.main_arg0) = m ((c.tc : Thread Cert.SgluIdeal.nD Cert.SgluIdeal.τ).loc Cert.SgluIdeal.main_arg0)
          ∧ r.2.mem ((c.tc : Thread Cert.SgluIdeal.nD Cert.SgluIdeal.τ).loc Cert.SgluIdeal.main_arg1) = m ((c.tc : Thread Cert.SgluIdeal.nD Cert.SgluIdeal.τ).loc Cert.SgluIdeal.main_arg1))
      ∧ θ_run (Cert.SgluReferenceIdeal.defs (F := Ideal)) (onTc (τ := Cert.SgluReferenceIdeal.τ) (Cert.SgluReferenceIdeal.main (F := Ideal))) ⟨m', fun _ => 0, g'⟩ (fun r => ∀ c : Dev Cert.SgluReferenceIdeal.nD,
          r.2.mem ((c.tc : Thread Cert.SgluReferenceIdeal.nD Cert.SgluReferenceIdeal.τ).loc Cert.SgluReferenceIdeal.main_v11) = v0 c
          ∧ r.2.mem ((c.tc : Thread Cert.SgluReferenceIdeal.nD Cert.SgluReferenceIdeal.τ).loc Cert.SgluReferenceIdeal.main_arg0) = m' ((c.tc : Thread Cert.SgluReferenceIdeal.nD Cert.SgluReferenceIdeal.τ).loc Cert.SgluReferenceIdeal.main_arg0)
          ∧ r.2.mem ((c.tc : Thread Cert.SgluReferenceIdeal.nD Cert.SgluReferenceIdeal.τ).loc Cert.SgluReferenceIdeal.main_arg1) = m' ((c.tc : Thread Cert.SgluReferenceIdeal.nD Cert.SgluReferenceIdeal.τ).loc Cert.SgluReferenceIdeal.main_arg1))

def preserves_Sconv_SconvIdeal : Prop :=
  True

def algebraic_SconvIdeal_SconvReferenceIdeal [hSconvIdeal : Cert.SconvIdeal.Facts] [hSconvReferenceIdeal : Cert.SconvReferenceIdeal.Facts] : Prop :=
  ∀ (m : (ℓ : Loc Cert.SconvIdeal.nD Cert.SconvIdeal.τ Cert.SconvIdeal.sig) → Buf (Elt Ideal) ℓ) (g : Dev Cert.SconvIdeal.nD → PrngReg)
    (m' : (ℓ : Loc Cert.SconvReferenceIdeal.nD Cert.SconvReferenceIdeal.τ Cert.SconvReferenceIdeal.sig) → Buf (Elt Ideal) ℓ) (g' : Dev Cert.SconvReferenceIdeal.nD → PrngReg), Pre_SconvIdeal m →
    (∀ c : Dev Cert.SconvIdeal.nD,
      m' ((c.tc : Thread Cert.SconvReferenceIdeal.nD Cert.SconvReferenceIdeal.τ).loc Cert.SconvReferenceIdeal.main_arg0) = m ((c.tc : Thread Cert.SconvIdeal.nD Cert.SconvIdeal.τ).loc Cert.SconvIdeal.main_arg0)
      ∧ m' ((c.tc : Thread Cert.SconvReferenceIdeal.nD Cert.SconvReferenceIdeal.τ).loc Cert.SconvReferenceIdeal.main_arg1) = m ((c.tc : Thread Cert.SconvIdeal.nD Cert.SconvIdeal.τ).loc Cert.SconvIdeal.main_arg1)
      ∧ m' ((c.tc : Thread Cert.SconvReferenceIdeal.nD Cert.SconvReferenceIdeal.τ).loc Cert.SconvReferenceIdeal.main_arg2) = m ((c.tc : Thread Cert.SconvIdeal.nD Cert.SconvIdeal.τ).loc Cert.SconvIdeal.main_arg2)
      ∧ m' ((c.tc : Thread Cert.SconvReferenceIdeal.nD Cert.SconvReferenceIdeal.τ).loc Cert.SconvReferenceIdeal.main_arg3) = m ((c.tc : Thread Cert.SconvIdeal.nD Cert.SconvIdeal.τ).loc Cert.SconvIdeal.main_arg3)
      ∧ m' ((c.tc : Thread Cert.SconvReferenceIdeal.nD Cert.SconvReferenceIdeal.τ).loc Cert.SconvReferenceIdeal.main_arg4) = m ((c.tc : Thread Cert.SconvIdeal.nD Cert.SconvIdeal.τ).loc Cert.SconvIdeal.main_arg4)
      ∧ m' ((c.tc : Thread Cert.SconvReferenceIdeal.nD Cert.SconvReferenceIdeal.τ).loc Cert.SconvReferenceIdeal.main_arg5) = m ((c.tc : Thread Cert.SconvIdeal.nD Cert.SconvIdeal.τ).loc Cert.SconvIdeal.main_arg5)) →
    ∃ (v0 : (c : Dev Cert.SconvIdeal.nD) → Buf (Elt Ideal) ((c.tc : Thread Cert.SconvIdeal.nD Cert.SconvIdeal.τ).loc Cert.SconvIdeal.main_v4)),
      θ_run (Cert.SconvIdeal.defs (F := Ideal)) (onTc (τ := Cert.SconvIdeal.τ) (Cert.SconvIdeal.main (F := Ideal))) ⟨m, fun _ => 0, g⟩ (fun r => ∀ c : Dev Cert.SconvIdeal.nD,
          r.2.mem ((c.tc : Thread Cert.SconvIdeal.nD Cert.SconvIdeal.τ).loc Cert.SconvIdeal.main_v4) = v0 c
          ∧ r.2.mem ((c.tc : Thread Cert.SconvIdeal.nD Cert.SconvIdeal.τ).loc Cert.SconvIdeal.main_arg0) = m ((c.tc : Thread Cert.SconvIdeal.nD Cert.SconvIdeal.τ).loc Cert.SconvIdeal.main_arg0)
          ∧ r.2.mem ((c.tc : Thread Cert.SconvIdeal.nD Cert.SconvIdeal.τ).loc Cert.SconvIdeal.main_arg1) = m ((c.tc : Thread Cert.SconvIdeal.nD Cert.SconvIdeal.τ).loc Cert.SconvIdeal.main_arg1)
          ∧ r.2.mem ((c.tc : Thread Cert.SconvIdeal.nD Cert.SconvIdeal.τ).loc Cert.SconvIdeal.main_arg2) = m ((c.tc : Thread Cert.SconvIdeal.nD Cert.SconvIdeal.τ).loc Cert.SconvIdeal.main_arg2)
          ∧ r.2.mem ((c.tc : Thread Cert.SconvIdeal.nD Cert.SconvIdeal.τ).loc Cert.SconvIdeal.main_arg3) = m ((c.tc : Thread Cert.SconvIdeal.nD Cert.SconvIdeal.τ).loc Cert.SconvIdeal.main_arg3)
          ∧ r.2.mem ((c.tc : Thread Cert.SconvIdeal.nD Cert.SconvIdeal.τ).loc Cert.SconvIdeal.main_arg4) = m ((c.tc : Thread Cert.SconvIdeal.nD Cert.SconvIdeal.τ).loc Cert.SconvIdeal.main_arg4)
          ∧ r.2.mem ((c.tc : Thread Cert.SconvIdeal.nD Cert.SconvIdeal.τ).loc Cert.SconvIdeal.main_arg5) = m ((c.tc : Thread Cert.SconvIdeal.nD Cert.SconvIdeal.τ).loc Cert.SconvIdeal.main_arg5))
      ∧ θ_run (Cert.SconvReferenceIdeal.defs (F := Ideal)) (onTc (τ := Cert.SconvReferenceIdeal.τ) (Cert.SconvReferenceIdeal.main (F := Ideal))) ⟨m', fun _ => 0, g'⟩ (fun r => ∀ c : Dev Cert.SconvReferenceIdeal.nD,
          r.2.mem ((c.tc : Thread Cert.SconvReferenceIdeal.nD Cert.SconvReferenceIdeal.τ).loc Cert.SconvReferenceIdeal.main_v247) = v0 c
          ∧ r.2.mem ((c.tc : Thread Cert.SconvReferenceIdeal.nD Cert.SconvReferenceIdeal.τ).loc Cert.SconvReferenceIdeal.main_arg0) = m' ((c.tc : Thread Cert.SconvReferenceIdeal.nD Cert.SconvReferenceIdeal.τ).loc Cert.SconvReferenceIdeal.main_arg0)
          ∧ r.2.mem ((c.tc : Thread Cert.SconvReferenceIdeal.nD Cert.SconvReferenceIdeal.τ).loc Cert.SconvReferenceIdeal.main_arg1) = m' ((c.tc : Thread Cert.SconvReferenceIdeal.nD Cert.SconvReferenceIdeal.τ).loc Cert.SconvReferenceIdeal.main_arg1)
          ∧ r.2.mem ((c.tc : Thread Cert.SconvReferenceIdeal.nD Cert.SconvReferenceIdeal.τ).loc Cert.SconvReferenceIdeal.main_arg2) = m' ((c.tc : Thread Cert.SconvReferenceIdeal.nD Cert.SconvReferenceIdeal.τ).loc Cert.SconvReferenceIdeal.main_arg2)
          ∧ r.2.mem ((c.tc : Thread Cert.SconvReferenceIdeal.nD Cert.SconvReferenceIdeal.τ).loc Cert.SconvReferenceIdeal.main_arg3) = m' ((c.tc : Thread Cert.SconvReferenceIdeal.nD Cert.SconvReferenceIdeal.τ).loc Cert.SconvReferenceIdeal.main_arg3)
          ∧ r.2.mem ((c.tc : Thread Cert.SconvReferenceIdeal.nD Cert.SconvReferenceIdeal.τ).loc Cert.SconvReferenceIdeal.main_arg4) = m' ((c.tc : Thread Cert.SconvReferenceIdeal.nD Cert.SconvReferenceIdeal.τ).loc Cert.SconvReferenceIdeal.main_arg4)
          ∧ r.2.mem ((c.tc : Thread Cert.SconvReferenceIdeal.nD Cert.SconvReferenceIdeal.τ).loc Cert.SconvReferenceIdeal.main_arg5) = m' ((c.tc : Thread Cert.SconvReferenceIdeal.nD Cert.SconvReferenceIdeal.τ).loc Cert.SconvReferenceIdeal.main_arg5))

def Claim : Prop :=
  ∃ (hKernel : Cert.Kernel.Facts) (hKernelIdeal : Cert.KernelIdeal.Facts) (hReferenceIdeal : Cert.ReferenceIdeal.Facts) (hFfa : Cert.Ffa.Facts) (hFfaIdeal : Cert.FfaIdeal.Facts) (hFfaReferenceIdeal : Cert.FfaReferenceIdeal.Facts) (hFfb : Cert.Ffb.Facts) (hFfbIdeal : Cert.FfbIdeal.Facts) (hFfbReferenceIdeal : Cert.FfbReferenceIdeal.Facts) (hMerge : Cert.Merge.Facts) (hMergeIdeal : Cert.MergeIdeal.Facts) (hMergeReferenceIdeal : Cert.MergeReferenceIdeal.Facts) (hOut : Cert.Out.Facts) (hOutIdeal : Cert.OutIdeal.Facts) (hOutReferenceIdeal : Cert.OutReferenceIdeal.Facts) (hGlu : Cert.Glu.Facts) (hGluIdeal : Cert.GluIdeal.Facts) (hGluReferenceIdeal : Cert.GluReferenceIdeal.Facts) (hKey : Cert.Key.Facts) (hKeyIdeal : Cert.KeyIdeal.Facts) (hKeyReferenceIdeal : Cert.KeyReferenceIdeal.Facts) (hVal : Cert.Val.Facts) (hValIdeal : Cert.ValIdeal.Facts) (hValReferenceIdeal : Cert.ValReferenceIdeal.Facts) (hQuery : Cert.Query.Facts) (hQueryIdeal : Cert.QueryIdeal.Facts) (hQueryReferenceIdeal : Cert.QueryReferenceIdeal.Facts) (hNorm : Cert.Norm.Facts) (hNormIdeal : Cert.NormIdeal.Facts) (hNormReferenceIdeal : Cert.NormReferenceIdeal.Facts) (hFin : Cert.Fin.Facts) (hFinIdeal : Cert.FinIdeal.Facts) (hFinReferenceIdeal : Cert.FinReferenceIdeal.Facts) (hAda : Cert.Ada.Facts) (hAdaIdeal : Cert.AdaIdeal.Facts) (hAdaReferenceIdeal : Cert.AdaReferenceIdeal.Facts) (hSfin : Cert.Sfin.Facts) (hSfinIdeal : Cert.SfinIdeal.Facts) (hSfinReferenceIdeal : Cert.SfinReferenceIdeal.Facts) (hSkey : Cert.Skey.Facts) (hSkeyIdeal : Cert.SkeyIdeal.Facts) (hSkeyReferenceIdeal : Cert.SkeyReferenceIdeal.Facts) (hSval : Cert.Sval.Facts) (hSvalIdeal : Cert.SvalIdeal.Facts) (hSvalReferenceIdeal : Cert.SvalReferenceIdeal.Facts) (hSglu : Cert.Sglu.Facts) (hSgluIdeal : Cert.SgluIdeal.Facts) (hSgluReferenceIdeal : Cert.SgluReferenceIdeal.Facts) (hSconv : Cert.Sconv.Facts) (hSconvIdeal : Cert.SconvIdeal.Facts) (hSconvReferenceIdeal : Cert.SconvReferenceIdeal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Ffa (hFfa := hFfa)
    ∧ quiescent_FfaIdeal (hFfaIdeal := hFfaIdeal)
    ∧ quiescent_FfaReferenceIdeal (hFfaReferenceIdeal := hFfaReferenceIdeal)
    ∧ quiescent_Ffb (hFfb := hFfb)
    ∧ quiescent_FfbIdeal (hFfbIdeal := hFfbIdeal)
    ∧ quiescent_FfbReferenceIdeal (hFfbReferenceIdeal := hFfbReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Out (hOut := hOut)
    ∧ quiescent_OutIdeal (hOutIdeal := hOutIdeal)
    ∧ quiescent_OutReferenceIdeal (hOutReferenceIdeal := hOutReferenceIdeal)
    ∧ quiescent_Glu (hGlu := hGlu)
    ∧ quiescent_GluIdeal (hGluIdeal := hGluIdeal)
    ∧ quiescent_GluReferenceIdeal (hGluReferenceIdeal := hGluReferenceIdeal)
    ∧ quiescent_Key (hKey := hKey)
    ∧ quiescent_KeyIdeal (hKeyIdeal := hKeyIdeal)
    ∧ quiescent_KeyReferenceIdeal (hKeyReferenceIdeal := hKeyReferenceIdeal)
    ∧ quiescent_Val (hVal := hVal)
    ∧ quiescent_ValIdeal (hValIdeal := hValIdeal)
    ∧ quiescent_ValReferenceIdeal (hValReferenceIdeal := hValReferenceIdeal)
    ∧ quiescent_Query (hQuery := hQuery)
    ∧ quiescent_QueryIdeal (hQueryIdeal := hQueryIdeal)
    ∧ quiescent_QueryReferenceIdeal (hQueryReferenceIdeal := hQueryReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_Fin (hFin := hFin)
    ∧ quiescent_FinIdeal (hFinIdeal := hFinIdeal)
    ∧ quiescent_FinReferenceIdeal (hFinReferenceIdeal := hFinReferenceIdeal)
    ∧ quiescent_Ada (hAda := hAda)
    ∧ quiescent_AdaIdeal (hAdaIdeal := hAdaIdeal)
    ∧ quiescent_AdaReferenceIdeal (hAdaReferenceIdeal := hAdaReferenceIdeal)
    ∧ quiescent_Sfin (hSfin := hSfin)
    ∧ quiescent_SfinIdeal (hSfinIdeal := hSfinIdeal)
    ∧ quiescent_SfinReferenceIdeal (hSfinReferenceIdeal := hSfinReferenceIdeal)
    ∧ quiescent_Skey (hSkey := hSkey)
    ∧ quiescent_SkeyIdeal (hSkeyIdeal := hSkeyIdeal)
    ∧ quiescent_SkeyReferenceIdeal (hSkeyReferenceIdeal := hSkeyReferenceIdeal)
    ∧ quiescent_Sval (hSval := hSval)
    ∧ quiescent_SvalIdeal (hSvalIdeal := hSvalIdeal)
    ∧ quiescent_SvalReferenceIdeal (hSvalReferenceIdeal := hSvalReferenceIdeal)
    ∧ quiescent_Sglu (hSglu := hSglu)
    ∧ quiescent_SgluIdeal (hSgluIdeal := hSgluIdeal)
    ∧ quiescent_SgluReferenceIdeal (hSgluReferenceIdeal := hSgluReferenceIdeal)
    ∧ quiescent_Sconv (hSconv := hSconv)
    ∧ quiescent_SconvIdeal (hSconvIdeal := hSconvIdeal)
    ∧ quiescent_SconvReferenceIdeal (hSconvReferenceIdeal := hSconvReferenceIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Ffa_FfaIdeal
    ∧ algebraic_FfaIdeal_FfaReferenceIdeal (hFfaIdeal := hFfaIdeal) (hFfaReferenceIdeal := hFfaReferenceIdeal)
    ∧ preserves_Ffb_FfbIdeal
    ∧ algebraic_FfbIdeal_FfbReferenceIdeal (hFfbIdeal := hFfbIdeal) (hFfbReferenceIdeal := hFfbReferenceIdeal)
    ∧ preserves_Merge_MergeIdeal
    ∧ algebraic_MergeIdeal_MergeReferenceIdeal (hMergeIdeal := hMergeIdeal) (hMergeReferenceIdeal := hMergeReferenceIdeal)
    ∧ preserves_Out_OutIdeal
    ∧ algebraic_OutIdeal_OutReferenceIdeal (hOutIdeal := hOutIdeal) (hOutReferenceIdeal := hOutReferenceIdeal)
    ∧ preserves_Glu_GluIdeal
    ∧ algebraic_GluIdeal_GluReferenceIdeal (hGluIdeal := hGluIdeal) (hGluReferenceIdeal := hGluReferenceIdeal)
    ∧ preserves_Key_KeyIdeal
    ∧ algebraic_KeyIdeal_KeyReferenceIdeal (hKeyIdeal := hKeyIdeal) (hKeyReferenceIdeal := hKeyReferenceIdeal)
    ∧ preserves_Val_ValIdeal
    ∧ algebraic_ValIdeal_ValReferenceIdeal (hValIdeal := hValIdeal) (hValReferenceIdeal := hValReferenceIdeal)
    ∧ preserves_Query_QueryIdeal
    ∧ algebraic_QueryIdeal_QueryReferenceIdeal (hQueryIdeal := hQueryIdeal) (hQueryReferenceIdeal := hQueryReferenceIdeal)
    ∧ preserves_Norm_NormIdeal
    ∧ algebraic_NormIdeal_NormReferenceIdeal (hNormIdeal := hNormIdeal) (hNormReferenceIdeal := hNormReferenceIdeal)
    ∧ preserves_Fin_FinIdeal
    ∧ algebraic_FinIdeal_FinReferenceIdeal (hFinIdeal := hFinIdeal) (hFinReferenceIdeal := hFinReferenceIdeal)
    ∧ preserves_Ada_AdaIdeal
    ∧ algebraic_AdaIdeal_AdaReferenceIdeal (hAdaIdeal := hAdaIdeal) (hAdaReferenceIdeal := hAdaReferenceIdeal)
    ∧ preserves_Sfin_SfinIdeal
    ∧ algebraic_SfinIdeal_SfinReferenceIdeal (hSfinIdeal := hSfinIdeal) (hSfinReferenceIdeal := hSfinReferenceIdeal)
    ∧ preserves_Skey_SkeyIdeal
    ∧ algebraic_SkeyIdeal_SkeyReferenceIdeal (hSkeyIdeal := hSkeyIdeal) (hSkeyReferenceIdeal := hSkeyReferenceIdeal)
    ∧ preserves_Sval_SvalIdeal
    ∧ algebraic_SvalIdeal_SvalReferenceIdeal (hSvalIdeal := hSvalIdeal) (hSvalReferenceIdeal := hSvalReferenceIdeal)
    ∧ preserves_Sglu_SgluIdeal
    ∧ algebraic_SgluIdeal_SgluReferenceIdeal (hSgluIdeal := hSgluIdeal) (hSgluReferenceIdeal := hSgluReferenceIdeal)
    ∧ preserves_Sconv_SconvIdeal
    ∧ algebraic_SconvIdeal_SconvReferenceIdeal (hSconvIdeal := hSconvIdeal) (hSconvReferenceIdeal := hSconvReferenceIdeal)
-- ==== Pre_finite_qk.lean ====
abbrev S8192x2048 : Shape := ⟨2, ![8192, 2048]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)

variable [Facts]

def fn {F : FTy → Type} [FloatOps F] (main_arg0 : FVec F S8192x2048 .bf16) (main_arg1 : FVec F S8192x2048 .bf16) (main_arg2 : FVec F S8192x2048 .bf16) : IVec S8192x2048 1 × IVec S8192x2048 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_v4 : FVec F S8192x2048 .f32 := (extf .f32 · bitsLt_bf16_f32) main_arg1
  let main_v5 : FVec F S8192x2048 .f32 := Host.absf main_v4
  let main_cst_0 : FVec F S_ .f32 := constant S_ .f32 0x7F800000#32
  let main_v6 : FVec F S8192x2048 .f32 := broadcastInDim S8192x2048 ![] bcast_S_S8192x2048 main_cst_0
  let main_v7 : IVec S8192x2048 1 := cmpf .olt main_v5 main_v6
  (main_v3, main_v7)
-- ==== Kernel.lean ====
abbrev S8192x2048 : Shape := ⟨2, ![8192, 2048]⟩
abbrev S2048x128 : Shape := ⟨2, ![2048, 128]⟩
abbrev S128x128 : Shape := ⟨2, ![128, 128]⟩
abbrev S256x128 : Shape := ⟨2, ![256, 128]⟩
abbrev S128 : Shape := ⟨1, ![128]⟩
abbrev S1x128 : Shape := ⟨2, ![1, 128]⟩
abbrev S256x256 : Shape := ⟨2, ![256, 256]⟩
abbrev S256 : Shape := ⟨1, ![256]⟩
abbrev S256x1 : Shape := ⟨2, ![256, 1]⟩
abbrev S256x512 : Shape := ⟨2, ![256, 512]⟩
abbrev S512x128 : Shape := ⟨2, ![512, 128]⟩
abbrev S256x768 : Shape := ⟨2, ![256, 768]⟩
abbrev S768x128 : Shape := ⟨2, ![768, 128]⟩
abbrev S256x1024 : Shape := ⟨2, ![256, 1024]⟩
abbrev S1024x128 : Shape := ⟨2, ![1024, 128]⟩
abbrev S256x1280 : Shape := ⟨2, ![256, 1280]⟩
abbrev S1280x128 : Shape := ⟨2, ![1280, 128]⟩
abbrev S256x1536 : Shape := ⟨2, ![256, 1536]⟩
abbrev S1536x128 : Shape := ⟨2, ![1536, 128]⟩
abbrev S256x1792 : Shape := ⟨2, ![256, 1792]⟩
abbrev S1792x128 : Shape := ⟨2, ![1792, 128]⟩
abbrev S256x2048 : Shape := ⟨2, ![256, 2048]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S8192x2048, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S128x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8192x2048 : Shape := ⟨2, ![8192, 2048]⟩
abbrev S4x2048x16x128 : Shape := ⟨4, ![4, 2048, 16, 128]⟩
abbrev S4x16x2048x128 : Shape := ⟨4, ![4, 16, 2048, 128]⟩
abbrev S4x8x256x16x128 : Shape := ⟨5, ![4, 8, 256, 16, 128]⟩
abbrev S4x16x8x256x128 : Shape := ⟨5, ![4, 16, 8, 256, 128]⟩
abbrev S_ : Shape := ⟨0, ![]⟩
abbrev S4x16x8x128 : Shape := ⟨4, ![4, 16, 8, 128]⟩
abbrev S2048 : Shape := ⟨1, ![2048]⟩
abbrev S8 : Shape := ⟨1, ![8]⟩
abbrev S256 : Shape := ⟨1, ![256]⟩
abbrev S4 : Shape := ⟨1, ![4]⟩
abbrev S4x1x1x1 : Shape := ⟨4, ![4, 1, 1, 1]⟩
abbrev S16 : Shape := ⟨1, ![16]⟩
abbrev S1x16x1x1 : Shape := ⟨4, ![1, 16, 1, 1]⟩
abbrev S4x16x2048x8 : Shape := ⟨4, ![4, 16, 2048, 8]⟩
abbrev S1x8 : Shape := ⟨2, ![1, 8]⟩
abbrev S2048x1 : Shape := ⟨2, ![2048, 1]⟩
abbrev S2048x8 : Shape := ⟨2, ![2048, 8]⟩
abbrev S1x1x2048x8 : Shape := ⟨4, ![1, 1, 2048, 8]⟩
abbrev S4x16x2048x3 : Shape := ⟨4, ![4, 16, 2048, 3]⟩
abbrev S1x1x2048x1 : Shape := ⟨4, ![1, 1, 2048, 1]⟩
abbrev S4x16x2048x1 : Shape := ⟨4, ![4, 16, 2048, 1]⟩
abbrev S4x16x2048x4 : Shape := ⟨4, ![4, 16, 2048, 4]⟩
abbrev S4x16x2048x4x1 : Shape := ⟨5, ![4, 16, 2048, 4, 1]⟩
abbrev S4x16x2048x4x3 : Shape := ⟨5, ![4, 16, 2048, 4, 3]⟩
abbrev S4x16x2048x4x256x128 : Shape := ⟨6, ![4, 16, 2048, 4, 256, 128]⟩
abbrev S1x1x1x1x256 : Shape := ⟨5, ![1, 1, 1, 1, 256]⟩
abbrev S4x16x2048x4x256 : Shape := ⟨5, ![4, 16, 2048, 4, 256]⟩
abbrev S1x1x2048x1x1 : Shape := ⟨5, ![1, 1, 2048, 1, 1]⟩
abbrev S4x16x2048x1024 : Shape := ⟨4, ![4, 16, 2048, 1024]⟩
abbrev S4x16x2048 : Shape := ⟨3, ![4, 16, 2048]⟩

abbrev nBuf : Space → Nat
  | .hbm => 165
  | .vmem => 0
  | .smem => 0
  | _ => 0

abbrev hbmTy0_0 (i : Nat) : BufTy := match i % 128 with
  | 0 => ⟨S8192x2048, .bf16⟩
  | 1 => ⟨S8192x2048, .bf16⟩
  | 2 => ⟨S8192x2048, .bf16⟩
  | 3 => ⟨S8192x2048, .f32⟩
  | 4 => ⟨S4x2048x16x128, .f32⟩
  | 5 => ⟨S8192x2048, .f32⟩
  | 6 => ⟨S4x2048x16x128, .f32⟩
  | 7 => ⟨S8192x2048, .f32⟩
  | 8 => ⟨S4x2048x16x128, .f32⟩
  | 9 => ⟨S4x16x2048x128, .f32⟩
  | 10 => ⟨S4x8x256x16x128, .f32⟩
  | 11 => ⟨S4x16x8x256x128, .f32⟩
  | 12 => ⟨S4x8x256x16x128, .f32⟩
  | 13 => ⟨S4x16x8x256x128, .f32⟩
  | 14 => ⟨S_, .f32⟩
  | 15 => ⟨S4x16x8x128, .f32⟩
  | 16 => ⟨S_, .f32⟩
  | 17 => ⟨S4x16x8x128, .f32⟩
  | 18 => ⟨S4x16x8x128, .f32⟩
  | 19 => ⟨S2048, .i32⟩
  | 20 => ⟨S_, .i32⟩
  | 21 => ⟨S_, .i32⟩
  | 22 => ⟨S2048, .i32⟩
  | 23 => ⟨S2048, .i32⟩
  | 24 => ⟨S2048, .i32⟩
  | 25 => ⟨S_, .i32⟩
  | 26 => ⟨S2048, .i32⟩
  | 27 => ⟨S2048, .i1⟩
  | 28 => ⟨S2048, .i32⟩
  | 29 => ⟨S2048, .i32⟩
  | 30 => ⟨S_, .i32⟩
  | 31 => ⟨S2048, .i32⟩
  | 32 => ⟨S2048, .i1⟩
  | 33 => ⟨S2048, .i1⟩
  | 34 => ⟨S_, .i32⟩
  | 35 => ⟨S2048, .i32⟩
  | 36 => ⟨S2048, .i32⟩
  | 37 => ⟨S2048, .i32⟩
  | 38 => ⟨S8, .i32⟩
  | 39 => ⟨S256, .i32⟩
  | 40 => ⟨S4, .i32⟩
  | 41 => ⟨S4x1x1x1, .i32⟩
  | 42 => ⟨S16, .i32⟩
  | 43 => ⟨S1x16x1x1, .i32⟩
  | 44 => ⟨S4x16x2048x8, .f32⟩
  | 45 => ⟨S1x8, .i32⟩
  | 46 => ⟨S2048x1, .i32⟩
  | 47 => ⟨S2048x8, .i32⟩
  | 48 => ⟨S2048x8, .i32⟩
  | 49 => ⟨S2048x8, .i1⟩
  | 50 => ⟨S1x1x2048x8, .i1⟩
  | 51 => ⟨S_, .f32⟩
  | 52 => ⟨S_, .f32⟩
  | 53 => ⟨S4x16x2048x8, .i1⟩
  | 54 => ⟨S4x16x2048x8, .f32⟩
  | 55 => ⟨S4x16x2048x8, .f32⟩
  | 56 => ⟨S4x16x2048x3, .f32⟩
  | 57 => ⟨S4x16x2048x3, .i32⟩
  | 58 => ⟨S_, .f32⟩
  | 59 => ⟨S4x16x2048x3, .f32⟩
  | 60 => ⟨S4x16x2048x3, .i1⟩
  | 61 => ⟨S1x1x2048x1, .i32⟩
  | 62 => ⟨S4x16x2048x1, .i32⟩
  | 63 => ⟨S4x16x2048x4, .i32⟩
  | 64 => ⟨S_, .i1⟩
  | 65 => ⟨S4x16x2048x1, .i1⟩
  | 66 => ⟨S4x16x2048x4, .i1⟩
  | 67 => ⟨S_, .i32⟩
  | 68 => ⟨S4x1x1x1, .i32⟩
  | 69 => ⟨S4x1x1x1, .i1⟩
  | 70 => ⟨S_, .i32⟩
  | 71 => ⟨S4x1x1x1, .i32⟩
  | 72 => ⟨S4x1x1x1, .i32⟩
  | 73 => ⟨S4x1x1x1, .i32⟩
  | 74 => ⟨S_, .i32⟩
  | 75 => ⟨S1x16x1x1, .i32⟩
  | 76 => ⟨S1x16x1x1, .i1⟩
  | 77 => ⟨S_, .i32⟩
  | 78 => ⟨S1x16x1x1, .i32⟩
  | 79 => ⟨S1x16x1x1, .i32⟩
  | 80 => ⟨S1x16x1x1, .i32⟩
  | 81 => ⟨S_, .i32⟩
  | 82 => ⟨S4x16x2048x4, .i32⟩
  | 83 => ⟨S4x16x2048x4, .i1⟩
  | 84 => ⟨S_, .i32⟩
  | 85 => ⟨S4x16x2048x4, .i32⟩
  | 86 => ⟨S4x16x2048x4, .i32⟩
  | 87 => ⟨S4x16x2048x4, .i32⟩
  | 88 => ⟨S4x16x2048x4, .i32⟩
  | 89 => ⟨S4x16x2048x4, .i32⟩
  | 90 => ⟨S4x16x2048x4x1, .i32⟩
  | 91 => ⟨S4x16x2048x4x1, .i32⟩
  | 92 => ⟨S4x16x2048x4x1, .i32⟩
  | 93 => ⟨S4x16x2048x4x3, .i32⟩
  | 94 => ⟨S4x16x2048x4x256x128, .f32⟩
  | 95 => ⟨S_, .i32⟩
  | 96 => ⟨S4x1x1x1, .i32⟩
  | 97 => ⟨S4x1x1x1, .i1⟩
  | 98 => ⟨S_, .i32⟩
  | 99 => ⟨S4x1x1x1, .i32⟩
  | 100 => ⟨S4x1x1x1, .i32⟩
  | 101 => ⟨S4x1x1x1, .i32⟩
  | 102 => ⟨S_, .i32⟩
  | 103 => ⟨S1x16x1x1, .i32⟩
  | 104 => ⟨S1x16x1x1, .i1⟩
  | 105 => ⟨S_, .i32⟩
  | 106 => ⟨S1x16x1x1, .i32⟩
  | 107 => ⟨S1x16x1x1, .i32⟩
  | 108 => ⟨S1x16x1x1, .i32⟩
  | 109 => ⟨S_, .i32⟩
  | 110 => ⟨S4x16x2048x4, .i32⟩
  | 111 => ⟨S4x16x2048x4, .i1⟩
  | 112 => ⟨S_, .i32⟩
  | 113 => ⟨S4x16x2048x4, .i32⟩
  | 114 => ⟨S4x16x2048x4, .i32⟩
  | 115 => ⟨S4x16x2048x4, .i32⟩
  | 116 => ⟨S4x16x2048x4, .i32⟩
  | 117 => ⟨S4x16x2048x4, .i32⟩
  | 118 => ⟨S4x16x2048x4x1, .i32⟩
  | 119 => ⟨S4x16x2048x4x1, .i32⟩
  | 120 => ⟨S4x16x2048x4x1, .i32⟩
  | 121 => ⟨S4x16x2048x4x3, .i32⟩
  | 122 => ⟨S4x16x2048x4x256x128, .f32⟩
  | 123 => ⟨S4x16x2048x4x1, .i32⟩
  | 124 => ⟨S_, .i32⟩
  | 125 => ⟨S4x16x2048x4x1, .i32⟩
  | 126 => ⟨S4x16x2048x4x1, .i32⟩
  | 127 => ⟨S1x1x1x1x256, .i32⟩
  | _ => ⟨S8192x2048, .bf16⟩

abbrev hbmTy0_1 (i : Nat) : BufTy := match i % 128 with
  | 0 => ⟨S4x16x2048x4x256, .i32⟩
  | 1 => ⟨S4x16x2048x4x256, .i32⟩
  | 2 => ⟨S4x16x2048x4x256, .i32⟩
  | 3 => ⟨S4x16x2048x4x1, .i1⟩
  | 4 => ⟨S1x1x2048x1x1, .i32⟩
  | 5 => ⟨S4x16x2048x4x256, .i32⟩
  | 6 => ⟨S4x16x2048x4x256, .i1⟩
  | 7 => ⟨S4x16x2048x4x256, .i1⟩
  | 8 => ⟨S4x16x2048x4x256, .i1⟩
  | 9 => ⟨S4x16x2048x4x256, .f32⟩
  | 10 => ⟨S_, .f32⟩
  | 11 => ⟨S4x16x2048x4x256, .f32⟩
  | 12 => ⟨S4x16x2048x4x256, .f32⟩
  | 13 => ⟨S_, .f32⟩
  | 14 => ⟨S_, .f32⟩
  | 15 => ⟨S4x16x2048x4x256, .f32⟩
  | 16 => ⟨S4x16x2048x4x256, .f32⟩
  | 17 => ⟨S4x16x2048x1024, .f32⟩
  | 18 => ⟨S_, .f32⟩
  | 19 => ⟨S4x16x2048, .f32⟩
  | 20 => ⟨S_, .f32⟩
  | 21 => ⟨S4x16x2048, .f32⟩
  | 22 => ⟨S4x16x2048, .f32⟩
  | 23 => ⟨S4x16x2048x1, .f32⟩
  | 24 => ⟨S4x16x2048x1024, .f32⟩
  | 25 => ⟨S4x16x2048x1024, .f32⟩
  | 26 => ⟨S4x16x2048x1024, .f32⟩
  | 27 => ⟨S_, .f32⟩
  | 28 => ⟨S4x16x2048, .f32⟩
  | 29 => ⟨S4x16x2048x1, .f32⟩
  | 30 => ⟨S4x16x2048x1024, .f32⟩
  | 31 => ⟨S4x16x2048x1024, .f32⟩
  | 32 => ⟨S4x16x2048x4x256, .f32⟩
  | 33 => ⟨S4x16x2048x128, .f32⟩
  | 34 => ⟨S4x2048x16x128, .f32⟩
  | 35 => ⟨S8192x2048, .f32⟩
  | 36 => ⟨S8192x2048, .bf16⟩
  | _ => ⟨S8192x2048, .bf16⟩

abbrev hbmTy (i : Nat) : BufTy := match i / 128 with
  | 0 => hbmTy0_0 i
  | 1 => hbmTy0_1 i
  | _ => ⟨S8192x2048, .bf16⟩

abbrev bufTy : (tb : Table) → Fin (tcTables nBuf tb) → BufTy
  | .hbm, ⟨i, _⟩ => hbmTy i
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_c : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_0 : Ref sig .tc := ⟨.hbm, 34, rfl⟩
abbrev main_call0_v12 : Ref sig .tc := ⟨.hbm, 35, rfl⟩
abbrev main_call0_v13 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_1 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v29 : Ref sig .tc := ⟨.hbm, 55, rfl⟩
abbrev main_values : Ref sig .tc := ⟨.hbm, 56, rfl⟩
abbrev main_indices : Ref sig .tc := ⟨.hbm, 57, rfl⟩
abbrev main_cst_2 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_c_3 : Ref sig .tc := ⟨.hbm, 64, rfl⟩
abbrev main_v35 : Ref sig .tc := ⟨.hbm, 65, rfl⟩
abbrev main_v36 : Ref sig .tc := ⟨.hbm, 66, rfl⟩
abbrev main_c_4 : Ref sig .tc := ⟨.hbm, 67, rfl⟩
abbrev main_v37 : Ref sig .tc := ⟨.hbm, 68, rfl⟩
abbrev main_v38 : Ref sig .tc := ⟨.hbm, 69, rfl⟩
abbrev main_c_5 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_c_6 : Ref sig .tc := ⟨.hbm, 74, rfl⟩
abbrev main_v42 : Ref sig .tc := ⟨.hbm, 75, rfl⟩
abbrev main_v43 : Ref sig .tc := ⟨.hbm, 76, rfl⟩
abbrev main_c_7 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_c_8 : Ref sig .tc := ⟨.hbm, 81, rfl⟩
abbrev main_v47 : Ref sig .tc := ⟨.hbm, 82, rfl⟩
abbrev main_v48 : Ref sig .tc := ⟨.hbm, 83, rfl⟩
abbrev main_c_9 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_c_10 : Ref sig .tc := ⟨.hbm, 95, rfl⟩
abbrev main_v59 : Ref sig .tc := ⟨.hbm, 96, rfl⟩
abbrev main_v60 : Ref sig .tc := ⟨.hbm, 97, rfl⟩
abbrev main_c_11 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_c_12 : Ref sig .tc := ⟨.hbm, 102, rfl⟩
abbrev main_v64 : Ref sig .tc := ⟨.hbm, 103, rfl⟩
abbrev main_v65 : Ref sig .tc := ⟨.hbm, 104, rfl⟩
abbrev main_c_13 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_c_14 : Ref sig .tc := ⟨.hbm, 109, rfl⟩
abbrev main_v69 : Ref sig .tc := ⟨.hbm, 110, rfl⟩
abbrev main_v70 : Ref sig .tc := ⟨.hbm, 111, rfl⟩
abbrev main_c_15 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_c_16 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_cst_17 : Ref sig .tc := ⟨.hbm, 138, rfl⟩
abbrev main_v95 : Ref sig .tc := ⟨.hbm, 139, rfl⟩
abbrev main_v96 : Ref sig .tc := ⟨.hbm, 140, rfl⟩
abbrev main_cst_18 : Ref sig .tc := ⟨.hbm, 141, rfl⟩
abbrev main_call2_v0 : Ref sig .tc := ⟨.hbm, 142, rfl⟩
abbrev main_call2_v1 : Ref sig .tc := ⟨.hbm, 143, rfl⟩
abbrev main_v97 : Ref sig .tc := ⟨.hbm, 144, rfl⟩
abbrev main_v98 : Ref sig .tc := ⟨.hbm, 145, rfl⟩
abbrev main_cst_19 : Ref sig .tc := ⟨.hbm, 146, rfl⟩
abbrev main_v99 : Ref sig .tc := ⟨.hbm, 147, rfl⟩
abbrev main_cst_20 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_cst_21 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩

abbrev nD : Nat := 1
abbrev τ : Topo := Topo.v7x

variable {F : FTy → Type} [FloatOps F]
-- ==== Ffa.lean ====
abbrev S8192x4096 : Shape := ⟨2, ![8192, 4096]⟩
abbrev S4096x16384 : Shape := ⟨2, ![4096, 16384]⟩
abbrev S8192x16384 : Shape := ⟨2, ![8192, 16384]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x16384, .f32⟩
  | .hbm, ⟨2, _⟩ => ⟨S4096x16384, .bf16⟩
  | .hbm, ⟨3, _⟩ => ⟨S8192x16384, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfaReferenceIdeal.lean ====
abbrev S8192x4096 : Shape := ⟨2, ![8192, 4096]⟩
abbrev S4096x16384 : Shape := ⟨2, ![4096, 16384]⟩
abbrev S8192x16384 : Shape := ⟨2, ![8192, 16384]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x16384, .f32⟩
  | .hbm, ⟨2, _⟩ => ⟨S8192x4096, .f32⟩
  | .hbm, ⟨3, _⟩ => ⟨S8192x16384, .f32⟩
  | .hbm, ⟨4, _⟩ => ⟨S_, .f32⟩
  | .hbm, ⟨5, _⟩ => ⟨S8192x16384, .f32⟩
  | .hbm, ⟨6, _⟩ => ⟨S8192x16384, .f32⟩
  | .hbm, ⟨7, _⟩ => ⟨S8192x16384, .f32⟩
  | .hbm, ⟨8, _⟩ => ⟨S8192x16384, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Ffb.lean ====
abbrev S8192x16384 : Shape := ⟨2, ![8192, 16384]⟩
abbrev S8192x4096 : Shape := ⟨2, ![8192, 4096]⟩
abbrev S4x24576 : Shape := ⟨2, ![4, 24576]⟩
abbrev S16384x4096 : Shape := ⟨2, ![16384, 4096]⟩
abbrev S24x1x4096 : Shape := ⟨3, ![24, 1, 4096]⟩
abbrev S1024x2048 : Shape := ⟨2, ![1024, 2048]⟩
abbrev S2048x1024 : Shape := ⟨2, ![2048, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x16384, .bf16⟩
  | .hbm, ⟨1, _⟩ => ⟨S8192x4096, .f32⟩
  | .hbm, ⟨2, _⟩ => ⟨S4x24576, .f32⟩
  | .hbm, ⟨3, _⟩ => ⟨S16384x4096, .f32⟩
  | .hbm, ⟨4, _⟩ => ⟨S16384x4096, .bf16⟩
  | .hbm, ⟨5, _⟩ => ⟨S24x1x4096, .f32⟩
  | .hbm, ⟨6, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8192x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c5_i32 : BitVec 32 := 5#32
  let v18 : BitVec 32 := Scalar.addi v17 c5_i32
  let c0_i32_4 : BitVec 32 := 0#32
  let c0_i32_5 : BitVec 32 := 0#32
  ![v18.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== FfbReferenceIdeal.lean ====
abbrev S8192x16384 : Shape := ⟨2, ![8192, 16384]⟩
abbrev S8192x4096 : Shape := ⟨2, ![8192, 4096]⟩
abbrev S4x24576 : Shape := ⟨2, ![4, 24576]⟩
abbrev S16384x4096 : Shape := ⟨2, ![16384, 4096]⟩
abbrev S4x1x24576 : Shape := ⟨3, ![4, 1, 24576]⟩
abbrev S4x1x4096 : Shape := ⟨3, ![4, 1, 4096]⟩
abbrev S4x2048x4096 : Shape := ⟨3, ![4, 2048, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8192x16384, .bf16⟩
  | .hbm, ⟨1, _⟩ => ⟨S8192x4096, .f32⟩
  | .hbm, ⟨2, _⟩ => ⟨S4x24576, .f32⟩
  | .hbm, ⟨3, _⟩ => ⟨S16384x4096, .f32⟩
  | .hbm, ⟨4, _⟩ => ⟨S4x1x24576, .f32⟩
  | .hbm, ⟨5, _⟩ => ⟨S4x1x4096, .f32⟩
  | .hbm, ⟨6, _⟩ => ⟨S4x1x4096, .f32⟩
  | .hbm, ⟨7, _⟩ => ⟨S4x1x4096, .f32⟩
  | .hbm, ⟨8, _⟩ => ⟨S4x1x4096, .f32⟩
  | .hbm, ⟨9, _⟩ => ⟨S4x1x4096, .f32⟩
  | .hbm, ⟨10, _⟩ => ⟨S4x1x4096, .f32⟩
  | .hbm, ⟨11, _⟩ => ⟨S8192x16384, .f32⟩
  | .hbm, ⟨12, _⟩ => ⟨S8192x4096, .f32⟩
  | .hbm, ⟨13, _⟩ => ⟨S4x2048x4096, .f32⟩
  | .hbm, ⟨14, _⟩ => ⟨S4x2048x4096, .f32⟩
  | .hbm, ⟨15, _⟩ => ⟨S4x2048x4096, .f32⟩
  | .hbm, ⟨16, _⟩ => ⟨S4x2048x4096, .f32⟩
  | .hbm, ⟨17, _⟩ => ⟨S4x2048x4096, .f32⟩
  | .hbm, ⟨18, _⟩ => ⟨S8192x4096, .f32⟩
  | _, _ => ⟨S8192x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Merge.lean ====
abbrev S8192x4096 : Shape := ⟨2, ![8192, 4096]⟩
abbrev S8192x2048 : Shape := ⟨2, ![8192, 2048]⟩
abbrev S4096x18432 : Shape := ⟨2, ![4096, 18432]⟩
abbrev S2048x4096 : Shape := ⟨2, ![2048, 4096]⟩
abbrev S512x4096 : Shape := ⟨2, ![512, 4096]⟩
abbrev S512x2048 : Shape := ⟨2, ![512, 2048]⟩
abbrev S4096x512 : Shape := ⟨2, ![4096, 512]⟩
abbrev S2048x512 : Shape := ⟨2, ![2048, 512]⟩
abbrev S512x512 : Shape := ⟨2, ![512, 512]⟩

abbrev nBuf : Space → Nat
  | .hbm => 10
  | .vmem => 16
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S8192x2048, .bf16⟩
  | .hbm, ⟨3, _⟩ => ⟨S4096x18432, .f32⟩
  | .hbm, ⟨4, _⟩ => ⟨S2048x4096, .f32⟩
  | .hbm, ⟨5, _⟩ => ⟨S2048x4096, .f32⟩
  | .hbm, ⟨6, _⟩ => ⟨S4096x18432, .bf16⟩
  | .hbm, ⟨7, _⟩ => ⟨S2048x4096, .bf16⟩
  | .hbm, ⟨8, _⟩ => ⟨S2048x4096, .bf16⟩
  | .hbm, ⟨9, _⟩ => ⟨S8192x4096, .bf16⟩
  | .local _ .vmem, ⟨0, _⟩ => ⟨S512x4096, .bf16⟩
  | .local _ .vmem, ⟨1, _⟩ => ⟨S512x4096, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S4096x512, .bf16⟩
  | .local _ .vmem, ⟨7, _⟩ => ⟨S4096x512, .bf16⟩
  | .local _ .vmem, ⟨8, _⟩ => ⟨S4096x512, .bf16⟩
  | .local _ .vmem, ⟨9, _⟩ => ⟨S4096x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S512x512, .bf16⟩
  | .local _ .vmem, ⟨15, _⟩ => ⟨S512x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MergeReferenceIdeal.lean ====
abbrev S8192x4096 : Shape := ⟨2, ![8192, 4096]⟩
abbrev S8192x2048 : Shape := ⟨2, ![8192, 2048]⟩
abbrev S4096x18432 : Shape := ⟨2, ![4096, 18432]⟩
abbrev S2048x4096 : Shape := ⟨2, ![2048, 4096]⟩
abbrev S4096x8192 : Shape := ⟨2, ![4096, 8192]⟩
abbrev S8192x8192 : Shape := ⟨2, ![8192, 8192]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S8192x2048, .bf16⟩
  | .hbm, ⟨3, _⟩ => ⟨S4096x18432, .f32⟩
  | .hbm, ⟨4, _⟩ => ⟨S2048x4096, .f32⟩
  | .hbm, ⟨5, _⟩ => ⟨S2048x4096, .f32⟩
  | .hbm, ⟨6, _⟩ => ⟨S8192x4096, .f32⟩
  | .hbm, ⟨7, _⟩ => ⟨S4096x8192, .f32⟩
  | .hbm, ⟨8, _⟩ => ⟨S8192x8192, .f32⟩
  | .hbm, ⟨9, _⟩ => ⟨S8192x4096, .f32⟩
  | .hbm, ⟨10, _⟩ => ⟨S8192x4096, .f32⟩
  | .hbm, ⟨11, _⟩ => ⟨S8192x2048, .f32⟩
  | .hbm, ⟨12, _⟩ => ⟨S8192x4096, .f32⟩
  | .hbm, ⟨13, _⟩ => ⟨S8192x2048, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S_, .f32⟩
  | .hbm, ⟨27, _⟩ => ⟨S8192x4096, .f32⟩
  | .hbm, ⟨28, _⟩ => ⟨S8192x4096, .f32⟩
  | .hbm, ⟨29, _⟩ => ⟨S_, .f32⟩
  | .hbm, ⟨30, _⟩ => ⟨S8192x4096, .f32⟩
  | .hbm, ⟨31, _⟩ => ⟨S8192x4096, .f32⟩
  | .hbm, ⟨32, _⟩ => ⟨S8192x4096, .f32⟩
  | .hbm, ⟨33, _⟩ => ⟨S8192x4096, .f32⟩
  | .hbm, ⟨34, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Out.lean ====
abbrev S8192x4096 : Shape := ⟨2, ![8192, 4096]⟩
abbrev S4x24576 : Shape := ⟨2, ![4, 24576]⟩
abbrev S4096x4096 : Shape := ⟨2, ![4096, 4096]⟩
abbrev S24x1x4096 : Shape := ⟨3, ![24, 1, 4096]⟩
abbrev S1024x4096 : Shape := ⟨2, ![1024, 4096]⟩
abbrev S4096x512 : Shape := ⟨2, ![4096, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 7
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S8192x4096, .f32⟩
  | .hbm, ⟨2, _⟩ => ⟨S4x24576, .f32⟩
  | .hbm, ⟨3, _⟩ => ⟨S4096x4096, .f32⟩
  | .hbm, ⟨4, _⟩ => ⟨S4096x4096, .bf16⟩
  | .hbm, ⟨5, _⟩ => ⟨S24x1x4096, .f32⟩
  | .hbm, ⟨6, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c2_i32_4 : BitVec 32 := 2#32
  let v18 : BitVec 32 := Scalar.addi v17 c2_i32_4
  let c0_i32_5 : BitVec 32 := 0#32
  let c0_i32_6 : BitVec 32 := 0#32
  ![v18.toNat, c0_i32_5.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutReferenceIdeal.lean ====
abbrev S8192x4096 : Shape := ⟨2, ![8192, 4096]⟩
abbrev S4x24576 : Shape := ⟨2, ![4, 24576]⟩
abbrev S4096x4096 : Shape := ⟨2, ![4096, 4096]⟩
abbrev S4x1x24576 : Shape := ⟨3, ![4, 1, 24576]⟩
abbrev S4x1x4096 : Shape := ⟨3, ![4, 1, 4096]⟩
abbrev S4x2048x4096 : Shape := ⟨3, ![4, 2048, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x4096, .f32⟩
  | .hbm, ⟨2, _⟩ => ⟨S4x24576, .f32⟩
  | .hbm, ⟨3, _⟩ => ⟨S4096x4096, .f32⟩
  | .hbm, ⟨4, _⟩ => ⟨S4x1x24576, .f32⟩
  | .hbm, ⟨5, _⟩ => ⟨S4x1x4096, .f32⟩
  | .hbm, ⟨6, _⟩ => ⟨S4x1x4096, .f32⟩
  | .hbm, ⟨7, _⟩ => ⟨S4x1x4096, .f32⟩
  | .hbm, ⟨8, _⟩ => ⟨S4x1x4096, .f32⟩
  | .hbm, ⟨9, _⟩ => ⟨S4x1x4096, .f32⟩
  | .hbm, ⟨10, _⟩ => ⟨S4x1x4096, .f32⟩
  | .hbm, ⟨11, _⟩ => ⟨S8192x4096, .f32⟩
  | .hbm, ⟨12, _⟩ => ⟨S8192x4096, .f32⟩
  | .hbm, ⟨13, _⟩ => ⟨S4x2048x4096, .f32⟩
  | .hbm, ⟨14, _⟩ => ⟨S4x2048x4096, .f32⟩
  | .hbm, ⟨15, _⟩ => ⟨S4x2048x4096, .f32⟩
  | .hbm, ⟨16, _⟩ => ⟨S4x2048x4096, .f32⟩
  | .hbm, ⟨17, _⟩ => ⟨S4x2048x4096, .f32⟩
  | .hbm, ⟨18, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Glu.lean ====
abbrev S8192x4096 : Shape := ⟨2, ![8192, 4096]⟩
abbrev S4096x18432 : Shape := ⟨2, ![4096, 18432]⟩
abbrev S8192x2048 : Shape := ⟨2, ![8192, 2048]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S4096x18432, .f32⟩
  | .hbm, ⟨2, _⟩ => ⟨S4096x18432, .bf16⟩
  | .hbm, ⟨3, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S1024x512, .f32⟩
  | .local _ .vmem, ⟨7, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GluReferenceIdeal.lean ====
abbrev S8192x4096 : Shape := ⟨2, ![8192, 4096]⟩
abbrev S4096x18432 : Shape := ⟨2, ![4096, 18432]⟩
abbrev S4096x4096 : Shape := ⟨2, ![4096, 4096]⟩
abbrev S8192x2048 : Shape := ⟨2, ![8192, 2048]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x18432, .f32⟩
  | .hbm, ⟨2, _⟩ => ⟨S8192x4096, .f32⟩
  | .hbm, ⟨3, _⟩ => ⟨S4096x4096, .f32⟩
  | .hbm, ⟨4, _⟩ => ⟨S8192x4096, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Key.lean ====
abbrev S8192x4096 : Shape := ⟨2, ![8192, 4096]⟩
abbrev S4096x18432 : Shape := ⟨2, ![4096, 18432]⟩
abbrev S2048 : Shape := ⟨1, ![2048]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S8192x2048 : Shape := ⟨2, ![8192, 2048]⟩
abbrev S1024x4096 : Shape := ⟨2, ![1024, 4096]⟩
abbrev S4096x1024 : Shape := ⟨2, ![4096, 1024]⟩
abbrev S1024x128 : Shape := ⟨2, ![1024, 128]⟩
abbrev S1024x1024 : Shape := ⟨2, ![1024, 1024]⟩

abbrev nBuf : Space → Nat
  | .hbm => 25
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S4096x18432, .f32⟩
  | .hbm, ⟨2, _⟩ => ⟨S2048, .i32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S2048, .f32⟩
  | .hbm, ⟨12, _⟩ => ⟨S2048x1, .f32⟩
  | .hbm, ⟨13, _⟩ => ⟨S1x64, .f32⟩
  | .hbm, ⟨14, _⟩ => ⟨S2048x64, .f32⟩
  | .hbm, ⟨15, _⟩ => ⟨S2048x64, .f32⟩
  | .hbm, ⟨16, _⟩ => ⟨S2048x64, .f32⟩
  | .hbm, ⟨17, _⟩ => ⟨S2048x64, .f32⟩
  | .hbm, ⟨18, _⟩ => ⟨S2048x64, .f32⟩
  | .hbm, ⟨19, _⟩ => ⟨S2048x128, .f32⟩
  | .hbm, ⟨20, _⟩ => ⟨S2048x64, .f32⟩
  | .hbm, ⟨21, _⟩ => ⟨S2048x128, .f32⟩
  | .hbm, ⟨22, _⟩ => ⟨S4096x18432, .bf16⟩
  | .hbm, ⟨23, _⟩ => ⟨S8192x2048, .f32⟩
  | .hbm, ⟨24, _⟩ => ⟨S8192x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19_0 : Ref sig .tc := ⟨.hbm, 23, rfl⟩
abbrev main_v19_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KeyReferenceIdeal.lean ====
abbrev S8192x4096 : Shape := ⟨2, ![8192, 4096]⟩
abbrev S4096x18432 : Shape := ⟨2, ![4096, 18432]⟩
abbrev S4096x2048 : Shape := ⟨2, ![4096, 2048]⟩
abbrev S8192x2048 : Shape := ⟨2, ![8192, 2048]⟩
abbrev S4x2048x16x128 : Shape := ⟨4, ![4, 2048, 16, 128]⟩
abbrev S2048 : Shape := ⟨1, ![2048]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S1x2048x1x64 : Shape := ⟨4, ![1, 2048, 1, 64]⟩
abbrev S4x2048x16x64 : Shape := ⟨4, ![4, 2048, 16, 64]⟩

abbrev nBuf : Space → Nat
  | .hbm => 40
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x18432, .f32⟩
  | .hbm, ⟨2, _⟩ => ⟨S8192x4096, .f32⟩
  | .hbm, ⟨3, _⟩ => ⟨S4096x2048, .f32⟩
  | .hbm, ⟨4, _⟩ => ⟨S8192x2048, .f32⟩
  | .hbm, ⟨5, _⟩ => ⟨S4x2048x16x128, .f32⟩
  | .hbm, ⟨6, _⟩ => ⟨S2048, .i32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S2048, .f32⟩
  | .hbm, ⟨16, _⟩ => ⟨S2048x1, .f32⟩
  | .hbm, ⟨17, _⟩ => ⟨S1x64, .f32⟩
  | .hbm, ⟨18, _⟩ => ⟨S2048x64, .f32⟩
  | .hbm, ⟨19, _⟩ => ⟨S2048x64, .f32⟩
  | .hbm, ⟨20, _⟩ => ⟨S2048x64, .f32⟩
  | .hbm, ⟨21, _⟩ => ⟨S2048x64, .f32⟩
  | .hbm, ⟨22, _⟩ => ⟨S1x2048x1x64, .f32⟩
  | .hbm, ⟨23, _⟩ => ⟨S2048x64, .f32⟩
  | .hbm, ⟨24, _⟩ => ⟨S1x2048x1x64, .f32⟩
  | .hbm, ⟨25, _⟩ => ⟨S4x2048x16x64, .f32⟩
  | .hbm, ⟨26, _⟩ => ⟨S4x2048x16x64, .f32⟩
  | .hbm, ⟨27, _⟩ => ⟨S4x2048x16x64, .f32⟩
  | .hbm, ⟨28, _⟩ => ⟨S4x2048x16x64, .f32⟩
  | .hbm, ⟨29, _⟩ => ⟨S4x2048x16x64, .f32⟩
  | .hbm, ⟨30, _⟩ => ⟨S4x2048x16x64, .f32⟩
  | .hbm, ⟨31, _⟩ => ⟨S4x2048x16x64, .f32⟩
  | .hbm, ⟨32, _⟩ => ⟨S4x2048x16x64, .f32⟩
  | .hbm, ⟨33, _⟩ => ⟨S4x2048x16x64, .f32⟩
  | .hbm, ⟨34, _⟩ => ⟨S4x2048x16x64, .f32⟩
  | .hbm, ⟨35, _⟩ => ⟨S4x2048x16x64, .f32⟩
  | .hbm, ⟨36, _⟩ => ⟨S4x2048x16x64, .f32⟩
  | .hbm, ⟨37, _⟩ => ⟨S4x2048x16x128, .f32⟩
  | .hbm, ⟨38, _⟩ => ⟨S8192x2048, .f32⟩
  | .hbm, ⟨39, _⟩ => ⟨S8192x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩

abbrev nD : Nat := 1
abbrev τ : Topo := Topo.v7x

variable {F : FTy → Type} [FloatOps F]
-- ==== Val.lean ====
abbrev S8192x4096 : Shape := ⟨2, ![8192, 4096]⟩
abbrev S4096x18432 : Shape := ⟨2, ![4096, 18432]⟩
abbrev S8192x2048 : Shape := ⟨2, ![8192, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S4096x18432, .f32⟩
  | .hbm, ⟨2, _⟩ => ⟨S4096x18432, .bf16⟩
  | .hbm, ⟨3, _⟩ => ⟨S8192x2048, .f32⟩
  | .hbm, ⟨4, _⟩ => ⟨S8192x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ValReferenceIdeal.lean ====
abbrev S8192x4096 : Shape := ⟨2, ![8192, 4096]⟩
abbrev S4096x18432 : Shape := ⟨2, ![4096, 18432]⟩
abbrev S4096x2048 : Shape := ⟨2, ![4096, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x18432, .f32⟩
  | .hbm, ⟨2, _⟩ => ⟨S8192x4096, .f32⟩
  | .hbm, ⟨3, _⟩ => ⟨S4096x2048, .f32⟩
  | .hbm, ⟨4, _⟩ => ⟨S8192x2048, .f32⟩
  | .hbm, ⟨5, _⟩ => ⟨S8192x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Query.lean ====
abbrev S8192x4096 : Shape := ⟨2, ![8192, 4096]⟩
abbrev S4096x18432 : Shape := ⟨2, ![4096, 18432]⟩
abbrev S2048 : Shape := ⟨1, ![2048]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S8192x2048 : Shape := ⟨2, ![8192, 2048]⟩
abbrev S1024x4096 : Shape := ⟨2, ![1024, 4096]⟩
abbrev S4096x1024 : Shape := ⟨2, ![4096, 1024]⟩
abbrev S1024x128 : Shape := ⟨2, ![1024, 128]⟩
abbrev S1024x1024 : Shape := ⟨2, ![1024, 1024]⟩

abbrev nBuf : Space → Nat
  | .hbm => 24
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S4096x18432, .f32⟩
  | .hbm, ⟨2, _⟩ => ⟨S2048, .i32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S2048, .f32⟩
  | .hbm, ⟨12, _⟩ => ⟨S2048x1, .f32⟩
  | .hbm, ⟨13, _⟩ => ⟨S1x64, .f32⟩
  | .hbm, ⟨14, _⟩ => ⟨S2048x64, .f32⟩
  | .hbm, ⟨15, _⟩ => ⟨S2048x64, .f32⟩
  | .hbm, ⟨16, _⟩ => ⟨S2048x64, .f32⟩
  | .hbm, ⟨17, _⟩ => ⟨S2048x64, .f32⟩
  | .hbm, ⟨18, _⟩ => ⟨S2048x64, .f32⟩
  | .hbm, ⟨19, _⟩ => ⟨S2048x128, .f32⟩
  | .hbm, ⟨20, _⟩ => ⟨S2048x64, .f32⟩
  | .hbm, ⟨21, _⟩ => ⟨S2048x128, .f32⟩
  | .hbm, ⟨22, _⟩ => ⟨S4096x18432, .bf16⟩
  | .hbm, ⟨23, _⟩ => ⟨S8192x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1024, .bf16⟩
  | .local _ .vmem, ⟨9, _⟩ => ⟨S1024x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QueryReferenceIdeal.lean ====
abbrev S8192x4096 : Shape := ⟨2, ![8192, 4096]⟩
abbrev S4096x18432 : Shape := ⟨2, ![4096, 18432]⟩
abbrev S4096x2048 : Shape := ⟨2, ![4096, 2048]⟩
abbrev S8192x2048 : Shape := ⟨2, ![8192, 2048]⟩
abbrev S4x2048x16x128 : Shape := ⟨4, ![4, 2048, 16, 128]⟩
abbrev S2048 : Shape := ⟨1, ![2048]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S1x2048x1x64 : Shape := ⟨4, ![1, 2048, 1, 64]⟩
abbrev S4x2048x16x64 : Shape := ⟨4, ![4, 2048, 16, 64]⟩

abbrev nBuf : Space → Nat
  | .hbm => 40
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x18432, .f32⟩
  | .hbm, ⟨2, _⟩ => ⟨S8192x4096, .f32⟩
  | .hbm, ⟨3, _⟩ => ⟨S4096x2048, .f32⟩
  | .hbm, ⟨4, _⟩ => ⟨S8192x2048, .f32⟩
  | .hbm, ⟨5, _⟩ => ⟨S4x2048x16x128, .f32⟩
  | .hbm, ⟨6, _⟩ => ⟨S2048, .i32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S2048, .f32⟩
  | .hbm, ⟨16, _⟩ => ⟨S2048x1, .f32⟩
  | .hbm, ⟨17, _⟩ => ⟨S1x64, .f32⟩
  | .hbm, ⟨18, _⟩ => ⟨S2048x64, .f32⟩
  | .hbm, ⟨19, _⟩ => ⟨S2048x64, .f32⟩
  | .hbm, ⟨20, _⟩ => ⟨S2048x64, .f32⟩
  | .hbm, ⟨21, _⟩ => ⟨S2048x64, .f32⟩
  | .hbm, ⟨22, _⟩ => ⟨S1x2048x1x64, .f32⟩
  | .hbm, ⟨23, _⟩ => ⟨S2048x64, .f32⟩
  | .hbm, ⟨24, _⟩ => ⟨S1x2048x1x64, .f32⟩
  | .hbm, ⟨25, _⟩ => ⟨S4x2048x16x64, .f32⟩
  | .hbm, ⟨26, _⟩ => ⟨S4x2048x16x64, .f32⟩
  | .hbm, ⟨27, _⟩ => ⟨S4x2048x16x64, .f32⟩
  | .hbm, ⟨28, _⟩ => ⟨S4x2048x16x64, .f32⟩
  | .hbm, ⟨29, _⟩ => ⟨S4x2048x16x64, .f32⟩
  | .hbm, ⟨30, _⟩ => ⟨S4x2048x16x64, .f32⟩
  | .hbm, ⟨31, _⟩ => ⟨S4x2048x16x64, .f32⟩
  | .hbm, ⟨32, _⟩ => ⟨S4x2048x16x64, .f32⟩
  | .hbm, ⟨33, _⟩ => ⟨S4x2048x16x64, .f32⟩
  | .hbm, ⟨34, _⟩ => ⟨S4x2048x16x64, .f32⟩
  | .hbm, ⟨35, _⟩ => ⟨S4x2048x16x64, .f32⟩
  | .hbm, ⟨36, _⟩ => ⟨S4x2048x16x64, .f32⟩
  | .hbm, ⟨37, _⟩ => ⟨S4x2048x16x128, .f32⟩
  | .hbm, ⟨38, _⟩ => ⟨S8192x2048, .f32⟩
  | .hbm, ⟨39, _⟩ => ⟨S8192x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩

abbrev nD : Nat := 1
abbrev τ : Topo := Topo.v7x

variable {F : FTy → Type} [FloatOps F]
-- ==== Norm.lean ====
abbrev S8192x4096 : Shape := ⟨2, ![8192, 4096]⟩
abbrev S4096 : Shape := ⟨1, ![4096]⟩
abbrev S4x24576 : Shape := ⟨2, ![4, 24576]⟩
abbrev S24x1x4096 : Shape := ⟨3, ![24, 1, 4096]⟩
abbrev S1x4096 : Shape := ⟨2, ![1, 4096]⟩
abbrev S512x4096 : Shape := ⟨2, ![512, 4096]⟩
abbrev S1x1x4096 : Shape := ⟨3, ![1, 1, 4096]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4x24576, .f32⟩
  | .hbm, ⟨3, _⟩ => ⟨S24x1x4096, .f32⟩
  | .hbm, ⟨4, _⟩ => ⟨S1x4096, .f32⟩
  | .hbm, ⟨5, _⟩ => ⟨S8192x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S512x4096, .bf16⟩
  | .local _ .vmem, ⟨8, _⟩ => ⟨S512x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c1_i32_4 : BitVec 32 := 1#32
  let v18 : BitVec 32 := Scalar.addi v17 c1_i32_4
  let c0_i32_5 : BitVec 32 := 0#32
  let c0_i32_6 : BitVec 32 := 0#32
  ![v18.toNat, c0_i32_5.toNat, arg1.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c0_i32_4 : BitVec 32 := 0#32
  let v18 : BitVec 32 := Scalar.addi v17 c0_i32_4
  let c0_i32_5 : BitVec 32 := 0#32
  let c0_i32_6 : BitVec 32 := 0#32
  ![v18.toNat, c0_i32_5.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== NormReferenceIdeal.lean ====
abbrev S8192x4096 : Shape := ⟨2, ![8192, 4096]⟩
abbrev S4096 : Shape := ⟨1, ![4096]⟩
abbrev S4x24576 : Shape := ⟨2, ![4, 24576]⟩
abbrev S4x1x24576 : Shape := ⟨3, ![4, 1, 24576]⟩
abbrev S4x1x4096 : Shape := ⟨3, ![4, 1, 4096]⟩
abbrev S4x2048x4096 : Shape := ⟨3, ![4, 2048, 4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩

abbrev nBuf : Space → Nat
  | .hbm => 36
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4x24576, .f32⟩
  | .hbm, ⟨3, _⟩ => ⟨S4x1x24576, .f32⟩
  | .hbm, ⟨4, _⟩ => ⟨S4x1x4096, .f32⟩
  | .hbm, ⟨5, _⟩ => ⟨S4x1x4096, .f32⟩
  | .hbm, ⟨6, _⟩ => ⟨S4x1x4096, .f32⟩
  | .hbm, ⟨7, _⟩ => ⟨S4x1x4096, .f32⟩
  | .hbm, ⟨8, _⟩ => ⟨S4x1x4096, .f32⟩
  | .hbm, ⟨9, _⟩ => ⟨S4x1x4096, .f32⟩
  | .hbm, ⟨10, _⟩ => ⟨S4x2048x4096, .f32⟩
  | .hbm, ⟨11, _⟩ => ⟨S4x2048x4096, .f32⟩
  | .hbm, ⟨12, _⟩ => ⟨S_, .f32⟩
  | .hbm, ⟨13, _⟩ => ⟨S4x2048, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S4x2048x1, .f32⟩
  | .hbm, ⟨22, _⟩ => ⟨S4x2048x4096, .f32⟩
  | .hbm, ⟨23, _⟩ => ⟨S4x2048x4096, .f32⟩
  | .hbm, ⟨24, _⟩ => ⟨S1x1x4096, .f32⟩
  | .hbm, ⟨25, _⟩ => ⟨S4x2048x4096, .f32⟩
  | .hbm, ⟨26, _⟩ => ⟨S4x2048x4096, .f32⟩
  | .hbm, ⟨27, _⟩ => ⟨S_, .f32⟩
  | .hbm, ⟨28, _⟩ => ⟨S4x1x4096, .f32⟩
  | .hbm, ⟨29, _⟩ => ⟨S4x1x4096, .f32⟩
  | .hbm, ⟨30, _⟩ => ⟨S4x2048x4096, .f32⟩
  | .hbm, ⟨31, _⟩ => ⟨S4x2048x4096, .f32⟩
  | .hbm, ⟨32, _⟩ => ⟨S4x2048x4096, .f32⟩
  | .hbm, ⟨33, _⟩ => ⟨S4x2048x4096, .f32⟩
  | .hbm, ⟨34, _⟩ => ⟨S8192x4096, .f32⟩
  | .hbm, ⟨35, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Fin.lean ====
abbrev S8192x4096 : Shape := ⟨2, ![8192, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinReferenceIdeal.lean ====
abbrev S8192x4096 : Shape := ⟨2, ![8192, 4096]⟩
abbrev S4096 : Shape := ⟨1, ![4096]⟩
abbrev S4x2048x4096 : Shape := ⟨3, ![4, 2048, 4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4x2048x4096, .f32⟩
  | .hbm, ⟨3, _⟩ => ⟨S4x2048x4096, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x4096, .f32⟩
  | .hbm, ⟨15, _⟩ => ⟨S4x2048x4096, .f32⟩
  | .hbm, ⟨16, _⟩ => ⟨S1x1x4096, .f32⟩
  | .hbm, ⟨17, _⟩ => ⟨S4x2048x4096, .f32⟩
  | .hbm, ⟨18, _⟩ => ⟨S4x2048x4096, .f32⟩
  | .hbm, ⟨19, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Ada.lean ====
abbrev S4x4096 : Shape := ⟨2, ![4, 4096]⟩
abbrev S32x4096 : Shape := ⟨2, ![32, 4096]⟩
abbrev S4096x24576 : Shape := ⟨2, ![4096, 24576]⟩
abbrev S24576 : Shape := ⟨1, ![24576]⟩
abbrev S_ : Shape := ⟨0, ![]⟩
abbrev S40x4096 : Shape := ⟨2, ![40, 4096]⟩
abbrev S1x24576 : Shape := ⟨2, ![1, 24576]⟩
abbrev S40x24576 : Shape := ⟨2, ![40, 24576]⟩
abbrev S4096x512 : Shape := ⟨2, ![4096, 512]⟩
abbrev S1x512 : Shape := ⟨2, ![1, 512]⟩
abbrev S40x512 : Shape := ⟨2, ![40, 512]⟩

abbrev nBuf : Space → Nat
  | .hbm => 9
  | .vmem => 7
  | .smem => 0
  | _ => 0

abbrev bufTy : (tb : Table) → Fin (tcTables nBuf tb) → BufTy
  | .hbm, ⟨0, _⟩ => ⟨S4x4096, .f32⟩
  | .hbm, ⟨1, _⟩ => ⟨S32x4096, .f32⟩
  | .hbm, ⟨2, _⟩ => ⟨S4096x24576, .f32⟩
  | .hbm, ⟨3, _⟩ => ⟨S24576, .f32⟩
  | .hbm, ⟨4, _⟩ => ⟨S_, .f32⟩
  | .hbm, ⟨5, _⟩ => ⟨S4x4096, .f32⟩
  | .hbm, ⟨6, _⟩ => ⟨S40x4096, .f32⟩
  | .hbm, ⟨7, _⟩ => ⟨S1x24576, .f32⟩
  | .hbm, ⟨8, _⟩ => ⟨S40x24576, .f32⟩
  | .local _ .vmem, ⟨0, _⟩ => ⟨S40x4096, .f32⟩
  | .local _ .vmem, ⟨1, _⟩ => ⟨S4096x512, .f32⟩
  | .local _ .vmem, ⟨2, _⟩ => ⟨S4096x512, .f32⟩
  | .local _ .vmem, ⟨3, _⟩ => ⟨S1x512, .f32⟩
  | .local _ .vmem, ⟨4, _⟩ => ⟨S1x512, .f32⟩
  | .local _ .vmem, ⟨5, _⟩ => ⟨S40x512, .f32⟩
  | .local _ .vmem, ⟨6, _⟩ => ⟨S40x512, .f32⟩
  | _, _ => ⟨S4x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S40x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaReferenceIdeal.lean ====
abbrev S4x4096 : Shape := ⟨2, ![4, 4096]⟩
abbrev S32x4096 : Shape := ⟨2, ![32, 4096]⟩
abbrev S4096x24576 : Shape := ⟨2, ![4096, 24576]⟩
abbrev S24576 : Shape := ⟨1, ![24576]⟩
abbrev S4x24576 : Shape := ⟨2, ![4, 24576]⟩
abbrev S1x24576 : Shape := ⟨2, ![1, 24576]⟩
abbrev S32x24576 : Shape := ⟨2, ![32, 24576]⟩
abbrev S40x24576 : Shape := ⟨2, ![40, 24576]⟩

abbrev nBuf : Space → Nat
  | .hbm => 14
  | .vmem => 0
  | .smem => 0
  | _ => 0

abbrev bufTy : (tb : Table) → Fin (tcTables nBuf tb) → BufTy
  | .hbm, ⟨0, _⟩ => ⟨S4x4096, .f32⟩
  | .hbm, ⟨1, _⟩ => ⟨S32x4096, .f32⟩
  | .hbm, ⟨2, _⟩ => ⟨S4096x24576, .f32⟩
  | .hbm, ⟨3, _⟩ => ⟨S24576, .f32⟩
  | .hbm, ⟨4, _⟩ => ⟨S4x24576, .f32⟩
  | .hbm, ⟨5, _⟩ => ⟨S4x24576, .f32⟩
  | .hbm, ⟨6, _⟩ => ⟨S1x24576, .f32⟩
  | .hbm, ⟨7, _⟩ => ⟨S4x24576, .f32⟩
  | .hbm, ⟨8, _⟩ => ⟨S4x24576, .f32⟩
  | .hbm, ⟨9, _⟩ => ⟨S32x24576, .f32⟩
  | .hbm, ⟨10, _⟩ => ⟨S1x24576, .f32⟩
  | .hbm, ⟨11, _⟩ => ⟨S32x24576, .f32⟩
  | .hbm, ⟨12, _⟩ => ⟨S32x24576, .f32⟩
  | .hbm, ⟨13, _⟩ => ⟨S40x24576, .f32⟩
  | _, _ => ⟨S4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Sfin.lean ====
abbrev S128x4096 : Shape := ⟨2, ![128, 4096]⟩
abbrev S4096 : Shape := ⟨1, ![4096]⟩
abbrev S1x4096 : Shape := ⟨2, ![1, 4096]⟩
abbrev S128 : Shape := ⟨1, ![128]⟩
abbrev S128x1 : Shape := ⟨2, ![128, 1]⟩

abbrev nBuf : Space → Nat
  | .hbm => 4
  | .vmem => 3
  | .smem => 0
  | _ => 0

abbrev bufTy : (tb : Table) → Fin (tcTables nBuf tb) → BufTy
  | .hbm, ⟨0, _⟩ => ⟨S128x4096, .f32⟩
  | .hbm, ⟨1, _⟩ => ⟨S4096, .f32⟩
  | .hbm, ⟨2, _⟩ => ⟨S1x4096, .f32⟩
  | .hbm, ⟨3, _⟩ => ⟨S128x4096, .f32⟩
  | .local _ .vmem, ⟨0, _⟩ => ⟨S128x4096, .f32⟩
  | .local _ .vmem, ⟨1, _⟩ => ⟨S1x4096, .f32⟩
  | .local _ .vmem, ⟨2, _⟩ => ⟨S128x4096, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SfinReferenceIdeal.lean ====
abbrev S128x4096 : Shape := ⟨2, ![128, 4096]⟩
abbrev S4096 : Shape := ⟨1, ![4096]⟩
abbrev S32x4x4096 : Shape := ⟨3, ![32, 4, 4096]⟩
abbrev S_ : Shape := ⟨0, ![]⟩
abbrev S32x4 : Shape := ⟨2, ![32, 4]⟩
abbrev S32x4x1 : Shape := ⟨3, ![32, 4, 1]⟩
abbrev S1x1x4096 : Shape := ⟨3, ![1, 1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S128x4096, .f32⟩
  | .hbm, ⟨1, _⟩ => ⟨S4096, .f32⟩
  | .hbm, ⟨2, _⟩ => ⟨S32x4x4096, .f32⟩
  | .hbm, ⟨3, _⟩ => ⟨S32x4x4096, .f32⟩
  | .hbm, ⟨4, _⟩ => ⟨S_, .f32⟩
  | .hbm, ⟨5, _⟩ => ⟨S32x4, .f32⟩
  | .hbm, ⟨6, _⟩ => ⟨S32x4x1, .f32⟩
  | .hbm, ⟨7, _⟩ => ⟨S_, .f32⟩
  | .hbm, ⟨8, _⟩ => ⟨S32x4x1, .f32⟩
  | .hbm, ⟨9, _⟩ => ⟨S32x4x1, .f32⟩
  | .hbm, ⟨10, _⟩ => ⟨S_, .f32⟩
  | .hbm, ⟨11, _⟩ => ⟨S32x4x1, .f32⟩
  | .hbm, ⟨12, _⟩ => ⟨S32x4x1, .f32⟩
  | .hbm, ⟨13, _⟩ => ⟨S32x4x1, .f32⟩
  | .hbm, ⟨14, _⟩ => ⟨S32x4x4096, .f32⟩
  | .hbm, ⟨15, _⟩ => ⟨S32x4x4096, .f32⟩
  | .hbm, ⟨16, _⟩ => ⟨S1x1x4096, .f32⟩
  | .hbm, ⟨17, _⟩ => ⟨S32x4x4096, .f32⟩
  | .hbm, ⟨18, _⟩ => ⟨S32x4x4096, .f32⟩
  | .hbm, ⟨19, _⟩ => ⟨S128x4096, .f32⟩
  | _, _ => ⟨S128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Skey.lean ====
abbrev S128x4096 : Shape := ⟨2, ![128, 4096]⟩
abbrev S4096x18432 : Shape := ⟨2, ![4096, 18432]⟩
abbrev S4 : Shape := ⟨1, ![4]⟩
abbrev S1x4 : Shape := ⟨2, ![1, 4]⟩
abbrev S32x4 : Shape := ⟨2, ![32, 4]⟩
abbrev S128 : Shape := ⟨1, ![128]⟩
abbrev S_ : Shape := ⟨0, ![]⟩
abbrev S64 : Shape := ⟨1, ![64]⟩
abbrev S128x1 : Shape := ⟨2, ![128, 1]⟩
abbrev S1x64 : Shape := ⟨2, ![1, 64]⟩
abbrev S128x64 : Shape := ⟨2, ![128, 64]⟩
abbrev S128x128 : Shape := ⟨2, ![128, 128]⟩
abbrev S128x2048 : Shape := ⟨2, ![128, 2048]⟩
abbrev S4096x1024 : Shape := ⟨2, ![4096, 1024]⟩
abbrev S128x1024 : Shape := ⟨2, ![128, 1024]⟩

abbrev nBuf : Space → Nat
  | .hbm => 30
  | .vmem => 7
  | .smem => 0
  | _ => 0

abbrev bufTy : (tb : Table) → Fin (tcTables nBuf tb) → BufTy
  | .hbm, ⟨0, _⟩ => ⟨S128x4096, .bf16⟩
  | .hbm, ⟨1, _⟩ => ⟨S4096x18432, .f32⟩
  | .hbm, ⟨2, _⟩ => ⟨S4, .i32⟩
  | .hbm, ⟨3, _⟩ => ⟨S1x4, .i32⟩
  | .hbm, ⟨4, _⟩ => ⟨S32x4, .i32⟩
  | .hbm, ⟨5, _⟩ => ⟨S128, .i32⟩
  | .hbm, ⟨6, _⟩ => ⟨S_, .i32⟩
  | .hbm, ⟨7, _⟩ => ⟨S128, .i32⟩
  | .hbm, ⟨8, _⟩ => ⟨S128, .i32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S128, .f32⟩
  | .hbm, ⟨18, _⟩ => ⟨S128x1, .f32⟩
  | .hbm, ⟨19, _⟩ => ⟨S1x64, .f32⟩
  | .hbm, ⟨20, _⟩ => ⟨S128x64, .f32⟩
  | .hbm, ⟨21, _⟩ => ⟨S128x64, .f32⟩
  | .hbm, ⟨22, _⟩ => ⟨S128x64, .f32⟩
  | .hbm, ⟨23, _⟩ => ⟨S128x64, .f32⟩
  | .hbm, ⟨24, _⟩ => ⟨S128x64, .f32⟩
  | .hbm, ⟨25, _⟩ => ⟨S128x128, .f32⟩
  | .hbm, ⟨26, _⟩ => ⟨S128x64, .f32⟩
  | .hbm, ⟨27, _⟩ => ⟨S128x128, .f32⟩
  | .hbm, ⟨28, _⟩ => ⟨S4096x18432, .bf16⟩
  | .hbm, ⟨29, _⟩ => ⟨S128x2048, .f32⟩
  | .local _ .vmem, ⟨0, _⟩ => ⟨S128x4096, .bf16⟩
  | .local _ .vmem, ⟨1, _⟩ => ⟨S4096x1024, .bf16⟩
  | .local _ .vmem, ⟨2, _⟩ => ⟨S4096x1024, .bf16⟩
  | .local _ .vmem, ⟨3, _⟩ => ⟨S128x128, .f32⟩
  | .local _ .vmem, ⟨4, _⟩ => ⟨S128x128, .f32⟩
  | .local _ .vmem, ⟨5, _⟩ => ⟨S128x1024, .f32⟩
  | .local _ .vmem, ⟨6, _⟩ => ⟨S128x1024, .f32⟩
  | _, _ => ⟨S128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SkeyReferenceIdeal.lean ====
abbrev S128x4096 : Shape := ⟨2, ![128, 4096]⟩
abbrev S4096x18432 : Shape := ⟨2, ![4096, 18432]⟩
abbrev S4096x2048 : Shape := ⟨2, ![4096, 2048]⟩
abbrev S128x2048 : Shape := ⟨2, ![128, 2048]⟩
abbrev S4 : Shape := ⟨1, ![4]⟩
abbrev S_ : Shape := ⟨0, ![]⟩
abbrev S32x4x16x128 : Shape := ⟨4, ![32, 4, 16, 128]⟩
abbrev S64 : Shape := ⟨1, ![64]⟩
abbrev S4x1 : Shape := ⟨2, ![4, 1]⟩
abbrev S1x64 : Shape := ⟨2, ![1, 64]⟩
abbrev S4x64 : Shape := ⟨2, ![4, 64]⟩
abbrev S1x4x1x64 : Shape := ⟨4, ![1, 4, 1, 64]⟩
abbrev S32x4x16x64 : Shape := ⟨4, ![32, 4, 16, 64]⟩

abbrev nBuf : Space → Nat
  | .hbm => 42
  | .vmem => 0
  | .smem => 0
  | _ => 0

abbrev bufTy : (tb : Table) → Fin (tcTables nBuf tb) → BufTy
  | .hbm, ⟨0, _⟩ => ⟨S128x4096, .bf16⟩
  | .hbm, ⟨1, _⟩ => ⟨S4096x18432, .f32⟩
  | .hbm, ⟨2, _⟩ => ⟨S128x4096, .f32⟩
  | .hbm, ⟨3, _⟩ => ⟨S4096x2048, .f32⟩
  | .hbm, ⟨4, _⟩ => ⟨S128x2048, .f32⟩
  | .hbm, ⟨5, _⟩ => ⟨S4, .i32⟩
  | .hbm, ⟨6, _⟩ => ⟨S_, .i32⟩
  | .hbm, ⟨7, _⟩ => ⟨S4, .i32⟩
  | .hbm, ⟨8, _⟩ => ⟨S4, .i32⟩
  | .hbm, ⟨9, _⟩ => ⟨S32x4x16x128, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S4, .f32⟩
  | .hbm, ⟨19, _⟩ => ⟨S4x1, .f32⟩
  | .hbm, ⟨20, _⟩ => ⟨S1x64, .f32⟩
  | .hbm, ⟨21, _⟩ => ⟨S4x64, .f32⟩
  | .hbm, ⟨22, _⟩ => ⟨S4x64, .f32⟩
  | .hbm, ⟨23, _⟩ => ⟨S4x64, .f32⟩
  | .hbm, ⟨24, _⟩ => ⟨S4x64, .f32⟩
  | .hbm, ⟨25, _⟩ => ⟨S1x4x1x64, .f32⟩
  | .hbm, ⟨26, _⟩ => ⟨S4x64, .f32⟩
  | .hbm, ⟨27, _⟩ => ⟨S1x4x1x64, .f32⟩
  | .hbm, ⟨28, _⟩ => ⟨S32x4x16x64, .f32⟩
  | .hbm, ⟨29, _⟩ => ⟨S32x4x16x64, .f32⟩
  | .hbm, ⟨30, _⟩ => ⟨S32x4x16x64, .f32⟩
  | .hbm, ⟨31, _⟩ => ⟨S32x4x16x64, .f32⟩
  | .hbm, ⟨32, _⟩ => ⟨S32x4x16x64, .f32⟩
  | .hbm, ⟨33, _⟩ => ⟨S32x4x16x64, .f32⟩
  | .hbm, ⟨34, _⟩ => ⟨S32x4x16x64, .f32⟩
  | .hbm, ⟨35, _⟩ => ⟨S32x4x16x64, .f32⟩
  | .hbm, ⟨36, _⟩ => ⟨S32x4x16x64, .f32⟩
  | .hbm, ⟨37, _⟩ => ⟨S32x4x16x64, .f32⟩
  | .hbm, ⟨38, _⟩ => ⟨S32x4x16x64, .f32⟩
  | .hbm, ⟨39, _⟩ => ⟨S32x4x16x64, .f32⟩
  | .hbm, ⟨40, _⟩ => ⟨S32x4x16x128, .f32⟩
  | .hbm, ⟨41, _⟩ => ⟨S128x2048, .f32⟩
  | _, _ => ⟨S128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩

abbrev nD : Nat := 1
abbrev τ : Topo := Topo.v7x

variable {F : FTy → Type} [FloatOps F]
-- ==== Sval.lean ====
abbrev S128x4096 : Shape := ⟨2, ![128, 4096]⟩
abbrev S4096x18432 : Shape := ⟨2, ![4096, 18432]⟩
abbrev S128x2048 : Shape := ⟨2, ![128, 2048]⟩
abbrev S4096x1024 : Shape := ⟨2, ![4096, 1024]⟩
abbrev S128x1024 : Shape := ⟨2, ![128, 1024]⟩

abbrev nBuf : Space → Nat
  | .hbm => 4
  | .vmem => 5
  | .smem => 0
  | _ => 0

abbrev bufTy : (tb : Table) → Fin (tcTables nBuf tb) → BufTy
  | .hbm, ⟨0, _⟩ => ⟨S128x4096, .bf16⟩
  | .hbm, ⟨1, _⟩ => ⟨S4096x18432, .f32⟩
  | .hbm, ⟨2, _⟩ => ⟨S4096x18432, .bf16⟩
  | .hbm, ⟨3, _⟩ => ⟨S128x2048, .f32⟩
  | .local _ .vmem, ⟨0, _⟩ => ⟨S128x4096, .bf16⟩
  | .local _ .vmem, ⟨1, _⟩ => ⟨S4096x1024, .bf16⟩
  | .local _ .vmem, ⟨2, _⟩ => ⟨S4096x1024, .bf16⟩
  | .local _ .vmem, ⟨3, _⟩ => ⟨S128x1024, .f32⟩
  | .local _ .vmem, ⟨4, _⟩ => ⟨S128x1024, .f32⟩
  | _, _ => ⟨S128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SvalReferenceIdeal.lean ====
abbrev S128x4096 : Shape := ⟨2, ![128, 4096]⟩
abbrev S4096x18432 : Shape := ⟨2, ![4096, 18432]⟩
abbrev S4096x2048 : Shape := ⟨2, ![4096, 2048]⟩
abbrev S128x2048 : Shape := ⟨2, ![128, 2048]⟩

abbrev nBuf : Space → Nat
  | .hbm => 5
  | .vmem => 0
  | .smem => 0
  | _ => 0

abbrev bufTy : (tb : Table) → Fin (tcTables nBuf tb) → BufTy
  | .hbm, ⟨0, _⟩ => ⟨S128x4096, .bf16⟩
  | .hbm, ⟨1, _⟩ => ⟨S4096x18432, .f32⟩
  | .hbm, ⟨2, _⟩ => ⟨S128x4096, .f32⟩
  | .hbm, ⟨3, _⟩ => ⟨S4096x2048, .f32⟩
  | .hbm, ⟨4, _⟩ => ⟨S128x2048, .f32⟩
  | _, _ => ⟨S128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Sglu.lean ====
abbrev S128x4096 : Shape := ⟨2, ![128, 4096]⟩
abbrev S4096x18432 : Shape := ⟨2, ![4096, 18432]⟩
abbrev S128x2048 : Shape := ⟨2, ![128, 2048]⟩
abbrev S4096x512 : Shape := ⟨2, ![4096, 512]⟩
abbrev S128x512 : Shape := ⟨2, ![128, 512]⟩

abbrev nBuf : Space → Nat
  | .hbm => 4
  | .vmem => 7
  | .smem => 0
  | _ => 0

abbrev bufTy : (tb : Table) → Fin (tcTables nBuf tb) → BufTy
  | .hbm, ⟨0, _⟩ => ⟨S128x4096, .bf16⟩
  | .hbm, ⟨1, _⟩ => ⟨S4096x18432, .f32⟩
  | .hbm, ⟨2, _⟩ => ⟨S4096x18432, .bf16⟩
  | .hbm, ⟨3, _⟩ => ⟨S128x2048, .f32⟩
  | .local _ .vmem, ⟨0, _⟩ => ⟨S128x4096, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S128x512, .f32⟩
  | .local _ .vmem, ⟨6, _⟩ => ⟨S128x512, .f32⟩
  | _, _ => ⟨S128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SgluReferenceIdeal.lean ====
abbrev S128x4096 : Shape := ⟨2, ![128, 4096]⟩
abbrev S4096x18432 : Shape := ⟨2, ![4096, 18432]⟩
abbrev S4096x4096 : Shape := ⟨2, ![4096, 4096]⟩
abbrev S128x2048 : Shape := ⟨2, ![128, 2048]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S128x4096, .bf16⟩
  | .hbm, ⟨1, _⟩ => ⟨S4096x18432, .f32⟩
  | .hbm, ⟨2, _⟩ => ⟨S128x4096, .f32⟩
  | .hbm, ⟨3, _⟩ => ⟨S4096x4096, .f32⟩
  | .hbm, ⟨4, _⟩ => ⟨S128x4096, .f32⟩
  | .hbm, ⟨5, _⟩ => ⟨S128x2048, .f32⟩
  | .hbm, ⟨6, _⟩ => ⟨S128x2048, .f32⟩
  | .hbm, ⟨7, _⟩ => ⟨S128x2048, .f32⟩
  | .hbm, ⟨8, _⟩ => ⟨S128x2048, .f32⟩
  | .hbm, ⟨9, _⟩ => ⟨S_, .f32⟩
  | .hbm, ⟨10, _⟩ => ⟨S128x2048, .f32⟩
  | .hbm, ⟨11, _⟩ => ⟨S128x2048, .f32⟩
  | .hbm, ⟨12, _⟩ => ⟨S_, .f32⟩
  | .hbm, ⟨13, _⟩ => ⟨S128x2048, .f32⟩
  | .hbm, ⟨14, _⟩ => ⟨S128x2048, .f32⟩
  | .hbm, ⟨15, _⟩ => ⟨S128x2048, .f32⟩
  | _, _ => ⟨S128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Sconv.lean ====
abbrev S128x2048 : Shape := ⟨2, ![128, 2048]⟩
abbrev S32x30x2048 : Shape := ⟨3, ![32, 30, 2048]⟩
abbrev S31x2048 : Shape := ⟨2, ![31, 2048]⟩
abbrev S2048 : Shape := ⟨1, ![2048]⟩
abbrev S32x4x2048 : Shape := ⟨3, ![32, 4, 2048]⟩
abbrev S1x2048 : Shape := ⟨2, ![1, 2048]⟩
abbrev S1x30x2048 : Shape := ⟨3, ![1, 30, 2048]⟩
abbrev S1x4x2048 : Shape := ⟨3, ![1, 4, 2048]⟩
abbrev S36x2048 : Shape := ⟨2, ![36, 2048]⟩
abbrev S4x2048 : Shape := ⟨2, ![4, 2048]⟩
abbrev S30x2048 : Shape := ⟨2, ![30, 2048]⟩
abbrev S1x256 : Shape := ⟨2, ![1, 256]⟩
abbrev S4x256 : Shape := ⟨2, ![4, 256]⟩
abbrev S4 : Shape := ⟨1, ![4]⟩
abbrev S4x1 : Shape := ⟨2, ![4, 1]⟩

abbrev nBuf : Space → Nat
  | .hbm => 11
  | .vmem => 12
  | .smem => 0
  | _ => 0

abbrev bufTy : (tb : Table) → Fin (tcTables nBuf tb) → BufTy
  | .hbm, ⟨0, _⟩ => ⟨S128x2048, .f32⟩
  | .hbm, ⟨1, _⟩ => ⟨S32x30x2048, .f32⟩
  | .hbm, ⟨2, _⟩ => ⟨S31x2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S32x4x2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S32x4x2048, .f32⟩
  | .local _ .vmem, ⟨0, _⟩ => ⟨S1x30x2048, .f32⟩
  | .local _ .vmem, ⟨1, _⟩ => ⟨S1x30x2048, .f32⟩
  | .local _ .vmem, ⟨2, _⟩ => ⟨S1x4x2048, .f32⟩
  | .local _ .vmem, ⟨3, _⟩ => ⟨S1x4x2048, .f32⟩
  | .local _ .vmem, ⟨4, _⟩ => ⟨S31x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x4x2048, .f32⟩
  | .local _ .vmem, ⟨9, _⟩ => ⟨S1x4x2048, .f32⟩
  | .local _ .vmem, ⟨10, _⟩ => ⟨S36x2048, .f32⟩
  | .local _ .vmem, ⟨11, _⟩ => ⟨S4x2048, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x30x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S31x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x4x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== SconvReferenceIdeal.lean ====
abbrev S128x2048 : Shape := ⟨2, ![128, 2048]⟩
abbrev S32x30x2048 : Shape := ⟨3, ![32, 30, 2048]⟩
abbrev S31x2048 : Shape := ⟨2, ![31, 2048]⟩
abbrev S2048 : Shape := ⟨1, ![2048]⟩
abbrev S32x4x2048 : Shape := ⟨3, ![32, 4, 2048]⟩
abbrev S32x34x2048 : Shape := ⟨3, ![32, 34, 2048]⟩
abbrev S1x2048 : Shape := ⟨2, ![1, 2048]⟩
abbrev S1x1x2048 : Shape := ⟨3, ![1, 1, 2048]⟩
abbrev S_ : Shape := ⟨0, ![]⟩
abbrev S32x4 : Shape := ⟨2, ![32, 4]⟩
abbrev S32x4x1 : Shape := ⟨3, ![32, 4, 1]⟩

abbrev nBuf : Space → Nat
  | .hbm => 268
  | .vmem => 0
  | .smem => 0
  | _ => 0

abbrev hbmTy0_0 (i : Nat) : BufTy := match i % 128 with
  | 0 => ⟨S128x2048, .f32⟩
  | 1 => ⟨S32x30x2048, .f32⟩
  | 2 => ⟨S31x2048, .f32⟩
  | 3 => ⟨S2048, .f32⟩
  | 4 => ⟨S2048, .f32⟩
  | 5 => ⟨S2048, .f32⟩
  | 6 => ⟨S32x4x2048, .f32⟩
  | 7 => ⟨S32x34x2048, .f32⟩
  | 8 => ⟨S32x4x2048, .f32⟩
  | 9 => ⟨S1x2048, .f32⟩
  | 10 => ⟨S2048, .f32⟩
  | 11 => ⟨S1x1x2048, .f32⟩
  | 12 => ⟨S32x4x2048, .f32⟩
  | 13 => ⟨S32x4x2048, .f32⟩
  | 14 => ⟨S_, .f32⟩
  | 15 => ⟨S32x4x2048, .f32⟩
  | 16 => ⟨S32x4x2048, .f32⟩
  | 17 => ⟨S32x4x2048, .f32⟩
  | 18 => ⟨S1x2048, .f32⟩
  | 19 => ⟨S2048, .f32⟩
  | 20 => ⟨S1x1x2048, .f32⟩
  | 21 => ⟨S32x4x2048, .f32⟩
  | 22 => ⟨S32x4x2048, .f32⟩
  | 23 => ⟨S32x4x2048, .f32⟩
  | 24 => ⟨S32x4x2048, .f32⟩
  | 25 => ⟨S1x2048, .f32⟩
  | 26 => ⟨S2048, .f32⟩
  | 27 => ⟨S1x1x2048, .f32⟩
  | 28 => ⟨S32x4x2048, .f32⟩
  | 29 => ⟨S32x4x2048, .f32⟩
  | 30 => ⟨S32x4x2048, .f32⟩
  | 31 => ⟨S32x4x2048, .f32⟩
  | 32 => ⟨S1x2048, .f32⟩
  | 33 => ⟨S2048, .f32⟩
  | 34 => ⟨S1x1x2048, .f32⟩
  | 35 => ⟨S32x4x2048, .f32⟩
  | 36 => ⟨S32x4x2048, .f32⟩
  | 37 => ⟨S32x4x2048, .f32⟩
  | 38 => ⟨S32x4x2048, .f32⟩
  | 39 => ⟨S1x2048, .f32⟩
  | 40 => ⟨S2048, .f32⟩
  | 41 => ⟨S1x1x2048, .f32⟩
  | 42 => ⟨S32x4x2048, .f32⟩
  | 43 => ⟨S32x4x2048, .f32⟩
  | 44 => ⟨S32x4x2048, .f32⟩
  | 45 => ⟨S32x4x2048, .f32⟩
  | 46 => ⟨S1x2048, .f32⟩
  | 47 => ⟨S2048, .f32⟩
  | 48 => ⟨S1x1x2048, .f32⟩
  | 49 => ⟨S32x4x2048, .f32⟩
  | 50 => ⟨S32x4x2048, .f32⟩
  | 51 => ⟨S32x4x2048, .f32⟩
  | 52 => ⟨S32x4x2048, .f32⟩
  | 53 => ⟨S1x2048, .f32⟩
  | 54 => ⟨S2048, .f32⟩
  | 55 => ⟨S1x1x2048, .f32⟩
  | 56 => ⟨S32x4x2048, .f32⟩
  | 57 => ⟨S32x4x2048, .f32⟩
  | 58 => ⟨S32x4x2048, .f32⟩
  | 59 => ⟨S32x4x2048, .f32⟩
  | 60 => ⟨S1x2048, .f32⟩
  | 61 => ⟨S2048, .f32⟩
  | 62 => ⟨S1x1x2048, .f32⟩
  | 63 => ⟨S32x4x2048, .f32⟩
  | 64 => ⟨S32x4x2048, .f32⟩
  | 65 => ⟨S32x4x2048, .f32⟩
  | 66 => ⟨S32x4x2048, .f32⟩
  | 67 => ⟨S1x2048, .f32⟩
  | 68 => ⟨S2048, .f32⟩
  | 69 => ⟨S1x1x2048, .f32⟩
  | 70 => ⟨S32x4x2048, .f32⟩
  | 71 => ⟨S32x4x2048, .f32⟩
  | 72 => ⟨S32x4x2048, .f32⟩
  | 73 => ⟨S32x4x2048, .f32⟩
  | 74 => ⟨S1x2048, .f32⟩
  | 75 => ⟨S2048, .f32⟩
  | 76 => ⟨S1x1x2048, .f32⟩
  | 77 => ⟨S32x4x2048, .f32⟩
  | 78 => ⟨S32x4x2048, .f32⟩
  | 79 => ⟨S32x4x2048, .f32⟩
  | 80 => ⟨S32x4x2048, .f32⟩
  | 81 => ⟨S1x2048, .f32⟩
  | 82 => ⟨S2048, .f32⟩
  | 83 => ⟨S1x1x2048, .f32⟩
  | 84 => ⟨S32x4x2048, .f32⟩
  | 85 => ⟨S32x4x2048, .f32⟩
  | 86 => ⟨S32x4x2048, .f32⟩
  | 87 => ⟨S32x4x2048, .f32⟩
  | 88 => ⟨S1x2048, .f32⟩
  | 89 => ⟨S2048, .f32⟩
  | 90 => ⟨S1x1x2048, .f32⟩
  | 91 => ⟨S32x4x2048, .f32⟩
  | 92 => ⟨S32x4x2048, .f32⟩
  | 93 => ⟨S32x4x2048, .f32⟩
  | 94 => ⟨S32x4x2048, .f32⟩
  | 95 => ⟨S1x2048, .f32⟩
  | 96 => ⟨S2048, .f32⟩
  | 97 => ⟨S1x1x2048, .f32⟩
  | 98 => ⟨S32x4x2048, .f32⟩
  | 99 => ⟨S32x4x2048, .f32⟩
  | 100 => ⟨S32x4x2048, .f32⟩
  | 101 => ⟨S32x4x2048, .f32⟩
  | 102 => ⟨S1x2048, .f32⟩
  | 103 => ⟨S2048, .f32⟩
  | 104 => ⟨S1x1x2048, .f32⟩
  | 105 => ⟨S32x4x2048, .f32⟩
  | 106 => ⟨S32x4x2048, .f32⟩
  | 107 => ⟨S32x4x2048, .f32⟩
  | 108 => ⟨S32x4x2048, .f32⟩
  | 109 => ⟨S1x2048, .f32⟩
  | 110 => ⟨S2048, .f32⟩
  | 111 => ⟨S1x1x2048, .f32⟩
  | 112 => ⟨S32x4x2048, .f32⟩
  | 113 => ⟨S32x4x2048, .f32⟩
  | 114 => ⟨S32x4x2048, .f32⟩
  | 115 => ⟨S32x4x2048, .f32⟩
  | 116 => ⟨S1x2048, .f32⟩
  | 117 => ⟨S2048, .f32⟩
  | 118 => ⟨S1x1x2048, .f32⟩
  | 119 => ⟨S32x4x2048, .f32⟩
  | 120 => ⟨S32x4x2048, .f32⟩
  | 121 => ⟨S32x4x2048, .f32⟩
  | 122 => ⟨S32x4x2048, .f32⟩
  | 123 => ⟨S1x2048, .f32⟩
  | 124 => ⟨S2048, .f32⟩
  | 125 => ⟨S1x1x2048, .f32⟩
  | 126 => ⟨S32x4x2048, .f32⟩
  | 127 => ⟨S32x4x2048, .f32⟩
  | _ => ⟨S128x2048, .f32⟩

abbrev hbmTy0_1 (i : Nat) : BufTy := match i % 128 with
  | 0 => ⟨S32x4x2048, .f32⟩
  | 1 => ⟨S32x4x2048, .f32⟩
  | 2 => ⟨S1x2048, .f32⟩
  | 3 => ⟨S2048, .f32⟩
  | 4 => ⟨S1x1x2048, .f32⟩
  | 5 => ⟨S32x4x2048, .f32⟩
  | 6 => ⟨S32x4x2048, .f32⟩
  | 7 => ⟨S32x4x2048, .f32⟩
  | 8 => ⟨S32x4x2048, .f32⟩
  | 9 => ⟨S1x2048, .f32⟩
  | 10 => ⟨S2048, .f32⟩
  | 11 => ⟨S1x1x2048, .f32⟩
  | 12 => ⟨S32x4x2048, .f32⟩
  | 13 => ⟨S32x4x2048, .f32⟩
  | 14 => ⟨S32x4x2048, .f32⟩
  | 15 => ⟨S32x4x2048, .f32⟩
  | 16 => ⟨S1x2048, .f32⟩
  | 17 => ⟨S2048, .f32⟩
  | 18 => ⟨S1x1x2048, .f32⟩
  | 19 => ⟨S32x4x2048, .f32⟩
  | 20 => ⟨S32x4x2048, .f32⟩
  | 21 => ⟨S32x4x2048, .f32⟩
  | 22 => ⟨S32x4x2048, .f32⟩
  | 23 => ⟨S1x2048, .f32⟩
  | 24 => ⟨S2048, .f32⟩
  | 25 => ⟨S1x1x2048, .f32⟩
  | 26 => ⟨S32x4x2048, .f32⟩
  | 27 => ⟨S32x4x2048, .f32⟩
  | 28 => ⟨S32x4x2048, .f32⟩
  | 29 => ⟨S32x4x2048, .f32⟩
  | 30 => ⟨S1x2048, .f32⟩
  | 31 => ⟨S2048, .f32⟩
  | 32 => ⟨S1x1x2048, .f32⟩
  | 33 => ⟨S32x4x2048, .f32⟩
  | 34 => ⟨S32x4x2048, .f32⟩
  | 35 => ⟨S32x4x2048, .f32⟩
  | 36 => ⟨S32x4x2048, .f32⟩
  | 37 => ⟨S1x2048, .f32⟩
  | 38 => ⟨S2048, .f32⟩
  | 39 => ⟨S1x1x2048, .f32⟩
  | 40 => ⟨S32x4x2048, .f32⟩
  | 41 => ⟨S32x4x2048, .f32⟩
  | 42 => ⟨S32x4x2048, .f32⟩
  | 43 => ⟨S32x4x2048, .f32⟩
  | 44 => ⟨S1x2048, .f32⟩
  | 45 => ⟨S2048, .f32⟩
  | 46 => ⟨S1x1x2048, .f32⟩
  | 47 => ⟨S32x4x2048, .f32⟩
  | 48 => ⟨S32x4x2048, .f32⟩
  | 49 => ⟨S32x4x2048, .f32⟩
  | 50 => ⟨S32x4x2048, .f32⟩
  | 51 => ⟨S1x2048, .f32⟩
  | 52 => ⟨S2048, .f32⟩
  | 53 => ⟨S1x1x2048, .f32⟩
  | 54 => ⟨S32x4x2048, .f32⟩
  | 55 => ⟨S32x4x2048, .f32⟩
  | 56 => ⟨S32x4x2048, .f32⟩
  | 57 => ⟨S32x4x2048, .f32⟩
  | 58 => ⟨S1x2048, .f32⟩
  | 59 => ⟨S2048, .f32⟩
  | 60 => ⟨S1x1x2048, .f32⟩
  | 61 => ⟨S32x4x2048, .f32⟩
  | 62 => ⟨S32x4x2048, .f32⟩
  | 63 => ⟨S32x4x2048, .f32⟩
  | 64 => ⟨S32x4x2048, .f32⟩
  | 65 => ⟨S1x2048, .f32⟩
  | 66 => ⟨S2048, .f32⟩
  | 67 => ⟨S1x1x2048, .f32⟩
  | 68 => ⟨S32x4x2048, .f32⟩
  | 69 => ⟨S32x4x2048, .f32⟩
  | 70 => ⟨S32x4x2048, .f32⟩
  | 71 => ⟨S32x4x2048, .f32⟩
  | 72 => ⟨S1x2048, .f32⟩
  | 73 => ⟨S2048, .f32⟩
  | 74 => ⟨S1x1x2048, .f32⟩
  | 75 => ⟨S32x4x2048, .f32⟩
  | 76 => ⟨S32x4x2048, .f32⟩
  | 77 => ⟨S32x4x2048, .f32⟩
  | 78 => ⟨S32x4x2048, .f32⟩
  | 79 => ⟨S1x2048, .f32⟩
  | 80 => ⟨S2048, .f32⟩
  | 81 => ⟨S1x1x2048, .f32⟩
  | 82 => ⟨S32x4x2048, .f32⟩
  | 83 => ⟨S32x4x2048, .f32⟩
  | 84 => ⟨S32x4x2048, .f32⟩
  | 85 => ⟨S32x4x2048, .f32⟩
  | 86 => ⟨S1x2048, .f32⟩
  | 87 => ⟨S2048, .f32⟩
  | 88 => ⟨S1x1x2048, .f32⟩
  | 89 => ⟨S32x4x2048, .f32⟩
  | 90 => ⟨S32x4x2048, .f32⟩
  | 91 => ⟨S32x4x2048, .f32⟩
  | 92 => ⟨S32x4x2048, .f32⟩
  | 93 => ⟨S1x2048, .f32⟩
  | 94 => ⟨S2048, .f32⟩
  | 95 => ⟨S1x1x2048, .f32⟩
  | 96 => ⟨S32x4x2048, .f32⟩
  | 97 => ⟨S32x4x2048, .f32⟩
  | 98 => ⟨S32x4x2048, .f32⟩
  | 99 => ⟨S1x1x2048, .f32⟩
  | 100 => ⟨S32x4x2048, .f32⟩
  | 101 => ⟨S32x4x2048, .f32⟩
  | 102 => ⟨S_, .f32⟩
  | 103 => ⟨S32x4, .f32⟩
  | 104 => ⟨S32x4x1, .f32⟩
  | 105 => ⟨S_, .f32⟩
  | 106 => ⟨S32x4x1, .f32⟩
  | 107 => ⟨S32x4x1, .f32⟩
  | 108 => ⟨S32x4x2048, .f32⟩
  | 109 => ⟨S32x4x2048, .f32⟩
  | 110 => ⟨S32x4x2048, .f32⟩
  | 111 => ⟨S_, .f32⟩
  | 112 => ⟨S32x4, .f32⟩
  | 113 => ⟨S32x4x1, .f32⟩
  | 114 => ⟨S_, .f32⟩
  | 115 => ⟨S32x4x1, .f32⟩
  | 116 => ⟨S32x4x1, .f32⟩
  | 117 => ⟨S32x4x2048, .f32⟩
  | 118 => ⟨S32x4x2048, .f32⟩
  | 119 => ⟨S_, .f32⟩
  | 120 => ⟨S32x4x1, .f32⟩
  | 121 => ⟨S32x4x1, .f32⟩
  | 122 => ⟨S32x4x1, .f32⟩
  | 123 => ⟨S32x4x2048, .f32⟩
  | 124 => ⟨S32x4x2048, .f32⟩
  | 125 => ⟨S1x1x2048, .f32⟩
  | 126 => ⟨S32x4x2048, .f32⟩
  | 127 => ⟨S32x4x2048, .f32⟩
  | _ => ⟨S128x2048, .f32⟩

abbrev hbmTy0_2 (i : Nat) : BufTy := match i % 128 with
  | 0 => ⟨S1x1x2048, .f32⟩
  | 1 => ⟨S32x4x2048, .f32⟩
  | 2 => ⟨S32x4x2048, .f32⟩
  | 3 => ⟨S32x4x2048, .f32⟩
  | 4 => ⟨S32x4x2048, .f32⟩
  | 5 => ⟨S_, .f32⟩
  | 6 => ⟨S32x4x2048, .f32⟩
  | 7 => ⟨S32x4x2048, .f32⟩
  | 8 => ⟨S_, .f32⟩
  | 9 => ⟨S32x4x2048, .f32⟩
  | 10 => ⟨S32x4x2048, .f32⟩
  | 11 => ⟨S32x4x2048, .f32⟩
  | _ => ⟨S128x2048, .f32⟩

abbrev hbmTy (i : Nat) : BufTy := match i / 128 with
  | 0 => hbmTy0_0 i
  | 1 => hbmTy0_1 i
  | 2 => hbmTy0_2 i
  | _ => ⟨S128x2048, .f32⟩

abbrev bufTy : (tb : Table) → Fin (tcTables nBuf tb) → BufTy
  | .hbm, ⟨i, _⟩ => hbmTy i
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩
abbrev main_v157 : Ref sig .tc := ⟨.hbm, 164, rfl⟩
abbrev main_v158 : Ref sig .tc := ⟨.hbm, 165, rfl⟩
abbrev main_v159 : Ref sig .tc := ⟨.hbm, 166, rfl⟩
abbrev main_v160 : Ref sig .tc := ⟨.hbm, 167, rfl⟩
abbrev main_v161 : Ref sig .tc := ⟨.hbm, 168, rfl⟩
abbrev main_v162 : Ref sig .tc := ⟨.hbm, 169, rfl⟩
abbrev main_v163 : Ref sig .tc := ⟨.hbm, 170, rfl⟩
abbrev main_v164 : Ref sig .tc := ⟨.hbm, 171, rfl⟩
abbrev main_v165 : Ref sig .tc := ⟨.hbm, 172, rfl⟩
abbrev main_v166 : Ref sig .tc := ⟨.hbm, 173, rfl⟩
abbrev main_v167 : Ref sig .tc := ⟨.hbm, 174, rfl⟩
abbrev main_v168 : Ref sig .tc := ⟨.hbm, 175, rfl⟩
abbrev main_v169 : Ref sig .tc := ⟨.hbm, 176, rfl⟩
abbrev main_v170 : Ref sig .tc := ⟨.hbm, 177, rfl⟩
abbrev main_v171 : Ref sig .tc := ⟨.hbm, 178, rfl⟩
abbrev main_v172 : Ref sig .tc := ⟨.hbm, 179, rfl⟩
abbrev main_v173 : Ref sig .tc := ⟨.hbm, 180, rfl⟩
abbrev main_v174 : Ref sig .tc := ⟨.hbm, 181, rfl⟩
abbrev main_v175 : Ref sig .tc := ⟨.hbm, 182, rfl⟩
abbrev main_v176 : Ref sig .tc := ⟨.hbm, 183, rfl⟩
abbrev main_v177 : Ref sig .tc := ⟨.hbm, 184, rfl⟩
abbrev main_v178 : Ref sig .tc := ⟨.hbm, 185, rfl⟩
abbrev main_v179 : Ref sig .tc := ⟨.hbm, 186, rfl⟩
abbrev main_v180 : Ref sig .tc := ⟨.hbm, 187, rfl⟩
abbrev main_v181 : Ref sig .tc := ⟨.hbm, 188, rfl⟩
abbrev main_v182 : Ref sig .tc := ⟨.hbm, 189, rfl⟩
abbrev main_v183 : Ref sig .tc := ⟨.hbm, 190, rfl⟩
abbrev main_v184 : Ref sig .tc := ⟨.hbm, 191, rfl⟩
abbrev main_v185 : Ref sig .tc := ⟨.hbm, 192, rfl⟩
abbrev main_v186 : Ref sig .tc := ⟨.hbm, 193, rfl⟩
abbrev main_v187 : Ref sig .tc := ⟨.hbm, 194, rfl⟩
abbrev main_v188 : Ref sig .tc := ⟨.hbm, 195, rfl⟩
abbrev main_v189 : Ref sig .tc := ⟨.hbm, 196, rfl⟩
abbrev main_v190 : Ref sig .tc := ⟨.hbm, 197, rfl⟩
abbrev main_v191 : Ref sig .tc := ⟨.hbm, 198, rfl⟩
abbrev main_v192 : Ref sig .tc := ⟨.hbm, 199, rfl⟩
abbrev main_v193 : Ref sig .tc := ⟨.hbm, 200, rfl⟩
abbrev main_v194 : Ref sig .tc := ⟨.hbm, 201, rfl⟩
abbrev main_v195 : Ref sig .tc := ⟨.hbm, 202, rfl⟩
abbrev main_v196 : Ref sig .tc := ⟨.hbm, 203, rfl⟩
abbrev main_v197 : Ref sig .tc := ⟨.hbm, 204, rfl⟩
abbrev main_v198 : Ref sig .tc := ⟨.hbm, 205, rfl⟩
abbrev main_v199 : Ref sig .tc := ⟨.hbm, 206, rfl⟩
abbrev main_v200 : Ref sig .tc := ⟨.hbm, 207, rfl⟩
abbrev main_v201 : Ref sig .tc := ⟨.hbm, 208, rfl⟩
abbrev main_v202 : Ref sig .tc := ⟨.hbm, 209, rfl⟩
abbrev main_v203 : Ref sig .tc := ⟨.hbm, 210, rfl⟩
abbrev main_v204 : Ref sig .tc := ⟨.hbm, 211, rfl⟩
abbrev main_v205 : Ref sig .tc := ⟨.hbm, 212, rfl⟩
abbrev main_v206 : Ref sig .tc := ⟨.hbm, 213, rfl⟩
abbrev main_v207 : Ref sig .tc := ⟨.hbm, 214, rfl⟩
abbrev main_v208 : Ref sig .tc := ⟨.hbm, 215, rfl⟩
abbrev main_v209 : Ref sig .tc := ⟨.hbm, 216, rfl⟩
abbrev main_v210 : Ref sig .tc := ⟨.hbm, 217, rfl⟩
abbrev main_v211 : Ref sig .tc := ⟨.hbm, 218, rfl⟩
abbrev main_v212 : Ref sig .tc := ⟨.hbm, 219, rfl⟩
abbrev main_v213 : Ref sig .tc := ⟨.hbm, 220, rfl⟩
abbrev main_v214 : Ref sig .tc := ⟨.hbm, 221, rfl⟩
abbrev main_v215 : Ref sig .tc := ⟨.hbm, 222, rfl⟩
abbrev main_v216 : Ref sig .tc := ⟨.hbm, 223, rfl⟩
abbrev main_v217 : Ref sig .tc := ⟨.hbm, 224, rfl⟩
abbrev main_v218 : Ref sig .tc := ⟨.hbm, 225, rfl⟩
abbrev main_v219 : Ref sig .tc := ⟨.hbm, 226, rfl⟩
abbrev main_v220 : Ref sig .tc := ⟨.hbm, 227, rfl⟩
abbrev main_v221 : Ref sig .tc := ⟨.hbm, 228, rfl⟩
abbrev main_v222 : Ref sig .tc := ⟨.hbm, 229, rfl⟩
abbrev main_cst_0 : Ref sig .tc := ⟨.hbm, 230, rfl⟩
abbrev main_v223 : Ref sig .tc := ⟨.hbm, 231, rfl⟩
abbrev main_v224 : Ref sig .tc := ⟨.hbm, 232, rfl⟩
abbrev main_cst_1 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_cst_2 : Ref sig .tc := ⟨.hbm, 239, rfl⟩
abbrev main_v230 : Ref sig .tc := ⟨.hbm, 240, rfl⟩
abbrev main_v231 : Ref sig .tc := ⟨.hbm, 241, rfl⟩
abbrev main_cst_3 : Ref sig .tc := ⟨.hbm, 242, rfl⟩
abbrev main_v232 : Ref sig .tc := ⟨.hbm, 243, rfl⟩
abbrev main_v233 : Ref sig .tc := ⟨.hbm, 244, rfl⟩
abbrev main_v234 : Ref sig .tc := ⟨.hbm, 245, rfl⟩
abbrev main_v235 : Ref sig .tc := ⟨.hbm, 246, rfl⟩
abbrev main_cst_4 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_v240 : Ref sig .tc := ⟨.hbm, 252, rfl⟩
abbrev main_v241 : Ref sig .tc := ⟨.hbm, 253, rfl⟩
abbrev main_v242 : Ref sig .tc := ⟨.hbm, 254, rfl⟩
abbrev main_v243 : Ref sig .tc := ⟨.hbm, 255, rfl⟩
abbrev main_v244 : Ref sig .tc := ⟨.hbm, 256, rfl⟩
abbrev main_v245 : Ref sig .tc := ⟨.hbm, 257, rfl⟩
abbrev main_v246 : Ref sig .tc := ⟨.hbm, 258, rfl⟩
abbrev main_call0_v0 : Ref sig .tc := ⟨.hbm, 259, rfl⟩
abbrev main_call0_v1 : Ref sig .tc := ⟨.hbm, 260, rfl⟩
abbrev main_call0_cst : Ref sig .tc := ⟨.hbm, 261, rfl⟩
abbrev main_call0_v2 : Ref sig .tc := ⟨.hbm, 262, rfl⟩
abbrev main_call0_v3 : Ref sig .tc := ⟨.hbm, 263, rfl⟩
abbrev main_call0_cst_0 : Ref sig .tc := ⟨.hbm, 264, rfl⟩
abbrev main_call0_v4 : Ref sig .tc := ⟨.hbm, 265, rfl⟩
abbrev main_call0_v5 : Ref sig .tc := ⟨.hbm, 266, rfl⟩
abbrev main_v247 : Ref sig .tc := ⟨.hbm, 267, rfl⟩

abbrev nD : Nat := 1
abbrev τ : Topo := Topo.v7x

variable {F : FTy → Type} [FloatOps F]
-- ==== Proof.MobaRefArrays.lean ====
module

public import proofs.«01_k».proof.Proof.Gen.ReferenceIdeal.Run

@[expose] public section

set_option maxRecDepth 65536

noncomputable section

/-! # The reference's arrays

The arrays `reference` forms on the way, named once: the queries per head, the keys per head and block, the blocks' means, the
gate, the three best blocks, the gathered keys and values, the mask, the softmax. Its result is their composition. -/

namespace Cert.MobaRef

open Cert.ReferenceIdeal Cert.ReferenceIdeal.Gen Idealize.ShloMosaic Idealize.ShloMosaic.TcCoe

variable {F : FTy → Type} [FloatOps F]

/-- Queries per batch and head. -/
def rq (a : FVec F S8192x2048 .bf16) : FVec F S4x16x2048x128 .f32 :=
  transpose S4x16x2048x128 [0, 2, 1, 3] (shapeCast S4x2048x16x128 (extf .f32 a bitsLt_bf16_f32) shapeCasts_S8192x2048_S4x2048x16x128)
    transposes_S4x2048x16x128_S4x16x2048x128_0_2_1_3

/-- Keys or values per batch, head and block. -/
def rb (a : FVec F S8192x2048 .bf16) : FVec F S4x16x8x256x128 .f32 :=
  transpose S4x16x8x256x128 [0, 3, 1, 2, 4]
    (shapeCast S4x8x256x16x128 (shapeCast S4x2048x16x128 (extf .f32 a bitsLt_bf16_f32) shapeCasts_S8192x2048_S4x2048x16x128)
      shapeCasts_S4x2048x16x128_S4x8x256x16x128) transposes_S4x8x256x16x128_S4x16x8x256x128_0_3_1_2_4

/-- Mean key of every block. -/
def rmean (kb : FVec F S4x16x8x256x128 .f32) : FVec F S4x16x8x128 .f32 :=
  Host.divf (Host.reduceAdd kb (constant S_ .f32 0x00000000#32) reducesTo_S4x16x8x256x128_S4x16x8x128_d3 h_S_)
    (broadcastInDim S4x16x8x128 ![] bcast_S_S4x16x8x128 (constant S_ .f32 0x43800000#32))

/-- The block every query lies in. -/
def rown : IVec S2048 32 :=
  select (andi (cmpi .ne (signi (iotaInDim S2048 32 0)) (broadcastInDim S2048 ![] bcast_S_S2048 (signi (id (constantI S_ 32 256#32)))))
      (cmpi .ne (Host.remsi (iotaInDim S2048 32 0) (broadcastInDim S2048 ![] bcast_S_S2048 (id (constantI S_ 32 256#32))))
        (broadcastInDim S2048 ![] bcast_S_S2048 (constantI S_ 32 0#32))))
    (subi (Host.divsi (iotaInDim S2048 32 0) (broadcastInDim S2048 ![] bcast_S_S2048 (id (constantI S_ 32 256#32))))
      (broadcastInDim S2048 ![] bcast_S_S2048 (constantI S_ 32 1#32)))
    (Host.divsi (iotaInDim S2048 32 0) (broadcastInDim S2048 ![] bcast_S_S2048 (id (constantI S_ 32 256#32))))

/-- Gate of every query and block. -/
def rgate (q : FVec F S4x16x2048x128 .f32) (km : FVec F S4x16x8x128 .f32) : FVec F S4x16x2048x8 .f32 :=
  Host.dotGeneral dot_S4x16x2048x128_S4x16x8x128_S4x16x2048x8_3_3_2_2_01_01 none q km

/-- Where a block lies wholly before the query's. -/
def rpast : IVec S4x16x2048x8 1 :=
  broadcastInDim S4x16x2048x8 ![0, 1, 2, 3] bcast_S1x1x2048x8_S4x16x2048x8_0_1_2_3
    (broadcastInDim S1x1x2048x8 ![2, 3] bcast_S2048x8_S1x1x2048x8_2_3
      (cmpi .slt (broadcastInDim S2048x8 ![0, 1] bcast_S1x8_S2048x8_0_1 (broadcastInDim S1x8 ![1] bcast_S8_S1x8_1 (iotaInDim S8 32 0)))
        (broadcastInDim S2048x8 ![0, 1] bcast_S2048x1_S2048x8_0_1 (broadcastInDim S2048x1 ![0] bcast_S2048_S2048x1_0 rown))))

/-- The gate, masked to earlier blocks. -/
def rgm (g : FVec F S4x16x2048x8 .f32) : FVec F S4x16x2048x8 .f32 :=
  select rpast g (broadcastInDim S4x16x2048x8 ![] bcast_S_S4x16x2048x8 (id (constant S_ .f32 0xFF800000#32)))

/-- The three best blocks of every query: gates and numbers. -/
def rtop (g : FVec F S4x16x2048x8 .f32) : FVec F S4x16x2048x3 .f32 × IVec S4x16x2048x3 32 :=
  Host.topK S4x16x2048x3 3 (FloatOps.cmpfTotal .gt) g sliceFits_S4x16x2048x8_S4x16x2048x3

/-- Which of the four slots hold a block. -/
def rok (tv : FVec F S4x16x2048x3 .f32) : IVec S4x16x2048x4 1 :=
  concatenate S4x16x2048x4 3 [⟨S4x16x2048x3, (cmpf .ogt tv (broadcastInDim S4x16x2048x3 ![] bcast_S_S4x16x2048x3 (constant S_ .f32 0xFF800000#32)))⟩,
    ⟨S4x16x2048x1, (broadcastInDim S4x16x2048x1 ![] bcast_S_S4x16x2048x1 (constantI S_ 1 1#1))⟩] concatenates_S4x16x2048x3_S4x16x2048x1_S4x16x2048x4_d3

/-- The block of every slot. -/
def ridx (ti : IVec S4x16x2048x3 32) : IVec S4x16x2048x4 32 :=
  concatenate S4x16x2048x4 3 [⟨S4x16x2048x3, ti⟩, ⟨S4x16x2048x1, (broadcastInDim S4x16x2048x1 ![0, 1, 2, 3] bcast_S1x1x2048x1_S4x16x2048x1_0_1_2_3
    (broadcastInDim S1x1x2048x1 ![2] bcast_S2048_S1x1x2048x1_2 rown))⟩] concatenates_S4x16x2048x3_S4x16x2048x1_S4x16x2048x4_d3

/-- The batch number, as the gather reads it. -/
def rbi : IVec S4x16x2048x4x1 32 :=
  broadcastInDim S4x16x2048x4x1 ![0, 1, 2, 3] bcast_S4x16x2048x4_S4x16x2048x4x1_0_1_2_3
    (broadcastInDim S4x16x2048x4 ![0, 1, 2, 3] bcast_S4x1x1x1_S4x16x2048x4_0_1_2_3
      (select (cmpi .slt (broadcastInDim S4x1x1x1 ![0] bcast_S4_S4x1x1x1_0 (iotaInDim S4 32 0)) (broadcastInDim S4x1x1x1 ![] bcast_S_S4x1x1x1 (constantI S_ 32 0#32)))
        (addi (broadcastInDim S4x1x1x1 ![0] bcast_S4_S4x1x1x1_0 (iotaInDim S4 32 0)) (broadcastInDim S4x1x1x1 ![] bcast_S_S4x1x1x1 (constantI S_ 32 4#32)))
        (broadcastInDim S4x1x1x1 ![0] bcast_S4_S4x1x1x1_0 (iotaInDim S4 32 0))))

/-- The head number, as the gather reads it. -/
def rhi : IVec S4x16x2048x4x1 32 :=
  broadcastInDim S4x16x2048x4x1 ![0, 1, 2, 3] bcast_S4x16x2048x4_S4x16x2048x4x1_0_1_2_3
    (broadcastInDim S4x16x2048x4 ![0, 1, 2, 3] bcast_S1x16x1x1_S4x16x2048x4_0_1_2_3
      (select (cmpi .slt (broadcastInDim S1x16x1x1 ![1] bcast_S16_S1x16x1x1_1 (iotaInDim S16 32 0)) (broadcastInDim S1x16x1x1 ![] bcast_S_S1x16x1x1 (constantI S_ 32 0#32)))
        (addi (broadcastInDim S1x16x1x1 ![1] bcast_S16_S1x16x1x1_1 (iotaInDim S16 32 0)) (broadcastInDim S1x16x1x1 ![] bcast_S_S1x16x1x1 (constantI S_ 32 16#32)))
        (broadcastInDim S1x16x1x1 ![1] bcast_S16_S1x16x1x1_1 (iotaInDim S16 32 0))))

/-- The block number, as the gather reads it. -/
def rni (idx : IVec S4x16x2048x4 32) : IVec S4x16x2048x4x1 32 :=
  broadcastInDim S4x16x2048x4x1 ![0, 1, 2, 3] bcast_S4x16x2048x4_S4x16x2048x4x1_0_1_2_3
    (select (cmpi .slt idx (broadcastInDim S4x16x2048x4 ![] bcast_S_S4x16x2048x4 (constantI S_ 32 0#32)))
      (addi idx (broadcastInDim S4x16x2048x4 ![] bcast_S_S4x16x2048x4 (constantI S_ 32 8#32))) idx)

/-- The gather's index triples. -/
def rgi (idx : IVec S4x16x2048x4 32) : IVec S4x16x2048x4x3 32 :=
  concatenate S4x16x2048x4x3 4 [⟨S4x16x2048x4x1, rbi⟩, ⟨S4x16x2048x4x1, rhi⟩, ⟨S4x16x2048x4x1, rni idx⟩]
    concatenates_S4x16x2048x4x1_S4x16x2048x4x1_S4x16x2048x4x1_S4x16x2048x4x3_d4

/-- Keys or values of every slot. -/
def rgath (x : FVec F S4x16x8x256x128 .f32) (gi : IVec S4x16x2048x4x3 32) : FVec F S4x16x2048x4x256x128 .f32 :=
  Host.gather gather_S4x16x8x256x128_S4x16x2048x4x3_S4x16x2048x4x256x128_45_012_n_n_012_4_111256128 x gi

/-- Which key of which slot a query attends to. -/
def rmask (ok : IVec S4x16x2048x4 1) (idx : IVec S4x16x2048x4 32) : IVec S4x16x2048x4x256 1 :=
  andi (broadcastInDim S4x16x2048x4x256 ![0, 1, 2, 3, 4] bcast_S4x16x2048x4x1_S4x16x2048x4x256_0_1_2_3_4
      (broadcastInDim S4x16x2048x4x1 ![0, 1, 2, 3] bcast_S4x16x2048x4_S4x16x2048x4x1_0_1_2_3 ok))
    (cmpi .sle (addi (broadcastInDim S4x16x2048x4x256 ![0, 1, 2, 3, 4] bcast_S4x16x2048x4x1_S4x16x2048x4x256_0_1_2_3_4
        (muli (broadcastInDim S4x16x2048x4x1 ![0, 1, 2, 3] bcast_S4x16x2048x4_S4x16x2048x4x1_0_1_2_3 idx)
          (broadcastInDim S4x16x2048x4x1 ![] bcast_S_S4x16x2048x4x1 (constantI S_ 32 256#32))))
        (broadcastInDim S4x16x2048x4x256 ![0, 1, 2, 3, 4] bcast_S1x1x1x1x256_S4x16x2048x4x256_0_1_2_3_4
          (broadcastInDim S1x1x1x1x256 ![4] bcast_S256_S1x1x1x1x256_4 (iotaInDim S256 32 0))))
      (broadcastInDim S4x16x2048x4x256 ![0, 1, 2, 3, 4] bcast_S1x1x2048x1x1_S4x16x2048x4x256_0_1_2_3_4
        (broadcastInDim S1x1x2048x1x1 ![2] bcast_S2048_S1x1x2048x1x1_2 (iotaInDim S2048 32 0))))

/-- Masked scores, slot by slot. -/
def rms (mask : IVec S4x16x2048x4x256 1) (q : FVec F S4x16x2048x128 .f32) (kg : FVec F S4x16x2048x4x256x128 .f32) : FVec F S4x16x2048x4x256 .f32 :=
  select mask (mulf (Host.dotGeneral dot_S4x16x2048x128_S4x16x2048x4x256x128_S4x16x2048x4x256_3_5_n_34_012_012 none q kg)
      (broadcastInDim S4x16x2048x4x256 ![] bcast_S_S4x16x2048x4x256 (constant S_ .f32 0x3DB504F3#32)))
    (broadcastInDim S4x16x2048x4x256 ![] bcast_S_S4x16x2048x4x256 (id (constant S_ .f32 0xFF800000#32)))

/-- Masked scores in one row per query. -/
def rflat (s : FVec F S4x16x2048x4x256 .f32) : FVec F S4x16x2048x1024 .f32 :=
  shapeCast S4x16x2048x1024 s shapeCasts_S4x16x2048x4x256_S4x16x2048x1024

/-- Row maximum. -/
def rmax (s : FVec F S4x16x2048x1024 .f32) : FVec F S4x16x2048 .f32 :=
  maximumf (broadcastInDim S4x16x2048 ![] bcast_S_S4x16x2048 (constant S_ .f32 0xFF800000#32))
    (Host.reduce FloatOps.maximumf s (constant S_ .f32 0xFF800000#32) reducesTo_S4x16x2048x1024_S4x16x2048_d3 h_S_)

/-- A number per query, repeated along its row. -/
def rrow (x : FVec F S4x16x2048 .f32) : FVec F S4x16x2048x1024 .f32 :=
  broadcastInDim S4x16x2048x1024 ![0, 1, 2, 3] bcast_S4x16x2048x1_S4x16x2048x1024_0_1_2_3
    (broadcastInDim S4x16x2048x1 ![0, 1, 2] bcast_S4x16x2048_S4x16x2048x1_0_1_2 x)

/-- Exponentials of the scores less the row maximum. -/
def rexp (s : FVec F S4x16x2048x1024 .f32) : FVec F S4x16x2048x1024 .f32 := Host.exp (subf s (rrow (rmax s)))

/-- Their row sum. -/
def rsum (e : FVec F S4x16x2048x1024 .f32) : FVec F S4x16x2048 .f32 :=
  Host.reduceAdd e (constant S_ .f32 0x00000000#32) reducesTo_S4x16x2048x1024_S4x16x2048_d3 h_S_

/-- The softmax, slot by slot. -/
def rsoft (e : FVec F S4x16x2048x1024 .f32) : FVec F S4x16x2048x4x256 .f32 :=
  shapeCast S4x16x2048x4x256 (Host.divf e (rrow (rsum e))) shapeCasts_S4x16x2048x1024_S4x16x2048x4x256

/-- The weighted values, back in the arguments' layout. -/
def rout (p : FVec F S4x16x2048x4x256 .f32) (vg : FVec F S4x16x2048x4x256x128 .f32) : FVec F S8192x2048 .bf16 :=
  truncf .bf16 (shapeCast S8192x2048 (transpose S4x2048x16x128 [0, 2, 1, 3]
    (Host.dotGeneral dot_S4x16x2048x4x256_S4x16x2048x4x256x128_S4x16x2048x128_43_43_n_5_012_012 none p vg)
      transposes_S4x16x2048x128_S4x2048x16x128_0_2_1_3) shapeCasts_S4x2048x16x128_S8192x2048) bitsLt_bf16_f32

/-- The masked gate from the arguments. -/
def rgmOf (a0 a1 : FVec F S8192x2048 .bf16) : FVec F S4x16x2048x8 .f32 := rgm (rgate (rq a0) (rmean (rb a1)))

/-- The block of every slot, from the arguments. -/
def ridxOf (a0 a1 : FVec F S8192x2048 .bf16) : IVec S4x16x2048x4 32 := ridx (rtop (rgmOf a0 a1)).2

/-- The flat masked scores from the arguments. -/
def rscores (a0 a1 : FVec F S8192x2048 .bf16) : FVec F S4x16x2048x1024 .f32 :=
  rflat (rms (rmask (rok (rtop (rgmOf a0 a1)).1) (ridxOf a0 a1)) (rq a0) (rgath (rb a1) (rgi (ridxOf a0 a1))))

/-- The reference's result from its arguments. -/
def refArr (a0 a1 a2 : FVec F S8192x2048 .bf16) : FVec F S8192x2048 .bf16 :=
  rout (rsoft (rexp (rscores a0 a1))) (rgath (rb a2) (rgi (ridxOf a0 a1)))

variable (m : (ℓ : Loc nD τ sig) → Buf (Elt F) ℓ) (c : Dev nD)

theorem res_eq : Cert.ReferenceIdeal.Value.res_main_v114 m c
    = refArr (m ((c.tc : Thread nD τ).loc main_arg0)) (m ((c.tc : Thread nD τ).loc main_arg1)) (m ((c.tc : Thread nD τ).loc main_arg2)) := by
  unfold Cert.ReferenceIdeal.Value.res_main_v114 refArr rscores ridxOf rgmOf rout rsoft rsum rexp rrow rmax rflat rms rmask rgath rgi rni rhi rbi ridx rok rtop rgm rpast rgate rown rmean rb rq
  rfl

end Cert.MobaRef
-- ==== Proof.MobaArrays.lean ====
module

public import proofs.«01_k».proof.Proof.Gen.KernelIdeal.Value

@[expose] public section

set_option maxRecDepth 16384

noncomputable section

/-! # The kernel's arrays

The body attends eight times, once per block of 256 queries. Here each array it forms on the way is named once (scores of a
tile, causal mask, gate, rank of a block, row maximum, probabilities), and every one of the eight stored pieces is shown to
be the same composition of them. Nothing here depends on the number format. -/

namespace Cert.Moba

open Cert.KernelIdeal Cert.KernelIdeal.Gen Idealize.ShloMosaic Idealize.ShloMosaic.TcCoe

variable {F : FTy → Type} [FloatOps F]

/-- Scaled scores of a tile of queries against a tile of keys. -/
def score (q kb : FVec F S256x128 .bf16) : FVec F S256x256 .f32 :=
  mulf (matmul dot_S256x128_S256x128_S256x256_1_1_0_0_n_n none q kb (constant S256x256 .f32 0x00000000#32))
    (broadcast S256x256 (Scalar.ofBits .f32 0x3DB504F3#32))

/-- Scores of the queries' own tile: keys after the query are masked. -/
def diag (q kb : FVec F S256x128 .bf16) : FVec F S256x256 .f32 :=
  select (cmpi .sle (iota .tc S256x256 32 [1] iota_S256x256_d1_w32) (iota .tc S256x256 32 [0] iota_S256x256_d0_w32))
    (score q kb) (broadcast S256x256 (Scalar.ofBits .f32 0xFF800000#32))

/-- Gate of every query and block, from the two halves of the blocks' mean keys. -/
def gate (hi lo : FVec F S128x128 .bf16) (q : FVec F S256x128 .bf16) : FVec F S256x128 .f32 :=
  addf (matmul dot_S256x128_S128x128_S256x128_1_1_0_0_n_n none q hi (constant S256x128 .f32 0x00000000#32))
    (matmul dot_S256x128_S128x128_S256x128_1_1_0_0_n_n none q lo (constant S256x128 .f32 0x00000000#32))

/-- A column of a tile lies inside it. -/
theorem slices_col (m : Fin 128) : S256x128.Slices ![0, m.val] S256x1 :=
  (by decide +kernel : ∀ m : Fin 128, S256x128.Slices ![0, m.val] S256x1) m

/-- Column `m` of the gate. -/
def col (g : FVec F S256x128 .f32) (m : Fin 128) : FVec F S256x128 .f32 :=
  broadcastTo S256x128 (extractStridedSlice S256x1 ![0, m.val] g (slices_col m)) broadcasts_S256x1_S256x128

/-- One where block `m` comes before the lane's block in the order of the gate. -/
def beats (g : FVec F S256x128 .f32) (m : Fin 128) : IVec S256x128 32 :=
  select (ori (cmpf .ogt (col g m) g) (andi (cmpf .oeq (col g m) g)
      (cmpi .sgt (iota .tc S256x128 32 [1] iota_S256x128_d1_w32) (broadcast S256x128 (BitVec.ofNat 32 m.val)))))
    (broadcast S256x128 1#32) (broadcast S256x128 0#32)

/-- How many of the listed blocks come before the lane's block. -/
def rank (g : FVec F S256x128 .f32) (ms : List (Fin 128)) : IVec S256x128 32 :=
  ms.foldl (fun acc m => addi acc (beats g m)) (broadcast S256x128 0#32)

/-- Whether block `j` is among the first three. -/
def keep (r : IVec S256x128 32) (j : Fin 128) : IVec S256x1 1 :=
  cmpi .slt (extractStridedSlice S256x1 ![0, j.val] r (slices_col j)) (broadcast S256x1 3#32)

/-- Scores of an earlier tile, masked where its block is not selected. -/
def past (k : IVec S256x1 1) (q kb : FVec F S256x128 .bf16) : FVec F S256x256 .f32 :=
  select (broadcastTo S256x256 (shapeCast S256x1 k shapeCasts_S256x1_S256x1) broadcasts_S256x1_S256x256)
    (score q kb) (broadcast S256x256 (Scalar.ofBits .f32 0xFF800000#32))

/-- Row maximum of a tile. -/
def rowMax (s : FVec F S256x256 .f32) : FVec F S256x1 .f32 :=
  shapeCast S256x1 (multiReduction .maximumf [1] S256 s 0xFF800000#32 reduces_S256x256_S256 (.inl rfl) rfl) shapeCasts_S256_S256x1

/-- Row sum of a tile. -/
def rowSum (s : FVec F S256x256 .f32) : FVec F S256x1 .f32 :=
  shapeCast S256x1 (multiReduction .add [1] S256 s 0x00000000#32 reduces_S256x256_S256 (.inl rfl) rfl) shapeCasts_S256_S256x1

/-- Row maximum over several tiles. -/
def maxes (s : FVec F S256x256 .f32) (l : List (FVec F S256x256 .f32)) : FVec F S256x1 .f32 :=
  l.foldl (fun acc t => maximumf acc (rowMax t)) (rowMax s)

/-- Row sum over several tiles. -/
def sums (s : FVec F S256x256 .f32) (l : List (FVec F S256x256 .f32)) : FVec F S256x1 .f32 :=
  l.foldl (fun acc t => addf acc (rowSum t)) (rowSum s)

/-- Exponential of a tile's scores less the row maximum. -/
def prob (m : FVec F S256x1 .f32) (s : FVec F S256x256 .f32) : FVec F S256x256 .f32 :=
  exp (subf s (broadcastTo S256x256 m broadcasts_S256x1_S256x256))

/-- Attention of a tile of queries to 1 tile of keys, from the masked scores and the values. -/
def att1 (s0 : FVec F S256x256 .f32) (v : FVec F S256x128 .bf16) : FVec F S256x128 .bf16 :=
  let m := maxes s0 []
  truncf .bf16 (divf (matmul dot_S256x256_S256x128_S256x128_1_0_0_1_n_n none (truncf .bf16 (prob m s0) bitsLt_bf16_f32) v
      (constant S256x128 .f32 0x00000000#32))
    (broadcastTo S256x128 (sums (prob m s0) []) broadcasts_S256x1_S256x128)) bitsLt_bf16_f32

/-- Attention of a tile of queries to 2 tiles of keys, from the masked scores and the values. -/
def att2 (s0 s1 : FVec F S256x256 .f32) (v : FVec F S512x128 .bf16) : FVec F S256x128 .bf16 :=
  let m := maxes s0 [s1]
  truncf .bf16 (divf (matmul dot_S256x512_S512x128_S256x128_1_0_0_1_n_n none (concatenate S256x512 1 [⟨S256x256, truncf .bf16 (prob m s0) bitsLt_bf16_f32⟩, ⟨S256x256, truncf .bf16 (prob m s1) bitsLt_bf16_f32⟩] concatenates_S256x256_S256x256_S256x512_d1) v
      (constant S256x128 .f32 0x00000000#32))
    (broadcastTo S256x128 (sums (prob m s0) [prob m s1]) broadcasts_S256x1_S256x128)) bitsLt_bf16_f32

/-- Attention of a tile of queries to 3 tiles of keys, from the masked scores and the values. -/
def att3 (s0 s1 s2 : FVec F S256x256 .f32) (v : FVec F S768x128 .bf16) : FVec F S256x128 .bf16 :=
  let m := maxes s0 [s1, s2]
  truncf .bf16 (divf (matmul dot_S256x768_S768x128_S256x128_1_0_0_1_n_n none (concatenate S256x768 1 [⟨S256x256, truncf .bf16 (prob m s0) bitsLt_bf16_f32⟩, ⟨S256x256, truncf .bf16 (prob m s1) bitsLt_bf16_f32⟩, ⟨S256x256, truncf .bf16 (prob m s2) bitsLt_bf16_f32⟩] concatenates_S256x256_S256x256_S256x256_S256x768_d1) v
      (constant S256x128 .f32 0x00000000#32))
    (broadcastTo S256x128 (sums (prob m s0) [prob m s1, prob m s2]) broadcasts_S256x1_S256x128)) bitsLt_bf16_f32

/-- Attention of a tile of queries to 4 tiles of keys, from the masked scores and the values. -/
def att4 (s0 s1 s2 s3 : FVec F S256x256 .f32) (v : FVec F S1024x128 .bf16) : FVec F S256x128 .bf16 :=
  let m := maxes s0 [s1, s2, s3]
  truncf .bf16 (divf (matmul dot_S256x1024_S1024x128_S256x128_1_0_0_1_n_n none (concatenate S256x1024 1 [⟨S256x256, truncf .bf16 (prob m s0) bitsLt_bf16_f32⟩, ⟨S256x256, truncf .bf16 (prob m s1) bitsLt_bf16_f32⟩, ⟨S256x256, truncf .bf16 (prob m s2) bitsLt_bf16_f32⟩, ⟨S256x256, truncf .bf16 (prob m s3) bitsLt_bf16_f32⟩] concatenates_S256x256_S256x256_S256x256_S256x256_S256x1024_d1) v
      (constant S256x128 .f32 0x00000000#32))
    (broadcastTo S256x128 (sums (prob m s0) [prob m s1, prob m s2, prob m s3]) broadcasts_S256x1_S256x128)) bitsLt_bf16_f32

/-- Attention of a tile of queries to 5 tiles of keys, from the masked scores and the values. -/
def att5 (s0 s1 s2 s3 s4 : FVec F S256x256 .f32) (v : FVec F S1280x128 .bf16) : FVec F S256x128 .bf16 :=
  let m := maxes s0 [s1, s2, s3, s4]
  truncf .bf16 (divf (matmul dot_S256x1280_S1280x128_S256x128_1_0_0_1_n_n none (concatenate S256x1280 1 [⟨S256x256, truncf .bf16 (prob m s0) bitsLt_bf16_f32⟩, ⟨S256x256, truncf .bf16 (prob m s1) bitsLt_bf16_f32⟩, ⟨S256x256, truncf .bf16 (prob m s2) bitsLt_bf16_f32⟩, ⟨S256x256, truncf .bf16 (prob m s3) bitsLt_bf16_f32⟩, ⟨S256x256, truncf .bf16 (prob m s4) bitsLt_bf16_f32⟩] concatenates_S256x256_S256x256_S256x256_S256x256_S256x256_S256x1280_d1) v
      (constant S256x128 .f32 0x00000000#32))
    (broadcastTo S256x128 (sums (prob m s0) [prob m s1, prob m s2, prob m s3, prob m s4]) broadcasts_S256x1_S256x128)) bitsLt_bf16_f32

/-- Attention of a tile of queries to 6 tiles of keys, from the masked scores and the values. -/
def att6 (s0 s1 s2 s3 s4 s5 : FVec F S256x256 .f32) (v : FVec F S1536x128 .bf16) : FVec F S256x128 .bf16 :=
  let m := maxes s0 [s1, s2, s3, s4, s5]
  truncf .bf16 (divf (matmul dot_S256x1536_S1536x128_S256x128_1_0_0_1_n_n none (concatenate S256x1536 1 [⟨S256x256, truncf .bf16 (prob m s0) bitsLt_bf16_f32⟩, ⟨S256x256, truncf .bf16 (prob m s1) bitsLt_bf16_f32⟩, ⟨S256x256, truncf .bf16 (prob m s2) bitsLt_bf16_f32⟩, ⟨S256x256, truncf .bf16 (prob m s3) bitsLt_bf16_f32⟩, ⟨S256x256, truncf .bf16 (prob m s4) bitsLt_bf16_f32⟩, ⟨S256x256, truncf .bf16 (prob m s5) bitsLt_bf16_f32⟩] concatenates_S256x256_S256x256_S256x256_S256x256_S256x256_S256x256_S256x1536_d1) v
      (constant S256x128 .f32 0x00000000#32))
    (broadcastTo S256x128 (sums (prob m s0) [prob m s1, prob m s2, prob m s3, prob m s4, prob m s5]) broadcasts_S256x1_S256x128)) bitsLt_bf16_f32

/-- Attention of a tile of queries to 7 tiles of keys, from the masked scores and the values. -/
def att7 (s0 s1 s2 s3 s4 s5 s6 : FVec F S256x256 .f32) (v : FVec F S1792x128 .bf16) : FVec F S256x128 .bf16 :=
  let m := maxes s0 [s1, s2, s3, s4, s5, s6]
  truncf .bf16 (divf (matmul dot_S256x1792_S1792x128_S256x128_1_0_0_1_n_n none (concatenate S256x1792 1 [⟨S256x256, truncf .bf16 (prob m s0) bitsLt_bf16_f32⟩, ⟨S256x256, truncf .bf16 (prob m s1) bitsLt_bf16_f32⟩, ⟨S256x256, truncf .bf16 (prob m s2) bitsLt_bf16_f32⟩, ⟨S256x256, truncf .bf16 (prob m s3) bitsLt_bf16_f32⟩, ⟨S256x256, truncf .bf16 (prob m s4) bitsLt_bf16_f32⟩, ⟨S256x256, truncf .bf16 (prob m s5) bitsLt_bf16_f32⟩, ⟨S256x256, truncf .bf16 (prob m s6) bitsLt_bf16_f32⟩] concatenates_S256x256_S256x256_S256x256_S256x256_S256x256_S256x256_S256x256_S256x1792_d1) v
      (constant S256x128 .f32 0x00000000#32))
    (broadcastTo S256x128 (sums (prob m s0) [prob m s1, prob m s2, prob m s3, prob m s4, prob m s5, prob m s6]) broadcasts_S256x1_S256x128)) bitsLt_bf16_f32

/-- Attention of a tile of queries to 8 tiles of keys, from the masked scores and the values. -/
def att8 (s0 s1 s2 s3 s4 s5 s6 s7 : FVec F S256x256 .f32) (v : FVec F S2048x128 .bf16) : FVec F S256x128 .bf16 :=
  let m := maxes s0 [s1, s2, s3, s4, s5, s6, s7]
  truncf .bf16 (divf (matmul dot_S256x2048_S2048x128_S256x128_1_0_0_1_n_n none (concatenate S256x2048 1 [⟨S256x256, truncf .bf16 (prob m s0) bitsLt_bf16_f32⟩, ⟨S256x256, truncf .bf16 (prob m s1) bitsLt_bf16_f32⟩, ⟨S256x256, truncf .bf16 (prob m s2) bitsLt_bf16_f32⟩, ⟨S256x256, truncf .bf16 (prob m s3) bitsLt_bf16_f32⟩, ⟨S256x256, truncf .bf16 (prob m s4) bitsLt_bf16_f32⟩, ⟨S256x256, truncf .bf16 (prob m s5) bitsLt_bf16_f32⟩, ⟨S256x256, truncf .bf16 (prob m s6) bitsLt_bf16_f32⟩, ⟨S256x256, truncf .bf16 (prob m s7) bitsLt_bf16_f32⟩] concatenates_S256x256_S256x256_S256x256_S256x256_S256x256_S256x256_S256x256_S256x256_S256x2048_d1) v
      (constant S256x128 .f32 0x00000000#32))
    (broadcastTo S256x128 (sums (prob m s0) [prob m s1, prob m s2, prob m s3, prob m s4, prob m s5, prob m s6, prob m s7]) broadcasts_S256x1_S256x128)) bitsLt_bf16_f32

/-- A tile of 256 rows. -/
def tile (x : Vec F S2048x128 .bf16) (off : Nat) (inb : ∀ a, (![off, 0] : Fin 2 → Nat) a + S256x128.size a ≤ S2048x128.size a) :
    FVec F S256x128 .bf16 := View.ld x (Rect.unit (s := S2048x128) ![off, 0] S256x128.size inb)

section
variable (hi lo : FVec F S128x128 .bf16) (x0 x1 x2 : Vec F S2048x128 .bf16)

/-- What the body stores for the queries of block 0. -/
def piece0 (x0 x1 x2 : Vec F S2048x128 .bf16) : FVec F S256x128 .bf16 :=
  att1 (diag (tile x0 0 inb_S2048x128_S256x128_0_0) (tile x1 0 inb_S2048x128_S256x128_0_0))
    (View.ld x2 (Rect.unit (s := S2048x128) ![0, 0] S256x128.size inb_S2048x128_S256x128_0_0))

/-- What the body stores for the queries of block 1. -/
def piece1 (x0 x1 x2 : Vec F S2048x128 .bf16) : FVec F S256x128 .bf16 :=
  att2 (score (tile x0 256 inb_S2048x128_S256x128_256_0) (tile x1 0 inb_S2048x128_S256x128_0_0))
    (diag (tile x0 256 inb_S2048x128_S256x128_256_0) (tile x1 256 inb_S2048x128_S256x128_256_0))
    (View.ld x2 (Rect.unit (s := S2048x128) ![0, 0] S512x128.size inb_S2048x128_S512x128_0_0))

/-- What the body stores for the queries of block 2. -/
def piece2 (x0 x1 x2 : Vec F S2048x128 .bf16) : FVec F S256x128 .bf16 :=
  att3 (score (tile x0 512 inb_S2048x128_S256x128_512_0) (tile x1 0 inb_S2048x128_S256x128_0_0))
    (score (tile x0 512 inb_S2048x128_S256x128_512_0) (tile x1 256 inb_S2048x128_S256x128_256_0))
    (diag (tile x0 512 inb_S2048x128_S256x128_512_0) (tile x1 512 inb_S2048x128_S256x128_512_0))
    (View.ld x2 (Rect.unit (s := S2048x128) ![0, 0] S768x128.size inb_S2048x128_S768x128_0_0))

/-- What the body stores for the queries of block 3. -/
def piece3 (x0 x1 x2 : Vec F S2048x128 .bf16) : FVec F S256x128 .bf16 :=
  att4 (score (tile x0 768 inb_S2048x128_S256x128_768_0) (tile x1 0 inb_S2048x128_S256x128_0_0))
    (score (tile x0 768 inb_S2048x128_S256x128_768_0) (tile x1 256 inb_S2048x128_S256x128_256_0))
    (score (tile x0 768 inb_S2048x128_S256x128_768_0) (tile x1 512 inb_S2048x128_S256x128_512_0))
    (diag (tile x0 768 inb_S2048x128_S256x128_768_0) (tile x1 768 inb_S2048x128_S256x128_768_0))
    (View.ld x2 (Rect.unit (s := S2048x128) ![0, 0] S1024x128.size inb_S2048x128_S1024x128_0_0))

/-- What the body stores for the queries of block 4. -/
def piece4 (hi lo : FVec F S128x128 .bf16) (x0 x1 x2 : Vec F S2048x128 .bf16) : FVec F S256x128 .bf16 :=
  let g := gate hi lo (tile x0 1024 inb_S2048x128_S256x128_1024_0)
  let r := rank g [0, 1, 2, 3]
  att5 (past (keep r 0) (tile x0 1024 inb_S2048x128_S256x128_1024_0) (tile x1 0 inb_S2048x128_S256x128_0_0))
    (past (keep r 1) (tile x0 1024 inb_S2048x128_S256x128_1024_0) (tile x1 256 inb_S2048x128_S256x128_256_0))
    (past (keep r 2) (tile x0 1024 inb_S2048x128_S256x128_1024_0) (tile x1 512 inb_S2048x128_S256x128_512_0))
    (past (keep r 3) (tile x0 1024 inb_S2048x128_S256x128_1024_0) (tile x1 768 inb_S2048x128_S256x128_768_0))
    (diag (tile x0 1024 inb_S2048x128_S256x128_1024_0) (tile x1 1024 inb_S2048x128_S256x128_1024_0))
    (View.ld x2 (Rect.unit (s := S2048x128) ![0, 0] S1280x128.size inb_S2048x128_S1280x128_0_0))

/-- What the body stores for the queries of block 5. -/
def piece5 (hi lo : FVec F S128x128 .bf16) (x0 x1 x2 : Vec F S2048x128 .bf16) : FVec F S256x128 .bf16 :=
  let g := gate hi lo (tile x0 1280 inb_S2048x128_S256x128_1280_0)
  let r := rank g [0, 1, 2, 3, 4]
  att6 (past (keep r 0) (tile x0 1280 inb_S2048x128_S256x128_1280_0) (tile x1 0 inb_S2048x128_S256x128_0_0))
    (past (keep r 1) (tile x0 1280 inb_S2048x128_S256x128_1280_0) (tile x1 256 inb_S2048x128_S256x128_256_0))
    (past (keep r 2) (tile x0 1280 inb_S2048x128_S256x128_1280_0) (tile x1 512 inb_S2048x128_S256x128_512_0))
    (past (keep r 3) (tile x0 1280 inb_S2048x128_S256x128_1280_0) (tile x1 768 inb_S2048x128_S256x128_768_0))
    (past (keep r 4) (tile x0 1280 inb_S2048x128_S256x128_1280_0) (tile x1 1024 inb_S2048x128_S256x128_1024_0))
    (diag (tile x0 1280 inb_S2048x128_S256x128_1280_0) (tile x1 1280 inb_S2048x128_S256x128_1280_0))
    (View.ld x2 (Rect.unit (s := S2048x128) ![0, 0] S1536x128.size inb_S2048x128_S1536x128_0_0))

/-- What the body stores for the queries of block 6. -/
def piece6 (hi lo : FVec F S128x128 .bf16) (x0 x1 x2 : Vec F S2048x128 .bf16) : FVec F S256x128 .bf16 :=
  let g := gate hi lo (tile x0 1536 inb_S2048x128_S256x128_1536_0)
  let r := rank g [0, 1, 2, 3, 4, 5]
  att7 (past (keep r 0) (tile x0 1536 inb_S2048x128_S256x128_1536_0) (tile x1 0 inb_S2048x128_S256x128_0_0))
    (past (keep r 1) (tile x0 1536 inb_S2048x128_S256x128_1536_0) (tile x1 256 inb_S2048x128_S256x128_256_0))
    (past (keep r 2) (tile x0 1536 inb_S2048x128_S256x128_1536_0) (tile x1 512 inb_S2048x128_S256x128_512_0))
    (past (keep r 3) (tile x0 1536 inb_S2048x128_S256x128_1536_0) (tile x1 768 inb_S2048x128_S256x128_768_0))
    (past (keep r 4) (tile x0 1536 inb_S2048x128_S256x128_1536_0) (tile x1 1024 inb_S2048x128_S256x128_1024_0))
    (past (keep r 5) (tile x0 1536 inb_S2048x128_S256x128_1536_0) (tile x1 1280 inb_S2048x128_S256x128_1280_0))
    (diag (tile x0 1536 inb_S2048x128_S256x128_1536_0) (tile x1 1536 inb_S2048x128_S256x128_1536_0))
    (View.ld x2 (Rect.unit (s := S2048x128) ![0, 0] S1792x128.size inb_S2048x128_S1792x128_0_0))

/-- What the body stores for the queries of block 7. -/
def piece7 (hi lo : FVec F S128x128 .bf16) (x0 x1 x2 : Vec F S2048x128 .bf16) : FVec F S256x128 .bf16 :=
  let g := gate hi lo (tile x0 1792 inb_S2048x128_S256x128_1792_0)
  let r := rank g [0, 1, 2, 3, 4, 5, 6]
  att8 (past (keep r 0) (tile x0 1792 inb_S2048x128_S256x128_1792_0) (tile x1 0 inb_S2048x128_S256x128_0_0))
    (past (keep r 1) (tile x0 1792 inb_S2048x128_S256x128_1792_0) (tile x1 256 inb_S2048x128_S256x128_256_0))
    (past (keep r 2) (tile x0 1792 inb_S2048x128_S256x128_1792_0) (tile x1 512 inb_S2048x128_S256x128_512_0))
    (past (keep r 3) (tile x0 1792 inb_S2048x128_S256x128_1792_0) (tile x1 768 inb_S2048x128_S256x128_768_0))
    (past (keep r 4) (tile x0 1792 inb_S2048x128_S256x128_1792_0) (tile x1 1024 inb_S2048x128_S256x128_1024_0))
    (past (keep r 5) (tile x0 1792 inb_S2048x128_S256x128_1792_0) (tile x1 1280 inb_S2048x128_S256x128_1280_0))
    (past (keep r 6) (tile x0 1792 inb_S2048x128_S256x128_1792_0) (tile x1 1536 inb_S2048x128_S256x128_1536_0))
    (diag (tile x0 1792 inb_S2048x128_S256x128_1792_0) (tile x1 1792 inb_S2048x128_S256x128_1792_0))
    (View.ld x2 (Rect.unit (s := S2048x128) ![0, 0] S2048x128.size inb_S2048x128_S2048x128_0_0))
end

set_option maxHeartbeats 400000 in
set_option maxRecDepth 65536 in
/-- The eight stores of the body. -/
theorem pieces_eq (c : Dev nD) (i : grid0.Coords) (arg2 : Memref sig .tc .vmem S2048x128 .bf16) (harg2 : arg2.IsWhole)
  (arg3 : Memref sig .tc .vmem S2048x128 .bf16) (harg3 : arg3.IsWhole) (arg4 : Memref sig .tc .vmem S2048x128 .bf16) (harg4 : arg4.IsWhole)
  (arg5 : Memref sig .tc .vmem S2048x128 .bf16) (harg5 : arg5.IsWhole) (arg6 : Memref sig .tc .vmem S128x128 .f32) (harg6 : arg6.IsWhole)
  (x0 x1 x2 : Vec F S2048x128 .bf16) :
    (kernelRun0_A c i arg2 harg2 arg3 harg3 arg4 harg4 arg5 harg5 arg6 harg6 x0 x1 x2).1 = [
      ⟨Rect.unit (s := S2048x128) ![1792, 0] S256x128.size inb_S2048x128_S256x128_1792_0, piece7 (kernelRun0_A.sl.r_1 c arg3 harg3 arg6 x1) (kernelRun0_A.sl.r_2 c arg3 harg3 arg6 x1) (arg2.view.read (Elt F) (harg2.unread x0)) (arg3.view.read (Elt F) (harg3.unread x1)) (arg4.view.read (Elt F) (harg4.unread x2))⟩,
      ⟨Rect.unit (s := S2048x128) ![1536, 0] S256x128.size inb_S2048x128_S256x128_1536_0, piece6 (kernelRun0_A.sl.r_1 c arg3 harg3 arg6 x1) (kernelRun0_A.sl.r_2 c arg3 harg3 arg6 x1) (arg2.view.read (Elt F) (harg2.unread x0)) (arg3.view.read (Elt F) (harg3.unread x1)) (arg4.view.read (Elt F) (harg4.unread x2))⟩,
      ⟨Rect.unit (s := S2048x128) ![1280, 0] S256x128.size inb_S2048x128_S256x128_1280_0, piece5 (kernelRun0_A.sl.r_1 c arg3 harg3 arg6 x1) (kernelRun0_A.sl.r_2 c arg3 harg3 arg6 x1) (arg2.view.read (Elt F) (harg2.unread x0)) (arg3.view.read (Elt F) (harg3.unread x1)) (arg4.view.read (Elt F) (harg4.unread x2))⟩,
      ⟨Rect.unit (s := S2048x128) ![1024, 0] S256x128.size inb_S2048x128_S256x128_1024_0, piece4 (kernelRun0_A.sl.r_1 c arg3 harg3 arg6 x1) (kernelRun0_A.sl.r_2 c arg3 harg3 arg6 x1) (arg2.view.read (Elt F) (harg2.unread x0)) (arg3.view.read (Elt F) (harg3.unread x1)) (arg4.view.read (Elt F) (harg4.unread x2))⟩,
      ⟨Rect.unit (s := S2048x128) ![768, 0] S256x128.size inb_S2048x128_S256x128_768_0, piece3  (arg2.view.read (Elt F) (harg2.unread x0)) (arg3.view.read (Elt F) (harg3.unread x1)) (arg4.view.read (Elt F) (harg4.unread x2))⟩,
      ⟨Rect.unit (s := S2048x128) ![512, 0] S256x128.size inb_S2048x128_S256x128_512_0, piece2  (arg2.view.read (Elt F) (harg2.unread x0)) (arg3.view.read (Elt F) (harg3.unread x1)) (arg4.view.read (Elt F) (harg4.unread x2))⟩,
      ⟨Rect.unit (s := S2048x128) ![256, 0] S256x128.size inb_S2048x128_S256x128_256_0, piece1  (arg2.view.read (Elt F) (harg2.unread x0)) (arg3.view.read (Elt F) (harg3.unread x1)) (arg4.view.read (Elt F) (harg4.unread x2))⟩,
      ⟨Rect.unit (s := S2048x128) ![0, 0] S256x128.size inb_S2048x128_S256x128_0_0, piece0  (arg2.view.read (Elt F) (harg2.unread x0)) (arg3.view.read (Elt F) (harg3.unread x1)) (arg4.view.read (Elt F) (harg4.unread x2))⟩] := by
  unfold kernelRun0_A; dsimp only
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · unfold kernelRun0_A.sl.r_3 k0_pay15 k0_pay14 piece0 att1 maxes sums prob rowMax rowSum diag score
    simp only [List.foldl_nil]
    rfl
  rfl

end Cert.Moba
-- ==== Proof.MobaTiles.lean ====
module

public import proofs.«01_k».proof.Proof.MobaArrays
public import Idealize.ShloMosaic.Lib.Pointwise

@[expose] public section

set_option maxRecDepth 16384

noncomputable section

namespace Cert.Moba

open Cert.KernelIdeal Cert.KernelIdeal.Gen Idealize.ShloMosaic Idealize.ShloMosaic.TcCoe

theorem ofBits_bot : Ideal.ofBits .f32 0xFF800000#32 = ⊥ := by simp [Ideal.ofBits, Ideal.ieee]

theorem ofBool_one (b : Bool) : BitVec.ofBool b = 1#1 ↔ b = true := by cases b <;> decide

theorem sel_ofBool {α : Type} (b : Bool) (x y : α) : Scalar.select (BitVec.ofBool b) x y = if b = true then x else y := by
  cases b <;> rfl

theorem andi_ofBool' (a b : Bool) : IntOp.andi (BitVec.ofBool a) (BitVec.ofBool b) = BitVec.ofBool (a && b) := by
  cases a <;> cases b <;> rfl

theorem ori_ofBool' (a b : Bool) : IntOp.ori (BitVec.ofBool a) (BitVec.ofBool b) = BitVec.ofBool (a || b) := by
  cases a <;> cases b <;> rfl

theorem toInt_ofNat (a : Nat) (ha : a < 2 ^ 31) : (BitVec.ofNat 32 a).toInt = a := by
  rw [BitVec.toInt_eq_toNat_cond, BitVec.toNat_ofNat]; omega

theorem cmpi_sle_ofNat (a b : Nat) (ha : a < 2 ^ 31) (hb : b < 2 ^ 31) :
    IntOp.cmpi .sle (BitVec.ofNat 32 a) (BitVec.ofNat 32 b) = BitVec.ofBool (decide (a ≤ b)) := by
  show BitVec.ofBool (BitVec.sle _ _) = _
  rw [BitVec.sle_eq_decide, toInt_ofNat a ha, toInt_ofNat b hb]; simp

theorem cmpi_slt_ofNat (a b : Nat) (ha : a < 2 ^ 31) (hb : b < 2 ^ 31) :
    IntOp.cmpi .slt (BitVec.ofNat 32 a) (BitVec.ofNat 32 b) = BitVec.ofBool (decide (a < b)) := by
  show BitVec.ofBool (BitVec.slt _ _) = _
  rw [BitVec.slt_eq_decide, toInt_ofNat a ha, toInt_ofNat b hb]; simp

theorem cmpi_sgt_ofNat (a b : Nat) (ha : a < 2 ^ 31) (hb : b < 2 ^ 31) :
    IntOp.cmpi .sgt (BitVec.ofNat 32 a) (BitVec.ofNat 32 b) = BitVec.ofBool (decide (b < a)) := by
  show BitVec.ofBool (BitVec.slt _ _) = _
  rw [BitVec.slt_eq_decide, toInt_ofNat a ha, toInt_ofNat b hb]; simp

/-- The scale of the scores. -/
def scl : EReal := Ideal.ofBits .f32 0x3DB504F3#32

theorem score_at (q kb : FVec Ideal S256x128 .bf16) (r c : Fin 256) :
    score q kb (ix2 r c) = (∑ d : Fin 128, q (ix2 r d) * kb (ix2 c d)) * scl := by
  pointwise [score, scl]

theorem diag_at (q kb : FVec Ideal S256x128 .bf16) (r c : Fin 256) :
    diag q kb (ix2 r c) = if c ≤ r then score q kb (ix2 r c) else ⊥ := by
  pointwise [diag]
  rw [ofBits_bot, cmpi_sle_ofNat _ _ (by omega) (by omega), sel_ofBool]
  simp only [decide_eq_true_eq, Fin.le_def]

theorem past_at (k : IVec S256x1 1) (q kb : FVec Ideal S256x128 .bf16) (r c : Fin 256) :
    past k q kb (ix2 r c) = if k (ix2 r 0) = 1#1 then score q kb (ix2 r c) else ⊥ := by
  pointwise [past]
  rw [ofBits_bot]
  rfl

theorem gate_at (hi lo : FVec Ideal S128x128 .bf16) (q : FVec Ideal S256x128 .bf16) (r : Fin 256) (n : Fin 128) :
    gate hi lo q (ix2 r n) = (∑ d : Fin 128, q (ix2 r d) * hi (ix2 n d)) + ∑ d : Fin 128, q (ix2 r d) * lo (ix2 n d) := by
  pointwise [gate]

theorem col_at (g : FVec Ideal S256x128 .f32) (m : Fin 128) (r : Fin 256) (n : Fin 128) :
    col g m (ix2 r n) = g (ix2 r m) := by
  pointwise [col]

theorem beats_at (g : FVec Ideal S256x128 .f32) (m : Fin 128) (r : Fin 256) (n : Fin 128) :
    beats g m (ix2 r n) = if g (ix2 r n) < g (ix2 r m) ∨ (g (ix2 r m) = g (ix2 r n) ∧ m < n) then 1#32 else 0#32 := by
  pointwise [beats, col_at]
  rw [cmpi_sgt_ofNat _ _ (by omega) (by omega), andi_ofBool', ori_ofBool', sel_ofBool]
  simp only [decide_eq_true_eq, Fin.lt_def, Bool.or_eq_true, Bool.and_eq_true]

theorem keep_at (x : IVec S256x128 32) (j : Fin 128) (r : Fin 256) :
    keep x j (ix2 r 0) = 1#1 ↔ (x (ix2 r j)).toInt < 3 := by
  pointwise [keep]
  show BitVec.ofBool (BitVec.slt _ _) = 1#1 ↔ _
  rw [ofBool_one, BitVec.slt_iff_toInt_lt]
  rfl

theorem rowMax_at (s : FVec Ideal S256x256 .f32) (r : Fin 256) :
    rowMax s (ix2 r 0) = Finset.univ.sup fun c : Fin 256 => (s (ix2 r c) : EReal) := by
  pointwise [rowMax]
  rw [ofBits_bot]
  rfl

theorem rowSum_at (s : FVec Ideal S256x256 .f32) (r : Fin 256) :
    rowSum s (ix2 r 0) = ∑ c : Fin 256, (s (ix2 r c) : EReal) := by
  pointwise [rowSum]

theorem prob_at (m : FVec Ideal S256x1 .f32) (s : FVec Ideal S256x256 .f32) (r c : Fin 256) :
    prob m s (ix2 r c) = Ideal.exp (s (ix2 r c) - m (ix2 r 0)) := by
  pointwise [prob]

theorem tile_at (x : Vec Ideal S2048x128 .bf16) (off : Nat) (inb) (r : Fin 256) (d : Fin 128) (h : off + r.val < 2048) :
    tile x off inb (ix2 r d) = x (ix2 ⟨off + r.val, h⟩ d) := by
  pointwise [tile]

/-- How many listed blocks come before block `n`. -/
theorem rank_at (g : FVec Ideal S256x128 .f32) (ms : List (Fin 128)) (hl : ms.length < 2 ^ 31) (r : Fin 256) (n : Fin 128) :
    (rank g ms (ix2 r n)).toInt
      = (ms.countP fun m => decide (g (ix2 r n) < g (ix2 r m) ∨ (g (ix2 r m) = g (ix2 r n) ∧ m < n)) : Nat) := by
  have key : ∀ (l : List (Fin 128)) (acc : IVec S256x128 32),
      (l.foldl (fun acc m => addi acc (beats g m)) acc) (ix2 r n)
        = acc (ix2 r n) + BitVec.ofNat 32
          (l.countP fun m => decide (g (ix2 r n) < g (ix2 r m) ∨ (g (ix2 r m) = g (ix2 r n) ∧ m < n))) := by
    intro l
    induction l with
    | nil => intro acc; simp
    | cons m l ih =>
      intro acc
      rw [List.foldl_cons, ih, List.countP_cons]
      show acc (ix2 r n) + beats g m (ix2 r n) + _ = _
      rw [beats_at]
      by_cases h : g (ix2 r n) < g (ix2 r m) ∨ (g (ix2 r m) = g (ix2 r n) ∧ m < n)
      · simp only [h, decide_true, if_true]
        rw [Nat.add_comm, BitVec.ofNat_add, BitVec.add_assoc]
      · simp [h]
  unfold rank
  rw [key]
  show (0#32 + _ : BitVec 32).toInt = _
  rw [BitVec.zero_add, toInt_ofNat]
  exact lt_of_le_of_lt List.countP_le_length hl

/-- Softmax-weighted mean of values: `ms j c` the masked score of key `c` of block `j`, `v j c` its value. -/
def softOut (n : Nat) (ms v : Nat → Fin 256 → EReal) : EReal :=
  Ideal.div
    (∑ j ∈ Finset.range n, ∑ c : Fin 256,
      Ideal.exp (ms j c - (Finset.range n).sup fun j => Finset.univ.sup (ms j)) * v j c)
    (∑ j ∈ Finset.range n, ∑ c : Fin 256,
      Ideal.exp (ms j c - (Finset.range n).sup fun j => Finset.univ.sup (ms j)))

theorem maximumf_at (x y : FVec Ideal S256x1 .f32) (r : Fin 256) :
    maximumf x y (ix2 r 0) = (x (ix2 r 0) : EReal) ⊔ y (ix2 r 0) := rfl

theorem sum_range_blocks (f : Nat → EReal) (n : Nat) :
    ∑ x ∈ Finset.range (256 * n), f x = ∑ j ∈ Finset.range n, ∑ c : Fin 256, f (256 * j + c.val) := by
  induction n with
  | zero => simp
  | succ n ih =>
    rw [Nat.mul_succ, Finset.sum_range_add, ih, Finset.sum_range_succ _ n, Finset.sum_range fun x => f (256 * n + x)]

/-- A sum over the keys of the first `n` blocks, block by block. -/
theorem sum_blocks (n K : Nat) (hK : K = 256 * n) (g : Nat → Fin 256 → EReal) :
    ∑ x : Fin K, g (x.val / 256) ⟨x.val % 256, Nat.mod_lt _ (by decide)⟩ = ∑ j ∈ Finset.range n, ∑ c : Fin 256, g j c := by
  subst hK
  rw [← Finset.sum_range fun x => g (x / 256) ⟨x % 256, Nat.mod_lt _ (by decide)⟩, sum_range_blocks]
  refine Finset.sum_congr rfl fun j _ => Finset.sum_congr rfl fun c _ => ?_
  have h1 : (256 * j + c.val) / 256 = j := by omega
  have h2 : (⟨(256 * j + c.val) % 256, Nat.mod_lt _ (by decide)⟩ : Fin 256) = c := Fin.ext (by
    show (256 * j + c.val) % 256 = c.val
    omega)
  rw [h1, h2]

theorem att1_at (s0 : FVec Ideal S256x256 .f32) (v : FVec Ideal S256x128 .bf16) (r : Fin 256) (d : Fin 128)
    (ms vv : Nat → Fin 256 → EReal) (h0 : ∀ c, ms 0 c = s0 (ix2 r c))
    (hv : ∀ (j : Nat) (c : Fin 256) (h : 256 * j + c.val < 256), vv j c = v (ix2 ⟨256 * j + c.val, h⟩ d)) :
    att1 s0 v (ix2 r d) = softOut 1 ms vv := by
  have hm : maxes s0 [] (ix2 r 0) = (Finset.range 1).sup fun j => Finset.univ.sup (ms j) := by
    have e : ∀ j, ms j = fun c => ms j c := fun _ => rfl
    simp only [maxes, List.foldl, maximumf_at, rowMax_at, Finset.range_add_one, Finset.range_zero, Finset.sup_insert, Finset.sup_empty]
    rw [e 0]
    simp only [h0, bot_sup_eq, sup_bot_eq, sup_comm, sup_left_comm, sup_assoc]
  unfold softOut att1
  rw [← hm]
  generalize maxes s0 [] = m
  pointwise [sums, rowSum_at, prob_at]
  refine congrArg₂ Ideal.div (Eq.trans (Finset.sum_congr rfl fun x _ => ?_)
    (sum_blocks 1 256 rfl fun j c => Ideal.exp (ms j c - m (ix2 r 0)) * vv j c)) ?_
  · have hx := x.isLt
    refine congrArg₂ (fun a b : EReal => a * b) ?_ ?_
    rotate_left
    · rw [hv _ _ (by show 256 * (x.val / 256) + x.val % 256 < 256; omega)]
      exact congrArg (fun y => v (ix2 y d)) (Fin.ext (by show x.val = 256 * (x.val / 256) + x.val % 256; omega))
    rw [show x.val / 256 = 0 by omega, h0]
    exact congrArg (fun y => Ideal.exp (s0 (ix2 r y) - m (ix2 r 0))) (Fin.ext (by show x.val = x.val % 256; omega))
  · simp only [Finset.sum_range_succ, Finset.sum_range_zero, zero_add, h0]

theorem att2_at (s0 s1 : FVec Ideal S256x256 .f32) (v : FVec Ideal S512x128 .bf16) (r : Fin 256) (d : Fin 128)
    (ms vv : Nat → Fin 256 → EReal) (h0 : ∀ c, ms 0 c = s0 (ix2 r c)) (h1 : ∀ c, ms 1 c = s1 (ix2 r c))
    (hv : ∀ (j : Nat) (c : Fin 256) (h : 256 * j + c.val < 512), vv j c = v (ix2 ⟨256 * j + c.val, h⟩ d)) :
    att2 s0 s1 v (ix2 r d) = softOut 2 ms vv := by
  have hm : maxes s0 [s1] (ix2 r 0) = (Finset.range 2).sup fun j => Finset.univ.sup (ms j) := by
    have e : ∀ j, ms j = fun c => ms j c := fun _ => rfl
    simp only [maxes, List.foldl, maximumf_at, rowMax_at, Finset.range_add_one, Finset.range_zero, Finset.sup_insert, Finset.sup_empty]
    rw [e 0, e 1]
    simp only [h0, h1, bot_sup_eq, sup_bot_eq, sup_comm, sup_left_comm, sup_assoc]
  unfold softOut att2
  rw [← hm]
  generalize maxes s0 [s1] = m
  pointwise [sums, rowSum_at, prob_at]
  have hv0 : ∀ c, vv 0 c = v (ix2 ⟨c.val, by omega⟩ d) := fun c => (hv 0 c (by omega)).trans
    (congrArg (fun y => v (ix2 y d)) (Fin.ext (by show 256 * 0 + c.val = c.val; omega)))
  have hv1 : ∀ c, vv 1 c = v (ix2 ⟨256 + c.val, by omega⟩ d) := fun c => hv 1 c (by omega)
  refine congrArg₂ Ideal.div ?_ ?_
  · simp only [Finset.sum_range_succ, Finset.sum_range_zero, zero_add, h0, h1, hv0, hv1]
  · simp only [Finset.sum_range_succ, Finset.sum_range_zero, zero_add, h0, h1]

theorem att3_at (s0 s1 s2 : FVec Ideal S256x256 .f32) (v : FVec Ideal S768x128 .bf16) (r : Fin 256) (d : Fin 128)
    (ms vv : Nat → Fin 256 → EReal) (h0 : ∀ c, ms 0 c = s0 (ix2 r c)) (h1 : ∀ c, ms 1 c = s1 (ix2 r c)) (h2 : ∀ c, ms 2 c = s2 (ix2 r c))
    (hv : ∀ (j : Nat) (c : Fin 256) (h : 256 * j + c.val < 768), vv j c = v (ix2 ⟨256 * j + c.val, h⟩ d)) :
    att3 s0 s1 s2 v (ix2 r d) = softOut 3 ms vv := by
  have hm : maxes s0 [s1, s2] (ix2 r 0) = (Finset.range 3).sup fun j => Finset.univ.sup (ms j) := by
    have e : ∀ j, ms j = fun c => ms j c := fun _ => rfl
    simp only [maxes, List.foldl, maximumf_at, rowMax_at, Finset.range_add_one, Finset.range_zero, Finset.sup_insert, Finset.sup_empty]
    rw [e 0, e 1, e 2]
    simp only [h0, h1, h2, bot_sup_eq, sup_bot_eq, sup_comm, sup_left_comm, sup_assoc]
  unfold softOut att3
  rw [← hm]
  generalize maxes s0 [s1, s2] = m
  pointwise [sums, rowSum_at, prob_at]
  refine congrArg₂ Ideal.div (Eq.trans (Finset.sum_congr rfl fun x _ => ?_)
    (sum_blocks 3 768 rfl fun j c => Ideal.exp (ms j c - m (ix2 r 0)) * vv j c)) ?_
  · have hx := x.isLt
    refine congrArg₂ (fun a b : EReal => a * b) ?_ ?_
    rotate_left
    · rw [hv _ _ (by show 256 * (x.val / 256) + x.val % 256 < 768; omega)]
      exact congrArg (fun y => v (ix2 y d)) (Fin.ext (by show x.val = 256 * (x.val / 256) + x.val % 256; omega))
    split
    · rw [show x.val / 256 = 0 by omega, h0]
      exact congrArg (fun y => Ideal.exp (s0 (ix2 r y) - m (ix2 r 0))) (Fin.ext (by show x.val = x.val % 256; omega))
    split
    · rw [show x.val / 256 = 1 by omega, h1]
      exact congrArg (fun y => Ideal.exp (s1 (ix2 r y) - m (ix2 r 0))) (Fin.ext (by show x.val - 256 = x.val % 256; omega))
    rw [show x.val / 256 = 2 by omega, h2]
    exact congrArg (fun y => Ideal.exp (s2 (ix2 r y) - m (ix2 r 0))) (Fin.ext (by show x.val - 256 - 256 = x.val % 256; omega))
  · simp only [Finset.sum_range_succ, Finset.sum_range_zero, zero_add, h0, h1, h2]

theorem att4_at (s0 s1 s2 s3 : FVec Ideal S256x256 .f32) (v : FVec Ideal S1024x128 .bf16) (r : Fin 256) (d : Fin 128)
    (ms vv : Nat → Fin 256 → EReal) (h0 : ∀ c, ms 0 c = s0 (ix2 r c)) (h1 : ∀ c, ms 1 c = s1 (ix2 r c)) (h2 : ∀ c, ms 2 c = s2 (ix2 r c)) (h3 : ∀ c, ms 3 c = s3 (ix2 r c))
    (hv : ∀ (j : Nat) (c : Fin 256) (h : 256 * j + c.val < 1024), vv j c = v (ix2 ⟨256 * j + c.val, h⟩ d)) :
    att4 s0 s1 s2 s3 v (ix2 r d) = softOut 4 ms vv := by
  have hm : maxes s0 [s1, s2, s3] (ix2 r 0) = (Finset.range 4).sup fun j => Finset.univ.sup (ms j) := by
    have e : ∀ j, ms j = fun c => ms j c := fun _ => rfl
    simp only [maxes, List.foldl, maximumf_at, rowMax_at, Finset.range_add_one, Finset.range_zero, Finset.sup_insert, Finset.sup_empty]
    rw [e 0, e 1, e 2, e 3]
    simp only [h0, h1, h2, h3, bot_sup_eq, sup_bot_eq, sup_comm, sup_left_comm, sup_assoc]
  unfold softOut att4
  rw [← hm]
  generalize maxes s0 [s1, s2, s3] = m
  pointwise [sums, rowSum_at, prob_at]
  refine congrArg₂ Ideal.div (Eq.trans (Finset.sum_congr rfl fun x _ => ?_)
    (sum_blocks 4 1024 rfl fun j c => Ideal.exp (ms j c - m (ix2 r 0)) * vv j c)) ?_
  · have hx := x.isLt
    refine congrArg₂ (fun a b : EReal => a * b) ?_ ?_
    rotate_left
    · rw [hv _ _ (by show 256 * (x.val / 256) + x.val % 256 < 1024; omega)]
      exact congrArg (fun y => v (ix2 y d)) (Fin.ext (by show x.val = 256 * (x.val / 256) + x.val % 256; omega))
    split
    · rw [show x.val / 256 = 0 by omega, h0]
      exact congrArg (fun y => Ideal.exp (s0 (ix2 r y) - m (ix2 r 0))) (Fin.ext (by show x.val = x.val % 256; omega))
    split
    · rw [show x.val / 256 = 1 by omega, h1]
      exact congrArg (fun y => Ideal.exp (s1 (ix2 r y) - m (ix2 r 0))) (Fin.ext (by show x.val - 256 = x.val % 256; omega))
    split
    · rw [show x.val / 256 = 2 by omega, h2]
      exact congrArg (fun y => Ideal.exp (s2 (ix2 r y) - m (ix2 r 0))) (Fin.ext (by show x.val - 256 - 256 = x.val % 256; omega))
    rw [show x.val / 256 = 3 by omega, h3]
    exact congrArg (fun y => Ideal.exp (s3 (ix2 r y) - m (ix2 r 0))) (Fin.ext (by show x.val - 256 - 256 - 256 = x.val % 256; omega))
  · simp only [Finset.sum_range_succ, Finset.sum_range_zero, zero_add, h0, h1, h2, h3]

theorem att5_at (s0 s1 s2 s3 s4 : FVec Ideal S256x256 .f32) (v : FVec Ideal S1280x128 .bf16) (r : Fin 256) (d : Fin 128)
    (ms vv : Nat → Fin 256 → EReal) (h0 : ∀ c, ms 0 c = s0 (ix2 r c)) (h1 : ∀ c, ms 1 c = s1 (ix2 r c)) (h2 : ∀ c, ms 2 c = s2 (ix2 r c)) (h3 : ∀ c, ms 3 c = s3 (ix2 r c)) (h4 : ∀ c, ms 4 c = s4 (ix2 r c))
    (hv : ∀ (j : Nat) (c : Fin 256) (h : 256 * j + c.val < 1280), vv j c = v (ix2 ⟨256 * j + c.val, h⟩ d)) :
    att5 s0 s1 s2 s3 s4 v (ix2 r d) = softOut 5 ms vv := by
  have hm : maxes s0 [s1, s2, s3, s4] (ix2 r 0) = (Finset.range 5).sup fun j => Finset.univ.sup (ms j) := by
    have e : ∀ j, ms j = fun c => ms j c := fun _ => rfl
    simp only [maxes, List.foldl, maximumf_at, rowMax_at, Finset.range_add_one, Finset.range_zero, Finset.sup_insert, Finset.sup_empty]
    rw [e 0, e 1, e 2, e 3, e 4]
    simp only [h0, h1, h2, h3, h4, bot_sup_eq, sup_bot_eq, sup_comm, sup_left_comm, sup_assoc]
  unfold softOut att5
  rw [← hm]
  generalize maxes s0 [s1, s2, s3, s4] = m
  pointwise [sums, rowSum_at, prob_at]
  refine congrArg₂ Ideal.div (Eq.trans (Finset.sum_congr rfl fun x _ => ?_)
    (sum_blocks 5 1280 rfl fun j c => Ideal.exp (ms j c - m (ix2 r 0)) * vv j c)) ?_
  · have hx := x.isLt
    refine congrArg₂ (fun a b : EReal => a * b) ?_ ?_
    rotate_left
    · rw [hv _ _ (by show 256 * (x.val / 256) + x.val % 256 < 1280; omega)]
      exact congrArg (fun y => v (ix2 y d)) (Fin.ext (by show x.val = 256 * (x.val / 256) + x.val % 256; omega))
    split
    · rw [show x.val / 256 = 0 by omega, h0]
      exact congrArg (fun y => Ideal.exp (s0 (ix2 r y) - m (ix2 r 0))) (Fin.ext (by show x.val = x.val % 256; omega))
    split
    · rw [show x.val / 256 = 1 by omega, h1]
      exact congrArg (fun y => Ideal.exp (s1 (ix2 r y) - m (ix2 r 0))) (Fin.ext (by show x.val - 256 = x.val % 256; omega))
    split
    · rw [show x.val / 256 = 2 by omega, h2]
      exact congrArg (fun y => Ideal.exp (s2 (ix2 r y) - m (ix2 r 0))) (Fin.ext (by show x.val - 256 - 256 = x.val % 256; omega))
    split
    · rw [show x.val / 256 = 3 by omega, h3]
      exact congrArg (fun y => Ideal.exp (s3 (ix2 r y) - m (ix2 r 0))) (Fin.ext (by show x.val - 256 - 256 - 256 = x.val % 256; omega))
    rw [show x.val / 256 = 4 by omega, h4]
    exact congrArg (fun y => Ideal.exp (s4 (ix2 r y) - m (ix2 r 0))) (Fin.ext (by show x.val - 256 - 256 - 256 - 256 = x.val % 256; omega))
  · simp only [Finset.sum_range_succ, Finset.sum_range_zero, zero_add, h0, h1, h2, h3, h4]

theorem att6_at (s0 s1 s2 s3 s4 s5 : FVec Ideal S256x256 .f32) (v : FVec Ideal S1536x128 .bf16) (r : Fin 256) (d : Fin 128)
    (ms vv : Nat → Fin 256 → EReal) (h0 : ∀ c, ms 0 c = s0 (ix2 r c)) (h1 : ∀ c, ms 1 c = s1 (ix2 r c)) (h2 : ∀ c, ms 2 c = s2 (ix2 r c)) (h3 : ∀ c, ms 3 c = s3 (ix2 r c)) (h4 : ∀ c, ms 4 c = s4 (ix2 r c)) (h5 : ∀ c, ms 5 c = s5 (ix2 r c))
    (hv : ∀ (j : Nat) (c : Fin 256) (h : 256 * j + c.val < 1536), vv j c = v (ix2 ⟨256 * j + c.val, h⟩ d)) :
    att6 s0 s1 s2 s3 s4 s5 v (ix2 r d) = softOut 6 ms vv := by
  have hm : maxes s0 [s1, s2, s3, s4, s5] (ix2 r 0) = (Finset.range 6).sup fun j => Finset.univ.sup (ms j) := by
    have e : ∀ j, ms j = fun c => ms j c := fun _ => rfl
    simp only [maxes, List.foldl, maximumf_at, rowMax_at, Finset.range_add_one, Finset.range_zero, Finset.sup_insert, Finset.sup_empty]
    rw [e 0, e 1, e 2, e 3, e 4, e 5]
    simp only [h0, h1, h2, h3, h4, h5, bot_sup_eq, sup_bot_eq, sup_comm, sup_left_comm, sup_assoc]
  unfold softOut att6
  rw [← hm]
  generalize maxes s0 [s1, s2, s3, s4, s5] = m
  pointwise [sums, rowSum_at, prob_at]
  refine congrArg₂ Ideal.div (Eq.trans (Finset.sum_congr rfl fun x _ => ?_)
    (sum_blocks 6 1536 rfl fun j c => Ideal.exp (ms j c - m (ix2 r 0)) * vv j c)) ?_
  · have hx := x.isLt
    refine congrArg₂ (fun a b : EReal => a * b) ?_ ?_
    rotate_left
    · rw [hv _ _ (by show 256 * (x.val / 256) + x.val % 256 < 1536; omega)]
      exact congrArg (fun y => v (ix2 y d)) (Fin.ext (by show x.val = 256 * (x.val / 256) + x.val % 256; omega))
    split
    · rw [show x.val / 256 = 0 by omega, h0]
      exact congrArg (fun y => Ideal.exp (s0 (ix2 r y) - m (ix2 r 0))) (Fin.ext (by show x.val = x.val % 256; omega))
    split
    · rw [show x.val / 256 = 1 by omega, h1]
      exact congrArg (fun y => Ideal.exp (s1 (ix2 r y) - m (ix2 r 0))) (Fin.ext (by show x.val - 256 = x.val % 256; omega))
    split
    · rw [show x.val / 256 = 2 by omega, h2]
      exact congrArg (fun y => Ideal.exp (s2 (ix2 r y) - m (ix2 r 0))) (Fin.ext (by show x.val - 256 - 256 = x.val % 256; omega))
    split
    · rw [show x.val / 256 = 3 by omega, h3]
      exact congrArg (fun y => Ideal.exp (s3 (ix2 r y) - m (ix2 r 0))) (Fin.ext (by show x.val - 256 - 256 - 256 = x.val % 256; omega))
    split
    · rw [show x.val / 256 = 4 by omega, h4]
      exact congrArg (fun y => Ideal.exp (s4 (ix2 r y) - m (ix2 r 0))) (Fin.ext (by show x.val - 256 - 256 - 256 - 256 = x.val % 256; omega))
    rw [show x.val / 256 = 5 by omega, h5]
    exact congrArg (fun y => Ideal.exp (s5 (ix2 r y) - m (ix2 r 0))) (Fin.ext (by show x.val - 256 - 256 - 256 - 256 - 256 = x.val % 256; omega))
  · simp only [Finset.sum_range_succ, Finset.sum_range_zero, zero_add, h0, h1, h2, h3, h4, h5]

theorem att7_at (s0 s1 s2 s3 s4 s5 s6 : FVec Ideal S256x256 .f32) (v : FVec Ideal S1792x128 .bf16) (r : Fin 256) (d : Fin 128)
    (ms vv : Nat → Fin 256 → EReal) (h0 : ∀ c, ms 0 c = s0 (ix2 r c)) (h1 : ∀ c, ms 1 c = s1 (ix2 r c)) (h2 : ∀ c, ms 2 c = s2 (ix2 r c)) (h3 : ∀ c, ms 3 c = s3 (ix2 r c)) (h4 : ∀ c, ms 4 c = s4 (ix2 r c)) (h5 : ∀ c, ms 5 c = s5 (ix2 r c)) (h6 : ∀ c, ms 6 c = s6 (ix2 r c))
    (hv : ∀ (j : Nat) (c : Fin 256) (h : 256 * j + c.val < 1792), vv j c = v (ix2 ⟨256 * j + c.val, h⟩ d)) :
    att7 s0 s1 s2 s3 s4 s5 s6 v (ix2 r d) = softOut 7 ms vv := by
  have hm : maxes s0 [s1, s2, s3, s4, s5, s6] (ix2 r 0) = (Finset.range 7).sup fun j => Finset.univ.sup (ms j) := by
    have e : ∀ j, ms j = fun c => ms j c := fun _ => rfl
    simp only [maxes, List.foldl, maximumf_at, rowMax_at, Finset.range_add_one, Finset.range_zero, Finset.sup_insert, Finset.sup_empty]
    rw [e 0, e 1, e 2, e 3, e 4, e 5, e 6]
    simp only [h0, h1, h2, h3, h4, h5, h6, bot_sup_eq, sup_bot_eq, sup_comm, sup_left_comm, sup_assoc]
  unfold softOut att7
  rw [← hm]
  generalize maxes s0 [s1, s2, s3, s4, s5, s6] = m
  pointwise [sums, rowSum_at, prob_at]
  refine congrArg₂ Ideal.div (Eq.trans (Finset.sum_congr rfl fun x _ => ?_)
    (sum_blocks 7 1792 rfl fun j c => Ideal.exp (ms j c - m (ix2 r 0)) * vv j c)) ?_
  · have hx := x.isLt
    refine congrArg₂ (fun a b : EReal => a * b) ?_ ?_
    rotate_left
    · rw [hv _ _ (by show 256 * (x.val / 256) + x.val % 256 < 1792; omega)]
      exact congrArg (fun y => v (ix2 y d)) (Fin.ext (by show x.val = 256 * (x.val / 256) + x.val % 256; omega))
    split
    · rw [show x.val / 256 = 0 by omega, h0]
      exact congrArg (fun y => Ideal.exp (s0 (ix2 r y) - m (ix2 r 0))) (Fin.ext (by show x.val = x.val % 256; omega))
    split
    · rw [show x.val / 256 = 1 by omega, h1]
      exact congrArg (fun y => Ideal.exp (s1 (ix2 r y) - m (ix2 r 0))) (Fin.ext (by show x.val - 256 = x.val % 256; omega))
    split
    · rw [show x.val / 256 = 2 by omega, h2]
      exact congrArg (fun y => Ideal.exp (s2 (ix2 r y) - m (ix2 r 0))) (Fin.ext (by show x.val - 256 - 256 = x.val % 256; omega))
    split
    · rw [show x.val / 256 = 3 by omega, h3]
      exact congrArg (fun y => Ideal.exp (s3 (ix2 r y) - m (ix2 r 0))) (Fin.ext (by show x.val - 256 - 256 - 256 = x.val % 256; omega))
    split
    · rw [show x.val / 256 = 4 by omega, h4]
      exact congrArg (fun y => Ideal.exp (s4 (ix2 r y) - m (ix2 r 0))) (Fin.ext (by show x.val - 256 - 256 - 256 - 256 = x.val % 256; omega))
    split
    · rw [show x.val / 256 = 5 by omega, h5]
      exact congrArg (fun y => Ideal.exp (s5 (ix2 r y) - m (ix2 r 0))) (Fin.ext (by show x.val - 256 - 256 - 256 - 256 - 256 = x.val % 256; omega))
    rw [show x.val / 256 = 6 by omega, h6]
    exact congrArg (fun y => Ideal.exp (s6 (ix2 r y) - m (ix2 r 0))) (Fin.ext (by show x.val - 256 - 256 - 256 - 256 - 256 - 256 = x.val % 256; omega))
  · simp only [Finset.sum_range_succ, Finset.sum_range_zero, zero_add, h0, h1, h2, h3, h4, h5, h6]

theorem att8_at (s0 s1 s2 s3 s4 s5 s6 s7 : FVec Ideal S256x256 .f32) (v : FVec Ideal S2048x128 .bf16) (r : Fin 256) (d : Fin 128)
    (ms vv : Nat → Fin 256 → EReal) (h0 : ∀ c, ms 0 c = s0 (ix2 r c)) (h1 : ∀ c, ms 1 c = s1 (ix2 r c)) (h2 : ∀ c, ms 2 c = s2 (ix2 r c)) (h3 : ∀ c, ms 3 c = s3 (ix2 r c)) (h4 : ∀ c, ms 4 c = s4 (ix2 r c)) (h5 : ∀ c, ms 5 c = s5 (ix2 r c)) (h6 : ∀ c, ms 6 c = s6 (ix2 r c)) (h7 : ∀ c, ms 7 c = s7 (ix2 r c))
    (hv : ∀ (j : Nat) (c : Fin 256) (h : 256 * j + c.val < 2048), vv j c = v (ix2 ⟨256 * j + c.val, h⟩ d)) :
    att8 s0 s1 s2 s3 s4 s5 s6 s7 v (ix2 r d) = softOut 8 ms vv := by
  have hm : maxes s0 [s1, s2, s3, s4, s5, s6, s7] (ix2 r 0) = (Finset.range 8).sup fun j => Finset.univ.sup (ms j) := by
    have e : ∀ j, ms j = fun c => ms j c := fun _ => rfl
    simp only [maxes, List.foldl, maximumf_at, rowMax_at, Finset.range_add_one, Finset.range_zero, Finset.sup_insert, Finset.sup_empty]
    rw [e 0, e 1, e 2, e 3, e 4, e 5, e 6, e 7]
    simp only [h0, h1, h2, h3, h4, h5, h6, h7, bot_sup_eq, sup_bot_eq, sup_comm, sup_left_comm, sup_assoc]
  unfold softOut att8
  rw [← hm]
  generalize maxes s0 [s1, s2, s3, s4, s5, s6, s7] = m
  pointwise [sums, rowSum_at, prob_at]
  refine congrArg₂ Ideal.div (Eq.trans (Finset.sum_congr rfl fun x _ => ?_)
    (sum_blocks 8 2048 rfl fun j c => Ideal.exp (ms j c - m (ix2 r 0)) * vv j c)) ?_
  · have hx := x.isLt
    refine congrArg₂ (fun a b : EReal => a * b) ?_ ?_
    rotate_left
    · rw [hv _ _ (by show 256 * (x.val / 256) + x.val % 256 < 2048; omega)]
      exact congrArg (fun y => v (ix2 y d)) (Fin.ext (by show x.val = 256 * (x.val / 256) + x.val % 256; omega))
    split
    · rw [show x.val / 256 = 0 by omega, h0]
      exact congrArg (fun y => Ideal.exp (s0 (ix2 r y) - m (ix2 r 0))) (Fin.ext (by show x.val = x.val % 256; omega))
    split
    · rw [show x.val / 256 = 1 by omega, h1]
      exact congrArg (fun y => Ideal.exp (s1 (ix2 r y) - m (ix2 r 0))) (Fin.ext (by show x.val - 256 = x.val % 256; omega))
    split
    · rw [show x.val / 256 = 2 by omega, h2]
      exact congrArg (fun y => Ideal.exp (s2 (ix2 r y) - m (ix2 r 0))) (Fin.ext (by show x.val - 256 - 256 = x.val % 256; omega))
    split
    · rw [show x.val / 256 = 3 by omega, h3]
      exact congrArg (fun y => Ideal.exp (s3 (ix2 r y) - m (ix2 r 0))) (Fin.ext (by show x.val - 256 - 256 - 256 = x.val % 256; omega))
    split
    · rw [show x.val / 256 = 4 by omega, h4]
      exact congrArg (fun y => Ideal.exp (s4 (ix2 r y) - m (ix2 r 0))) (Fin.ext (by show x.val - 256 - 256 - 256 - 256 = x.val % 256; omega))
    split
    · rw [show x.val / 256 = 5 by omega, h5]
      exact congrArg (fun y => Ideal.exp (s5 (ix2 r y) - m (ix2 r 0))) (Fin.ext (by show x.val - 256 - 256 - 256 - 256 - 256 = x.val % 256; omega))
    split
    · rw [show x.val / 256 = 6 by omega, h6]
      exact congrArg (fun y => Ideal.exp (s6 (ix2 r y) - m (ix2 r 0))) (Fin.ext (by show x.val - 256 - 256 - 256 - 256 - 256 - 256 = x.val % 256; omega))
    rw [show x.val / 256 = 7 by omega, h7]
    exact congrArg (fun y => Ideal.exp (s7 (ix2 r y) - m (ix2 r 0))) (Fin.ext (by show x.val - 256 - 256 - 256 - 256 - 256 - 256 - 256 = x.val % 256; omega))
  · simp only [Finset.sum_range_succ, Finset.sum_range_zero, zero_add, h0, h1, h2, h3, h4, h5, h6, h7]

end Cert.Moba
-- ==== Proof.MobaBody.lean ====
module

public import proofs.«01_k».proof.Proof.MobaTiles

@[expose] public section

set_option maxRecDepth 16384

noncomputable section

/-! # What the body leaves for one batch and head

For every query the output row is a softmax-weighted mean of values over the selected keys: those of the query's own block up
to the query, and those of the earlier blocks that fewer than three earlier blocks precede in the order of the gate. -/

namespace Cert.Moba

open Cert.KernelIdeal Cert.KernelIdeal.Gen Idealize.ShloMosaic Idealize.ShloMosaic.TcCoe

/-- Entry of a head's array at a natural row. -/
def xat (x : Vec Ideal S2048x128 .bf16) (t : Nat) (d : Fin 128) : EReal := x (ix2 ⟨t % 2048, Nat.mod_lt _ (by decide)⟩ d)

theorem xat_of_lt (x : Vec Ideal S2048x128 .bf16) (t : Nat) (h : t < 2048) (d : Fin 128) : x (ix2 ⟨t, h⟩ d) = xat x t d :=
  congrArg (fun y => x (ix2 y d)) (Fin.ext (by show t = t % 2048; omega))

theorem tile_xat (x : Vec Ideal S2048x128 .bf16) (off : Nat) (inb) (h : off ≤ 1792) (r : Fin 256) (d : Fin 128) :
    tile x off inb (ix2 r d) = xat x (off + r.val) d :=
  (tile_at x off inb r d (by omega)).trans (xat_of_lt x _ _ d)

/-- One over the length of a block. -/
def inv256 : EReal := Ideal.ofBits .f32 0x3B800000#32

/-- Mean key of block `n`. -/
def kmean (x1 : Vec Ideal S2048x128 .bf16) (n : Nat) (d : Fin 128) : EReal := (∑ c : Fin 256, xat x1 (256 * n + c.val) d) * inv256

/-- Scaled score of query `r` of block `own` with key `c` of block `j`. -/
def sc (x0 x1 : Vec Ideal S2048x128 .bf16) (own r j : Nat) (c : Fin 256) : EReal :=
  (∑ d : Fin 128, xat x0 (256 * own + r) d * xat x1 (256 * j + c.val) d) * scl

/-- Gate of query `r` of block `own` at block `n`. -/
def gt (x0 x1 : Vec Ideal S2048x128 .bf16) (own r n : Nat) : EReal :=
  ∑ d : Fin 128, xat x0 (256 * own + r) d * kmean x1 n d

/-- How many blocks before `own` come before block `j` in the order of the gate. -/
def cnt (g : Nat → EReal) (own j : Nat) : Nat :=
  (List.range own).countP fun m => decide (g j < g m ∨ (g m = g j ∧ m < j))

/-- Masked score. -/
def msk (x0 x1 : Vec Ideal S2048x128 .bf16) (own r j : Nat) (c : Fin 256) : EReal :=
  if j = own then (if c.val ≤ r then sc x0 x1 own r j c else ⊥)
  else if j < own ∧ (own ≤ 3 ∨ cnt (gt x0 x1 own r) own j < 3) then sc x0 x1 own r j c else ⊥

/-- Value of key `c` of block `j`. -/
def vat (x2 : Vec Ideal S2048x128 .bf16) (d : Fin 128) (j : Nat) (c : Fin 256) : EReal := xat x2 (256 * j + c.val) d

theorem ldv_at (x2 : Vec Ideal S2048x128 .bf16) (K : Nat) (hK : K ≤ 2048) (inb) (x : Fin K) (d : Fin 128) :
    (View.ld x2 (Rect.unit (s := S2048x128) ![0, 0] (⟨2, ![K, 128]⟩ : Shape).size inb) (ix2 x d) : EReal) = xat x2 x.val d := by
  rw [← xat_of_lt x2 x.val (by omega) d]
  refine congrArg x2 (funext fun a => Fin.ext ?_)
  match a with
  | ⟨0, _⟩ => show 0 + 1 * x.val = x.val; omega
  | ⟨1, _⟩ => show 0 + 1 * d.val = d.val; omega

theorem score_sc (x0 x1 : Vec Ideal S2048x128 .bf16) (own j : Nat) (ho : own < 8) (hj : j < 8) (o o' : Nat) (inb inb')
    (e : o = 256 * own) (e' : o' = 256 * j) (r c : Fin 256) :
    score (tile x0 o inb) (tile x1 o' inb') (ix2 r c) = sc x0 x1 own r.val j c := by
  subst e e'
  rw [score_at]
  simp only [tile_xat _ _ inb (by omega), tile_xat _ _ inb' (by omega)]
  rfl

theorem diag_msk (x0 x1 : Vec Ideal S2048x128 .bf16) (own : Nat) (ho : own < 8) (o : Nat) (inb) (e : o = 256 * own)
    (r c : Fin 256) : msk x0 x1 own r.val own c = diag (tile x0 o inb) (tile x1 o inb) (ix2 r c) := by
  rw [diag_at, score_sc x0 x1 own own ho ho o o inb inb e e, msk, if_pos rfl]
  rfl

theorem score_msk (x0 x1 : Vec Ideal S2048x128 .bf16) (own j : Nat) (ho : own < 8) (hj : j < own) (h3 : own ≤ 3)
    (o o' : Nat) (inb inb') (e : o = 256 * own) (e' : o' = 256 * j)
    (r c : Fin 256) : msk x0 x1 own r.val j c = score (tile x0 o inb) (tile x1 o' inb') (ix2 r c) := by
  rw [score_sc x0 x1 own j ho (by omega) o o' inb inb' e e', msk, if_neg (by omega), if_pos ⟨hj, .inl h3⟩]

theorem keep_cnt (G : FVec Ideal S256x128 .f32) (g : Nat → EReal) (r : Fin 256) (hg : ∀ n : Fin 128, n.val < 8 → G (ix2 r n) = g n.val)
    (l : List (Fin 128)) (own : Nat) (ho : own ≤ 8) (hl : l.map Fin.val = List.range own) (j : Fin 128) (hj : j.val < 8) :
    keep (rank G l) j (ix2 r 0) = 1#1 ↔ cnt g own j.val < 3 := by
  have hlen : l.length = own := by simpa using congrArg List.length hl
  rw [keep_at, rank_at G l (by omega) r j]
  have e : (l.countP fun m => decide (G (ix2 r j) < G (ix2 r m) ∨ (G (ix2 r m) = G (ix2 r j) ∧ m < j))) = cnt g own j.val := by
    unfold cnt
    rw [← hl, List.countP_map]
    refine List.countP_congr fun m hm => ?_
    have hm' : m.val < 8 := by
      have : m.val ∈ l.map Fin.val := List.mem_map_of_mem hm
      rw [hl, List.mem_range] at this
      omega
    simp only [Function.comp, hg m hm', hg j hj, Fin.lt_def]
  rw [e]
  omega

theorem gate_gt (x0 x1 : Vec Ideal S2048x128 .bf16) (hi lo : FVec Ideal S128x128 .bf16)
    (hhi : ∀ n d : Fin 128, n.val < 8 → hi (ix2 n d) = kmean x1 n.val d) (hlo : ∀ n d : Fin 128, n.val < 8 → lo (ix2 n d) = (0 : EReal))
    (own : Nat) (ho : own < 8) (o : Nat) (inb) (e : o = 256 * own) (r : Fin 256) (n : Fin 128) (hn : n.val < 8) :
    gate hi lo (tile x0 o inb) (ix2 r n) = gt x0 x1 own r.val n.val := by
  subst e
  rw [gate_at]
  simp only [tile_xat _ _ inb (by omega), hhi n _ hn, hlo n _ hn, mul_zero, Finset.sum_const_zero, add_zero]
  rfl

theorem past_msk (x0 x1 : Vec Ideal S2048x128 .bf16) (hi lo : FVec Ideal S128x128 .bf16)
    (hhi : ∀ n d : Fin 128, n.val < 8 → hi (ix2 n d) = kmean x1 n.val d) (hlo : ∀ n d : Fin 128, n.val < 8 → lo (ix2 n d) = (0 : EReal))
    (own : Nat) (ho : own < 8) (h3 : 3 < own) (j : Fin 128) (hj : j.val < own) (l : List (Fin 128)) (hl : l.map Fin.val = List.range own)
    (o o' : Nat) (inb inb') (e : o = 256 * own) (e' : o' = 256 * j.val) (r c : Fin 256) :
    msk x0 x1 own r.val j.val c = past (keep (rank (gate hi lo (tile x0 o inb)) l) j) (tile x0 o inb) (tile x1 o' inb') (ix2 r c) := by
  rw [past_at, score_sc x0 x1 own j.val ho (by omega) o o' inb inb' e e', msk, if_neg (by omega)]
  have hk := keep_cnt (gate hi lo (tile x0 o inb)) (gt x0 x1 own r.val) r
    (fun n hn => gate_gt x0 x1 hi lo hhi hlo own ho o inb e r n hn) l own (by omega) hl j (by omega)
  by_cases h : cnt (gt x0 x1 own r.val) own j.val < 3
  · rw [if_pos ⟨hj, .inr h⟩, if_pos (hk.mpr h)]
  · rw [if_neg (fun h' => h (h'.2.resolve_left (by omega))), if_neg (fun h' => h (hk.mp h'))]

theorem piece0_at (x0 x1 x2 : Vec Ideal S2048x128 .bf16) (r : Fin 256) (d : Fin 128) :
    piece0 x0 x1 x2 (ix2 r d) = softOut 1 (msk x0 x1 0 r.val) (vat x2 d) :=
  att1_at _ _ r d _ _
    (fun c => diag_msk x0 x1 0 (by decide) 0 _ rfl r c)
    (fun j c h => (ldv_at x2 256 (by decide) _ ⟨256 * j + c.val, h⟩ d).symm)

theorem piece1_at (x0 x1 x2 : Vec Ideal S2048x128 .bf16) (r : Fin 256) (d : Fin 128) :
    piece1 x0 x1 x2 (ix2 r d) = softOut 2 (msk x0 x1 1 r.val) (vat x2 d) :=
  att2_at _ _ _ r d _ _
    (fun c => score_msk x0 x1 1 0 (by decide) (by decide) (by decide) 256 0 _ _ rfl rfl r c)
    (fun c => diag_msk x0 x1 1 (by decide) 256 _ rfl r c)
    (fun j c h => (ldv_at x2 512 (by decide) _ ⟨256 * j + c.val, h⟩ d).symm)

theorem piece2_at (x0 x1 x2 : Vec Ideal S2048x128 .bf16) (r : Fin 256) (d : Fin 128) :
    piece2 x0 x1 x2 (ix2 r d) = softOut 3 (msk x0 x1 2 r.val) (vat x2 d) :=
  att3_at _ _ _ _ r d _ _
    (fun c => score_msk x0 x1 2 0 (by decide) (by decide) (by decide) 512 0 _ _ rfl rfl r c)
    (fun c => score_msk x0 x1 2 1 (by decide) (by decide) (by decide) 512 256 _ _ rfl rfl r c)
    (fun c => diag_msk x0 x1 2 (by decide) 512 _ rfl r c)
    (fun j c h => (ldv_at x2 768 (by decide) _ ⟨256 * j + c.val, h⟩ d).symm)

theorem piece3_at (x0 x1 x2 : Vec Ideal S2048x128 .bf16) (r : Fin 256) (d : Fin 128) :
    piece3 x0 x1 x2 (ix2 r d) = softOut 4 (msk x0 x1 3 r.val) (vat x2 d) :=
  att4_at _ _ _ _ _ r d _ _
    (fun c => score_msk x0 x1 3 0 (by decide) (by decide) (by decide) 768 0 _ _ rfl rfl r c)
    (fun c => score_msk x0 x1 3 1 (by decide) (by decide) (by decide) 768 256 _ _ rfl rfl r c)
    (fun c => score_msk x0 x1 3 2 (by decide) (by decide) (by decide) 768 512 _ _ rfl rfl r c)
    (fun c => diag_msk x0 x1 3 (by decide) 768 _ rfl r c)
    (fun j c h => (ldv_at x2 1024 (by decide) _ ⟨256 * j + c.val, h⟩ d).symm)

theorem piece4_at (x0 x1 x2 : Vec Ideal S2048x128 .bf16) (hi lo : FVec Ideal S128x128 .bf16)
    (hhi : ∀ n d : Fin 128, n.val < 8 → hi (ix2 n d) = kmean x1 n.val d) (hlo : ∀ n d : Fin 128, n.val < 8 → lo (ix2 n d) = (0 : EReal))
    (r : Fin 256) (d : Fin 128) :
    piece4 hi lo x0 x1 x2 (ix2 r d) = softOut 5 (msk x0 x1 4 r.val) (vat x2 d) :=
  att5_at _ _ _ _ _ _ r d _ _
    (fun c => past_msk x0 x1 hi lo hhi hlo 4 (by decide) (by decide) 0 (by decide) [0, 1, 2, 3] rfl 1024 0 _ _ rfl rfl r c)
    (fun c => past_msk x0 x1 hi lo hhi hlo 4 (by decide) (by decide) 1 (by decide) [0, 1, 2, 3] rfl 1024 256 _ _ rfl rfl r c)
    (fun c => past_msk x0 x1 hi lo hhi hlo 4 (by decide) (by decide) 2 (by decide) [0, 1, 2, 3] rfl 1024 512 _ _ rfl rfl r c)
    (fun c => past_msk x0 x1 hi lo hhi hlo 4 (by decide) (by decide) 3 (by decide) [0, 1, 2, 3] rfl 1024 768 _ _ rfl rfl r c)
    (fun c => diag_msk x0 x1 4 (by decide) 1024 _ rfl r c)
    (fun j c h => (ldv_at x2 1280 (by decide) _ ⟨256 * j + c.val, h⟩ d).symm)

theorem piece5_at (x0 x1 x2 : Vec Ideal S2048x128 .bf16) (hi lo : FVec Ideal S128x128 .bf16)
    (hhi : ∀ n d : Fin 128, n.val < 8 → hi (ix2 n d) = kmean x1 n.val d) (hlo : ∀ n d : Fin 128, n.val < 8 → lo (ix2 n d) = (0 : EReal))
    (r : Fin 256) (d : Fin 128) :
    piece5 hi lo x0 x1 x2 (ix2 r d) = softOut 6 (msk x0 x1 5 r.val) (vat x2 d) :=
  att6_at _ _ _ _ _ _ _ r d _ _
    (fun c => past_msk x0 x1 hi lo hhi hlo 5 (by decide) (by decide) 0 (by decide) [0, 1, 2, 3, 4] rfl 1280 0 _ _ rfl rfl r c)
    (fun c => past_msk x0 x1 hi lo hhi hlo 5 (by decide) (by decide) 1 (by decide) [0, 1, 2, 3, 4] rfl 1280 256 _ _ rfl rfl r c)
    (fun c => past_msk x0 x1 hi lo hhi hlo 5 (by decide) (by decide) 2 (by decide) [0, 1, 2, 3, 4] rfl 1280 512 _ _ rfl rfl r c)
    (fun c => past_msk x0 x1 hi lo hhi hlo 5 (by decide) (by decide) 3 (by decide) [0, 1, 2, 3, 4] rfl 1280 768 _ _ rfl rfl r c)
    (fun c => past_msk x0 x1 hi lo hhi hlo 5 (by decide) (by decide) 4 (by decide) [0, 1, 2, 3, 4] rfl 1280 1024 _ _ rfl rfl r c)
    (fun c => diag_msk x0 x1 5 (by decide) 1280 _ rfl r c)
    (fun j c h => (ldv_at x2 1536 (by decide) _ ⟨256 * j + c.val, h⟩ d).symm)

theorem piece6_at (x0 x1 x2 : Vec Ideal S2048x128 .bf16) (hi lo : FVec Ideal S128x128 .bf16)
    (hhi : ∀ n d : Fin 128, n.val < 8 → hi (ix2 n d) = kmean x1 n.val d) (hlo : ∀ n d : Fin 128, n.val < 8 → lo (ix2 n d) = (0 : EReal))
    (r : Fin 256) (d : Fin 128) :
    piece6 hi lo x0 x1 x2 (ix2 r d) = softOut 7 (msk x0 x1 6 r.val) (vat x2 d) :=
  att7_at _ _ _ _ _ _ _ _ r d _ _
    (fun c => past_msk x0 x1 hi lo hhi hlo 6 (by decide) (by decide) 0 (by decide) [0, 1, 2, 3, 4, 5] rfl 1536 0 _ _ rfl rfl r c)
    (fun c => past_msk x0 x1 hi lo hhi hlo 6 (by decide) (by decide) 1 (by decide) [0, 1, 2, 3, 4, 5] rfl 1536 256 _ _ rfl rfl r c)
    (fun c => past_msk x0 x1 hi lo hhi hlo 6 (by decide) (by decide) 2 (by decide) [0, 1, 2, 3, 4, 5] rfl 1536 512 _ _ rfl rfl r c)
    (fun c => past_msk x0 x1 hi lo hhi hlo 6 (by decide) (by decide) 3 (by decide) [0, 1, 2, 3, 4, 5] rfl 1536 768 _ _ rfl rfl r c)
    (fun c => past_msk x0 x1 hi lo hhi hlo 6 (by decide) (by decide) 4 (by decide) [0, 1, 2, 3, 4, 5] rfl 1536 1024 _ _ rfl rfl r c)
    (fun c => past_msk x0 x1 hi lo hhi hlo 6 (by decide) (by decide) 5 (by decide) [0, 1, 2, 3, 4, 5] rfl 1536 1280 _ _ rfl rfl r c)
    (fun c => diag_msk x0 x1 6 (by decide) 1536 _ rfl r c)
    (fun j c h => (ldv_at x2 1792 (by decide) _ ⟨256 * j + c.val, h⟩ d).symm)

theorem piece7_at (x0 x1 x2 : Vec Ideal S2048x128 .bf16) (hi lo : FVec Ideal S128x128 .bf16)
    (hhi : ∀ n d : Fin 128, n.val < 8 → hi (ix2 n d) = kmean x1 n.val d) (hlo : ∀ n d : Fin 128, n.val < 8 → lo (ix2 n d) = (0 : EReal))
    (r : Fin 256) (d : Fin 128) :
    piece7 hi lo x0 x1 x2 (ix2 r d) = softOut 8 (msk x0 x1 7 r.val) (vat x2 d) :=
  att8_at _ _ _ _ _ _ _ _ _ r d _ _
    (fun c => past_msk x0 x1 hi lo hhi hlo 7 (by decide) (by decide) 0 (by decide) [0, 1, 2, 3, 4, 5, 6] rfl 1792 0 _ _ rfl rfl r c)
    (fun c => past_msk x0 x1 hi lo hhi hlo 7 (by decide) (by decide) 1 (by decide) [0, 1, 2, 3, 4, 5, 6] rfl 1792 256 _ _ rfl rfl r c)
    (fun c => past_msk x0 x1 hi lo hhi hlo 7 (by decide) (by decide) 2 (by decide) [0, 1, 2, 3, 4, 5, 6] rfl 1792 512 _ _ rfl rfl r c)
    (fun c => past_msk x0 x1 hi lo hhi hlo 7 (by decide) (by decide) 3 (by decide) [0, 1, 2, 3, 4, 5, 6] rfl 1792 768 _ _ rfl rfl r c)
    (fun c => past_msk x0 x1 hi lo hhi hlo 7 (by decide) (by decide) 4 (by decide) [0, 1, 2, 3, 4, 5, 6] rfl 1792 1024 _ _ rfl rfl r c)
    (fun c => past_msk x0 x1 hi lo hhi hlo 7 (by decide) (by decide) 5 (by decide) [0, 1, 2, 3, 4, 5, 6] rfl 1792 1280 _ _ rfl rfl r c)
    (fun c => past_msk x0 x1 hi lo hhi hlo 7 (by decide) (by decide) 6 (by decide) [0, 1, 2, 3, 4, 5, 6] rfl 1792 1536 _ _ rfl rfl r c)
    (fun c => diag_msk x0 x1 7 (by decide) 1792 _ rfl r c)
    (fun j c h => (ldv_at x2 2048 (by decide) _ ⟨256 * j + c.val, h⟩ d).symm)

/-- A list of pieces read at an index: the first piece if it covers the index, else the rest. -/
theorem canon_unit {s : Shape} {e : EltTy} {Val : EltTy → Type} [∀ e, Nonempty (Val e)] (off size : Fin s.rank → Nat) (inb)
    (w : (Rect.unit off size inb).shape.Idx → Val e) (L : List (View.Piece Val s e)) (y : s.Idx)
    (x : (Rect.unit off size inb).shape.Idx) (h : ∀ a, (y a).val = off a + (x a).val) :
    View.canon (⟨Rect.unit off size inb, w⟩ :: L) y = w x := by
  have : y = (Rect.unit off size inb).emb x := by
    funext a
    refine Fin.ext ((h a).trans ?_)
    show _ = off a + 1 * (x a).val
    rw [Nat.one_mul]
  rw [this, View.canon_cons_emb]

theorem canon_skip {s : Shape} {e : EltTy} {Val : EltTy → Type} [∀ e, Nonempty (Val e)] (off size : Fin s.rank → Nat) (inb)
    (w : (Rect.unit off size inb).shape.Idx → Val e) (L : List (View.Piece Val s e)) (y : s.Idx) (a : Fin s.rank)
    (h : (y a).val < off a ∨ off a + size a ≤ (y a).val) :
    View.canon (⟨Rect.unit off size inb, w⟩ :: L) y = View.canon L y := by
  refine View.canon_cons_of_not_mem _ _ fun hm => ?_
  have := (Rect.mem_set_unit (inb := inb)).mp hm a
  omega

theorem mean_row (x : Vec Ideal S2048x128 .bf16) (n : Nat) (hn : n < 8) (o : Nat) (inb) (e : o = 256 * n) (d : Fin 128) :
    k0_pay3 (tile x o inb) (ix2 0 d) = kmean x n d := by
  subst e
  pointwise [k0_pay3]
  simp only [tile_xat _ _ inb (by omega)]
  rfl

section
variable (c : Dev nD) (arg3 : Memref sig .tc .vmem S2048x128 .bf16) (harg3 : arg3.IsWhole) (arg6 : Memref sig .tc .vmem S128x128 .f32)
  (x1 : Vec Ideal S2048x128 .bf16)

theorem v76_at (n d : Fin 128) (hn : n.val < 8) :
    (kernelRun0_A.sl.v76 c arg3 harg3 arg6 x1 (ix2 n d) : EReal) = kmean x1 n.val d := by
  have hx : ∀ r, View.readAt (Elt Ideal) arg3.view (Rect.toLoadRect r) (harg3.unread x1) = View.ld x1 r := fun r => by
    rw [View.readAt_eq_ld, harg3.read_unread]
  have h0 : (Rect.unit (s := S128x128) ![0, 0] S128x128.size inb_S128x128_S128x128_0_0).toLoadRect.idx (ix2 n d) = ix2 n d := by
    funext a
    refine Fin.ext ?_
    match a with
    | ⟨0, _⟩ => show 0 + 1 * n.val = n.val; omega
    | ⟨1, _⟩ => show 0 + 1 * d.val = d.val; omega
  unfold kernelRun0_A.sl.v76
  rw [View.readCov_eq_canon']
  show View.canon _ ((Rect.unit (s := S128x128) ![0, 0] S128x128.size inb_S128x128_S128x128_0_0).toLoadRect.idx (ix2 n d)) = _
  rw [h0]
  unfold kernelRun0_A.sl.HS0_9 kernelRun0_A.sl.r
  simp only [hx]
  clear hx h0
  obtain ⟨k, hk⟩ : ∃ k : Fin 8, k.val = n.val := ⟨⟨n.val, hn⟩, rfl⟩
  fin_vals k with hk'
  · have hv : n.val = 0 := by omega
    rw [canon_skip _ _ _ _ _ _ 0 (by show n.val < 7 ∨ 7 + 1 ≤ n.val; omega)]
    rw [canon_skip _ _ _ _ _ _ 0 (by show n.val < 6 ∨ 6 + 1 ≤ n.val; omega)]
    rw [canon_skip _ _ _ _ _ _ 0 (by show n.val < 5 ∨ 5 + 1 ≤ n.val; omega)]
    rw [canon_skip _ _ _ _ _ _ 0 (by show n.val < 4 ∨ 4 + 1 ≤ n.val; omega)]
    rw [canon_skip _ _ _ _ _ _ 0 (by show n.val < 3 ∨ 3 + 1 ≤ n.val; omega)]
    rw [canon_skip _ _ _ _ _ _ 0 (by show n.val < 2 ∨ 2 + 1 ≤ n.val; omega)]
    rw [canon_skip _ _ _ _ _ _ 0 (by show n.val < 1 ∨ 1 + 1 ≤ n.val; omega)]
    rw [canon_unit _ _ _ _ _ _ (ix2 0 d) (fun a => by
      match a with
      | ⟨0, _⟩ => show n.val = 0 + 0; omega
      | ⟨1, _⟩ => show d.val = 0 + d.val; omega), hv]
    exact mean_row x1 0 (by decide) 0 _ rfl d
  · have hv : n.val = 1 := by omega
    rw [canon_skip _ _ _ _ _ _ 0 (by show n.val < 7 ∨ 7 + 1 ≤ n.val; omega)]
    rw [canon_skip _ _ _ _ _ _ 0 (by show n.val < 6 ∨ 6 + 1 ≤ n.val; omega)]
    rw [canon_skip _ _ _ _ _ _ 0 (by show n.val < 5 ∨ 5 + 1 ≤ n.val; omega)]
    rw [canon_skip _ _ _ _ _ _ 0 (by show n.val < 4 ∨ 4 + 1 ≤ n.val; omega)]
    rw [canon_skip _ _ _ _ _ _ 0 (by show n.val < 3 ∨ 3 + 1 ≤ n.val; omega)]
    rw [canon_skip _ _ _ _ _ _ 0 (by show n.val < 2 ∨ 2 + 1 ≤ n.val; omega)]
    rw [canon_unit _ _ _ _ _ _ (ix2 0 d) (fun a => by
      match a with
      | ⟨0, _⟩ => show n.val = 1 + 0; omega
      | ⟨1, _⟩ => show d.val = 0 + d.val; omega), hv]
    exact mean_row x1 1 (by decide) 256 _ rfl d
  · have hv : n.val = 2 := by omega
    rw [canon_skip _ _ _ _ _ _ 0 (by show n.val < 7 ∨ 7 + 1 ≤ n.val; omega)]
    rw [canon_skip _ _ _ _ _ _ 0 (by show n.val < 6 ∨ 6 + 1 ≤ n.val; omega)]
    rw [canon_skip _ _ _ _ _ _ 0 (by show n.val < 5 ∨ 5 + 1 ≤ n.val; omega)]
    rw [canon_skip _ _ _ _ _ _ 0 (by show n.val < 4 ∨ 4 + 1 ≤ n.val; omega)]
    rw [canon_skip _ _ _ _ _ _ 0 (by show n.val < 3 ∨ 3 + 1 ≤ n.val; omega)]
    rw [canon_unit _ _ _ _ _ _ (ix2 0 d) (fun a => by
      match a with
      | ⟨0, _⟩ => show n.val = 2 + 0; omega
      | ⟨1, _⟩ => show d.val = 0 + d.val; omega), hv]
    exact mean_row x1 2 (by decide) 512 _ rfl d
  · have hv : n.val = 3 := by omega
    rw [canon_skip _ _ _ _ _ _ 0 (by show n.val < 7 ∨ 7 + 1 ≤ n.val; omega)]
    rw [canon_skip _ _ _ _ _ _ 0 (by show n.val < 6 ∨ 6 + 1 ≤ n.val; omega)]
    rw [canon_skip _ _ _ _ _ _ 0 (by show n.val < 5 ∨ 5 + 1 ≤ n.val; omega)]
    rw [canon_skip _ _ _ _ _ _ 0 (by show n.val < 4 ∨ 4 + 1 ≤ n.val; omega)]
    rw [canon_unit _ _ _ _ _ _ (ix2 0 d) (fun a => by
      match a with
      | ⟨0, _⟩ => show n.val = 3 + 0; omega
      | ⟨1, _⟩ => show d.val = 0 + d.val; omega), hv]
    exact mean_row x1 3 (by decide) 768 _ rfl d
  · have hv : n.val = 4 := by omega
    rw [canon_skip _ _ _ _ _ _ 0 (by show n.val < 7 ∨ 7 + 1 ≤ n.val; omega)]
    rw [canon_skip _ _ _ _ _ _ 0 (by show n.val < 6 ∨ 6 + 1 ≤ n.val; omega)]
    rw [canon_skip _ _ _ _ _ _ 0 (by show n.val < 5 ∨ 5 + 1 ≤ n.val; omega)]
    rw [canon_unit _ _ _ _ _ _ (ix2 0 d) (fun a => by
      match a with
      | ⟨0, _⟩ => show n.val = 4 + 0; omega
      | ⟨1, _⟩ => show d.val = 0 + d.val; omega), hv]
    exact mean_row x1 4 (by decide) 1024 _ rfl d
  · have hv : n.val = 5 := by omega
    rw [canon_skip _ _ _ _ _ _ 0 (by show n.val < 7 ∨ 7 + 1 ≤ n.val; omega)]
    rw [canon_skip _ _ _ _ _ _ 0 (by show n.val < 6 ∨ 6 + 1 ≤ n.val; omega)]
    rw [canon_unit _ _ _ _ _ _ (ix2 0 d) (fun a => by
      match a with
      | ⟨0, _⟩ => show n.val = 5 + 0; omega
      | ⟨1, _⟩ => show d.val = 0 + d.val; omega), hv]
    exact mean_row x1 5 (by decide) 1280 _ rfl d
  · have hv : n.val = 6 := by omega
    rw [canon_skip _ _ _ _ _ _ 0 (by show n.val < 7 ∨ 7 + 1 ≤ n.val; omega)]
    rw [canon_unit _ _ _ _ _ _ (ix2 0 d) (fun a => by
      match a with
      | ⟨0, _⟩ => show n.val = 6 + 0; omega
      | ⟨1, _⟩ => show d.val = 0 + d.val; omega), hv]
    exact mean_row x1 6 (by decide) 1536 _ rfl d
  · have hv : n.val = 7 := by omega
    rw [canon_unit _ _ _ _ _ _ (ix2 0 d) (fun a => by
      match a with
      | ⟨0, _⟩ => show n.val = 7 + 0; omega
      | ⟨1, _⟩ => show d.val = 0 + d.val; omega), hv]
    exact mean_row x1 7 (by decide) 1792 _ rfl d

end

end Cert.Moba
-- ==== Proof.MobaKernel.lean ====
module

public import proofs.«01_k».proof.Proof.MobaBody

@[expose] public section

set_option maxRecDepth 16384

noncomputable section

/-! # The array the kernel returns

The head's output at an index, and the blocks of the grid put together: row `2048 * b + t`, column `128 * h + d` of the result
is the head's output computed from the same rows and columns of the three arguments. -/

namespace Cert.Moba

open Cert.KernelIdeal Cert.KernelIdeal.Gen Idealize.ShloMosaic Idealize.ShloMosaic.TcCoe
open Idealize.ShloMosaic.Pipeline (Dat)

theorem real_sum {n : Nat} (f : Fin n → EReal) (h : ∀ i, ∃ r : ℝ, f i = r) : ∃ r : ℝ, ∑ i, f i = r := by
  choose g hg using h
  refine ⟨∑ i, g i, ?_⟩
  simp only [hg]
  exact (map_sum (AddMonoidHom.mk ⟨Real.toEReal, EReal.coe_zero⟩ EReal.coe_add) g Finset.univ).symm

theorem real_mul {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

theorem inv256_real : ∃ r : ℝ, inv256 = r := ⟨8388608 * (2 ^ 31)⁻¹, by simp [inv256, Ideal.ofBits, Ideal.ieee]⟩

theorem kmean_real (x1 : Vec Ideal S2048x128 .bf16) (h : ∀ i, ∃ r : ℝ, (x1 i : EReal) = r) (n : Nat) (d : Fin 128) :
    ∃ r : ℝ, kmean x1 n d = r := real_mul (real_sum _ fun _ => h _) inv256_real

theorem softOut_eight (n : Nat) (hn : n ≤ 8) (ms v : Nat → Fin 256 → EReal) (h : ∀ j, n ≤ j → ∀ c, ms j c = ⊥) :
    softOut n ms v = softOut 8 ms v := by
  have hsub : Finset.range n ⊆ Finset.range 8 := Finset.range_subset_range.mpr hn
  have hM : (Finset.range n).sup (fun j => Finset.univ.sup (ms j)) = (Finset.range 8).sup fun j => Finset.univ.sup (ms j) := by
    refine le_antisymm (Finset.sup_mono hsub) (Finset.sup_le fun j hj => ?_)
    by_cases hjn : j < n
    · exact Finset.le_sup (f := fun j => Finset.univ.sup (ms j)) (Finset.mem_range.mpr hjn)
    · refine (Finset.sup_le fun c _ => ?_).trans bot_le
      rw [h j (by omega) c]
  have hz : ∀ j ∈ Finset.range 8, j ∉ Finset.range n → ∀ (c : Fin 256) (M : EReal), Ideal.exp (ms j c - M) = 0 := by
    intro j _ hj c M
    rw [h j (by simpa using hj) c, EReal.bot_sub]
    rfl
  unfold softOut
  rw [hM]
  refine congrArg₂ Ideal.div ?_ ?_
  · refine Finset.sum_subset hsub fun j hj hj' => Finset.sum_eq_zero fun c _ => ?_
    rw [hz j hj hj', zero_mul]
  · exact Finset.sum_subset hsub fun j hj hj' => Finset.sum_eq_zero fun c _ => hz j hj hj' c _

theorem msk_bot (x0 x1 : Vec Ideal S2048x128 .bf16) (own r j : Nat) (c : Fin 256) (h : own + 1 ≤ j) : msk x0 x1 own r j c = ⊥ := by
  rw [msk, if_neg (by omega), if_neg (by omega)]

/-- The head's output row. -/
def headOut (x0 x1 x2 : Vec Ideal S2048x128 .bf16) (t : Nat) (d : Fin 128) : EReal :=
  softOut 8 (msk x0 x1 (t / 256) (t % 256)) (vat x2 d)

theorem softOut_own (x0 x1 : Vec Ideal S2048x128 .bf16) (v : Nat → Fin 256 → EReal) (own r : Nat) (ho : own < 8) :
    softOut (own + 1) (msk x0 x1 own r) v = softOut 8 (msk x0 x1 own r) v :=
  softOut_eight _ (by omega) _ _ fun j hj c => msk_bot x0 x1 own r j c hj

section
variable (c : Dev nD) (i : grid0.Coords) (arg2 : Memref sig .tc .vmem S2048x128 .bf16) (harg2 : arg2.IsWhole)
  (arg3 : Memref sig .tc .vmem S2048x128 .bf16) (harg3 : arg3.IsWhole) (arg4 : Memref sig .tc .vmem S2048x128 .bf16) (harg4 : arg4.IsWhole)
  (arg5 : Memref sig .tc .vmem S2048x128 .bf16) (harg5 : arg5.IsWhole) (arg6 : Memref sig .tc .vmem S128x128 .f32) (harg6 : arg6.IsWhole)
  (x0 x1 x2 : Vec Ideal S2048x128 .bf16)

theorem out_at (hf : ∀ i, ∃ r : ℝ, (x1 i : EReal) = r) (t : Fin 2048) (d : Fin 128) :
    (out0_A_3 c i arg2 harg2 arg3 harg3 arg4 harg4 arg5 harg5 arg6 harg6 x0 x1 x2 (ix2 t d) : EReal) = headOut x0 x1 x2 t.val d := by
  have hhi : ∀ n d : Fin 128, n.val < 8 → (kernelRun0_A.sl.r_1 c arg3 harg3 arg6 x1 (ix2 n d) : EReal) = kmean x1 n.val d := fun n d hn => by
    unfold kernelRun0_A.sl.r_1
    exact v76_at c arg3 harg3 arg6 x1 n d hn
  have hlo : ∀ n d : Fin 128, n.val < 8 → (kernelRun0_A.sl.r_2 c arg3 harg3 arg6 x1 (ix2 n d) : EReal) = 0 := fun n d hn => by
    unfold kernelRun0_A.sl.r_2
    show (kernelRun0_A.sl.v76 c arg3 harg3 arg6 x1 (ix2 n d) : EReal) - kernelRun0_A.sl.v76 c arg3 harg3 arg6 x1 (ix2 n d) = 0
    rw [v76_at c arg3 harg3 arg6 x1 n d hn]
    obtain ⟨r, hr⟩ := kmean_real x1 hf n.val d
    rw [hr, ← EReal.coe_sub, sub_self, EReal.coe_zero]
  unfold out0_A_3
  rw [View.read_writes_junk_eq_canon, pieces_eq, harg2.read_unread, harg3.read_unread, harg4.read_unread]
  generalize kernelRun0_A.sl.r_1 c arg3 harg3 arg6 x1 = hi at *
  generalize kernelRun0_A.sl.r_2 c arg3 harg3 arg6 x1 = lo at *
  have ht := t.isLt
  obtain ⟨k, hk⟩ : ∃ k : Fin 8, k.val = t.val / 256 := ⟨⟨t.val / 256, by omega⟩, rfl⟩
  unfold headOut
  fin_vals k with hk'
  · have hv : t.val / 256 = 0 := by omega
    rw [canon_skip _ _ _ _ _ _ 0 (by show t.val < 1792 ∨ 1792 + 256 ≤ t.val; omega)]
    rw [canon_skip _ _ _ _ _ _ 0 (by show t.val < 1536 ∨ 1536 + 256 ≤ t.val; omega)]
    rw [canon_skip _ _ _ _ _ _ 0 (by show t.val < 1280 ∨ 1280 + 256 ≤ t.val; omega)]
    rw [canon_skip _ _ _ _ _ _ 0 (by show t.val < 1024 ∨ 1024 + 256 ≤ t.val; omega)]
    rw [canon_skip _ _ _ _ _ _ 0 (by show t.val < 768 ∨ 768 + 256 ≤ t.val; omega)]
    rw [canon_skip _ _ _ _ _ _ 0 (by show t.val < 512 ∨ 512 + 256 ≤ t.val; omega)]
    rw [canon_skip _ _ _ _ _ _ 0 (by show t.val < 256 ∨ 256 + 256 ≤ t.val; omega)]
    rw [canon_unit _ _ _ _ _ _ (ix2 ⟨t.val % 256, by omega⟩ d) (fun a => by
      match a with
      | ⟨0, _⟩ => show t.val = 0 + t.val % 256; omega
      | ⟨1, _⟩ => show d.val = 0 + d.val; omega), hv, piece0_at x0 x1 x2 ⟨t.val % 256, by omega⟩ d]
    exact softOut_own x0 x1 _ 0 _ (by decide)
  · have hv : t.val / 256 = 1 := by omega
    rw [canon_skip _ _ _ _ _ _ 0 (by show t.val < 1792 ∨ 1792 + 256 ≤ t.val; omega)]
    rw [canon_skip _ _ _ _ _ _ 0 (by show t.val < 1536 ∨ 1536 + 256 ≤ t.val; omega)]
    rw [canon_skip _ _ _ _ _ _ 0 (by show t.val < 1280 ∨ 1280 + 256 ≤ t.val; omega)]
    rw [canon_skip _ _ _ _ _ _ 0 (by show t.val < 1024 ∨ 1024 + 256 ≤ t.val; omega)]
    rw [canon_skip _ _ _ _ _ _ 0 (by show t.val < 768 ∨ 768 + 256 ≤ t.val; omega)]
    rw [canon_skip _ _ _ _ _ _ 0 (by show t.val < 512 ∨ 512 + 256 ≤ t.val; omega)]
    rw [canon_unit _ _ _ _ _ _ (ix2 ⟨t.val % 256, by omega⟩ d) (fun a => by
      match a with
      | ⟨0, _⟩ => show t.val = 256 + t.val % 256; omega
      | ⟨1, _⟩ => show d.val = 0 + d.val; omega), hv, piece1_at x0 x1 x2 ⟨t.val % 256, by omega⟩ d]
    exact softOut_own x0 x1 _ 1 _ (by decide)
  · have hv : t.val / 256 = 2 := by omega
    rw [canon_skip _ _ _ _ _ _ 0 (by show t.val < 1792 ∨ 1792 + 256 ≤ t.val; omega)]
    rw [canon_skip _ _ _ _ _ _ 0 (by show t.val < 1536 ∨ 1536 + 256 ≤ t.val; omega)]
    rw [canon_skip _ _ _ _ _ _ 0 (by show t.val < 1280 ∨ 1280 + 256 ≤ t.val; omega)]
    rw [canon_skip _ _ _ _ _ _ 0 (by show t.val < 1024 ∨ 1024 + 256 ≤ t.val; omega)]
    rw [canon_skip _ _ _ _ _ _ 0 (by show t.val < 768 ∨ 768 + 256 ≤ t.val; omega)]
    rw [canon_unit _ _ _ _ _ _ (ix2 ⟨t.val % 256, by omega⟩ d) (fun a => by
      match a with
      | ⟨0, _⟩ => show t.val = 512 + t.val % 256; omega
      | ⟨1, _⟩ => show d.val = 0 + d.val; omega), hv, piece2_at x0 x1 x2 ⟨t.val % 256, by omega⟩ d]
    exact softOut_own x0 x1 _ 2 _ (by decide)
  · have hv : t.val / 256 = 3 := by omega
    rw [canon_skip _ _ _ _ _ _ 0 (by show t.val < 1792 ∨ 1792 + 256 ≤ t.val; omega)]
    rw [canon_skip _ _ _ _ _ _ 0 (by show t.val < 1536 ∨ 1536 + 256 ≤ t.val; omega)]
    rw [canon_skip _ _ _ _ _ _ 0 (by show t.val < 1280 ∨ 1280 + 256 ≤ t.val; omega)]
    rw [canon_skip _ _ _ _ _ _ 0 (by show t.val < 1024 ∨ 1024 + 256 ≤ t.val; omega)]
    rw [canon_unit _ _ _ _ _ _ (ix2 ⟨t.val % 256, by omega⟩ d) (fun a => by
      match a with
      | ⟨0, _⟩ => show t.val = 768 + t.val % 256; omega
      | ⟨1, _⟩ => show d.val = 0 + d.val; omega), hv, piece3_at x0 x1 x2 ⟨t.val % 256, by omega⟩ d]
    exact softOut_own x0 x1 _ 3 _ (by decide)
  · have hv : t.val / 256 = 4 := by omega
    rw [canon_skip _ _ _ _ _ _ 0 (by show t.val < 1792 ∨ 1792 + 256 ≤ t.val; omega)]
    rw [canon_skip _ _ _ _ _ _ 0 (by show t.val < 1536 ∨ 1536 + 256 ≤ t.val; omega)]
    rw [canon_skip _ _ _ _ _ _ 0 (by show t.val < 1280 ∨ 1280 + 256 ≤ t.val; omega)]
    rw [canon_unit _ _ _ _ _ _ (ix2 ⟨t.val % 256, by omega⟩ d) (fun a => by
      match a with
      | ⟨0, _⟩ => show t.val = 1024 + t.val % 256; omega
      | ⟨1, _⟩ => show d.val = 0 + d.val; omega), hv, piece4_at x0 x1 x2 hi lo hhi hlo ⟨t.val % 256, by omega⟩ d]
    exact softOut_own x0 x1 _ 4 _ (by decide)
  · have hv : t.val / 256 = 5 := by omega
    rw [canon_skip _ _ _ _ _ _ 0 (by show t.val < 1792 ∨ 1792 + 256 ≤ t.val; omega)]
    rw [canon_skip _ _ _ _ _ _ 0 (by show t.val < 1536 ∨ 1536 + 256 ≤ t.val; omega)]
    rw [canon_unit _ _ _ _ _ _ (ix2 ⟨t.val % 256, by omega⟩ d) (fun a => by
      match a with
      | ⟨0, _⟩ => show t.val = 1280 + t.val % 256; omega
      | ⟨1, _⟩ => show d.val = 0 + d.val; omega), hv, piece5_at x0 x1 x2 hi lo hhi hlo ⟨t.val % 256, by omega⟩ d]
    exact softOut_own x0 x1 _ 5 _ (by decide)
  · have hv : t.val / 256 = 6 := by omega
    rw [canon_skip _ _ _ _ _ _ 0 (by show t.val < 1792 ∨ 1792 + 256 ≤ t.val; omega)]
    rw [canon_unit _ _ _ _ _ _ (ix2 ⟨t.val % 256, by omega⟩ d) (fun a => by
      match a with
      | ⟨0, _⟩ => show t.val = 1536 + t.val % 256; omega
      | ⟨1, _⟩ => show d.val = 0 + d.val; omega), hv, piece6_at x0 x1 x2 hi lo hhi hlo ⟨t.val % 256, by omega⟩ d]
    exact softOut_own x0 x1 _ 6 _ (by decide)
  · have hv : t.val / 256 = 7 := by omega
    rw [canon_unit _ _ _ _ _ _ (ix2 ⟨t.val % 256, by omega⟩ d) (fun a => by
      match a with
      | ⟨0, _⟩ => show t.val = 1792 + t.val % 256; omega
      | ⟨1, _⟩ => show d.val = 0 + d.val; omega), hv, piece7_at x0 x1 x2 hi lo hhi hlo ⟨t.val % 256, by omega⟩ d]
end

/-! ## The grid's blocks -/

theorem geo : ∀ t : Fin cfg0.N,
    (win0_0.index t 0 = t.val / 16 ∧ win0_0.index t 1 = t.val % 16) ∧ (win0_1.index t 0 = t.val / 16 ∧ win0_1.index t 1 = t.val % 16)
    ∧ (win0_2.index t 0 = t.val / 16 ∧ win0_2.index t 1 = t.val % 16) ∧ (win0_3.index t 0 = t.val / 16 ∧ win0_3.index t 1 = t.val % 16) :=
  (by decide +kernel : ∀ t : Fin grid0.N,
    (win0_0.index t 0 = t.val / 16 ∧ win0_0.index t 1 = t.val % 16) ∧ (win0_1.index t 0 = t.val / 16 ∧ win0_1.index t 1 = t.val % 16)
    ∧ (win0_2.index t 0 = t.val / 16 ∧ win0_2.index t 1 = t.val % 16) ∧ (win0_3.index t 0 = t.val / 16 ∧ win0_3.index t 1 = t.val % 16))

/-- Every entry is a number. -/
def AllReal (a : Vec Ideal S8192x2048 .bf16) : Prop := ∀ i, ∃ r : ℝ, (a i : EReal) = r

/-- Batch `b` and head `h` of an argument. -/
def head (a : Vec Ideal S8192x2048 .bf16) (b : Fin 4) (h : Fin 16) : Vec Ideal S2048x128 .bf16 := fun i =>
  a (ix2 ⟨2048 * b.val + (i 0).val, by have : (i 0).val < 2048 := (i 0).isLt; omega⟩
    ⟨128 * h.val + (i 1).val, by have : (i 1).val < 128 := (i 1).isLt; omega⟩)

/-- The whole result from the whole arguments. -/
def attnArr (a0 a1 a2 : Vec Ideal S8192x2048 .bf16) : Vec Ideal S8192x2048 .bf16 := fun i =>
  let b : Fin 4 := ⟨(i 0).val / 2048, by have : (i 0).val < 8192 := (i 0).isLt; omega⟩
  let h : Fin 16 := ⟨(i 1).val / 128, by have : (i 1).val < 2048 := (i 1).isLt; omega⟩
  headOut (head a0 b h) (head a1 b h) (head a2 b h) ((i 0).val % 2048) ⟨(i 1).val % 128, Nat.mod_lt _ (by decide)⟩

section
variable (m : (ℓ : Loc nD τ sig) → Buf (Elt Ideal) ℓ) (c : Dev nD)

theorem lt64 (t : Fin cfg0.N) : t.val < 64 := by have h := t.isLt; have : cfg0.N = 64 := N_0; omega

/-- The three input blocks of a grid point are its batch and head. -/
theorem iblk0 (t : Fin cfg0.N) : iblk m c 0 t = head (m ((c : Thread nD τ).loc main_arg0)) ⟨t.val / 16, by have := lt64 t; omega⟩ ⟨t.val % 16, by omega⟩ := by
  funext y
  have g := (geo t).1
  refine congrArg (m ((c : Thread nD τ).loc main_arg0)) (funext fun a => Fin.ext ?_)
  match a with
  | ⟨0, _⟩ => show win0_0.index t 0 * 2048 + 1 * (y 0).val = 2048 * (t.val / 16) + (y 0).val; rw [g.1]; omega
  | ⟨1, _⟩ => show win0_0.index t 1 * 128 + 1 * (y 1).val = 128 * (t.val % 16) + (y 1).val; rw [g.2]; omega

theorem iblk1 (t : Fin cfg0.N) : iblk m c 1 t = head (m ((c : Thread nD τ).loc main_arg1)) ⟨t.val / 16, by have := lt64 t; omega⟩ ⟨t.val % 16, by omega⟩ := by
  funext y
  have g := (geo t).2.1
  refine congrArg (m ((c : Thread nD τ).loc main_arg1)) (funext fun a => Fin.ext ?_)
  match a with
  | ⟨0, _⟩ => show win0_1.index t 0 * 2048 + 1 * (y 0).val = 2048 * (t.val / 16) + (y 0).val; rw [g.1]; omega
  | ⟨1, _⟩ => show win0_1.index t 1 * 128 + 1 * (y 1).val = 128 * (t.val % 16) + (y 1).val; rw [g.2]; omega

theorem iblk2 (t : Fin cfg0.N) : iblk m c 2 t = head (m ((c : Thread nD τ).loc main_arg2)) ⟨t.val / 16, by have := lt64 t; omega⟩ ⟨t.val % 16, by omega⟩ := by
  funext y
  have g := (geo t).2.2.1
  refine congrArg (m ((c : Thread nD τ).loc main_arg2)) (funext fun a => Fin.ext ?_)
  match a with
  | ⟨0, _⟩ => show win0_2.index t 0 * 2048 + 1 * (y 0).val = 2048 * (t.val / 16) + (y 0).val; rw [g.1]; omega
  | ⟨1, _⟩ => show win0_2.index t 1 * 128 + 1 * (y 1).val = 128 * (t.val % 16) + (y 1).val; rw [g.2]; omega

theorem flushed_eq (hf : AllReal (m ((c : Thread nD τ).loc main_arg1))) (t : Fin cfg0.N) :
    (dats m 0 c).flushed 3 t = ((cfg0.win 3).blk t).view.read (Elt Ideal)
      (attnArr (m ((c : Thread nD τ).loc main_arg0)) (m ((c : Thread nD τ).loc main_arg1)) (m ((c : Thread nD τ).loc main_arg2))) := by
  rw [Value.flushed3_A, iblk0, iblk1, iblk2]
  funext y
  have hy0 : (y 0).val < 2048 := (y 0).isLt
  have hy1 : (y 1).val < 128 := (y 1).isLt
  have g := (geo t).2.2.2
  have ht := lt64 t
  have e : (((cfg0.win 3).blk t).view.emb y : S8192x2048.Idx)
      = ix2 ⟨2048 * (t.val / 16) + (y 0).val, by omega⟩ ⟨128 * (t.val % 16) + (y 1).val, by omega⟩ := by
    funext a
    refine Fin.ext ?_
    match a with
    | ⟨0, _⟩ => show win0_3.index t 0 * 2048 + 1 * (y 0).val = 2048 * (t.val / 16) + (y 0).val; rw [g.1]; omega
    | ⟨1, _⟩ => show win0_3.index t 1 * 128 + 1 * (y 1).val = 128 * (t.val % 16) + (y 1).val; rw [g.2]; omega
  refine Eq.trans ?_ (Eq.trans (out_at c (grid0.coords t) (ms0_0 t) (hs0_0 t) (ms0_1 t) (hs0_1 t) (ms0_2 t) (hs0_2 t) (ms0_3 t) (hs0_3 t)
    scM0_0 (Memref.isWhole_whole _) (head (m ((c : Thread nD τ).loc main_arg0)) ⟨t.val / 16, by omega⟩ ⟨t.val % 16, by omega⟩)
      (head (m ((c : Thread nD τ).loc main_arg1)) ⟨t.val / 16, by omega⟩ ⟨t.val % 16, by omega⟩)
      (head (m ((c : Thread nD τ).loc main_arg2)) ⟨t.val / 16, by omega⟩ ⟨t.val % 16, by omega⟩) (fun i => hf _) ⟨(y 0).val, hy0⟩ ⟨(y 1).val, hy1⟩) ?_)
  · refine congrArg (out0_A_3 c (grid0.coords t) (ms0_0 t) (hs0_0 t) (ms0_1 t) (hs0_1 t) (ms0_2 t) (hs0_2 t) (ms0_3 t) (hs0_3 t)
      scM0_0 (Memref.isWhole_whole _) _ _ _) (funext fun a => Fin.ext ?_)
    match a with
    | ⟨0, _⟩ => rfl
    | ⟨1, _⟩ => rfl
  · show _ = attnArr _ _ _ (((cfg0.win 3).blk t).view.emb y)
    rw [e]
    unfold attnArr
    have h1 : (2048 * (t.val / 16) + (y 0).val) / 2048 = t.val / 16 := by omega
    have h2 : (2048 * (t.val / 16) + (y 0).val) % 2048 = (y 0).val := by omega
    have h3 : (128 * (t.val % 16) + (y 1).val) / 128 = t.val % 16 := by omega
    have h4 : (128 * (t.val % 16) + (y 1).val) % 128 = (y 1).val := by omega
    dsimp only [ix2]
    simp only [Matrix.cons_val_zero, Matrix.cons_val_one, h1, h2, h3, h4]

/-- Row `R`, column `C` belongs to batch `R / 2048` and head `C / 128`. -/
theorem cover (i : S8192x2048.Idx) : ∃ t : Fin cfg0.N, (cfg0.win 3).flush t = true ∧ i ∈ ((cfg0.win 3).blk t).view.set := by
  have h0 : (i 0 : Nat) < 8192 := (i 0).isLt
  have h1 : (i 1 : Nat) < 2048 := (i 1).isLt
  have hN : cfg0.N = 64 := N_0
  refine ⟨⟨(i 0).val / 2048 * 16 + (i 1).val / 128, by omega⟩, flush0_3 _, ?_⟩
  generalize ht : (⟨(i 0).val / 2048 * 16 + (i 1).val / 128, _⟩ : Fin cfg0.N) = t
  have hv : t.val = (i 0).val / 2048 * 16 + (i 1).val / 128 := by rw [← ht]
  have g := (geo t).2.2.2
  show i ∈ ((View.whole main_v0).slice (win0_3.rect t)).set
  rw [View.set_slice_whole, Rect.mem_set_unit]
  intro a
  match a with
  | ⟨0, _⟩ => show win0_3.index t 0 * 2048 ≤ (i 0 : Nat) ∧ (i 0 : Nat) < win0_3.index t 0 * 2048 + 2048; rw [g.1]; omega
  | ⟨1, _⟩ => show win0_3.index t 1 * 128 ≤ (i 1 : Nat) ∧ (i 1 : Nat) < win0_3.index t 1 * 128 + 128; rw [g.2]; omega

theorem final (hf : AllReal (m ((c : Thread nD τ).loc main_arg1))) :
    (dats m 0 c).arrAt 3 cfg0.N
      = attnArr (m ((c : Thread nD τ).loc main_arg0)) (m ((c : Thread nD τ).loc main_arg1)) (m ((c : Thread nD τ).loc main_arg2)) :=
  (dats m 0 c).arrAt_eq_of_cover 3 _ (fun t _ => flushed_eq m c hf t) cover

end

end Cert.Moba
-- ==== Proof.MobaChoice.lean ====
module

public import proofs.«01_k».proof.Proof.MobaKernel
public import Idealize.ShloMosaic.Lib.SortPrefix

@[expose] public section

set_option maxRecDepth 16384

noncomputable section

/-! # The first of a stable sort, as a count

The position a stable descending sort puts first, second, third is the one before which none, one, two others come. A slot that
holds a block and a block that is chosen are then the same thing. -/

namespace Cert.MobaRef

open Idealize.ShloMosaic

variable {n : Nat}

/-- Greater first, earlier first among equals. -/
def ahead (g : Fin n → EReal) (a b : Fin n) : Bool := decide (g b < g a) || (decide (g a = g b) && decide (a < b))

theorem ahead_total (g : Fin n → EReal) : StrictTotalBefore (ahead g) := by
  refine StrictTotalBefore.of_key_then_position (fun x y : EReal => decide (y < x)) g ?_ ?_ ?_
  · intro a; simp
  · intro a b c; simp only [decide_eq_true_eq]; intro h h'; exact lt_trans h' h
  · intro a b; simp only [decide_eq_true_eq]
    rcases lt_trichotomy b a with h | h | h
    · exact Or.inl h
    · exact Or.inr (Or.inl h.symm)
    · exact Or.inr (Or.inr h)

theorem stable_refine (g : Fin n → EReal) (l : List (Fin n)) (hl : l.Pairwise (· < ·)) :
    stableSort (fun a b => decide (g b < g a)) l = stableSort (ahead g) l := by
  induction l with
  | nil => rfl
  | cons a l ih =>
    rw [List.pairwise_cons] at hl
    unfold stableSort
    rw [ih hl.2]
    refine insertBefore_congr _ _ _ _ fun b hb => ?_
    have hab : a < b := hl.1 b ((perm_stableSort _ _).mem_iff.mp hb)
    unfold ahead
    simp [not_lt.mpr hab.le]

/-- Where the sorted positions come from. -/
def pos (g : Fin n → EReal) : Fin n → Fin n := sortedFrom (ahead g)

theorem sorted_eq_pos (R : Fin n → Fin n → Bool) (g : Fin n → EReal) (h : ∀ a b, R a b = decide (g b < g a)) :
    sortedFrom R = pos g := by
  have e : R = fun a b => decide (g b < g a) := by funext a b; exact h a b
  subst e
  funext k
  unfold pos sortedFrom
  rw [List.get_of_eq (show sortPositions n (fun a b => decide (g b < g a)) = sortPositions n (ahead g) from
    stable_refine g _ (List.pairwise_lt_finRange n))]
  rfl

theorem pos_injective (g : Fin n → EReal) : Function.Injective (pos g) := sortedFrom_injective _

theorem pos_ahead (g : Fin n → EReal) (i j : Fin n) : ahead g (pos g i) (pos g j) = decide (i < j) := by
  have hB := ahead_total g
  have hno := sortedFrom_noInversion (ahead g) (ahead g) (fun a b h => hB.asymm a b h) (fun _ _ h => h) hB.negTrans
  rcases lt_trichotomy i j with h | h | h
  · have hne : pos g i ≠ pos g j := fun e => h.ne (pos_injective g e)
    have hji := hno i j h
    rcases hB.total _ _ hne with h' | h'
    · simp [h', h]
    · exact absurd (h'.symm.trans hji) (by decide)
  · subst h; simp [hB.irrefl]
  · have := hno j i h
    rw [show ahead g (pos g i) (pos g j) = false from this]
    simp [not_lt.mpr h.le]

theorem card_ahead (g : Fin n → EReal) (p : Fin n) :
    (Finset.univ.filter fun m => ahead g m (pos g p) = true).card = p.val := by
  have hb : Function.Bijective (pos g) := ⟨pos_injective g, sortedFrom_surjective _⟩
  have : (Finset.univ.filter fun m => ahead g m (pos g p) = true)
      = (Finset.univ.filter fun i => i < p).map ⟨pos g, pos_injective g⟩ := by
    ext m
    obtain ⟨i, rfl⟩ := hb.2 m
    simp only [Finset.mem_filter, Finset.mem_univ, true_and, Finset.mem_map, Function.Embedding.coeFn_mk, pos_ahead,
      decide_eq_true_eq]
    constructor
    · intro h; exact ⟨i, h, rfl⟩
    · rintro ⟨i', h, e⟩; rw [← pos_injective g e]; exact h
  rw [this, Finset.card_map]
  have : (Finset.univ.filter fun i => i < p) = Finset.Iio p := by ext i; simp
  rw [this, Fin.card_Iio]

/-- A position is among the first `k` exactly if fewer than `k` come before it. -/
theorem chosen_iff (g : Fin n → EReal) (k : Nat) (m : Fin n) :
    (∃ i : Fin n, i.val < k ∧ pos g i = m) ↔ (Finset.univ.filter fun a => ahead g a m = true).card < k := by
  obtain ⟨i, rfl⟩ := (sortedFrom_surjective (ahead g)) m
  rw [show sortedFrom (ahead g) i = pos g i from rfl, card_ahead]
  constructor
  · rintro ⟨i', h, e⟩; rw [← pos_injective g e]; exact h
  · intro h; exact ⟨i, h, rfl⟩

open Cert.Moba

/-- The gate with later blocks taken out. -/
def gmask (f : Nat → EReal) (own : Nat) (j : Fin n) : EReal := if j.val < own then f j.val else ⊥

theorem card_gmask (f : Nat → EReal) (own : Nat) (hown : own ≤ n) (hf : ∀ j, f j ≠ ⊥) (m : Fin n) (hm : m.val < own) :
    (Finset.univ.filter fun a : Fin n => ahead (gmask f own) a m = true).card = cnt f own m.val := by
  have e : cnt f own m.val = ((Finset.range own).filter fun a => f m.val < f a ∨ (f a = f m.val ∧ a < m.val)).card := by
    unfold cnt
    rw [List.countP_eq_length_filter, ← List.toFinset_card_of_nodup (List.nodup_range.filter _)]
    congr 1
    ext a; simp
  rw [e]
  refine Finset.card_bij (fun a _ => a.val) ?_ (fun a _ b _ h => Fin.ext h) ?_
  · intro a ha
    simp only [Finset.mem_filter, Finset.mem_univ, true_and, ahead, gmask, hm, if_true, Bool.or_eq_true, Bool.and_eq_true,
      decide_eq_true_eq] at ha
    simp only [Finset.mem_filter, Finset.mem_range]
    by_cases h : a.val < own
    · simp only [h, if_true] at ha; exact ⟨h, ha⟩
    · simp only [h, if_false] at ha
      rcases ha with ha | ha
      · exact absurd ha not_lt_bot
      · exact absurd ha.1.symm (hf _)
  · intro a ha
    simp only [Finset.mem_filter, Finset.mem_range] at ha
    refine ⟨⟨a, lt_of_lt_of_le ha.1 hown⟩, ?_, rfl⟩
    simp only [Finset.mem_filter, Finset.mem_univ, true_and, ahead, gmask, hm, if_true, ha.1, Bool.or_eq_true,
      Bool.and_eq_true, decide_eq_true_eq]
    exact ha.2

theorem cnt_lt (f : Nat → EReal) (own m : Nat) (hm : m < own) : cnt f own m < own := by
  have e : cnt f own m = ((Finset.range own).filter fun a => f m < f a ∨ (f a = f m ∧ a < m)).card := by
    unfold cnt
    rw [List.countP_eq_length_filter, ← List.toFinset_card_of_nodup (List.nodup_range.filter _)]
    congr 1
    ext a; simp
  rw [e]
  calc _ < (Finset.range own).card := Finset.card_lt_card (by
        rw [Finset.filter_ssubset]
        exact ⟨m, Finset.mem_range.mpr hm, by simp⟩)
    _ = own := Finset.card_range own

/-- An earlier block is chosen for a slot exactly if the kernel keeps it. -/
theorem kept_iff (f : Nat → EReal) (own : Nat) (hown : own ≤ 8) (hf : ∀ j, f j ≠ ⊥) (m : Fin 8) (hm : m.val < own) :
    (∃ i : Fin 8, i.val < 3 ∧ pos (gmask f own) i = m) ↔ (own ≤ 3 ∨ cnt f own m.val < 3) := by
  rw [chosen_iff, card_gmask f own hown hf m hm]
  constructor
  · exact Or.inr
  · rintro (h | h)
    · exact lt_of_lt_of_le (cnt_lt f own m.val hm) h
    · exact h

/-! ## Slots and blocks -/

variable (σ : Fin 4 → Nat) (ok : Fin 4 → Prop) [DecidablePred ok] (w : Nat → Fin 256 → EReal)

theorem slots_sum (hlt : ∀ i, ok i → σ i < 8) (hinj : ∀ i j, ok i → ok j → σ i = σ j → i = j)
    (hbot : ∀ j < 8, (∀ i, ok i → σ i ≠ j) → ∀ c, w j c = ⊥) (F : EReal → Nat → Fin 256 → EReal) (hF : ∀ j c, F ⊥ j c = 0) :
    (∑ i : Fin 4, ∑ c : Fin 256, F (if ok i then w (σ i) c else ⊥) (σ i) c) = ∑ j ∈ Finset.range 8, ∑ c : Fin 256, F (w j c) j c := by
  have h1 : (∑ i : Fin 4, ∑ c : Fin 256, F (if ok i then w (σ i) c else ⊥) (σ i) c)
      = ∑ i ∈ Finset.univ.filter ok, ∑ c : Fin 256, F (w (σ i) c) (σ i) c := by
    rw [Finset.sum_filter]
    refine Finset.sum_congr rfl fun i _ => ?_
    by_cases h : ok i
    · simp [h]
    · simp [h, hF]
  have h2 : (∑ j ∈ (Finset.univ.filter ok).image σ, ∑ c : Fin 256, F (w j c) j c)
      = ∑ i ∈ Finset.univ.filter ok, ∑ c : Fin 256, F (w (σ i) c) (σ i) c := by
    rw [Finset.sum_image]
    intro i hi j hj e
    exact hinj i j (by simpa using hi) (by simpa using hj) e
  rw [h1, ← h2]
  refine Finset.sum_subset ?_ ?_
  · intro j hj
    obtain ⟨i, hi, rfl⟩ := Finset.mem_image.mp hj
    exact Finset.mem_range.mpr (hlt i (by simpa using hi))
  · intro j hj hn
    refine Finset.sum_eq_zero fun c _ => ?_
    rw [hbot j (Finset.mem_range.mp hj) (fun i hi e => hn (Finset.mem_image.mpr ⟨i, by simpa using hi, e⟩)) c, hF]

theorem slots_sup (hlt : ∀ i, ok i → σ i < 8) (hbot : ∀ j < 8, (∀ i, ok i → σ i ≠ j) → ∀ c, w j c = ⊥) :
    ((Finset.univ : Finset (Fin 4)).sup fun i => (Finset.univ : Finset (Fin 256)).sup fun c => if ok i then w (σ i) c else ⊥)
      = (Finset.range 8).sup fun j => Finset.univ.sup (w j) := by
  apply le_antisymm
  · refine Finset.sup_le fun i _ => Finset.sup_le fun c _ => ?_
    by_cases h : ok i
    · rw [if_pos h]
      exact le_trans (Finset.le_sup (f := w (σ i)) (Finset.mem_univ c))
        (Finset.le_sup (f := fun j => Finset.univ.sup (w j)) (Finset.mem_range.mpr (hlt i h)))
    · rw [if_neg h]; exact bot_le
  · refine Finset.sup_le fun j hj => Finset.sup_le fun c _ => ?_
    by_cases h : ∃ i, ok i ∧ σ i = j
    · obtain ⟨i, hi, rfl⟩ := h
      refine le_trans ?_ (Finset.le_sup (f := fun i => (Finset.univ : Finset (Fin 256)).sup fun c => if ok i then w (σ i) c else ⊥)
        (Finset.mem_univ i))
      refine le_trans (le_of_eq ?_) (Finset.le_sup (f := fun c => if ok i then w (σ i) c else ⊥) (Finset.mem_univ c))
      rw [if_pos hi]
    · rw [hbot j (Finset.mem_range.mp hj) (fun i hi e => h ⟨i, hi, e⟩) c]; exact bot_le

/-! ## Dividing before or after the weighted sum -/

theorem exp_nonneg' (x : EReal) : 0 ≤ Ideal.exp x := by
  induction x with
  | bot => exact le_refl _
  | top => exact le_top
  | coe r => exact EReal.coe_nonneg.mpr (Real.exp_pos r).le

theorem sum_mul_right {ι : Type} (s : Finset ι) (f : ι → EReal) (y : EReal) (h0 : 0 ≤ y) (ht : y ≠ ⊤) :
    (∑ i ∈ s, f i * y) = (∑ i ∈ s, f i) * y := by
  classical
  induction s using Finset.induction_on with
  | empty => simp
  | insert a s ha ih => rw [Finset.sum_insert ha, Finset.sum_insert ha, ih, EReal.right_distrib_of_nonneg_of_ne_top h0 ht]

theorem div_sum {ι κ : Type} (s : Finset ι) (u : Finset κ) (e v : ι → κ → EReal) (L : EReal) (hL : 0 < L) :
    (∑ i ∈ s, ∑ k ∈ u, Ideal.div (e i k) L * v i k) = Ideal.div (∑ i ∈ s, ∑ k ∈ u, e i k * v i k) L := by
  have hn : 0 ≤ L⁻¹ := EReal.inv_nonneg_of_nonneg hL.le
  have ht : L⁻¹ ≠ ⊤ := by
    induction L with
    | bot => exact absurd hL not_lt_bot
    | top => simp
    | coe r => rw [← EReal.coe_inv]; exact EReal.coe_ne_top _
  unfold Ideal.div
  simp only [if_neg hL.ne']
  rw [← sum_mul_right _ _ _ hn ht]
  refine Finset.sum_congr rfl fun i _ => ?_
  rw [← sum_mul_right _ _ _ hn ht]
  refine Finset.sum_congr rfl fun k _ => ?_
  rw [mul_assoc, mul_comm (L⁻¹), ← mul_assoc]

/-- The exponentials' sum is positive when a score is a number and none is `+∞`. -/
theorem sum_exp_pos (w : Nat → Fin 256 → EReal) (j₀ : Nat) (hj : j₀ < 8) (c₀ : Fin 256) (r : ℝ) (hr : w j₀ c₀ = r)
    (hw : ∀ j c, w j c ≠ ⊤) :
    0 < ∑ j ∈ Finset.range 8, ∑ c : Fin 256, Ideal.exp (w j c - (Finset.range 8).sup fun j => Finset.univ.sup (w j)) := by
  have hM : ((Finset.range 8).sup fun j => Finset.univ.sup (w j)) < ⊤ := by
    rw [Finset.sup_lt_iff (by simp)]
    intro j _
    rw [Finset.sup_lt_iff (by simp)]
    intro c _
    exact lt_top_iff_ne_top.mpr (hw j c)
  have hle : w j₀ c₀ ≤ (Finset.range 8).sup fun j => Finset.univ.sup (w j) :=
    le_trans (Finset.le_sup (f := w j₀) (Finset.mem_univ c₀)) (Finset.le_sup (f := fun j => Finset.univ.sup (w j)) (Finset.mem_range.mpr hj))
  generalize ((Finset.range 8).sup fun j => Finset.univ.sup (w j)) = M at hM hle
  have h1 : 0 < Ideal.exp (w j₀ c₀ - M) := by
    rw [hr] at hle ⊢
    induction M with
    | bot => exact absurd (le_bot_iff.mp hle) (EReal.coe_ne_bot r)
    | top => exact absurd hM (lt_irrefl _)
    | coe s => rw [← EReal.coe_sub]; exact EReal.coe_pos.mpr (Real.exp_pos _)
  refine lt_of_lt_of_le h1 ?_
  refine le_trans (Finset.single_le_sum (f := fun c => Ideal.exp (w j₀ c - M)) (fun c _ => exp_nonneg' _) (Finset.mem_univ c₀)) ?_
  exact Finset.single_le_sum (f := fun j => ∑ c : Fin 256, Ideal.exp (w j c - M))
    (fun j _ => Finset.sum_nonneg fun c _ => exp_nonneg' _) (Finset.mem_range.mpr hj)

end Cert.MobaRef
-- ==== Proof.MobaRefIndex.lean ====
module

public import proofs.«01_k».proof.Proof.MobaRefArrays
public import proofs.«01_k».proof.Proof.MobaChoice
public import Idealize.ShloMosaic.Lib.Pointwise

@[expose] public section

set_option maxRecDepth 16384

noncomputable section

/-! # The reference's arrays, read at an index -/

namespace Cert.MobaRef

open Cert.ReferenceIdeal Cert.ReferenceIdeal.Gen Idealize.ShloMosaic Idealize.ShloMosaic.TcCoe

set_option maxHeartbeats 400000

variable (b : Fin 4) (h : Fin 16) (t : Fin 2048) (n : Fin 8) (i : Fin 4) (c : Fin 256) (d : Fin 128)

theorem rown_at : rown (ix1 t) = BitVec.ofNat 32 (t.val / 256) := by
  have : ∀ t : Fin 2048, rown (ix1 t) = BitVec.ofNat 32 (t.val / 256) := by decide +kernel
  exact this t

theorem rq_at (a : FVec Ideal S8192x2048 .bf16) : rq a (ix4 b h t d) = Cert.Moba.xat (Cert.Moba.head a b h) t.val d := by
  rw [← Cert.Moba.xat_of_lt _ _ t.isLt]
  unfold rq Cert.Moba.head
  pointwise
  simp only [Nat.mul_comm]

theorem rb_at (a : FVec Ideal S8192x2048 .bf16) :
    rb a (ix5 b h n c d) = Cert.Moba.xat (Cert.Moba.head a b h) (256 * n.val + c.val) d := by
  rw [← Cert.Moba.xat_of_lt _ _ (by have := n.isLt; have := c.isLt; omega)]
  unfold rb Cert.Moba.head
  pointwise
  simp only [Nat.mul_comm, Nat.add_assoc]

theorem fold_max_eq_sup {ι : Type} (s : Finset ι) (f : ι → EReal) : s.fold max ⊥ f = s.sup f := rfl

theorem hostMax_last {n0 n1 n2 n3 : Nat} {u : Shape} (x : (⟨4, ![n0, n1, n2, n3]⟩ : Shape).Idx → EReal) (init : u.Idx → EReal)
    (hr : (⟨4, ![n0, n1, n2, n3]⟩ : Shape).ReducesTo [3] ⟨3, ![n0, n1, n2]⟩) (hu : 0 < u.numel) (hi : init (Shape.Idx.first hu) = ⊥)
    (a : Fin n0) (b : Fin n1) (c : Fin n2) :
    Host.reduce max x init hr hu (ix3 a b c) = (Finset.univ : Finset (Fin n3)).sup fun k => x (ix4 a b c k) := by
  rw [Host.reduce_eq_fold, Shape.ReducesTo.fold_fiber_r4_a3, hi, fold_max_eq_sup]
  rfl

theorem rmax_at (s : FVec Ideal S4x16x2048x1024 .f32) : rmax s (ix3 b h t) = (Finset.univ : Finset (Fin 1024)).sup fun k => s (ix4 b h t k) := by
  have hi : (constant S_ .f32 0xFF800000#32 : FVec Ideal S_ .f32) (Shape.Idx.first h_S_) = (⊥ : EReal) := by
    rw [constant_apply]; exact Cert.Moba.ofBits_bot
  have e := hostMax_last (n0 := 4) (n1 := 16) (n2 := 2048) (n3 := 1024) (u := S_) s (constant S_ .f32 0xFF800000#32 : FVec Ideal S_ .f32)
    reducesTo_S4x16x2048x1024_S4x16x2048_d3 h_S_ hi b h t
  rw [← e]
  unfold rmax
  rw [maximumf_apply, Ideal.maximumf_eq_max]
  rw [show broadcastInDim S4x16x2048 ![] bcast_S_S4x16x2048 (constant S_ .f32 0xFF800000#32 : FVec Ideal S_ .f32) (ix3 b h t) = (⊥ : EReal) from by
    pointwise; exact Cert.Moba.ofBits_bot]
  exact max_eq_right bot_le

theorem rgath_at (x : FVec Ideal S4x16x8x256x128 .f32) (gi : IVec S4x16x2048x4x3 32)
   (h0 : gi (ix5 b h t i 0) = BitVec.ofNat 32 b.val) (h1 : gi (ix5 b h t i 1) = BitVec.ofNat 32 h.val) (h2 : gi (ix5 b h t i 2) = BitVec.ofNat 32 n.val) :
   rgath x gi (ix6 b h t i c d) = x (ix5 b h n c d) := by
  unfold rgath Host.gather
  refine congrArg x (funext fun a => Fin.ext ?_)
  set D := gather_S4x16x8x256x128_S4x16x2048x4x3_S4x16x2048x4x256x128_45_012_n_n_012_4_111256128 with hD
  have s0 : D.siIdx (ix6 b h t i c d) ⟨0, by decide⟩ = ix5 b h t i 0 := by
    funext z; apply Fin.ext; fin_cases z <;> rfl
  have s1 : D.siIdx (ix6 b h t i c d) ⟨1, by decide⟩ = ix5 b h t i 1 := by
    funext z; apply Fin.ext; fin_cases z <;> rfl
  have s2 : D.siIdx (ix6 b h t i c d) ⟨2, by decide⟩ = ix5 b h t i 2 := by
    funext z; apply Fin.ext; fin_cases z <;> rfl
  match a with
  | ⟨0, _⟩ =>
    show min (gi (D.siIdx (ix6 b h t i c d) ⟨0, by decide⟩)).toInt.toNat 3 + 0 + 0 = b.val
    rw [s0, h0, Cert.Moba.toInt_ofNat _ (by omega)]; omega
  | ⟨1, _⟩ =>
    show min (gi (D.siIdx (ix6 b h t i c d) ⟨1, by decide⟩)).toInt.toNat 15 + 0 + 0 = h.val
    rw [s1, h1, Cert.Moba.toInt_ofNat _ (by omega)]; omega
  | ⟨2, _⟩ =>
    show min (gi (D.siIdx (ix6 b h t i c d) ⟨2, by decide⟩)).toInt.toNat 7 + 0 + 0 = n.val
    rw [s2, h2, Cert.Moba.toInt_ofNat _ (by omega)]; omega
  | ⟨3, _⟩ => show 0 + 0 + c.val = c.val; omega
  | ⟨4, _⟩ => show 0 + 0 + d.val = d.val; omega

theorem inv256_eq : Ideal.ofBits .f32 0x43800000#32 = ((256 : ℝ) : EReal) ∧ Cert.Moba.inv256 = (((256 : ℝ)⁻¹ : ℝ) : EReal) := by
  constructor
  · simp [Ideal.ofBits, Ideal.ieee]
    rw [← EReal.coe_mul]; norm_num
  · simp [Cert.Moba.inv256, Ideal.ofBits, Ideal.ieee]
    rw [← EReal.coe_mul]; norm_num

theorem rmean_at (a : FVec Ideal S8192x2048 .bf16) : rmean (rb a) (ix4 b h n d) = Cert.Moba.kmean (Cert.Moba.head a b h) n.val d := by
  unfold rmean
  pointwise
  unfold Cert.Moba.kmean
  simp only [rb_at]
  rw [inv256_eq.1, inv256_eq.2]
  unfold Ideal.div
  rw [if_neg (by norm_num), EReal.coe_inv]

theorem rgate_at (a0 a1 : FVec Ideal S8192x2048 .bf16) : rgate (rq a0) (rmean (rb a1)) (ix4 b h t n)
    = Cert.Moba.gt (Cert.Moba.head a0 b h) (Cert.Moba.head a1 b h) (t.val / 256) (t.val % 256) n.val := by
  unfold rgate
  pointwise
  unfold Cert.Moba.gt
  simp only [rq_at, rmean_at, Nat.div_add_mod]

theorem rgm_at (a0 a1 : FVec Ideal S8192x2048 .bf16) : rgmOf a0 a1 (ix4 b h t n)
    = gmask (Cert.Moba.gt (Cert.Moba.head a0 b h) (Cert.Moba.head a1 b h) (t.val / 256) (t.val % 256)) (t.val / 256) n := by
  unfold rgmOf rgm rpast
  pointwise
  rw [rown_at, rgate_at, Cert.Moba.cmpi_slt_ofNat _ _ (by omega) (by omega), Cert.Moba.sel_ofBool]
  unfold gmask
  simp only [decide_eq_true_eq, id, constant_apply]
  rw [show FloatOps.ofBits (F := Ideal) FTy.f32 4286578688#32 = (⊥ : EReal) from Cert.Moba.ofBits_bot]

theorem beq_ofBool (p : Bool) : (BitVec.ofBool p == 1#1) = p := by cases p <;> rfl

theorem rtop_at (g : FVec Ideal S4x16x2048x8 .f32) (p : Fin 3) :
    (rtop g).1 (ix4 b h t p) = g (ix4 b h t (pos (fun n => g (ix4 b h t n)) ⟨p.val, by omega⟩))
    ∧ (rtop g).2 (ix4 b h t p) = BitVec.ofNat 32 (pos (fun n => g (ix4 b h t n)) ⟨p.val, by omega⟩).val := by
  let j : S4x16x2048x8.Idx := fun a => ⟨0 + ((ix4 b h t p : S4x16x2048x3.Idx) (a.cast rfl)).val, by fin_cases a <;> simp [ix4] <;> omega⟩
  have hal : ∀ k : Fin 8, j.along (3 : Fin 4) k = ix4 b h t k := by
    intro k; funext a; apply Fin.ext
    match a with
    | ⟨0, _⟩ => exact Nat.zero_add _
    | ⟨1, _⟩ => exact Nat.zero_add _
    | ⟨2, _⟩ => exact Nat.zero_add _
    | ⟨3, _⟩ => rfl
  have hj : j (3 : Fin 4) = (⟨p.val, by omega⟩ : Fin 8) := Fin.ext (by show 0 + p.val = p.val; omega)
  have key : ∀ (L : Fin 8 → S4x16x2048x8.Idx) (q : Fin 8), (∀ k, L k = ix4 b h t k) → q = ⟨p.val, by omega⟩ →
      L (sortedFrom (fun k k' : Fin 8 => FloatOps.cmpfTotal (F := Ideal) (φ := .f32) .gt (g (L k)) (g (L k')) == 1#1) q)
      = ix4 b h t (pos (fun n => g (ix4 b h t n)) ⟨p.val, by omega⟩) := by
    intro L q hL hq
    have : L = fun k => ix4 b h t k := funext hL
    subst this hq
    exact congrArg (ix4 b h t) (congrFun (sorted_eq_pos _ _ fun a b => beq_ofBool _) _)
  have k' := key (fun k => j.along (3 : Fin 4) k) (j (3 : Fin 4)) hal hj
  constructor
  · exact congrArg g k'
  · exact congrArg (fun z : S4x16x2048x8.Idx => BitVec.ofNat 32 (z 3).val) k'

end Cert.MobaRef
-- ==== Proof.MobaRefValue.lean ====
module

public import proofs.«01_k».proof.Proof.MobaRefIndex

@[expose] public section

set_option maxRecDepth 16384

noncomputable section

/-! # The reference's result

Four slots of 256 keys each: the three best earlier blocks, then the query's own. Summed over its slots the reference's softmax is
the softmax over the kept keys of all eight blocks, which is the kernel's. -/

namespace Cert.MobaRef

open Cert.ReferenceIdeal Cert.ReferenceIdeal.Gen Idealize.ShloMosaic Idealize.ShloMosaic.TcCoe
open Cert.Moba (xat head gt sc msk vat softOut AllReal cnt attnArr headOut scl)

set_option maxHeartbeats 400000

variable (a0 a1 a2 : FVec Ideal S8192x2048 .bf16) (b : Fin 4) (h : Fin 16) (t : Fin 2048)

/-- The gate of the query's earlier blocks. -/
def gOf (j : Nat) : EReal := gt (head a0 b h) (head a1 b h) (t.val / 256) (t.val % 256) j

/-- The block of a slot. -/
def slot (i : Fin 4) : Fin 8 :=
  if hi : i.val < 3 then pos (gmask (gOf a0 a1 b h t) (t.val / 256)) ⟨i.val, by omega⟩ else ⟨t.val / 256, by omega⟩

/-- Whether a slot holds a block. -/
def slotOk (i : Fin 4) : Prop := i.val < 3 → (slot a0 a1 b h t i).val < t.val / 256

instance : DecidablePred (slotOk a0 a1 b h t) := fun i => by unfold slotOk; infer_instance

theorem gm_fun : (fun n => rgmOf a0 a1 (ix4 b h t n)) = gmask (gOf a0 a1 b h t) (t.val / 256) := by
  funext n; exact rgm_at b h t n a0 a1

theorem ridx_at (i : Fin 4) : ridxOf a0 a1 (ix4 b h t i) = BitVec.ofNat 32 (slot a0 a1 b h t i).val := by
  unfold ridxOf ridx
  pointwise
  unfold slot
  split
  · rename_i hi
    rw [(rtop_at b h t _ ⟨i.val, hi⟩).2, gm_fun]
  · rw [rown_at]

theorem rok_at (hg : ∀ j, gOf a0 a1 b h t j ≠ ⊥) (i : Fin 4) :
    rok (rtop (rgmOf a0 a1)).1 (ix4 b h t i) = BitVec.ofBool (decide (slotOk a0 a1 b h t i)) := by
  unfold rok
  pointwise
  by_cases hi : i.val < 3
  · have hs : slot a0 a1 b h t i = pos (gmask (gOf a0 a1 b h t) (t.val / 256)) ⟨i.val, by omega⟩ := by unfold slot; rw [dif_pos hi]
    rw [dif_pos hi, (rtop_at b h t _ ⟨i.val, hi⟩).1, Cert.Moba.ofBits_bot, gm_fun]
    refine congrArg BitVec.ofBool (decide_eq_decide.mpr ?_)
    unfold slotOk
    rw [hs, rgm_at]
    generalize pos (gmask (gOf a0 a1 b h t) (t.val / 256)) ⟨i.val, by omega⟩ = p
    unfold gmask
    constructor
    · intro hh _; by_contra hc; rw [if_neg hc] at hh; exact lt_irrefl _ hh
    · intro hh; rw [if_pos (hh hi)]; exact bot_lt_iff_ne_bot.mpr (hg _)
  · rw [dif_neg hi, decide_eq_true (show slotOk a0 a1 b h t i from fun hh => absurd hh hi)]; rfl

theorem rgi_at (i : Fin 4) : rgi (ridxOf a0 a1) (ix5 b h t i 0) = BitVec.ofNat 32 b.val
    ∧ rgi (ridxOf a0 a1) (ix5 b h t i 1) = BitVec.ofNat 32 h.val
    ∧ rgi (ridxOf a0 a1) (ix5 b h t i 2) = BitVec.ofNat 32 (slot a0 a1 b h t i).val := by
  have wrap : ∀ (k w : Nat), k < 2 ^ 31 → Scalar.select (IntOp.cmpi .slt (BitVec.ofNat 32 k) 0#32) (IntOp.addi (BitVec.ofNat 32 k) (BitVec.ofNat 32 w))
      (BitVec.ofNat 32 k) = BitVec.ofNat 32 k := by
    intro k w hk
    rw [show (0#32 : BitVec 32) = BitVec.ofNat 32 0 from rfl, Cert.Moba.cmpi_slt_ofNat _ _ hk (by norm_num), Cert.Moba.sel_ofBool]
    simp
  refine ⟨?_, ?_, ?_⟩
  · unfold rgi rbi rhi rni
    pointwise
    exact wrap _ 4 (by omega)
  · unfold rgi rbi rhi rni
    pointwise
    exact wrap _ 16 (by omega)
  · unfold rgi rbi rhi rni
    pointwise
    rw [ridx_at]
    exact wrap _ 8 (by omega)

theorem rgath_of (a : FVec Ideal S8192x2048 .bf16) (i : Fin 4) (c : Fin 256) (d : Fin 128) :
    rgath (rb a) (rgi (ridxOf a0 a1)) (ix6 b h t i c d) = xat (head a b h) (256 * (slot a0 a1 b h t i).val + c.val) d := by
  obtain ⟨h0, h1, h2⟩ := rgi_at a0 a1 b h t i
  rw [rgath_at b h t (slot a0 a1 b h t i) i c d _ _ h0 h1 h2, rb_at]

/-- The masked score of a slot's key. -/
theorem score_of (hg : ∀ j, gOf a0 a1 b h t j ≠ ⊥) (i : Fin 4) (c : Fin 256) :
    rms (rmask (rok (rtop (rgmOf a0 a1)).1) (ridxOf a0 a1)) (rq a0) (rgath (rb a1) (rgi (ridxOf a0 a1))) (ix5 b h t i c)
      = if slotOk a0 a1 b h t i then msk (head a0 b h) (head a1 b h) (t.val / 256) (t.val % 256) (slot a0 a1 b h t i).val c else ⊥ := by
  have hm : rmask (rok (rtop (rgmOf a0 a1)).1) (ridxOf a0 a1) (ix5 b h t i c)
      = BitVec.ofBool (decide (slotOk a0 a1 b h t i) && decide (256 * (slot a0 a1 b h t i).val + c.val ≤ t.val)) := by
    unfold rmask
    pointwise
    rw [rok_at a0 a1 b h t hg, ridx_at]
    have e : IntOp.addi (IntOp.muli (BitVec.ofNat 32 (slot a0 a1 b h t i).val) 256#32) (BitVec.ofNat 32 c.val)
        = BitVec.ofNat 32 (256 * (slot a0 a1 b h t i).val + c.val) := by
      show BitVec.ofNat 32 _ * BitVec.ofNat 32 256 + BitVec.ofNat 32 _ = _
      rw [← BitVec.ofNat_mul, ← BitVec.ofNat_add, Nat.mul_comm]
    rw [e, Cert.Moba.cmpi_sle_ofNat _ _ (by omega) (by omega), Cert.Moba.andi_ofBool']
  unfold rms
  pointwise
  rw [hm, Cert.Moba.sel_ofBool]
  simp only [rq_at, rgath_of, constant_apply, id]
  rw [show FloatOps.ofBits (F := Ideal) FTy.f32 4286578688#32 = (⊥ : EReal) from Cert.Moba.ofBits_bot]
  have hs : (∑ x : Fin 128, xat (head a0 b h) t.val x * xat (head a1 b h) (256 * (slot a0 a1 b h t i).val + c.val) x) * Ideal.ofBits .f32 1035273459#32
      = sc (head a0 b h) (head a1 b h) (t.val / 256) (t.val % 256) (slot a0 a1 b h t i).val c := by
    unfold sc scl
    rw [Nat.div_add_mod]
  rw [hs]
  by_cases hok : slotOk a0 a1 b h t i
  · simp only [hok, decide_true, Bool.true_and, decide_eq_true_eq, if_true]
    unfold msk
    by_cases hi : i.val < 3
    · have hlt : (slot a0 a1 b h t i).val < t.val / 256 := hok hi
      have hk : t.val / 256 ≤ 3 ∨ cnt (gt (head a0 b h) (head a1 b h) (t.val / 256) (t.val % 256)) (t.val / 256) (slot a0 a1 b h t i).val < 3 := by
        refine (kept_iff (gOf a0 a1 b h t) (t.val / 256) (by omega) hg _ hlt).mp ⟨⟨i.val, by omega⟩, hi, ?_⟩
        unfold slot; rw [dif_pos hi]
      rw [if_pos (by omega), if_neg hlt.ne, if_pos ⟨hlt, hk⟩]
    · have he : (slot a0 a1 b h t i).val = t.val / 256 := by unfold slot; rw [dif_neg hi]
      rw [he, if_pos rfl]
      refine if_congr ?_ rfl rfl
      omega
  · simp [hok]

theorem slot_inj (i j : Fin 4) (hi : slotOk a0 a1 b h t i) (hj : slotOk a0 a1 b h t j)
    (e : (slot a0 a1 b h t i).val = (slot a0 a1 b h t j).val) : i = j := by
  have own : ∀ k : Fin 4, ¬ k.val < 3 → (slot a0 a1 b h t k).val = t.val / 256 := fun k hk => by unfold slot; rw [dif_neg hk]
  by_cases h1 : i.val < 3 <;> by_cases h2 : j.val < 3
  · have e' : slot a0 a1 b h t i = slot a0 a1 b h t j := Fin.ext e
    unfold slot at e'
    rw [dif_pos h1, dif_pos h2] at e'
    have := pos_injective _ e'
    simpa [Fin.ext_iff] using this
  · have := hi h1; rw [e, own j h2] at this; exact absurd this (lt_irrefl _)
  · have := hj h2; rw [← e, own i h1] at this; exact absurd this (lt_irrefl _)
  · omega

theorem slot_cover (hg : ∀ j, gOf a0 a1 b h t j ≠ ⊥) (j : Nat) (hj : j < 8)
    (hn : ∀ i, slotOk a0 a1 b h t i → (slot a0 a1 b h t i).val ≠ j) (c : Fin 256) :
    msk (head a0 b h) (head a1 b h) (t.val / 256) (t.val % 256) j c = ⊥ := by
  unfold msk
  have h3 : (slot a0 a1 b h t 3).val = t.val / 256 := rfl
  rw [if_neg (fun e => hn 3 (fun h => absurd h (by decide)) (by rw [h3, e]))]
  rw [if_neg]
  rintro ⟨hlt, hk⟩
  obtain ⟨i, hi, he⟩ := (kept_iff (gOf a0 a1 b h t) (t.val / 256) (by omega) hg ⟨j, hj⟩ hlt).mpr hk
  have hs : slot a0 a1 b h t ⟨i.val, by omega⟩ = ⟨j, hj⟩ := by unfold slot; rw [dif_pos hi]; exact he
  exact hn ⟨i.val, by omega⟩ (fun _ => by rw [hs]; exact hlt) (by rw [hs])

/-! ## The softmax -/

/-- A number below 1024 as a slot and a key of it. -/
def flat : Fin 4 × Fin 256 ≃ Fin 1024 := finProdFinEquiv

theorem flat_val (i : Fin 4) (c : Fin 256) : (flat (i, c)) = ⟨i.val * 256 + c.val, by omega⟩ := by
  apply Fin.ext; show c.val + 256 * i.val = i.val * 256 + c.val; omega

theorem rflat_at (s : FVec Ideal S4x16x2048x4x256 .f32) (i : Fin 4) (c : Fin 256) :
    rflat s (ix4 b h t ⟨i.val * 256 + c.val, by omega⟩) = s (ix5 b h t i c) := by
  unfold rflat
  pointwise

theorem rexp_at (s : FVec Ideal S4x16x2048x1024 .f32) (k : Fin 1024) :
    rexp s (ix4 b h t k) = Ideal.exp (s (ix4 b h t k) - (Finset.univ : Finset (Fin 1024)).sup fun k => s (ix4 b h t k)) := by
  unfold rexp rrow
  pointwise
  rw [rmax_at]

theorem rsoft_at (e : FVec Ideal S4x16x2048x1024 .f32) (i : Fin 4) (c : Fin 256) :
    rsoft e (ix5 b h t i c) = Ideal.div (e (ix4 b h t ⟨i.val * 256 + c.val, by omega⟩)) (∑ k : Fin 1024, e (ix4 b h t k)) := by
  unfold rsoft rrow rsum
  pointwise

theorem sum_flat (f : Fin 1024 → EReal) : ∑ k, f k = ∑ i : Fin 4, ∑ c : Fin 256, f ⟨i.val * 256 + c.val, by omega⟩ := by
  rw [← Equiv.sum_comp flat f, Fintype.sum_prod_type]
  simp only [flat_val]

theorem sup_flat (f : Fin 1024 → EReal) : (Finset.univ : Finset (Fin 1024)).sup f
    = (Finset.univ : Finset (Fin 4)).sup fun i => (Finset.univ : Finset (Fin 256)).sup fun c => f ⟨i.val * 256 + c.val, by omega⟩ := by
  have e : (Finset.univ : Finset (Fin 1024)) = (Finset.univ : Finset (Fin 4 × Fin 256)).map flat.toEmbedding := by simp
  have e2 : (Finset.univ : Finset (Fin 4 × Fin 256)) = Finset.univ ×ˢ Finset.univ := rfl
  rw [e, Finset.sup_map, e2, Finset.sup_product_left]
  refine Finset.sup_congr rfl fun i _ => Finset.sup_congr rfl fun c _ => ?_
  exact congrArg f (flat_val i c)

theorem xat_real (a : FVec Ideal S8192x2048 .bf16) (ha : AllReal a) (k : Nat) (d : Fin 128) : ∃ r : ℝ, xat (head a b h) k d = r := ha _

theorem gOf_real (h0 : AllReal a0) (h1 : AllReal a1) (j : Nat) : gOf a0 a1 b h t j ≠ ⊥ := by
  obtain ⟨r, hr⟩ : ∃ r : ℝ, gOf a0 a1 b h t j = r := by
    unfold gOf gt
    exact Cert.Moba.real_sum _ fun d => Cert.Moba.real_mul (xat_real b h a0 h0 _ _) (Cert.Moba.kmean_real (head a1 b h) (fun _ => h1 _) _ _)
  rw [hr]; exact EReal.coe_ne_bot r

theorem scl_real : ∃ r : ℝ, scl = r := by
  simp [scl, Ideal.ofBits, Ideal.ieee]
  exact ⟨_, (EReal.coe_mul _ _).symm⟩

theorem sc_real (h0 : AllReal a0) (h1 : AllReal a1) (own r j : Nat) (c : Fin 256) :
    ∃ x : ℝ, sc (head a0 b h) (head a1 b h) own r j c = x :=
  Cert.Moba.real_mul (Cert.Moba.real_sum _ fun d => Cert.Moba.real_mul (xat_real b h a0 h0 _ _) (xat_real b h a1 h1 _ _)) scl_real

theorem msk_ne_top (h0 : AllReal a0) (h1 : AllReal a1) (own r j : Nat) (c : Fin 256) :
    msk (head a0 b h) (head a1 b h) own r j c ≠ ⊤ := by
  obtain ⟨x, hx⟩ := sc_real a0 a1 b h h0 h1 own r j c
  unfold msk
  split_ifs
  all_goals first | (rw [hx]; exact EReal.coe_ne_top x) | exact bot_ne_top

/-- The attention of one query, as the reference computes it. -/
theorem attn_at (h0 : AllReal a0) (h1 : AllReal a1) (d : Fin 128) :
    (∑ c : Fin 256, ∑ i : Fin 4, rsoft (rexp (rscores a0 a1)) (ix5 b h t i c) * rgath (rb a2) (rgi (ridxOf a0 a1)) (ix6 b h t i c d))
      = headOut (head a0 b h) (head a1 b h) (head a2 b h) t.val d := by
  have hg := gOf_real a0 a1 b h t h0 h1
  set σ : Fin 4 → Nat := fun i => (slot a0 a1 b h t i).val with hσ
  set w : Nat → Fin 256 → EReal := msk (head a0 b h) (head a1 b h) (t.val / 256) (t.val % 256) with hw
  have hs : ∀ (i : Fin 4) (c : Fin 256), rscores a0 a1 (ix4 b h t ⟨i.val * 256 + c.val, by omega⟩)
      = if slotOk a0 a1 b h t i then w (σ i) c else ⊥ := fun i c => by
    unfold rscores
    rw [rflat_at, score_of a0 a1 b h t hg]
  have hmax : ((Finset.univ : Finset (Fin 1024)).sup fun k => rscores a0 a1 (ix4 b h t k))
      = (Finset.range 8).sup fun j => Finset.univ.sup (w j) := by
    rw [sup_flat]
    simp only [hs]
    exact slots_sup σ _ w (fun i _ => (slot a0 a1 b h t i).isLt) (fun j hj hn c => slot_cover a0 a1 b h t hg j hj hn c)
  set M := (Finset.range 8).sup fun j => Finset.univ.sup (w j) with hM
  have hsum : (∑ k : Fin 1024, rexp (rscores a0 a1) (ix4 b h t k)) = ∑ j ∈ Finset.range 8, ∑ c : Fin 256, Ideal.exp (w j c - M) := by
    rw [sum_flat]
    simp only [rexp_at, hmax, hs]
    exact slots_sum σ _ w (fun i _ => (slot a0 a1 b h t i).isLt) (slot_inj a0 a1 b h t)
      (fun j hj hn c => slot_cover a0 a1 b h t hg j hj hn c) (fun x _ _ => Ideal.exp (x - M)) (fun _ _ => by rw [EReal.bot_sub]; rfl)
  obtain ⟨x, hx⟩ := sc_real a0 a1 b h h0 h1 (t.val / 256) (t.val % 256) (t.val / 256) 0
  have hpos : 0 < ∑ j ∈ Finset.range 8, ∑ c : Fin 256, Ideal.exp (w j c - M) :=
    sum_exp_pos w (t.val / 256) (by omega) 0 x (by rw [hw]; unfold msk; rw [if_pos rfl, if_pos (by show 0 ≤ _; omega), hx])
      (fun j c => msk_ne_top a0 a1 b h h0 h1 _ _ _ _)
  rw [Finset.sum_comm]
  simp only [rsoft_at, hsum, rgath_of]
  simp only [rexp_at, hmax, hs]
  rw [div_sum _ _ _ _ _ hpos]
  unfold headOut softOut
  rw [← hw, ← hM]
  congr 1
  exact slots_sum σ _ w (fun i _ => (slot a0 a1 b h t i).isLt) (slot_inj a0 a1 b h t)
      (fun j hj hn c => slot_cover a0 a1 b h t hg j hj hn c) (fun x j c => Ideal.exp (x - M) * vat (head a2 b h) d j c)
      (fun _ _ => by rw [EReal.bot_sub]; exact zero_mul _)

/-- The reference's result is the kernel's. -/
theorem refArr_eq (h0 : AllReal a0) (h1 : AllReal a1) : refArr a0 a1 a2 = attnArr a0 a1 a2 := by
  funext i
  idx_vars i
  unfold refArr rout
  pointwise
  rw [attn_at a0 a1 a2 _ _ _ h0 h1]
  rfl

end Cert.MobaRef
-- ==== Proof.MobaPre.lean ====
module

public import proofs.«01_k».proof.Pre_finite_qk
public import proofs.«01_k».proof.Proof.MobaRefValue
public import Idealize.ShloMosaic.Lib.Pointwise

@[expose] public section

set_option maxRecDepth 16384

noncomputable section

/-! # What the precondition says -/

namespace Cert.MobaRef

open Idealize.ShloMosaic
open Cert.Moba (AllReal)

/-- The precondition's own side conditions. -/
instance preFacts : Cert.Pre_finite_qk.Facts where
  bitsLt_bf16_f32 := by decide
  bcast_S_S8192x2048 := by decide

theorem real_of_lt (x : EReal) (h : BitVec.ofBool (decide (max x (-x) < ⊤)) = 1#1) : ∃ r : ℝ, x = r := by
  rw [Cert.Moba.ofBool_one, decide_eq_true_eq, max_lt_iff] at h
  induction x with
  | bot => exact absurd h.2 (by simp)
  | top => exact absurd h.1 (by simp)
  | coe r => exact ⟨r, rfl⟩

theorem real_of_pre (a0 a1 a2 : FVec Ideal Cert.Pre_finite_qk.S8192x2048 .bf16)
    (h : (Cert.Pre_finite_qk.fn (F := Ideal) a0 a1 a2).1 = (fun _ => 1#1)
      ∧ (Cert.Pre_finite_qk.fn (F := Ideal) a0 a1 a2).2 = (fun _ => 1#1)) : AllReal a0 ∧ AllReal a1 := by
  have htop : Ideal.ofBits .f32 0x7F800000#32 = ⊤ := by simp [Ideal.ofBits, Ideal.ieee]
  constructor
  · intro i
    have e : BitVec.ofBool (decide (max (a0 i : EReal) (-(a0 i : EReal)) < Ideal.ofBits .f32 0x7F800000#32)) = 1#1 := congrFun h.1 i
    rw [htop] at e
    exact real_of_lt _ e
  · intro i
    have e : BitVec.ofBool (decide (max (a1 i : EReal) (-(a1 i : EReal)) < Ideal.ofBits .f32 0x7F800000#32)) = 1#1 := congrFun h.2 i
    rw [htop] at e
    exact real_of_lt _ e

end Cert.MobaRef
-- ==== Proof.Ffa.lean ====
module

public import proofs.«01_k».proof.Proof.Gen.FfaIdeal.Value
public import proofs.«01_k».proof.Proof.Gen.FfaReferenceIdeal.Run
public import proofs.«01_k».proof.Defs
public import Idealize.ShloMosaic.Lib.Pointwise
public import Idealize.ShloMosaic.Lib.StableHlo.ReadAt
public import Idealize.ShloMosaic.Adequacy
public import Idealize.ShloMosaic.Init

@[expose] public section

set_option maxRecDepth 16384

noncomputable section

/-! # The first half of the feed-forward part -/

namespace Cert.FfaV

open Cert.FfaIdeal Cert.FfaIdeal.Gen Idealize.ShloMosaic Idealize.ShloMosaic.TcCoe
open Idealize.ShloMosaic.Pipeline (Dat)

set_option maxHeartbeats 400000

/-- Row `r`, column `q`: the product, cut off below zero and squared. -/
def at' (a : Vec Ideal S8192x4096 .bf16) (w : Vec Ideal S4096x16384 .f32) (r : Fin 8192) (q : Fin 16384) : EReal :=
  max (∑ k : Fin 4096, (a (ix2 r k) : EReal) * w (ix2 k q)) 0 * max (∑ k : Fin 4096, (a (ix2 r k) : EReal) * w (ix2 k q)) 0

def arr (a : Vec Ideal S8192x4096 .bf16) (w : Vec Ideal S4096x16384 .f32) : Vec Ideal S8192x16384 .bf16 := fun i => at' a w (i 0) (i 1)

theorem out_at (x0 : Vec Ideal S1024x4096 .bf16) (x1 : Vec Ideal S4096x1024 .bf16) (r q : Fin 1024) :
    (out0_2 x0 x1 (ix2 r q) : EReal) = max (∑ k : Fin 4096, (x0 (ix2 r k) : EReal) * x1 (ix2 k q)) 0 * max (∑ k : Fin 4096, (x0 (ix2 r k) : EReal) * x1 (ix2 k q)) 0 := by
  have hz : (![0, 0] : Fin 2 → Nat) = fun _ => 0 := by funext a; fin_cases a <;> rfl
  unfold out0_2
  rw [View.canon_unit_zero hz, View.ld_unit_zero hz, View.ld_unit_zero hz]
  pointwise [k0_pay1]

theorem geo : ∀ t : Fin cfg0.N,
    (win0_0.index t 0 = t.val / 16 ∧ win0_0.index t 1 = 0) ∧ (win0_1.index t 0 = 0 ∧ win0_1.index t 1 = t.val % 16)
    ∧ (win0_2.index t 0 = t.val / 16 ∧ win0_2.index t 1 = t.val % 16) :=
  (by decide +kernel : ∀ t : Fin grid0.N, _)

section
variable (m : (ℓ : Loc nD τ sig) → Buf (Elt Ideal) ℓ) (c : Dev nD)

theorem lt (t : Fin cfg0.N) : t.val < 128 := by have h := t.isLt; have : cfg0.N = 128 := N_0; omega

theorem w_at (k : Fin 4096) (q : Fin 16384) : (V m c main_v0 (ix2 k q) : EReal) = m ((c : Thread nD τ).loc main_arg1) (ix2 k q) := by
  unfold V
  after_reads_at

theorem iblk0 (t : Fin cfg0.N) (r : Fin 1024) (k : Fin 4096) :
    iblk m c 0 t (ix2 r k) = m ((c : Thread nD τ).loc main_arg0) (ix2 ⟨1024 * (t.val / 16) + r.val, by have := lt t; omega⟩ k) := by
  have g := (geo t).1
  refine congrArg (m ((c : Thread nD τ).loc main_arg0)) (funext fun a => Fin.ext ?_)
  match a with
  | ⟨0, _⟩ => show win0_0.index t 0 * 1024 + 1 * r.val = 1024 * (t.val / 16) + r.val; rw [g.1]; omega
  | ⟨1, _⟩ => show win0_0.index t 1 * 4096 + 1 * k.val = k.val; rw [g.2]; omega

theorem iblk1 (t : Fin cfg0.N) (k : Fin 4096) (q : Fin 1024) :
    (iblk m c 1 t (ix2 k q) : EReal) = m ((c : Thread nD τ).loc main_arg1) (ix2 k ⟨1024 * (t.val % 16) + q.val, by omega⟩) := by
  have g := (geo t).2.1
  refine Eq.trans ?_ (w_at m c k _)
  refine congrArg (V m c main_v0) (funext fun a => Fin.ext ?_)
  match a with
  | ⟨0, _⟩ => show win0_1.index t 0 * 4096 + 1 * k.val = k.val; rw [g.1]; omega
  | ⟨1, _⟩ => show win0_1.index t 1 * 1024 + 1 * q.val = 1024 * (t.val % 16) + q.val; rw [g.2]; omega

theorem flushed_eq (t : Fin cfg0.N) :
    (dats m 0 c).flushed 2 t = ((cfg0.win 2).blk t).view.read (Elt Ideal)
      (arr (m ((c : Thread nD τ).loc main_arg0)) (m ((c : Thread nD τ).loc main_arg1))) := by
  rw [Value.flushed2]
  funext y
  have hy0 : (y 0).val < 1024 := (y 0).isLt
  have hy1 : (y 1).val < 1024 := (y 1).isLt
  have g := (geo t).2.2
  have ht := lt t
  have e : (((cfg0.win 2).blk t).view.emb y : S8192x16384.Idx)
      = ix2 ⟨1024 * (t.val / 16) + (y 0).val, by omega⟩ ⟨1024 * (t.val % 16) + (y 1).val, by omega⟩ := by
    funext a
    refine Fin.ext ?_
    match a with
    | ⟨0, _⟩ => show win0_2.index t 0 * 1024 + 1 * (y 0).val = 1024 * (t.val / 16) + (y 0).val; rw [g.1]; omega
    | ⟨1, _⟩ => show win0_2.index t 1 * 1024 + 1 * (y 1).val = 1024 * (t.val % 16) + (y 1).val; rw [g.2]; omega
  refine Eq.trans ?_ (Eq.trans (out_at (iblk m c 0 t) (iblk m c 1 t) ⟨(y 0).val, hy0⟩ ⟨(y 1).val, hy1⟩) ?_)
  · refine congrArg (out0_2 _ _) (funext fun a => Fin.ext ?_)
    match a with
    | ⟨0, _⟩ => rfl
    | ⟨1, _⟩ => rfl
  · show _ = arr _ _ (((cfg0.win 2).blk t).view.emb y)
    rw [e]
    unfold arr at'
    simp only [iblk0, iblk1]
    rfl

theorem cover (i : S8192x16384.Idx) : ∃ t : Fin cfg0.N, (cfg0.win 2).flush t = true ∧ i ∈ ((cfg0.win 2).blk t).view.set := by
  have h0 : (i 0 : Nat) < 8192 := (i 0).isLt
  have h1 : (i 1 : Nat) < 16384 := (i 1).isLt
  have hN : cfg0.N = 128 := N_0
  refine ⟨⟨(i 0).val / 1024 * 16 + (i 1).val / 1024, by omega⟩, flush0_2 _, ?_⟩
  generalize ht : (⟨(i 0).val / 1024 * 16 + (i 1).val / 1024, _⟩ : Fin cfg0.N) = t
  have hv : t.val = (i 0).val / 1024 * 16 + (i 1).val / 1024 := by rw [← ht]
  have g := (geo t).2.2
  show i ∈ ((View.whole main_v1).slice (win0_2.rect t)).set
  rw [View.set_slice_whole, Rect.mem_set_unit]
  intro a
  match a with
  | ⟨0, _⟩ => show win0_2.index t 0 * 1024 ≤ (i 0 : Nat) ∧ (i 0 : Nat) < win0_2.index t 0 * 1024 + 1024; rw [g.1]; omega
  | ⟨1, _⟩ => show win0_2.index t 1 * 1024 ≤ (i 1 : Nat) ∧ (i 1 : Nat) < win0_2.index t 1 * 1024 + 1024; rw [g.2]; omega

theorem final : (dats m 0 c).arrAt 2 cfg0.N = arr (m ((c : Thread nD τ).loc main_arg0)) (m ((c : Thread nD τ).loc main_arg1)) :=
  (dats m 0 c).arrAt_eq_of_cover 2 _ (fun t _ => flushed_eq m c t) cover

end

end Cert.FfaV

/-! ## The reference -/

namespace Cert.FfaV

open Idealize.ShloMosaic Idealize.SL.Sem

theorem frame_r : Cert.quiescent_FfaReferenceIdeal := fun m ρ _ =>
  (θ_run Cert.FfaReferenceIdeal.defs _ _).mono (fun r h => ⟨fun c => (h c).2, sem_eq_zero_of_no_sems (by decide) r.2⟩)
    (Cert.FfaReferenceIdeal.Value.run (F := Ideal) m ρ)

theorem algebraic : Cert.algebraic_FfaIdeal_FfaReferenceIdeal := by
  intro m ρ m' ρ' _ hagree
  refine ⟨fun c => arr (m ((c.tc : Thread Cert.FfaIdeal.nD Cert.FfaIdeal.τ).loc Cert.FfaIdeal.main_arg0))
    (m ((c.tc : Thread Cert.FfaIdeal.nD Cert.FfaIdeal.τ).loc Cert.FfaIdeal.main_arg1)), ?_, ?_⟩
  · exact (θ_run Cert.FfaIdeal.defs _ _).mono (fun r h c => ⟨(h c).1.trans (final m c), (h c).2⟩)
      (Cert.FfaIdeal.Value.run_blocks (F := Ideal) m ρ)
  · refine (θ_run Cert.FfaReferenceIdeal.defs _ _).mono (fun r h c => ⟨(h c).1.trans ?_, (h c).2⟩)
      (Cert.FfaReferenceIdeal.Value.run (F := Ideal) m' ρ')
    have hg := hagree c
    rw [hg.1, hg.2]
    funext i
    idx_vars i
    unfold arr at'
    pointwise

end Cert.FfaV
-- ==== Proof.Ffb.lean ====
module

public import proofs.«01_k».proof.Defs
public import proofs.«01_k».proof.Proof.Gen.FfbIdeal.Value
public import proofs.«01_k».proof.Proof.Gen.FfbReferenceIdeal.Run
public import Idealize.ShloMosaic.Lib.Pointwise
public import Idealize.ShloMosaic.Lib.Pipeline.ValueKit
public import Idealize.ShloMosaic.Lib.Pipeline.ReadBack
public import Idealize.ShloMosaic.Lib.StableHlo.ReadAt
public import Idealize.ShloMosaic.Adequacy
public import Idealize.ShloMosaic.Init

@[expose] public section

set_option maxRecDepth 16384

noncomputable section

/-! # The second half of the feed-forward part and its residual -/

namespace Cert.FfbV

open Cert.FfbIdeal Cert.FfbIdeal.Gen Idealize.ShloMosaic Idealize.ShloMosaic.TcCoe
open Idealize.ShloMosaic.Pipeline (Dat)

set_option maxHeartbeats 400000

/-- Row `r`, column `q` of the result. -/
def at' (a : Vec Ideal S8192x16384 .bf16) (x : Vec Ideal S8192x4096 .f32) (mod : Vec Ideal S4x24576 .f32) (w : Vec Ideal S16384x4096 .f32)
    (r : Fin 8192) (q : Fin 4096) : EReal :=
  (x (ix2 r q) : EReal) + mod (ix2 ⟨r.val / 2048, by omega⟩ ⟨20480 + q.val, by omega⟩) * ∑ k : Fin 16384, (a (ix2 r k) : EReal) * w (ix2 k q)

def arr (a : Vec Ideal S8192x16384 .bf16) (x : Vec Ideal S8192x4096 .f32) (mod : Vec Ideal S4x24576 .f32) (w : Vec Ideal S16384x4096 .f32) :
    Vec Ideal S8192x4096 .f32 := fun i => at' a x mod w (i 0) (i 1)

/-- The eight stretches of the summed axis, one after the other. -/
theorem sum_tiles (f : Fin 16384 → EReal) : (∑ s : Fin 8, ∑ k : Fin 2048, f ⟨2048 * s.val + k.val, by omega⟩) = ∑ i : Fin 16384, f i := by
  rw [← Fintype.sum_prod_type', ← (finProdFinEquiv (m := 8) (n := 2048)).sum_comp]
  refine Finset.sum_congr rfl fun p _ => congrArg f (Fin.ext ?_)
  show 2048 * p.1.val + p.2.val = p.2.val + 2048 * p.1.val
  omega

def prod (a : Vec Ideal S1024x2048 .bf16) (w : Vec Ideal S2048x1024 .bf16) (r q : Fin 1024) : EReal :=
  ∑ k : Fin 2048, (a (ix2 r k) : EReal) * w (ix2 k q)

/-- The residual and the weighted sum `v`. -/
def resid (x : Vec Ideal S1024x1024 .f32) (g : Vec Ideal S1x1x1024 .f32) (v : EReal) (r q : Fin 1024) : EReal :=
  (x (ix2 r q) : EReal) + g (ix3 0 0 q) * v

theorem pay1_at (r q : Fin 1024) : (k0_pay1 (F := Ideal) (ix2 r q) : EReal) = 0 := by
  pointwise [k0_pay1]

theorem pay2_at (v : Vec Ideal S1024x1024 .f32) (a : Vec Ideal S1024x2048 .bf16) (w : Vec Ideal S2048x1024 .bf16) (r q : Fin 1024) :
    (k0_pay2 v a w (ix2 r q) : EReal) = v (ix2 r q) + prod a w r q := by
  unfold prod
  pointwise [k0_pay2]

theorem pay3_at (x : Vec Ideal S1024x1024 .f32) (g : Vec Ideal S1x1x1024 .f32) (v : Vec Ideal S1024x1024 .f32) (r q : Fin 1024) :
    (k0_pay3 x g v (ix2 r q) : EReal) = resid x g (v (ix2 r q)) r q := by
  unfold resid
  pointwise [k0_pay3]

theorem geo0 : ∀ t : Fin cfg0.N, win0_0.index t 0 = t.val / 32 ∧ win0_0.index t 1 = t.val % 8 :=
  (by decide +kernel : ∀ t : Fin grid0.N, _)

theorem geo1 : ∀ t : Fin cfg0.N, win0_1.index t 0 = t.val % 8 ∧ win0_1.index t 1 = t.val / 8 % 4 :=
  (by decide +kernel : ∀ t : Fin grid0.N, _)

theorem geo2 : ∀ t : Fin cfg0.N, win0_2.index t 0 = t.val / 32 ∧ win0_2.index t 1 = t.val / 8 % 4 :=
  (by decide +kernel : ∀ t : Fin grid0.N, _)

theorem geo3 : ∀ t : Fin cfg0.N, win0_3.index t 0 = t.val / 32 / 2 * 6 + 5 ∧ win0_3.index t 1 = 0 ∧ win0_3.index t 2 = t.val / 8 % 4 :=
  (by decide +kernel : ∀ t : Fin grid0.N, _)

theorem geo4 : ∀ t : Fin cfg0.N, win0_4.index t 0 = t.val / 32 ∧ win0_4.index t 1 = t.val / 8 % 4 :=
  (by decide +kernel : ∀ t : Fin grid0.N, _)

section
variable (m : (ℓ : Loc nD τ sig) → Buf (Elt Ideal) ℓ) (c : Dev nD)

theorem lt (t : Fin cfg0.N) : t.val < 256 := by have h := t.isLt; have : cfg0.N = 256 := N_0; omega

theorem v0_at (k : Fin 16384) (q : Fin 4096) : (V m c main_v0 (ix2 k q) : EReal) = (m ((c : Thread nD τ).loc main_arg3)) (ix2 k q) := by
  unfold V
  after_reads_at

theorem v1_at (p : Fin 4) (s : Fin 6) (z : Fin 1) (q : Fin 4096) :
    (V m c main_v1 (ix3 ⟨p.val * 6 + s.val, by omega⟩ z q) : EReal) = (m ((c : Thread nD τ).loc main_arg2)) (ix2 p ⟨s.val * 4096 + q.val, by omega⟩) := by
  unfold V
  after_reads_at
  refine congrArg (m (c, Proc.tc.devRef main_arg2)) (congrArg₂ ix2 rfl (Fin.ext ?_))
  show (p.val * 6 + s.val) % 6 * 4096 + q.val = s.val * 4096 + q.val
  omega

theorem iblk0 (t : Fin cfg0.N) (y0 : Fin 1024) (y1 : Fin 2048) :
    have := lt t
    iblk m c 0 t (ix2 y0 y1) = (m ((c : Thread nD τ).loc main_arg0)) (ix2 ⟨1024 * (t.val / 32) + y0.val, by omega⟩ ⟨2048 * (t.val % 8) + y1.val, by omega⟩) := by
  have ht := lt t
  have g := geo0 t
  refine congrArg (m ((c : Thread nD τ).loc main_arg0)) (funext fun a => Fin.ext ?_)
  match a with
  | ⟨0, _⟩ => show win0_0.index t 0 * 1024 + 1 * y0.val = 1024 * (t.val / 32) + y0.val; rw [g.1]; omega
  | ⟨1, _⟩ => show win0_0.index t 1 * 2048 + 1 * y1.val = 2048 * (t.val % 8) + y1.val; rw [g.2]; omega

theorem iblk1 (t : Fin cfg0.N) (y0 : Fin 2048) (y1 : Fin 1024) :
    have := lt t
    (iblk m c 1 t (ix2 y0 y1) : EReal) = (m ((c : Thread nD τ).loc main_arg3)) (ix2 ⟨2048 * (t.val % 8) + y0.val, by omega⟩ ⟨1024 * (t.val / 8 % 4) + y1.val, by omega⟩) := by
  have ht := lt t
  have g := geo1 t
  refine Eq.trans (b := (V m c main_v0 (ix2 ⟨2048 * (t.val % 8) + y0.val, by omega⟩ ⟨1024 * (t.val / 8 % 4) + y1.val, by omega⟩) : EReal)) ?_ (v0_at m c _ _)
  refine congrArg (V m c main_v0) (funext fun a => Fin.ext ?_)
  match a with
  | ⟨0, _⟩ => show win0_1.index t 0 * 2048 + 1 * y0.val = 2048 * (t.val % 8) + y0.val; rw [g.1]; omega
  | ⟨1, _⟩ => show win0_1.index t 1 * 1024 + 1 * y1.val = 1024 * (t.val / 8 % 4) + y1.val; rw [g.2]; omega

theorem iblk2 (t : Fin cfg0.N) (y0 : Fin 1024) (y1 : Fin 1024) :
    have := lt t
    iblk m c 2 t (ix2 y0 y1) = (m ((c : Thread nD τ).loc main_arg1)) (ix2 ⟨1024 * (t.val / 32) + y0.val, by omega⟩ ⟨1024 * (t.val / 8 % 4) + y1.val, by omega⟩) := by
  have ht := lt t
  have g := geo2 t
  refine congrArg (m ((c : Thread nD τ).loc main_arg1)) (funext fun a => Fin.ext ?_)
  match a with
  | ⟨0, _⟩ => show win0_2.index t 0 * 1024 + 1 * y0.val = 1024 * (t.val / 32) + y0.val; rw [g.1]; omega
  | ⟨1, _⟩ => show win0_2.index t 1 * 1024 + 1 * y1.val = 1024 * (t.val / 8 % 4) + y1.val; rw [g.2]; omega

theorem iblk3 (t : Fin cfg0.N) (y0 : Fin 1) (y1 : Fin 1) (y2 : Fin 1024) :
    have := lt t
    (iblk m c 3 t (ix3 y0 y1 y2) : EReal) = (m ((c : Thread nD τ).loc main_arg2)) (ix2 ⟨t.val / 32 / 2, by omega⟩ ⟨20480 + (1024 * (t.val / 8 % 4) + y2.val), by omega⟩) := by
  have ht := lt t
  have g := geo3 t
  refine Eq.trans (b := (V m c main_v1 (ix3 ⟨t.val / 32 / 2 * 6 + 5, by omega⟩ y1 ⟨1024 * (t.val / 8 % 4) + y2.val, by omega⟩) : EReal)) ?_ (v1_at m c ⟨t.val / 32 / 2, by omega⟩ 5 y1 _)
  refine congrArg (V m c main_v1) (funext fun a => Fin.ext ?_)
  match a with
  | ⟨0, _⟩ => show win0_3.index t 0 * 1 + 1 * y0.val = t.val / 32 / 2 * 6 + 5; rw [g.1]; omega
  | ⟨1, _⟩ => show win0_3.index t 1 * 1 + 1 * y1.val = y1.val; rw [g.2.1]; omega
  | ⟨2, _⟩ => show win0_3.index t 2 * 1024 + 1 * y2.val = 1024 * (t.val / 8 % 4) + y2.val; rw [g.2.2]; omega

/-- What point `t` adds to the running sum. -/
def term (t : Fin cfg0.N) (i : S1024x1024.Idx) : EReal := prod (iblk m c 0 t) (iblk m c 1 t) (i 0) (i 1)

theorem scr_A (t : Fin cfg0.N) (h0 : t.val % 8 = 0) (i : S1024x1024.Idx) :
    ((outsAt0 m c t.val t.isLt).2 i : EReal) = 0 + term m c t i := by
  rw [outsAt0_A m c t h0 (by omega)]
  idx_vars i
  frame_out
  rw [pay2_at, pay1_at]
  rfl

theorem scr_S (t : Fin cfg0.N) (h0 : ¬t.val % 8 = 0) (i : S1024x1024.Idx) :
    ((outsAt0 m c t.val t.isLt).2 i : EReal)
      = (outsAt0 m c (t.val - 1) (Nat.lt_of_le_of_lt (Nat.sub_le _ _) t.isLt)).2 i + term m c t i := by
  by_cases h1 : t.val % 8 = 7
  · rw [outsAt0_C m c t h0 h1]
    idx_vars i
    frame_out
    rw [pay2_at]
    simp only [read_unread_whole]
    rfl
  · rw [outsAt0_B m c t h0 h1]
    idx_vars i
    frame_out
    rw [pay2_at]
    simp only [read_unread_whole]
    rfl

/-- The running sum at a point that writes back: the eight points' terms. -/
theorem scr_sum (t : Fin cfg0.N) (h1 : t.val % 8 = 7) (i : S1024x1024.Idx) :
    ((outsAt0 m c t.val t.isLt).2 i : EReal)
      = ∑ s : Fin 8, term m c ⟨8 * (t.val / 8) + s.val, by have := t.isLt; omega⟩ i := by
  have h := Pipeline.eq_sum_fin_of_reset_step_apply_of_flush (fun n h => (outsAt0 m c n h).2) 8 (fun _ => (0 : EReal))
    (fun t i => term m c t i) (fun t h i => scr_A m c t h i) (fun t h i => scr_S m c t h i) t h1 i
  exact h.trans (zero_add _)

theorem out_C (t : Fin cfg0.N) (h1 : t.val % 8 = 7) (r q : Fin 1024) :
    ((outsAt0 m c t.val t.isLt).1 (ix2 r q) : EReal)
      = resid (iblk m c 2 t) (iblk m c 3 t) ((outsAt0 m c t.val t.isLt).2 (ix2 r q)) r q := by
  rw [outsAt0_C m c t (by omega) h1]
  frame_out
  rw [pay3_at]

theorem out_at (t : Fin cfg0.N) (h1 : t.val % 8 = 7) (r q : Fin 1024) :
    have := lt t
    ((outsAt0 m c t.val t.isLt).1 (ix2 r q) : EReal)
      = at' (m ((c : Thread nD τ).loc main_arg0)) (m ((c : Thread nD τ).loc main_arg1)) (m ((c : Thread nD τ).loc main_arg2)) (m ((c : Thread nD τ).loc main_arg3)) ⟨1024 * (t.val / 32) + r.val, by omega⟩ ⟨1024 * (t.val / 8 % 4) + q.val, by omega⟩ := by
  have ht := lt t
  rw [out_C m c t h1, scr_sum m c t h1]
  have e5 : (1024 * (t.val / 32) + r.val) / 2048 = t.val / 32 / 2 := by omega
  intro _
  unfold at' resid
  simp only [iblk2, iblk3, e5]
  refine congrArg₂ (· + ·) rfl (congrArg₂ (· * ·) rfl (Eq.trans ?_ (sum_tiles _)))
  refine Finset.sum_congr rfl fun s _ => ?_
  have es : (8 * (t.val / 8) + s.val) % 8 = s.val := by omega
  have e32 : (8 * (t.val / 8) + s.val) / 32 = t.val / 32 := by omega
  have e8 : (8 * (t.val / 8) + s.val) / 8 = t.val / 8 := by omega
  show prod (iblk m c 0 _) (iblk m c 1 _) r q = _
  unfold prod
  simp only [iblk0, iblk1, es, e32, e8]

theorem flushed_eq (t : Fin cfg0.N) (hf : (cfg0.win 4).flush t = true) :
    (dats m 0 c).flushed 4 t = ((cfg0.win 4).blk t).view.read (Elt Ideal) (arr (m ((c : Thread nD τ).loc main_arg0)) (m ((c : Thread nD τ).loc main_arg1)) (m ((c : Thread nD τ).loc main_arg2)) (m ((c : Thread nD τ).loc main_arg3))) := by
  rw [Value.flushed4]
  funext y
  have hm : t.val % 8 = 7 := (flush0_4 t).mp hf
  have hy0 : (y 0).val < 1024 := (y 0).isLt
  have hy1 : (y 1).val < 1024 := (y 1).isLt
  have g := geo4 t
  have ht := lt t
  have e : (((cfg0.win 4).blk t).view.emb y : S8192x4096.Idx)
      = (ix2 ⟨1024 * (t.val / 32) + (y 0).val, by omega⟩ ⟨1024 * (t.val / 8 % 4) + (y 1).val, by omega⟩) := by
    funext a
    refine Fin.ext ?_
    match a with
    | ⟨0, _⟩ => show win0_4.index t 0 * 1024 + 1 * (y 0).val = 1024 * (t.val / 32) + (y 0).val; rw [g.1]; omega
    | ⟨1, _⟩ => show win0_4.index t 1 * 1024 + 1 * (y 1).val = 1024 * (t.val / 8 % 4) + (y 1).val; rw [g.2]; omega
  refine Eq.trans ?_ (Eq.trans (out_at m c t hm ⟨(y 0).val, hy0⟩ ⟨(y 1).val, hy1⟩) ?_)
  · refine congrArg ((outsAt0 m c t.val t.isLt).1) (funext fun a => Fin.ext ?_)
    match a with
    | ⟨0, _⟩ => rfl
    | ⟨1, _⟩ => rfl
  · show _ = arr (m ((c : Thread nD τ).loc main_arg0)) (m ((c : Thread nD τ).loc main_arg1)) (m ((c : Thread nD τ).loc main_arg2)) (m ((c : Thread nD τ).loc main_arg3)) (((cfg0.win 4).blk t).view.emb y)
    rw [e]
    rfl

theorem cover (i : S8192x4096.Idx) : ∃ t : Fin cfg0.N, (cfg0.win 4).flush t = true ∧ i ∈ ((cfg0.win 4).blk t).view.set := by
  have h0 : (i 0 : Nat) < 8192 := (i 0).isLt
  have h1 : (i 1 : Nat) < 4096 := (i 1).isLt
  have hN : cfg0.N = 256 := N_0
  refine ⟨⟨((i 0).val / 1024 * 4 + (i 1).val / 1024) * 8 + 7, by omega⟩, (flush0_4 _).mpr (by show (((i 0).val / 1024 * 4 + (i 1).val / 1024) * 8 + 7) % 8 = 7; omega), ?_⟩
  generalize ht : (⟨((i 0).val / 1024 * 4 + (i 1).val / 1024) * 8 + 7, _⟩ : Fin cfg0.N) = t
  have hv : t.val = ((i 0).val / 1024 * 4 + (i 1).val / 1024) * 8 + 7 := by rw [← ht]
  have g := geo4 t
  show i ∈ ((View.whole main_v2).slice (win0_4.rect t)).set
  rw [View.set_slice_whole, Rect.mem_set_unit]
  intro a
  match a with
  | ⟨0, _⟩ => show win0_4.index t 0 * 1024 ≤ (i 0 : Nat) ∧ (i 0 : Nat) < win0_4.index t 0 * 1024 + 1024; rw [g.1]; omega
  | ⟨1, _⟩ => show win0_4.index t 1 * 1024 ≤ (i 1 : Nat) ∧ (i 1 : Nat) < win0_4.index t 1 * 1024 + 1024; rw [g.2]; omega

theorem final : (dats m 0 c).arrAt 4 cfg0.N = arr (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t hf => flushed_eq m c t hf) cover

end

end Cert.FfbV

/-! ## The reference -/

namespace Cert.FfbV

open Idealize.ShloMosaic Idealize.SL.Sem

section
open Cert.FfbReferenceIdeal Cert.FfbReferenceIdeal.Gen

/-- The groups' rows below each other, read at a row. -/
theorem fold_at (v : FVec Ideal S4x2048x4096 .f32) (r : Fin 8192) (q : Fin 4096) :
    shapeCast S8192x4096 v shapeCasts_S4x2048x4096_S8192x4096 (ix2 r q) = v (ix3 ⟨r.val / 2048, by omega⟩ ⟨r.val % 2048, by omega⟩ q) := by
  pointwise

/-- The rows of one group after the other, read in a group. -/
theorem split_at (v : FVec Ideal S8192x4096 .f32) (p : Fin 4) (s : Fin 2048) (q : Fin 4096) :
    shapeCast S4x2048x4096 v shapeCasts_S8192x4096_S4x2048x4096 (ix3 p s q) = v (ix2 ⟨p.val * 2048 + s.val, by omega⟩ q) := by
  pointwise

end

theorem frame_r : Cert.quiescent_FfbReferenceIdeal := fun m ρ _ =>
  (θ_run Cert.FfbReferenceIdeal.defs _ _).mono (fun r h => ⟨fun c => (h c).2, sem_eq_zero_of_no_sems (by decide) r.2⟩)
    (Cert.FfbReferenceIdeal.Value.run (F := Ideal) m ρ)

theorem algebraic : Cert.algebraic_FfbIdeal_FfbReferenceIdeal := by
  intro m ρ m' ρ' _ hagree
  refine ⟨fun c => arr (m ((c.tc : Thread Cert.FfbIdeal.nD Cert.FfbIdeal.τ).loc Cert.FfbIdeal.main_arg0)) (m ((c.tc : Thread Cert.FfbIdeal.nD Cert.FfbIdeal.τ).loc Cert.FfbIdeal.main_arg1)) (m ((c.tc : Thread Cert.FfbIdeal.nD Cert.FfbIdeal.τ).loc Cert.FfbIdeal.main_arg2)) (m ((c.tc : Thread Cert.FfbIdeal.nD Cert.FfbIdeal.τ).loc Cert.FfbIdeal.main_arg3)), ?_, ?_⟩
  · exact (θ_run Cert.FfbIdeal.defs _ _).mono (fun r h c => ⟨(h c).1.trans (final m c), (h c).2⟩)
      (Cert.FfbIdeal.Value.run_blocks (F := Ideal) m ρ)
  · refine (θ_run Cert.FfbReferenceIdeal.defs _ _).mono (fun r h c => ⟨(h c).1.trans ?_, (h c).2⟩)
      (Cert.FfbReferenceIdeal.Value.run (F := Ideal) m' ρ')
    have hg := hagree c
    rw [hg.1, hg.2.1, hg.2.2.1, hg.2.2.2]
    funext i
    idx_vars i
    have e : i0.val / 2048 * 2048 + i0.val % 2048 = i0.val := by omega
    refine (fold_at _ i0 i1).trans ?_
    simp only [addf_apply, mulf_apply, split_at, e]
    unfold arr at'
    pointwise

end Cert.FfbV
-- ==== Proof.Merge.lean ====
module

public import proofs.«01_k».proof.Defs
public import proofs.«01_k».proof.Proof.Gen.MergeIdeal.Value
public import proofs.«01_k».proof.Proof.Gen.MergeReferenceIdeal.Run
public import Idealize.ShloMosaic.Lib.Pointwise
public import Idealize.ShloMosaic.Lib.StableHlo.ReadAt
public import Idealize.ShloMosaic.Adequacy
public import Idealize.ShloMosaic.Init

@[expose] public section

set_option maxRecDepth 16384

noncomputable section

/-! # The two branches, gated and added -/

namespace Cert.MergeV

open Cert.MergeIdeal Cert.MergeIdeal.Gen Idealize.ShloMosaic Idealize.ShloMosaic.TcCoe
open Idealize.ShloMosaic.Pipeline (Dat)

set_option maxHeartbeats 400000

/-- Row `r`, column `q` of the result. -/
def at' (h : Vec Ideal S8192x4096 .bf16) (at_ : Vec Ideal S8192x2048 .bf16) (cv : Vec Ideal S8192x2048 .bf16) (w : Vec Ideal S4096x18432 .f32) (wa : Vec Ideal S2048x4096 .f32) (wc : Vec Ideal S2048x4096 .f32) (r : Fin 8192) (q : Fin 4096) : EReal :=
  Ideal.logistic (∑ k : Fin 4096, (h (ix2 r k) : EReal) * w (ix2 k ⟨10240 + q.val, by omega⟩)) * (∑ k : Fin 2048, (at_ (ix2 r k) : EReal) * wa (ix2 k q)) + Ideal.logistic (∑ k : Fin 4096, (h (ix2 r k) : EReal) * w (ix2 k ⟨14336 + q.val, by omega⟩)) * (∑ k : Fin 2048, (cv (ix2 r k) : EReal) * wc (ix2 k q))

def arr (h : Vec Ideal S8192x4096 .bf16) (at_ : Vec Ideal S8192x2048 .bf16) (cv : Vec Ideal S8192x2048 .bf16) (w : Vec Ideal S4096x18432 .f32) (wa : Vec Ideal S2048x4096 .f32) (wc : Vec Ideal S2048x4096 .f32) : Vec Ideal S8192x4096 .bf16 := fun i => at' h at_ cv w wa wc (i 0) (i 1)

theorem out_at (x0 : Vec Ideal S512x4096 .bf16) (x1 : Vec Ideal S512x2048 .bf16) (x2 : Vec Ideal S512x2048 .bf16) (x3 : Vec Ideal S4096x512 .bf16) (x4 : Vec Ideal S4096x512 .bf16) (x5 : Vec Ideal S2048x512 .bf16) (x6 : Vec Ideal S2048x512 .bf16) (r : Fin 512) (q : Fin 512) :
    (out0_7 x0 x1 x2 x3 x4 x5 x6 (ix2 r q) : EReal) = Ideal.logistic (∑ k : Fin 4096, (x0 (ix2 r k) : EReal) * x3 (ix2 k q)) * (∑ k : Fin 2048, (x1 (ix2 r k) : EReal) * x5 (ix2 k q)) + Ideal.logistic (∑ k : Fin 4096, (x0 (ix2 r k) : EReal) * x4 (ix2 k q)) * (∑ k : Fin 2048, (x2 (ix2 r k) : EReal) * x6 (ix2 k q)) := by
  have hz : (![0, 0] : Fin 2 → Nat) = fun _ => 0 := by funext a; fin_cases a <;> rfl
  have hz3 : (![0, 0, 0] : Fin 3 → Nat) = fun _ => 0 := by funext a; fin_cases a <;> rfl
  unfold out0_7
  rw [View.canon_unit_zero hz]
  repeat rw [View.ld_unit_zero hz]
  try rw [View.ld_unit_zero hz3]
  pointwise [k0_pay1]

theorem geo0 : ∀ t : Fin cfg0.N, win0_0.index t 0 = t.val / 8 ∧ win0_0.index t 1 = 0 :=
  (by decide +kernel : ∀ t : Fin grid0.N, _)

theorem geo1 : ∀ t : Fin cfg0.N, win0_1.index t 0 = t.val / 8 ∧ win0_1.index t 1 = 0 :=
  (by decide +kernel : ∀ t : Fin grid0.N, _)

theorem geo2 : ∀ t : Fin cfg0.N, win0_2.index t 0 = t.val / 8 ∧ win0_2.index t 1 = 0 :=
  (by decide +kernel : ∀ t : Fin grid0.N, _)

theorem geo3 : ∀ t : Fin cfg0.N, win0_3.index t 0 = 0 ∧ win0_3.index t 1 = 20 + t.val % 8 :=
  (by decide +kernel : ∀ t : Fin grid0.N, _)

theorem geo4 : ∀ t : Fin cfg0.N, win0_4.index t 0 = 0 ∧ win0_4.index t 1 = 28 + t.val % 8 :=
  (by decide +kernel : ∀ t : Fin grid0.N, _)

theorem geo5 : ∀ t : Fin cfg0.N, win0_5.index t 0 = 0 ∧ win0_5.index t 1 = t.val % 8 :=
  (by decide +kernel : ∀ t : Fin grid0.N, _)

theorem geo6 : ∀ t : Fin cfg0.N, win0_6.index t 0 = 0 ∧ win0_6.index t 1 = t.val % 8 :=
  (by decide +kernel : ∀ t : Fin grid0.N, _)

theorem geo7 : ∀ t : Fin cfg0.N, win0_7.index t 0 = t.val / 8 ∧ win0_7.index t 1 = t.val % 8 :=
  (by decide +kernel : ∀ t : Fin grid0.N, _)

section
variable (m : (ℓ : Loc nD τ sig) → Buf (Elt Ideal) ℓ) (c : Dev nD)

theorem lt (t : Fin cfg0.N) : t.val < 128 := by have h := t.isLt; have : cfg0.N = 128 := N_0; omega

theorem v0_at (k : Fin 4096) (q : Fin 18432) : (V m c main_v0 (ix2 k q) : EReal) = (m ((c : Thread nD τ).loc main_arg3)) (ix2 k q) := by
  unfold V
  after_reads_at

theorem v1_at (k : Fin 2048) (q : Fin 4096) : (V m c main_v1 (ix2 k q) : EReal) = (m ((c : Thread nD τ).loc main_arg4)) (ix2 k q) := by
  unfold V
  after_reads_at

theorem v2_at (k : Fin 2048) (q : Fin 4096) : (V m c main_v2 (ix2 k q) : EReal) = (m ((c : Thread nD τ).loc main_arg5)) (ix2 k q) := by
  unfold V
  after_reads_at

theorem iblk0 (t : Fin cfg0.N) (y0 : Fin 512) (y1 : Fin 4096) :
    have := lt t
    iblk m c 0 t (ix2 y0 y1) = (m ((c : Thread nD τ).loc main_arg0)) (ix2 ⟨512 * (t.val / 8) + y0.val, by omega⟩ y1) := by
  have ht := lt t
  have g := geo0 t
  refine congrArg (m ((c : Thread nD τ).loc main_arg0)) (funext fun a => Fin.ext ?_)
  match a with
  | ⟨0, _⟩ => show win0_0.index t 0 * 512 + 1 * y0.val = 512 * (t.val / 8) + y0.val; rw [g.1]; omega
  | ⟨1, _⟩ => show win0_0.index t 1 * 4096 + 1 * y1.val = y1.val; rw [g.2]; omega

theorem iblk1 (t : Fin cfg0.N) (y0 : Fin 512) (y1 : Fin 2048) :
    have := lt t
    iblk m c 1 t (ix2 y0 y1) = (m ((c : Thread nD τ).loc main_arg1)) (ix2 ⟨512 * (t.val / 8) + y0.val, by omega⟩ y1) := by
  have ht := lt t
  have g := geo1 t
  refine congrArg (m ((c : Thread nD τ).loc main_arg1)) (funext fun a => Fin.ext ?_)
  match a with
  | ⟨0, _⟩ => show win0_1.index t 0 * 512 + 1 * y0.val = 512 * (t.val / 8) + y0.val; rw [g.1]; omega
  | ⟨1, _⟩ => show win0_1.index t 1 * 2048 + 1 * y1.val = y1.val; rw [g.2]; omega

theorem iblk2 (t : Fin cfg0.N) (y0 : Fin 512) (y1 : Fin 2048) :
    have := lt t
    iblk m c 2 t (ix2 y0 y1) = (m ((c : Thread nD τ).loc main_arg2)) (ix2 ⟨512 * (t.val / 8) + y0.val, by omega⟩ y1) := by
  have ht := lt t
  have g := geo2 t
  refine congrArg (m ((c : Thread nD τ).loc main_arg2)) (funext fun a => Fin.ext ?_)
  match a with
  | ⟨0, _⟩ => show win0_2.index t 0 * 512 + 1 * y0.val = 512 * (t.val / 8) + y0.val; rw [g.1]; omega
  | ⟨1, _⟩ => show win0_2.index t 1 * 2048 + 1 * y1.val = y1.val; rw [g.2]; omega

theorem iblk3 (t : Fin cfg0.N) (y0 : Fin 4096) (y1 : Fin 512) :
    have := lt t
    (iblk m c 3 t (ix2 y0 y1) : EReal) = (m ((c : Thread nD τ).loc main_arg3)) (ix2 y0 ⟨10240 + (512 * (t.val % 8) + y1.val), by omega⟩) := by
  have ht := lt t
  have g := geo3 t
  refine Eq.trans (b := (V m c main_v0 (ix2 y0 ⟨10240 + (512 * (t.val % 8) + y1.val), by omega⟩) : EReal)) ?_ (v0_at m c y0 _)
  refine congrArg (V m c main_v0) (funext fun a => Fin.ext ?_)
  match a with
  | ⟨0, _⟩ => show win0_3.index t 0 * 4096 + 1 * y0.val = y0.val; rw [g.1]; omega
  | ⟨1, _⟩ => show win0_3.index t 1 * 512 + 1 * y1.val = 10240 + (512 * (t.val % 8) + y1.val); rw [g.2]; omega

theorem iblk4 (t : Fin cfg0.N) (y0 : Fin 4096) (y1 : Fin 512) :
    have := lt t
    (iblk m c 4 t (ix2 y0 y1) : EReal) = (m ((c : Thread nD τ).loc main_arg3)) (ix2 y0 ⟨14336 + (512 * (t.val % 8) + y1.val), by omega⟩) := by
  have ht := lt t
  have g := geo4 t
  refine Eq.trans (b := (V m c main_v0 (ix2 y0 ⟨14336 + (512 * (t.val % 8) + y1.val), by omega⟩) : EReal)) ?_ (v0_at m c y0 _)
  refine congrArg (V m c main_v0) (funext fun a => Fin.ext ?_)
  match a with
  | ⟨0, _⟩ => show win0_4.index t 0 * 4096 + 1 * y0.val = y0.val; rw [g.1]; omega
  | ⟨1, _⟩ => show win0_4.index t 1 * 512 + 1 * y1.val = 14336 + (512 * (t.val % 8) + y1.val); rw [g.2]; omega

theorem iblk5 (t : Fin cfg0.N) (y0 : Fin 2048) (y1 : Fin 512) :
    have := lt t
    (iblk m c 5 t (ix2 y0 y1) : EReal) = (m ((c : Thread nD τ).loc main_arg4)) (ix2 y0 ⟨512 * (t.val % 8) + y1.val, by omega⟩) := by
  have ht := lt t
  have g := geo5 t
  refine Eq.trans (b := (V m c main_v1 (ix2 y0 ⟨512 * (t.val % 8) + y1.val, by omega⟩) : EReal)) ?_ (v1_at m c y0 _)
  refine congrArg (V m c main_v1) (funext fun a => Fin.ext ?_)
  match a with
  | ⟨0, _⟩ => show win0_5.index t 0 * 2048 + 1 * y0.val = y0.val; rw [g.1]; omega
  | ⟨1, _⟩ => show win0_5.index t 1 * 512 + 1 * y1.val = 512 * (t.val % 8) + y1.val; rw [g.2]; omega

theorem iblk6 (t : Fin cfg0.N) (y0 : Fin 2048) (y1 : Fin 512) :
    have := lt t
    (iblk m c 6 t (ix2 y0 y1) : EReal) = (m ((c : Thread nD τ).loc main_arg5)) (ix2 y0 ⟨512 * (t.val % 8) + y1.val, by omega⟩) := by
  have ht := lt t
  have g := geo6 t
  refine Eq.trans (b := (V m c main_v2 (ix2 y0 ⟨512 * (t.val % 8) + y1.val, by omega⟩) : EReal)) ?_ (v2_at m c y0 _)
  refine congrArg (V m c main_v2) (funext fun a => Fin.ext ?_)
  match a with
  | ⟨0, _⟩ => show win0_6.index t 0 * 2048 + 1 * y0.val = y0.val; rw [g.1]; omega
  | ⟨1, _⟩ => show win0_6.index t 1 * 512 + 1 * y1.val = 512 * (t.val % 8) + y1.val; rw [g.2]; omega

theorem flushed_eq (t : Fin cfg0.N) :
    (dats m 0 c).flushed 7 t = ((cfg0.win 7).blk t).view.read (Elt Ideal)
      (arr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  rw [Value.flushed7]
  funext y
  have hy0 : (y 0).val < 512 := (y 0).isLt
  have hy1 : (y 1).val < 512 := (y 1).isLt
  have g := geo7 t
  have ht := lt t
  have e : (((cfg0.win 7).blk t).view.emb y : S8192x4096.Idx)
      = (ix2 ⟨512 * (t.val / 8) + (y 0).val, by omega⟩ ⟨512 * (t.val % 8) + (y 1).val, by omega⟩) := by
    funext a
    refine Fin.ext ?_
    match a with
    | ⟨0, _⟩ => show win0_7.index t 0 * 512 + 1 * (y 0).val = 512 * (t.val / 8) + (y 0).val; rw [g.1]; omega
    | ⟨1, _⟩ => show win0_7.index t 1 * 512 + 1 * (y 1).val = 512 * (t.val % 8) + (y 1).val; rw [g.2]; omega
  refine Eq.trans ?_ (Eq.trans (out_at (iblk m c 0 t) (iblk m c 1 t) (iblk m c 2 t) (iblk m c 3 t) (iblk m c 4 t) (iblk m c 5 t) (iblk m c 6 t) ⟨(y 0).val, hy0⟩ ⟨(y 1).val, hy1⟩) ?_)
  · refine congrArg (out0_7 _ _ _ _ _ _ _) (funext fun a => Fin.ext ?_)
    match a with
    | ⟨0, _⟩ => rfl
    | ⟨1, _⟩ => rfl
  · show _ = arr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 7).blk t).view.emb y)
    rw [e]
    show _ = at' (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨512 * (t.val / 8) + (y 0).val, by omega⟩ ⟨512 * (t.val % 8) + (y 1).val, by omega⟩
    unfold at'
    simp only [iblk0, iblk1, iblk2, iblk3, iblk4, iblk5, iblk6]
    try rfl

theorem cover (i : S8192x4096.Idx) : ∃ t : Fin cfg0.N, (cfg0.win 7).flush t = true ∧ i ∈ ((cfg0.win 7).blk t).view.set := by
  have h0 : (i 0 : Nat) < 8192 := (i 0).isLt
  have h1 : (i 1 : Nat) < 4096 := (i 1).isLt
  have hN : cfg0.N = 128 := N_0
  refine ⟨⟨(i 0).val / 512 * 8 + (i 1).val / 512, by omega⟩, flush0_7 _, ?_⟩
  generalize ht : (⟨(i 0).val / 512 * 8 + (i 1).val / 512, _⟩ : Fin cfg0.N) = t
  have hv : t.val = (i 0).val / 512 * 8 + (i 1).val / 512 := by rw [← ht]
  have g := geo7 t
  show i ∈ ((View.whole main_v3).slice (win0_7.rect t)).set
  rw [View.set_slice_whole, Rect.mem_set_unit]
  intro a
  match a with
  | ⟨0, _⟩ => show win0_7.index t 0 * 512 ≤ (i 0 : Nat) ∧ (i 0 : Nat) < win0_7.index t 0 * 512 + 512; rw [g.1]; omega
  | ⟨1, _⟩ => show win0_7.index t 1 * 512 ≤ (i 1 : Nat) ∧ (i 1 : Nat) < win0_7.index t 1 * 512 + 512; rw [g.2]; omega

theorem final : (dats m 0 c).arrAt 7 cfg0.N = arr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 7 _ (fun t _ => flushed_eq m c t) cover

end

end Cert.MergeV

/-! ## The reference -/

namespace Cert.MergeV

open Idealize.ShloMosaic Idealize.SL.Sem

theorem frame_r : Cert.quiescent_MergeReferenceIdeal := fun m ρ _ =>
  (θ_run Cert.MergeReferenceIdeal.defs _ _).mono (fun r h => ⟨fun c => (h c).2, sem_eq_zero_of_no_sems (by decide) r.2⟩)
    (Cert.MergeReferenceIdeal.Value.run (F := Ideal) m ρ)

theorem algebraic : Cert.algebraic_MergeIdeal_MergeReferenceIdeal := by
  intro m ρ m' ρ' _ hagree
  refine ⟨fun c => arr (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)), ?_, ?_⟩
  · exact (θ_run Cert.MergeIdeal.defs _ _).mono (fun r h c => ⟨(h c).1.trans (final m c), (h c).2⟩)
      (Cert.MergeIdeal.Value.run_blocks (F := Ideal) m ρ)
  · refine (θ_run Cert.MergeReferenceIdeal.defs _ _).mono (fun r h c => ⟨(h c).1.trans ?_, (h c).2⟩)
      (Cert.MergeReferenceIdeal.Value.run (F := Ideal) m' ρ')
    have hg := hagree c
    rw [hg.1, hg.2.1, hg.2.2.1, hg.2.2.2.1, hg.2.2.2.2.1, hg.2.2.2.2.2]
    funext i
    idx_vars i
    unfold arr at'
    pointwise [Ideal.logistic]
    have e : 10240 + (4096 + i1.val) = 14336 + i1.val := by omega
    simp only [e]

end Cert.MergeV
-- ==== Proof.Out.lean ====
module

public import proofs.«01_k».proof.Defs
public import proofs.«01_k».proof.Proof.Gen.OutIdeal.Value
public import proofs.«01_k».proof.Proof.Gen.OutReferenceIdeal.Run
public import Idealize.ShloMosaic.Lib.Pointwise
public import Idealize.ShloMosaic.Lib.StableHlo.ReadAt
public import Idealize.ShloMosaic.Adequacy
public import Idealize.ShloMosaic.Init

@[expose] public section

set_option maxRecDepth 16384

noncomputable section

/-! # The output projection and its residual -/

namespace Cert.OutV

open Cert.OutIdeal Cert.OutIdeal.Gen Idealize.ShloMosaic Idealize.ShloMosaic.TcCoe
open Idealize.ShloMosaic.Pipeline (Dat)

set_option maxHeartbeats 400000

/-- Row `r`, column `q` of the result. -/
def at' (a : Vec Ideal S8192x4096 .bf16) (x : Vec Ideal S8192x4096 .f32) (mod : Vec Ideal S4x24576 .f32) (w : Vec Ideal S4096x4096 .f32) (r : Fin 8192) (q : Fin 4096) : EReal :=
  (x (ix2 r q) : EReal) + mod (ix2 ⟨r.val / 2048, by omega⟩ ⟨8192 + q.val, by omega⟩) * (∑ k : Fin 4096, (a (ix2 r k) : EReal) * w (ix2 k q))

def arr (a : Vec Ideal S8192x4096 .bf16) (x : Vec Ideal S8192x4096 .f32) (mod : Vec Ideal S4x24576 .f32) (w : Vec Ideal S4096x4096 .f32) : Vec Ideal S8192x4096 .f32 := fun i => at' a x mod w (i 0) (i 1)

theorem out_at (x0 : Vec Ideal S1024x4096 .bf16) (x1 : Vec Ideal S4096x512 .bf16) (x2 : Vec Ideal S1024x512 .f32) (x3 : Vec Ideal S1x1x512 .f32) (r : Fin 1024) (q : Fin 512) :
    (out0_4 x0 x1 x2 x3 (ix2 r q) : EReal) = (x2 (ix2 r q) : EReal) + x3 (ix3 0 0 q) * (∑ k : Fin 4096, (x0 (ix2 r k) : EReal) * x1 (ix2 k q)) := by
  have hz : (![0, 0] : Fin 2 → Nat) = fun _ => 0 := by funext a; fin_cases a <;> rfl
  have hz3 : (![0, 0, 0] : Fin 3 → Nat) = fun _ => 0 := by funext a; fin_cases a <;> rfl
  unfold out0_4
  rw [View.canon_unit_zero hz]
  repeat rw [View.ld_unit_zero hz]
  try rw [View.ld_unit_zero hz3]
  pointwise [k0_pay1]

theorem geo0 : ∀ t : Fin cfg0.N, win0_0.index t 0 = t.val / 8 ∧ win0_0.index t 1 = 0 :=
  (by decide +kernel : ∀ t : Fin grid0.N, _)

theorem geo1 : ∀ t : Fin cfg0.N, win0_1.index t 0 = 0 ∧ win0_1.index t 1 = t.val % 8 :=
  (by decide +kernel : ∀ t : Fin grid0.N, _)

theorem geo2 : ∀ t : Fin cfg0.N, win0_2.index t 0 = t.val / 8 ∧ win0_2.index t 1 = t.val % 8 :=
  (by decide +kernel : ∀ t : Fin grid0.N, _)

theorem geo3 : ∀ t : Fin cfg0.N, win0_3.index t 0 = t.val / 8 / 2 * 6 + 2 ∧ win0_3.index t 1 = 0 ∧ win0_3.index t 2 = t.val % 8 :=
  (by decide +kernel : ∀ t : Fin grid0.N, _)

theorem geo4 : ∀ t : Fin cfg0.N, win0_4.index t 0 = t.val / 8 ∧ win0_4.index t 1 = t.val % 8 :=
  (by decide +kernel : ∀ t : Fin grid0.N, _)

section
variable (m : (ℓ : Loc nD τ sig) → Buf (Elt Ideal) ℓ) (c : Dev nD)

theorem lt (t : Fin cfg0.N) : t.val < 64 := by have h := t.isLt; have : cfg0.N = 64 := N_0; omega

theorem v0_at (k : Fin 4096) (q : Fin 4096) : (V m c main_v0 (ix2 k q) : EReal) = (m ((c : Thread nD τ).loc main_arg3)) (ix2 k q) := by
  unfold V
  after_reads_at

theorem v1_at (p : Fin 4) (s : Fin 6) (z : Fin 1) (q : Fin 4096) :
    (V m c main_v1 (ix3 ⟨p.val * 6 + s.val, by omega⟩ z q) : EReal) = (m ((c : Thread nD τ).loc main_arg2)) (ix2 p ⟨s.val * 4096 + q.val, by omega⟩) := by
  unfold V
  after_reads_at
  refine congrArg (m (c, Proc.tc.devRef main_arg2)) (congrArg₂ ix2 rfl (Fin.ext ?_))
  show (p.val * 6 + s.val) % 6 * 4096 + q.val = s.val * 4096 + q.val
  omega

theorem iblk0 (t : Fin cfg0.N) (y0 : Fin 1024) (y1 : Fin 4096) :
    have := lt t
    iblk m c 0 t (ix2 y0 y1) = (m ((c : Thread nD τ).loc main_arg0)) (ix2 ⟨1024 * (t.val / 8) + y0.val, by omega⟩ y1) := by
  have ht := lt t
  have g := geo0 t
  refine congrArg (m ((c : Thread nD τ).loc main_arg0)) (funext fun a => Fin.ext ?_)
  match a with
  | ⟨0, _⟩ => show win0_0.index t 0 * 1024 + 1 * y0.val = 1024 * (t.val / 8) + y0.val; rw [g.1]; omega
  | ⟨1, _⟩ => show win0_0.index t 1 * 4096 + 1 * y1.val = y1.val; rw [g.2]; omega

theorem iblk1 (t : Fin cfg0.N) (y0 : Fin 4096) (y1 : Fin 512) :
    have := lt t
    (iblk m c 1 t (ix2 y0 y1) : EReal) = (m ((c : Thread nD τ).loc main_arg3)) (ix2 y0 ⟨512 * (t.val % 8) + y1.val, by omega⟩) := by
  have ht := lt t
  have g := geo1 t
  refine Eq.trans (b := (V m c main_v0 (ix2 y0 ⟨512 * (t.val % 8) + y1.val, by omega⟩) : EReal)) ?_ (v0_at m c y0 _)
  refine congrArg (V m c main_v0) (funext fun a => Fin.ext ?_)
  match a with
  | ⟨0, _⟩ => show win0_1.index t 0 * 4096 + 1 * y0.val = y0.val; rw [g.1]; omega
  | ⟨1, _⟩ => show win0_1.index t 1 * 512 + 1 * y1.val = 512 * (t.val % 8) + y1.val; rw [g.2]; omega

theorem iblk2 (t : Fin cfg0.N) (y0 : Fin 1024) (y1 : Fin 512) :
    have := lt t
    iblk m c 2 t (ix2 y0 y1) = (m ((c : Thread nD τ).loc main_arg1)) (ix2 ⟨1024 * (t.val / 8) + y0.val, by omega⟩ ⟨512 * (t.val % 8) + y1.val, by omega⟩) := by
  have ht := lt t
  have g := geo2 t
  refine congrArg (m ((c : Thread nD τ).loc main_arg1)) (funext fun a => Fin.ext ?_)
  match a with
  | ⟨0, _⟩ => show win0_2.index t 0 * 1024 + 1 * y0.val = 1024 * (t.val / 8) + y0.val; rw [g.1]; omega
  | ⟨1, _⟩ => show win0_2.index t 1 * 512 + 1 * y1.val = 512 * (t.val % 8) + y1.val; rw [g.2]; omega

theorem iblk3 (t : Fin cfg0.N) (y0 : Fin 1) (y1 : Fin 1) (y2 : Fin 512) :
    have := lt t
    (iblk m c 3 t (ix3 y0 y1 y2) : EReal) = (m ((c : Thread nD τ).loc main_arg2)) (ix2 ⟨t.val / 8 / 2, by omega⟩ ⟨8192 + (512 * (t.val % 8) + y2.val), by omega⟩) := by
  have ht := lt t
  have g := geo3 t
  refine Eq.trans (b := (V m c main_v1 (ix3 ⟨t.val / 8 / 2 * 6 + 2, by omega⟩ y1 ⟨512 * (t.val % 8) + y2.val, by omega⟩) : EReal)) ?_ (v1_at m c ⟨t.val / 8 / 2, by omega⟩ 2 y1 _)
  refine congrArg (V m c main_v1) (funext fun a => Fin.ext ?_)
  match a with
  | ⟨0, _⟩ => show win0_3.index t 0 * 1 + 1 * y0.val = t.val / 8 / 2 * 6 + 2; rw [g.1]; omega
  | ⟨1, _⟩ => show win0_3.index t 1 * 1 + 1 * y1.val = y1.val; rw [g.2.1]; omega
  | ⟨2, _⟩ => show win0_3.index t 2 * 512 + 1 * y2.val = 512 * (t.val % 8) + y2.val; rw [g.2.2]; omega

theorem flushed_eq (t : Fin cfg0.N) :
    (dats m 0 c).flushed 4 t = ((cfg0.win 4).blk t).view.read (Elt Ideal)
      (arr (m ((c : Thread nD τ).loc main_arg0)) (m ((c : Thread nD τ).loc main_arg1)) (m ((c : Thread nD τ).loc main_arg2)) (m ((c : Thread nD τ).loc main_arg3))) := by
  rw [Value.flushed4]
  funext y
  have hy0 : (y 0).val < 1024 := (y 0).isLt
  have hy1 : (y 1).val < 512 := (y 1).isLt
  have g := geo4 t
  have ht := lt t
  have e : (((cfg0.win 4).blk t).view.emb y : S8192x4096.Idx)
      = (ix2 ⟨1024 * (t.val / 8) + (y 0).val, by omega⟩ ⟨512 * (t.val % 8) + (y 1).val, by omega⟩) := by
    funext a
    refine Fin.ext ?_
    match a with
    | ⟨0, _⟩ => show win0_4.index t 0 * 1024 + 1 * (y 0).val = 1024 * (t.val / 8) + (y 0).val; rw [g.1]; omega
    | ⟨1, _⟩ => show win0_4.index t 1 * 512 + 1 * (y 1).val = 512 * (t.val % 8) + (y 1).val; rw [g.2]; omega
  refine Eq.trans ?_ (Eq.trans (out_at (iblk m c 0 t) (iblk m c 1 t) (iblk m c 2 t) (iblk m c 3 t) ⟨(y 0).val, hy0⟩ ⟨(y 1).val, hy1⟩) ?_)
  · refine congrArg (out0_4 _ _ _ _) (funext fun a => Fin.ext ?_)
    match a with
    | ⟨0, _⟩ => rfl
    | ⟨1, _⟩ => rfl
  · show _ = arr (m ((c : Thread nD τ).loc main_arg0)) (m ((c : Thread nD τ).loc main_arg1)) (m ((c : Thread nD τ).loc main_arg2)) (m ((c : Thread nD τ).loc main_arg3)) (((cfg0.win 4).blk t).view.emb y)
    rw [e]
    show _ = at' (m ((c : Thread nD τ).loc main_arg0)) (m ((c : Thread nD τ).loc main_arg1)) (m ((c : Thread nD τ).loc main_arg2)) (m ((c : Thread nD τ).loc main_arg3)) ⟨1024 * (t.val / 8) + (y 0).val, by omega⟩ ⟨512 * (t.val % 8) + (y 1).val, by omega⟩
    have e5 : (1024 * (t.val / 8) + (y 0).val) / 2048 = t.val / 8 / 2 := by omega
    unfold at'
    simp only [iblk0, iblk1, iblk2, iblk3, e5]
    try rfl

theorem cover (i : S8192x4096.Idx) : ∃ t : Fin cfg0.N, (cfg0.win 4).flush t = true ∧ i ∈ ((cfg0.win 4).blk t).view.set := by
  have h0 : (i 0 : Nat) < 8192 := (i 0).isLt
  have h1 : (i 1 : Nat) < 4096 := (i 1).isLt
  have hN : cfg0.N = 64 := N_0
  refine ⟨⟨(i 0).val / 1024 * 8 + (i 1).val / 512, by omega⟩, flush0_4 _, ?_⟩
  generalize ht : (⟨(i 0).val / 1024 * 8 + (i 1).val / 512, _⟩ : Fin cfg0.N) = t
  have hv : t.val = (i 0).val / 1024 * 8 + (i 1).val / 512 := by rw [← ht]
  have g := geo4 t
  show i ∈ ((View.whole main_v2).slice (win0_4.rect t)).set
  rw [View.set_slice_whole, Rect.mem_set_unit]
  intro a
  match a with
  | ⟨0, _⟩ => show win0_4.index t 0 * 1024 ≤ (i 0 : Nat) ∧ (i 0 : Nat) < win0_4.index t 0 * 1024 + 1024; rw [g.1]; omega
  | ⟨1, _⟩ => show win0_4.index t 1 * 512 ≤ (i 1 : Nat) ∧ (i 1 : Nat) < win0_4.index t 1 * 512 + 512; rw [g.2]; omega

theorem final : (dats m 0 c).arrAt 4 cfg0.N = arr (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => flushed_eq m c t) cover

end

end Cert.OutV

/-! ## The reference -/

namespace Cert.OutV

open Idealize.ShloMosaic Idealize.SL.Sem

section
open Cert.OutReferenceIdeal Cert.OutReferenceIdeal.Gen

/-- The groups' rows below each other, read at a row. -/
theorem fold_at (v : FVec Ideal S4x2048x4096 .f32) (r : Fin 8192) (q : Fin 4096) :
    shapeCast S8192x4096 v shapeCasts_S4x2048x4096_S8192x4096 (ix2 r q) = v (ix3 ⟨r.val / 2048, by omega⟩ ⟨r.val % 2048, by omega⟩ q) := by
  pointwise

/-- The rows of one group after the other, read in a group. -/
theorem split_at (v : FVec Ideal S8192x4096 .f32) (p : Fin 4) (s : Fin 2048) (q : Fin 4096) :
    shapeCast S4x2048x4096 v shapeCasts_S8192x4096_S4x2048x4096 (ix3 p s q) = v (ix2 ⟨p.val * 2048 + s.val, by omega⟩ q) := by
  pointwise

end

theorem frame_r : Cert.quiescent_OutReferenceIdeal := fun m ρ _ =>
  (θ_run Cert.OutReferenceIdeal.defs _ _).mono (fun r h => ⟨fun c => (h c).2, sem_eq_zero_of_no_sems (by decide) r.2⟩)
    (Cert.OutReferenceIdeal.Value.run (F := Ideal) m ρ)

theorem algebraic : Cert.algebraic_OutIdeal_OutReferenceIdeal := by
  intro m ρ m' ρ' _ hagree
  refine ⟨fun c => arr (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)), ?_, ?_⟩
  · exact (θ_run Cert.OutIdeal.defs _ _).mono (fun r h c => ⟨(h c).1.trans (final m c), (h c).2⟩)
      (Cert.OutIdeal.Value.run_blocks (F := Ideal) m ρ)
  · refine (θ_run Cert.OutReferenceIdeal.defs _ _).mono (fun r h c => ⟨(h c).1.trans ?_, (h c).2⟩)
      (Cert.OutReferenceIdeal.Value.run (F := Ideal) m' ρ')
    have hg := hagree c
    rw [hg.1, hg.2.1, hg.2.2.1, hg.2.2.2]
    funext i
    idx_vars i
    have e : i0.val / 2048 * 2048 + i0.val % 2048 = i0.val := by omega
    refine (fold_at _ i0 i1).trans ?_
    simp only [addf_apply, mulf_apply, split_at, e]
    unfold arr at'
    pointwise

end Cert.OutV
-- ==== Proof.Glu.lean ====
module

public import proofs.«01_k».proof.Defs
public import proofs.«01_k».proof.Proof.Gen.GluIdeal.Value
public import proofs.«01_k».proof.Proof.Gen.GluReferenceIdeal.Run
public import Idealize.ShloMosaic.Lib.Pointwise
public import Idealize.ShloMosaic.Lib.StableHlo.ReadAt
public import Idealize.ShloMosaic.Adequacy
public import Idealize.ShloMosaic.Init

@[expose] public section

set_option maxRecDepth 16384

noncomputable section

/-! # The gated linear unit -/

namespace Cert.GluV

open Cert.GluIdeal Cert.GluIdeal.Gen Idealize.ShloMosaic Idealize.ShloMosaic.TcCoe
open Idealize.ShloMosaic.Pipeline (Dat)

set_option maxHeartbeats 400000

/-- Row `r`, column `q` of the result. -/
def at' (a : Vec Ideal S8192x4096 .bf16) (w : Vec Ideal S4096x18432 .f32) (r : Fin 8192) (q : Fin 2048) : EReal :=
  (∑ k : Fin 4096, (a (ix2 r k) : EReal) * w (ix2 k ⟨6144 + q.val, by omega⟩)) * Ideal.logistic (∑ k : Fin 4096, (a (ix2 r k) : EReal) * w (ix2 k ⟨8192 + q.val, by omega⟩))

def arr (a : Vec Ideal S8192x4096 .bf16) (w : Vec Ideal S4096x18432 .f32) : Vec Ideal S8192x2048 .f32 := fun i => at' a w (i 0) (i 1)

theorem out_at (x0 : Vec Ideal S1024x4096 .bf16) (x1 : Vec Ideal S4096x512 .bf16) (x2 : Vec Ideal S4096x512 .bf16) (r : Fin 1024) (q : Fin 512) :
    (out0_3 x0 x1 x2 (ix2 r q) : EReal) = (∑ k : Fin 4096, (x0 (ix2 r k) : EReal) * x1 (ix2 k q)) * Ideal.logistic (∑ k : Fin 4096, (x0 (ix2 r k) : EReal) * x2 (ix2 k q)) := by
  have hz : (![0, 0] : Fin 2 → Nat) = fun _ => 0 := by funext a; fin_cases a <;> rfl
  have hz3 : (![0, 0, 0] : Fin 3 → Nat) = fun _ => 0 := by funext a; fin_cases a <;> rfl
  unfold out0_3
  rw [View.canon_unit_zero hz]
  repeat rw [View.ld_unit_zero hz]
  try rw [View.ld_unit_zero hz3]
  pointwise [k0_pay1]

theorem geo0 : ∀ t : Fin cfg0.N, win0_0.index t 0 = t.val / 4 ∧ win0_0.index t 1 = 0 :=
  (by decide +kernel : ∀ t : Fin grid0.N, _)

theorem geo1 : ∀ t : Fin cfg0.N, win0_1.index t 0 = 0 ∧ win0_1.index t 1 = 12 + t.val % 4 :=
  (by decide +kernel : ∀ t : Fin grid0.N, _)

theorem geo2 : ∀ t : Fin cfg0.N, win0_2.index t 0 = 0 ∧ win0_2.index t 1 = 16 + t.val % 4 :=
  (by decide +kernel : ∀ t : Fin grid0.N, _)

theorem geo3 : ∀ t : Fin cfg0.N, win0_3.index t 0 = t.val / 4 ∧ win0_3.index t 1 = t.val % 4 :=
  (by decide +kernel : ∀ t : Fin grid0.N, _)

section
variable (m : (ℓ : Loc nD τ sig) → Buf (Elt Ideal) ℓ) (c : Dev nD)

theorem lt (t : Fin cfg0.N) : t.val < 32 := by have h := t.isLt; have : cfg0.N = 32 := N_0; omega

theorem v0_at (k : Fin 4096) (q : Fin 18432) : (V m c main_v0 (ix2 k q) : EReal) = (m ((c : Thread nD τ).loc main_arg1)) (ix2 k q) := by
  unfold V
  after_reads_at

theorem iblk0 (t : Fin cfg0.N) (y0 : Fin 1024) (y1 : Fin 4096) :
    have := lt t
    iblk m c 0 t (ix2 y0 y1) = (m ((c : Thread nD τ).loc main_arg0)) (ix2 ⟨1024 * (t.val / 4) + y0.val, by omega⟩ y1) := by
  have ht := lt t
  have g := geo0 t
  refine congrArg (m ((c : Thread nD τ).loc main_arg0)) (funext fun a => Fin.ext ?_)
  match a with
  | ⟨0, _⟩ => show win0_0.index t 0 * 1024 + 1 * y0.val = 1024 * (t.val / 4) + y0.val; rw [g.1]; omega
  | ⟨1, _⟩ => show win0_0.index t 1 * 4096 + 1 * y1.val = y1.val; rw [g.2]; omega

theorem iblk1 (t : Fin cfg0.N) (y0 : Fin 4096) (y1 : Fin 512) :
    have := lt t
    (iblk m c 1 t (ix2 y0 y1) : EReal) = (m ((c : Thread nD τ).loc main_arg1)) (ix2 y0 ⟨6144 + (512 * (t.val % 4) + y1.val), by omega⟩) := by
  have ht := lt t
  have g := geo1 t
  refine Eq.trans (b := (V m c main_v0 (ix2 y0 ⟨6144 + (512 * (t.val % 4) + y1.val), by omega⟩) : EReal)) ?_ (v0_at m c y0 _)
  refine congrArg (V m c main_v0) (funext fun a => Fin.ext ?_)
  match a with
  | ⟨0, _⟩ => show win0_1.index t 0 * 4096 + 1 * y0.val = y0.val; rw [g.1]; omega
  | ⟨1, _⟩ => show win0_1.index t 1 * 512 + 1 * y1.val = 6144 + (512 * (t.val % 4) + y1.val); rw [g.2]; omega

theorem iblk2 (t : Fin cfg0.N) (y0 : Fin 4096) (y1 : Fin 512) :
    have := lt t
    (iblk m c 2 t (ix2 y0 y1) : EReal) = (m ((c : Thread nD τ).loc main_arg1)) (ix2 y0 ⟨8192 + (512 * (t.val % 4) + y1.val), by omega⟩) := by
  have ht := lt t
  have g := geo2 t
  refine Eq.trans (b := (V m c main_v0 (ix2 y0 ⟨8192 + (512 * (t.val % 4) + y1.val), by omega⟩) : EReal)) ?_ (v0_at m c y0 _)
  refine congrArg (V m c main_v0) (funext fun a => Fin.ext ?_)
  match a with
  | ⟨0, _⟩ => show win0_2.index t 0 * 4096 + 1 * y0.val = y0.val; rw [g.1]; omega
  | ⟨1, _⟩ => show win0_2.index t 1 * 512 + 1 * y1.val = 8192 + (512 * (t.val % 4) + y1.val); rw [g.2]; omega

theorem flushed_eq (t : Fin cfg0.N) :
    (dats m 0 c).flushed 3 t = ((cfg0.win 3).blk t).view.read (Elt Ideal)
      (arr (m ((c : Thread nD τ).loc main_arg0)) (m ((c : Thread nD τ).loc main_arg1))) := by
  rw [Value.flushed3]
  funext y
  have hy0 : (y 0).val < 1024 := (y 0).isLt
  have hy1 : (y 1).val < 512 := (y 1).isLt
  have g := geo3 t
  have ht := lt t
  have e : (((cfg0.win 3).blk t).view.emb y : S8192x2048.Idx)
      = (ix2 ⟨1024 * (t.val / 4) + (y 0).val, by omega⟩ ⟨512 * (t.val % 4) + (y 1).val, by omega⟩) := by
    funext a
    refine Fin.ext ?_
    match a with
    | ⟨0, _⟩ => show win0_3.index t 0 * 1024 + 1 * (y 0).val = 1024 * (t.val / 4) + (y 0).val; rw [g.1]; omega
    | ⟨1, _⟩ => show win0_3.index t 1 * 512 + 1 * (y 1).val = 512 * (t.val % 4) + (y 1).val; rw [g.2]; omega
  refine Eq.trans ?_ (Eq.trans (out_at (iblk m c 0 t) (iblk m c 1 t) (iblk m c 2 t) ⟨(y 0).val, hy0⟩ ⟨(y 1).val, hy1⟩) ?_)
  · refine congrArg (out0_3 _ _ _) (funext fun a => Fin.ext ?_)
    match a with
    | ⟨0, _⟩ => rfl
    | ⟨1, _⟩ => rfl
  · show _ = arr (m ((c : Thread nD τ).loc main_arg0)) (m ((c : Thread nD τ).loc main_arg1)) (((cfg0.win 3).blk t).view.emb y)
    rw [e]
    show _ = at' (m ((c : Thread nD τ).loc main_arg0)) (m ((c : Thread nD τ).loc main_arg1)) ⟨1024 * (t.val / 4) + (y 0).val, by omega⟩ ⟨512 * (t.val % 4) + (y 1).val, by omega⟩
    unfold at'
    simp only [iblk0, iblk1, iblk2]
    try rfl

theorem cover (i : S8192x2048.Idx) : ∃ t : Fin cfg0.N, (cfg0.win 3).flush t = true ∧ i ∈ ((cfg0.win 3).blk t).view.set := by
  have h0 : (i 0 : Nat) < 8192 := (i 0).isLt
  have h1 : (i 1 : Nat) < 2048 := (i 1).isLt
  have hN : cfg0.N = 32 := N_0
  refine ⟨⟨(i 0).val / 1024 * 4 + (i 1).val / 512, by omega⟩, flush0_3 _, ?_⟩
  generalize ht : (⟨(i 0).val / 1024 * 4 + (i 1).val / 512, _⟩ : Fin cfg0.N) = t
  have hv : t.val = (i 0).val / 1024 * 4 + (i 1).val / 512 := by rw [← ht]
  have g := geo3 t
  show i ∈ ((View.whole main_v1).slice (win0_3.rect t)).set
  rw [View.set_slice_whole, Rect.mem_set_unit]
  intro a
  match a with
  | ⟨0, _⟩ => show win0_3.index t 0 * 1024 ≤ (i 0 : Nat) ∧ (i 0 : Nat) < win0_3.index t 0 * 1024 + 1024; rw [g.1]; omega
  | ⟨1, _⟩ => show win0_3.index t 1 * 512 ≤ (i 1 : Nat) ∧ (i 1 : Nat) < win0_3.index t 1 * 512 + 512; rw [g.2]; omega

theorem final : (dats m 0 c).arrAt 3 cfg0.N = arr (m ((c : Thread nD τ).loc main_arg0)) (m ((c : Thread nD τ).loc main_arg1)) :=
  (dats m 0 c).arrAt_eq_of_cover 3 _ (fun t _ => flushed_eq m c t) cover

end

end Cert.GluV

/-! ## The reference -/

namespace Cert.GluV

open Idealize.ShloMosaic Idealize.SL.Sem

theorem frame_r : Cert.quiescent_GluReferenceIdeal := fun m ρ _ =>
  (θ_run Cert.GluReferenceIdeal.defs _ _).mono (fun r h => ⟨fun c => (h c).2, sem_eq_zero_of_no_sems (by decide) r.2⟩)
    (Cert.GluReferenceIdeal.Value.run (F := Ideal) m ρ)

theorem algebraic : Cert.algebraic_GluIdeal_GluReferenceIdeal := by
  intro m ρ m' ρ' _ hagree
  refine ⟨fun c => arr (m ((c.tc : Thread Cert.GluIdeal.nD Cert.GluIdeal.τ).loc Cert.GluIdeal.main_arg0)) (m ((c.tc : Thread Cert.GluIdeal.nD Cert.GluIdeal.τ).loc Cert.GluIdeal.main_arg1)), ?_, ?_⟩
  · exact (θ_run Cert.GluIdeal.defs _ _).mono (fun r h c => ⟨(h c).1.trans (final m c), (h c).2⟩)
      (Cert.GluIdeal.Value.run_blocks (F := Ideal) m ρ)
  · refine (θ_run Cert.GluReferenceIdeal.defs _ _).mono (fun r h c => ⟨(h c).1.trans ?_, (h c).2⟩)
      (Cert.GluReferenceIdeal.Value.run (F := Ideal) m' ρ')
    have hg := hagree c
    rw [hg.1, hg.2]
    funext i
    idx_vars i
    unfold arr at'
    pointwise [Ideal.logistic]
    have e : 6144 + (2048 + i1.val) = 8192 + i1.val := by omega
    simp only [e]

end Cert.GluV
-- ==== Proof.Key.lean ====
module

public import proofs.«01_k».proof.Defs
public import proofs.«01_k».proof.Proof.Gen.KeyIdeal.Value
public import proofs.«01_k».proof.Proof.Gen.KeyReferenceIdeal.Run
public import Idealize.ShloMosaic.Lib.Pointwise
public import Idealize.ShloMosaic.Lib.StableHlo.ReadAt
public import Idealize.ShloMosaic.Adequacy
public import Idealize.ShloMosaic.Init

@[expose] public section

set_option maxRecDepth 16384

noncomputable section

/-! # The keys -/

namespace Cert.KeyV

open Cert.KeyIdeal Cert.KeyIdeal.Gen Idealize.ShloMosaic Idealize.ShloMosaic.TcCoe
open Idealize.ShloMosaic.Pipeline (Dat)

set_option maxHeartbeats 400000

/-- The angle of pair `j` of a head at position `s`. -/
def angle (s : Fin 2048) (j : Fin 64) : EReal :=
  FloatOps.sitofp (F := Ideal) .f32 (BitVec.ofNat 32 s.val) * Ideal.pow (Ideal.ofBits .f32 0x461C4000#32) (Ideal.div (-FloatOps.sitofp (F := Ideal) .f32 (BitVec.ofNat 32 j.val)) (Ideal.ofBits .f32 0x42800000#32))

/-- The cosines' table: the pairs' cosines twice. -/
def cosT (s : Fin 2048) (d : Fin 128) : EReal :=
  if h : d.val < 64 then Ideal.cos (angle s ⟨d.val, h⟩) else Ideal.cos (angle s ⟨d.val - 64, by omega⟩)

/-- The sines' table: the pairs' sines negated, then the pairs' sines. -/
def sinT (s : Fin 2048) (d : Fin 128) : EReal :=
  if h : d.val < 64 then -Ideal.sin (angle s ⟨d.val, h⟩) else Ideal.sin (angle s ⟨d.val - 64, by omega⟩)

section
variable (x0 : Vec Ideal S1024x4096 .bf16) (x1 : Vec Ideal S4096x1024 .bf16) (x2 x3 : Vec Ideal S1024x128 .f32)

/-- Row `r`, column `q` of a block, from the blocks read. -/
def block (r : Fin 1024) (q : Fin 1024) : EReal :=
  (∑ k : Fin 4096, (x0 (ix2 r k) : EReal) * x1 (ix2 k q)) * x2 (ix2 r ⟨q.val % 128, by omega⟩) + (∑ k : Fin 4096, (x0 (ix2 r k) : EReal) * x1 (ix2 k ⟨q.val / 128 * 128 + (q.val % 128 + 64) % 128, by omega⟩)) * x3 (ix2 r ⟨q.val % 128, by omega⟩)

/-- The block at a head's columns `o …`. -/
theorem block_head (o : Nat) (h : o % 128 = 0) (inb) (r : Fin 1024) (d : Fin 128) :
    (fun y : S1024x1024.Idx => block x0 x1 x2 x3 (y 0) (y 1)) ((Rect.unit (s := S1024x1024) ![0, o] S1024x128.size inb).idx (ix2 r d))
      = (∑ k : Fin 4096, (x0 (ix2 r k) : EReal) * x1 (ix2 k ⟨o + d.val, by have := inb 1; have : o + 128 ≤ 1024 := this; omega⟩)) * x2 (ix2 r d)
        + (∑ k : Fin 4096, (x0 (ix2 r k) : EReal) * x1 (ix2 k ⟨o + (d.val + 128 - 64) % 128, by have := inb 1; have : o + 128 ≤ 1024 := this; omega⟩)) * x3 (ix2 r d) := by
  have ho : o + 128 ≤ 1024 := inb 1
  have e0 : (((Rect.unit (s := S1024x1024) ![0, o] S1024x128.size inb).idx (ix2 r d)) 0 : Fin 1024) = r := Fin.ext (show 0 + 1 * r.val = r.val by omega)
  have e1 : (((Rect.unit (s := S1024x1024) ![0, o] S1024x128.size inb).idx (ix2 r d)) 1 : Fin 1024) = (⟨o + d.val, by omega⟩ : Fin 1024) := Fin.ext (show o + 1 * d.val = o + d.val by omega)
  show block x0 x1 x2 x3 _ _ = _
  rw [e0, e1]
  unfold block
  have e2 : (o + d.val) % 128 = d.val := by omega
  have e3 : (o + d.val) / 128 * 128 + (d.val + 64) % 128 = o + (d.val + 128 - 64) % 128 := by omega
  simp only [e2, e3, Fin.eta]

end

/-- Row `r`, column `q` of the result. -/
def at' (a : Vec Ideal S8192x4096 .bf16) (w : Vec Ideal S4096x18432 .f32) (r : Fin 8192) (q : Fin 2048) : EReal :=
  (∑ k : Fin 4096, (a (ix2 r k) : EReal) * w (ix2 k ⟨2048 + q.val, by omega⟩)) * cosT ⟨r.val % 2048, by omega⟩ ⟨q.val % 128, by omega⟩ + (∑ k : Fin 4096, (a (ix2 r k) : EReal) * w (ix2 k ⟨2048 + (q.val / 128 * 128 + (q.val % 128 + 64) % 128), by omega⟩)) * sinT ⟨r.val % 2048, by omega⟩ ⟨q.val % 128, by omega⟩

def arr (a : Vec Ideal S8192x4096 .bf16) (w : Vec Ideal S4096x18432 .f32) : Vec Ideal S8192x2048 .f32 := fun i => at' a w (i 0) (i 1)

def arr1 (a : Vec Ideal S8192x4096 .bf16) (w : Vec Ideal S4096x18432 .f32) : Vec Ideal S8192x2048 .bf16 := fun i => at' a w (i 0) (i 1)

theorem out_at (x0 : Vec Ideal S1024x4096 .bf16) (x1 : Vec Ideal S4096x1024 .bf16) (x2 : Vec Ideal S1024x128 .f32) (x3 : Vec Ideal S1024x128 .f32) (r : Fin 1024) (q : Fin 1024) :
    (out0_4 x0 x1 x2 x3 (ix2 r q) : EReal) = (∑ k : Fin 4096, (x0 (ix2 r k) : EReal) * x1 (ix2 k q)) * x2 (ix2 r ⟨q.val % 128, by omega⟩) + (∑ k : Fin 4096, (x0 (ix2 r k) : EReal) * x1 (ix2 k ⟨q.val / 128 * 128 + (q.val % 128 + 64) % 128, by omega⟩)) * x3 (ix2 r ⟨q.val % 128, by omega⟩) := by
  have hz : (![0, 0] : Fin 2 → Nat) = fun _ => 0 := by funext a; fin_cases a <;> rfl
  unfold out0_4 k0_pay22 k0_pay21 k0_pay20
  repeat rw [View.ld_unit_zero hz]
  refine (View.canon_apply_of_pieces (fun y => block x0 x1 x2 x3 (y 0) (y 1)) _ ?_ (ix2 r q) (cover0_4 _ _ _ _ _ _ _ _ _)).trans rfl
  intro pc hpc
  rcases List.mem_cons.mp hpc with rfl | hpc
  · intro (z : S1024x128.Idx)
    idx_vars z
    refine Eq.trans ?_ (block_head x0 x1 x2 x3 896 rfl _ z0 z1).symm
    pointwise [k0_pay3, k0_pay4, k0_pay5, k0_pay1, k0_pay6, k0_pay8, k0_pay10, k0_pay12, k0_pay14, k0_pay16, k0_pay18]
  rcases List.mem_cons.mp hpc with rfl | hpc
  · intro (z : S1024x128.Idx)
    idx_vars z
    refine Eq.trans ?_ (block_head x0 x1 x2 x3 768 rfl _ z0 z1).symm
    pointwise [k0_pay3, k0_pay4, k0_pay5, k0_pay1, k0_pay6, k0_pay8, k0_pay10, k0_pay12, k0_pay14, k0_pay16, k0_pay18]
  rcases List.mem_cons.mp hpc with rfl | hpc
  · intro (z : S1024x128.Idx)
    idx_vars z
    refine Eq.trans ?_ (block_head x0 x1 x2 x3 640 rfl _ z0 z1).symm
    pointwise [k0_pay3, k0_pay4, k0_pay5, k0_pay1, k0_pay6, k0_pay8, k0_pay10, k0_pay12, k0_pay14, k0_pay16, k0_pay18]
  rcases List.mem_cons.mp hpc with rfl | hpc
  · intro (z : S1024x128.Idx)
    idx_vars z
    refine Eq.trans ?_ (block_head x0 x1 x2 x3 512 rfl _ z0 z1).symm
    pointwise [k0_pay3, k0_pay4, k0_pay5, k0_pay1, k0_pay6, k0_pay8, k0_pay10, k0_pay12, k0_pay14, k0_pay16, k0_pay18]
  rcases List.mem_cons.mp hpc with rfl | hpc
  · intro (z : S1024x128.Idx)
    idx_vars z
    refine Eq.trans ?_ (block_head x0 x1 x2 x3 384 rfl _ z0 z1).symm
    pointwise [k0_pay3, k0_pay4, k0_pay5, k0_pay1, k0_pay6, k0_pay8, k0_pay10, k0_pay12, k0_pay14, k0_pay16, k0_pay18]
  rcases List.mem_cons.mp hpc with rfl | hpc
  · intro (z : S1024x128.Idx)
    idx_vars z
    refine Eq.trans ?_ (block_head x0 x1 x2 x3 256 rfl _ z0 z1).symm
    pointwise [k0_pay3, k0_pay4, k0_pay5, k0_pay1, k0_pay6, k0_pay8, k0_pay10, k0_pay12, k0_pay14, k0_pay16, k0_pay18]
  rcases List.mem_cons.mp hpc with rfl | hpc
  · intro (z : S1024x128.Idx)
    idx_vars z
    refine Eq.trans ?_ (block_head x0 x1 x2 x3 128 rfl _ z0 z1).symm
    pointwise [k0_pay3, k0_pay4, k0_pay5, k0_pay1, k0_pay6, k0_pay8, k0_pay10, k0_pay12, k0_pay14, k0_pay16, k0_pay18]
  rcases List.mem_cons.mp hpc with rfl | hpc
  · intro (z : S1024x128.Idx)
    idx_vars z
    refine Eq.trans ?_ (block_head x0 x1 x2 x3 0 rfl _ z0 z1).symm
    pointwise [k0_pay3, k0_pay4, k0_pay5, k0_pay1, k0_pay6, k0_pay8, k0_pay10, k0_pay12, k0_pay14, k0_pay16, k0_pay18]
  nomatch hpc

theorem out_at1 (x0 : Vec Ideal S1024x4096 .bf16) (x1 : Vec Ideal S4096x1024 .bf16) (x2 : Vec Ideal S1024x128 .f32) (x3 : Vec Ideal S1024x128 .f32) (r : Fin 1024) (q : Fin 1024) :
    (out0_5 x0 x1 x2 x3 (ix2 r q) : EReal) = (∑ k : Fin 4096, (x0 (ix2 r k) : EReal) * x1 (ix2 k q)) * x2 (ix2 r ⟨q.val % 128, by omega⟩) + (∑ k : Fin 4096, (x0 (ix2 r k) : EReal) * x1 (ix2 k ⟨q.val / 128 * 128 + (q.val % 128 + 64) % 128, by omega⟩)) * x3 (ix2 r ⟨q.val % 128, by omega⟩) := by
  have hz : (![0, 0] : Fin 2 → Nat) = fun _ => 0 := by funext a; fin_cases a <;> rfl
  unfold out0_5 k0_pay22 k0_pay21 k0_pay20
  repeat rw [View.ld_unit_zero hz]
  refine (View.canon_apply_of_pieces (fun y => block x0 x1 x2 x3 (y 0) (y 1)) _ ?_ (ix2 r q) (cover0_5 _ _ _ _ _ _ _ _ _)).trans rfl
  intro pc hpc
  rcases List.mem_cons.mp hpc with rfl | hpc
  · intro (z : S1024x128.Idx)
    idx_vars z
    refine Eq.trans ?_ (block_head x0 x1 x2 x3 896 rfl _ z0 z1).symm
    pointwise [k0_pay3, k0_pay4, k0_pay5, k0_pay1, k0_pay6, k0_pay8, k0_pay10, k0_pay12, k0_pay14, k0_pay16, k0_pay18, k0_pay2, k0_pay7, k0_pay9, k0_pay11, k0_pay13, k0_pay15, k0_pay17, k0_pay19]
  rcases List.mem_cons.mp hpc with rfl | hpc
  · intro (z : S1024x128.Idx)
    idx_vars z
    refine Eq.trans ?_ (block_head x0 x1 x2 x3 768 rfl _ z0 z1).symm
    pointwise [k0_pay3, k0_pay4, k0_pay5, k0_pay1, k0_pay6, k0_pay8, k0_pay10, k0_pay12, k0_pay14, k0_pay16, k0_pay18, k0_pay2, k0_pay7, k0_pay9, k0_pay11, k0_pay13, k0_pay15, k0_pay17, k0_pay19]
  rcases List.mem_cons.mp hpc with rfl | hpc
  · intro (z : S1024x128.Idx)
    idx_vars z
    refine Eq.trans ?_ (block_head x0 x1 x2 x3 640 rfl _ z0 z1).symm
    pointwise [k0_pay3, k0_pay4, k0_pay5, k0_pay1, k0_pay6, k0_pay8, k0_pay10, k0_pay12, k0_pay14, k0_pay16, k0_pay18, k0_pay2, k0_pay7, k0_pay9, k0_pay11, k0_pay13, k0_pay15, k0_pay17, k0_pay19]
  rcases List.mem_cons.mp hpc with rfl | hpc
  · intro (z : S1024x128.Idx)
    idx_vars z
    refine Eq.trans ?_ (block_head x0 x1 x2 x3 512 rfl _ z0 z1).symm
    pointwise [k0_pay3, k0_pay4, k0_pay5, k0_pay1, k0_pay6, k0_pay8, k0_pay10, k0_pay12, k0_pay14, k0_pay16, k0_pay18, k0_pay2, k0_pay7, k0_pay9, k0_pay11, k0_pay13, k0_pay15, k0_pay17, k0_pay19]
  rcases List.mem_cons.mp hpc with rfl | hpc
  · intro (z : S1024x128.Idx)
    idx_vars z
    refine Eq.trans ?_ (block_head x0 x1 x2 x3 384 rfl _ z0 z1).symm
    pointwise [k0_pay3, k0_pay4, k0_pay5, k0_pay1, k0_pay6, k0_pay8, k0_pay10, k0_pay12, k0_pay14, k0_pay16, k0_pay18, k0_pay2, k0_pay7, k0_pay9, k0_pay11, k0_pay13, k0_pay15, k0_pay17, k0_pay19]
  rcases List.mem_cons.mp hpc with rfl | hpc
  · intro (z : S1024x128.Idx)
    idx_vars z
    refine Eq.trans ?_ (block_head x0 x1 x2 x3 256 rfl _ z0 z1).symm
    pointwise [k0_pay3, k0_pay4, k0_pay5, k0_pay1, k0_pay6, k0_pay8, k0_pay10, k0_pay12, k0_pay14, k0_pay16, k0_pay18, k0_pay2, k0_pay7, k0_pay9, k0_pay11, k0_pay13, k0_pay15, k0_pay17, k0_pay19]
  rcases List.mem_cons.mp hpc with rfl | hpc
  · intro (z : S1024x128.Idx)
    idx_vars z
    refine Eq.trans ?_ (block_head x0 x1 x2 x3 128 rfl _ z0 z1).symm
    pointwise [k0_pay3, k0_pay4, k0_pay5, k0_pay1, k0_pay6, k0_pay8, k0_pay10, k0_pay12, k0_pay14, k0_pay16, k0_pay18, k0_pay2, k0_pay7, k0_pay9, k0_pay11, k0_pay13, k0_pay15, k0_pay17, k0_pay19]
  rcases List.mem_cons.mp hpc with rfl | hpc
  · intro (z : S1024x128.Idx)
    idx_vars z
    refine Eq.trans ?_ (block_head x0 x1 x2 x3 0 rfl _ z0 z1).symm
    pointwise [k0_pay3, k0_pay4, k0_pay5, k0_pay1, k0_pay6, k0_pay8, k0_pay10, k0_pay12, k0_pay14, k0_pay16, k0_pay18, k0_pay2, k0_pay7, k0_pay9, k0_pay11, k0_pay13, k0_pay15, k0_pay17, k0_pay19]
  nomatch hpc

theorem geo0 : ∀ t : Fin cfg0.N, win0_0.index t 0 = t.val / 2 ∧ win0_0.index t 1 = 0 :=
  (by decide +kernel : ∀ t : Fin grid0.N, _)

theorem geo1 : ∀ t : Fin cfg0.N, win0_1.index t 0 = 0 ∧ win0_1.index t 1 = 2 + t.val % 2 :=
  (by decide +kernel : ∀ t : Fin grid0.N, _)

theorem geo2 : ∀ t : Fin cfg0.N, win0_2.index t 0 = t.val / 2 % 2 ∧ win0_2.index t 1 = 0 :=
  (by decide +kernel : ∀ t : Fin grid0.N, _)

theorem geo3 : ∀ t : Fin cfg0.N, win0_3.index t 0 = t.val / 2 % 2 ∧ win0_3.index t 1 = 0 :=
  (by decide +kernel : ∀ t : Fin grid0.N, _)

theorem geo4 : ∀ t : Fin cfg0.N, win0_4.index t 0 = t.val / 2 ∧ win0_4.index t 1 = t.val % 2 :=
  (by decide +kernel : ∀ t : Fin grid0.N, _)

theorem geo5 : ∀ t : Fin cfg0.N, win0_5.index t 0 = t.val / 2 ∧ win0_5.index t 1 = t.val % 2 :=
  (by decide +kernel : ∀ t : Fin grid0.N, _)

section
variable (m : (ℓ : Loc nD τ sig) → Buf (Elt Ideal) ℓ) (c : Dev nD)

theorem lt (t : Fin cfg0.N) : t.val < 16 := by have h := t.isLt; have : cfg0.N = 16 := N_0; omega

theorem v18_at (k : Fin 4096) (q : Fin 18432) : (V m c main_v18 (ix2 k q) : EReal) = (m ((c : Thread nD τ).loc main_arg1)) (ix2 k q) := by
  unfold V
  after_reads_at

theorem v15_at (s : Fin 2048) (d : Fin 128) : (V m c main_v15 (ix2 s d) : EReal) = cosT s d := by
  unfold V cosT angle
  after_reads_at

theorem v17_at (s : Fin 2048) (d : Fin 128) : (V m c main_v17 (ix2 s d) : EReal) = sinT s d := by
  unfold V sinT angle
  after_reads_at

theorem iblk0 (t : Fin cfg0.N) (y0 : Fin 1024) (y1 : Fin 4096) :
    have := lt t
    iblk m c 0 t (ix2 y0 y1) = (m ((c : Thread nD τ).loc main_arg0)) (ix2 ⟨1024 * (t.val / 2) + y0.val, by omega⟩ y1) := by
  have ht := lt t
  have g := geo0 t
  refine congrArg (m ((c : Thread nD τ).loc main_arg0)) (funext fun a => Fin.ext ?_)
  match a with
  | ⟨0, _⟩ => show win0_0.index t 0 * 1024 + 1 * y0.val = 1024 * (t.val / 2) + y0.val; rw [g.1]; omega
  | ⟨1, _⟩ => show win0_0.index t 1 * 4096 + 1 * y1.val = y1.val; rw [g.2]; omega

theorem iblk1 (t : Fin cfg0.N) (y0 : Fin 4096) (y1 : Fin 1024) :
    have := lt t
    (iblk m c 1 t (ix2 y0 y1) : EReal) = (m ((c : Thread nD τ).loc main_arg1)) (ix2 y0 ⟨2048 + (1024 * (t.val % 2) + y1.val), by omega⟩) := by
  have ht := lt t
  have g := geo1 t
  refine Eq.trans (b := (V m c main_v18 (ix2 y0 ⟨2048 + (1024 * (t.val % 2) + y1.val), by omega⟩) : EReal)) ?_ (v18_at m c y0 _)
  refine congrArg (V m c main_v18) (funext fun a => Fin.ext ?_)
  match a with
  | ⟨0, _⟩ => show win0_1.index t 0 * 4096 + 1 * y0.val = y0.val; rw [g.1]; omega
  | ⟨1, _⟩ => show win0_1.index t 1 * 1024 + 1 * y1.val = 2048 + (1024 * (t.val % 2) + y1.val); rw [g.2]; omega

theorem iblk2 (t : Fin cfg0.N) (y0 : Fin 1024) (y1 : Fin 128) :
    have := lt t
    (iblk m c 2 t (ix2 y0 y1) : EReal) = cosT ⟨1024 * (t.val / 2 % 2) + y0.val, by omega⟩ y1 := by
  have ht := lt t
  have g := geo2 t
  refine Eq.trans (b := (V m c main_v15 (ix2 ⟨1024 * (t.val / 2 % 2) + y0.val, by omega⟩ y1) : EReal)) ?_ (v15_at m c _ y1)
  refine congrArg (V m c main_v15) (funext fun a => Fin.ext ?_)
  match a with
  | ⟨0, _⟩ => show win0_2.index t 0 * 1024 + 1 * y0.val = 1024 * (t.val / 2 % 2) + y0.val; rw [g.1]; omega
  | ⟨1, _⟩ => show win0_2.index t 1 * 128 + 1 * y1.val = y1.val; rw [g.2]; omega

theorem iblk3 (t : Fin cfg0.N) (y0 : Fin 1024) (y1 : Fin 128) :
    have := lt t
    (iblk m c 3 t (ix2 y0 y1) : EReal) = sinT ⟨1024 * (t.val / 2 % 2) + y0.val, by omega⟩ y1 := by
  have ht := lt t
  have g := geo3 t
  refine Eq.trans (b := (V m c main_v17 (ix2 ⟨1024 * (t.val / 2 % 2) + y0.val, by omega⟩ y1) : EReal)) ?_ (v17_at m c _ y1)
  refine congrArg (V m c main_v17) (funext fun a => Fin.ext ?_)
  match a with
  | ⟨0, _⟩ => show win0_3.index t 0 * 1024 + 1 * y0.val = 1024 * (t.val / 2 % 2) + y0.val; rw [g.1]; omega
  | ⟨1, _⟩ => show win0_3.index t 1 * 128 + 1 * y1.val = y1.val; rw [g.2]; omega

theorem flushed_eq (t : Fin cfg0.N) :
    (dats m 0 c).flushed 4 t = ((cfg0.win 4).blk t).view.read (Elt Ideal)
      (arr (m ((c : Thread nD τ).loc main_arg0)) (m ((c : Thread nD τ).loc main_arg1))) := by
  rw [Value.flushed4]
  funext y
  have hy0 : (y 0).val < 1024 := (y 0).isLt
  have hy1 : (y 1).val < 1024 := (y 1).isLt
  have g := geo4 t
  have ht := lt t
  have e : (((cfg0.win 4).blk t).view.emb y : S8192x2048.Idx)
      = (ix2 ⟨1024 * (t.val / 2) + (y 0).val, by omega⟩ ⟨1024 * (t.val % 2) + (y 1).val, by omega⟩) := by
    funext a
    refine Fin.ext ?_
    match a with
    | ⟨0, _⟩ => show win0_4.index t 0 * 1024 + 1 * (y 0).val = 1024 * (t.val / 2) + (y 0).val; rw [g.1]; omega
    | ⟨1, _⟩ => show win0_4.index t 1 * 1024 + 1 * (y 1).val = 1024 * (t.val % 2) + (y 1).val; rw [g.2]; omega
  refine Eq.trans ?_ (Eq.trans (out_at (iblk m c 0 t) (iblk m c 1 t) (iblk m c 2 t) (iblk m c 3 t) ⟨(y 0).val, hy0⟩ ⟨(y 1).val, hy1⟩) ?_)
  · refine congrArg (out0_4 _ _ _ _) (funext fun a => Fin.ext ?_)
    match a with
    | ⟨0, _⟩ => rfl
    | ⟨1, _⟩ => rfl
  · show _ = arr (m ((c : Thread nD τ).loc main_arg0)) (m ((c : Thread nD τ).loc main_arg1)) (((cfg0.win 4).blk t).view.emb y)
    rw [e]
    show _ = at' (m ((c : Thread nD τ).loc main_arg0)) (m ((c : Thread nD τ).loc main_arg1)) ⟨1024 * (t.val / 2) + (y 0).val, by omega⟩ ⟨1024 * (t.val % 2) + (y 1).val, by omega⟩
    have e5 : (1024 * (t.val / 2) + (y 0).val) % 2048 = 1024 * (t.val / 2 % 2) + (y 0).val := by omega
    have e6 : (1024 * (t.val % 2) + (y 1).val) % 128 = (y 1).val % 128 := by omega
    have e7 : (1024 * (t.val % 2) + (y 1).val) / 128 * 128 + ((y 1).val % 128 + 64) % 128 = 1024 * (t.val % 2) + ((y 1).val / 128 * 128 + ((y 1).val % 128 + 64) % 128) := by omega
    unfold at'
    simp only [iblk0, iblk1, iblk2, iblk3, e5, e6, e7]
    try rfl

theorem cover (i : S8192x2048.Idx) : ∃ t : Fin cfg0.N, (cfg0.win 4).flush t = true ∧ i ∈ ((cfg0.win 4).blk t).view.set := by
  have h0 : (i 0 : Nat) < 8192 := (i 0).isLt
  have h1 : (i 1 : Nat) < 2048 := (i 1).isLt
  have hN : cfg0.N = 16 := N_0
  refine ⟨⟨(i 0).val / 1024 * 2 + (i 1).val / 1024, by omega⟩, flush0_4 _, ?_⟩
  generalize ht : (⟨(i 0).val / 1024 * 2 + (i 1).val / 1024, _⟩ : Fin cfg0.N) = t
  have hv : t.val = (i 0).val / 1024 * 2 + (i 1).val / 1024 := by rw [← ht]
  have g := geo4 t
  show i ∈ ((View.whole main_v19_0).slice (win0_4.rect t)).set
  rw [View.set_slice_whole, Rect.mem_set_unit]
  intro a
  match a with
  | ⟨0, _⟩ => show win0_4.index t 0 * 1024 ≤ (i 0 : Nat) ∧ (i 0 : Nat) < win0_4.index t 0 * 1024 + 1024; rw [g.1]; omega
  | ⟨1, _⟩ => show win0_4.index t 1 * 1024 ≤ (i 1 : Nat) ∧ (i 1 : Nat) < win0_4.index t 1 * 1024 + 1024; rw [g.2]; omega

theorem final : (dats m 0 c).arrAt 4 cfg0.N = arr (m ((c : Thread nD τ).loc main_arg0)) (m ((c : Thread nD τ).loc main_arg1)) :=
  (dats m 0 c).arrAt_eq_of_cover 4 _ (fun t _ => flushed_eq m c t) cover

theorem flushed_eq1 (t : Fin cfg0.N) :
    (dats m 0 c).flushed 5 t = ((cfg0.win 5).blk t).view.read (Elt Ideal)
      (arr1 (m ((c : Thread nD τ).loc main_arg0)) (m ((c : Thread nD τ).loc main_arg1))) := by
  rw [Value.flushed5]
  funext y
  have hy0 : (y 0).val < 1024 := (y 0).isLt
  have hy1 : (y 1).val < 1024 := (y 1).isLt
  have g := geo5 t
  have ht := lt t
  have e : (((cfg0.win 5).blk t).view.emb y : S8192x2048.Idx)
      = (ix2 ⟨1024 * (t.val / 2) + (y 0).val, by omega⟩ ⟨1024 * (t.val % 2) + (y 1).val, by omega⟩) := by
    funext a
    refine Fin.ext ?_
    match a with
    | ⟨0, _⟩ => show win0_5.index t 0 * 1024 + 1 * (y 0).val = 1024 * (t.val / 2) + (y 0).val; rw [g.1]; omega
    | ⟨1, _⟩ => show win0_5.index t 1 * 1024 + 1 * (y 1).val = 1024 * (t.val % 2) + (y 1).val; rw [g.2]; omega
  refine Eq.trans ?_ (Eq.trans (out_at1 (iblk m c 0 t) (iblk m c 1 t) (iblk m c 2 t) (iblk m c 3 t) ⟨(y 0).val, hy0⟩ ⟨(y 1).val, hy1⟩) ?_)
  · refine congrArg (out0_5 _ _ _ _) (funext fun a => Fin.ext ?_)
    match a with
    | ⟨0, _⟩ => rfl
    | ⟨1, _⟩ => rfl
  · show _ = arr1 (m ((c : Thread nD τ).loc main_arg0)) (m ((c : Thread nD τ).loc main_arg1)) (((cfg0.win 5).blk t).view.emb y)
    rw [e]
    show _ = at' (m ((c : Thread nD τ).loc main_arg0)) (m ((c : Thread nD τ).loc main_arg1)) ⟨1024 * (t.val / 2) + (y 0).val, by omega⟩ ⟨1024 * (t.val % 2) + (y 1).val, by omega⟩
    have e5 : (1024 * (t.val / 2) + (y 0).val) % 2048 = 1024 * (t.val / 2 % 2) + (y 0).val := by omega
    have e6 : (1024 * (t.val % 2) + (y 1).val) % 128 = (y 1).val % 128 := by omega
    have e7 : (1024 * (t.val % 2) + (y 1).val) / 128 * 128 + ((y 1).val % 128 + 64) % 128 = 1024 * (t.val % 2) + ((y 1).val / 128 * 128 + ((y 1).val % 128 + 64) % 128) := by omega
    unfold at'
    simp only [iblk0, iblk1, iblk2, iblk3, e5, e6, e7]
    try rfl

theorem cover1 (i : S8192x2048.Idx) : ∃ t : Fin cfg0.N, (cfg0.win 5).flush t = true ∧ i ∈ ((cfg0.win 5).blk t).view.set := by
  have h0 : (i 0 : Nat) < 8192 := (i 0).isLt
  have h1 : (i 1 : Nat) < 2048 := (i 1).isLt
  have hN : cfg0.N = 16 := N_0
  refine ⟨⟨(i 0).val / 1024 * 2 + (i 1).val / 1024, by omega⟩, flush0_5 _, ?_⟩
  generalize ht : (⟨(i 0).val / 1024 * 2 + (i 1).val / 1024, _⟩ : Fin cfg0.N) = t
  have hv : t.val = (i 0).val / 1024 * 2 + (i 1).val / 1024 := by rw [← ht]
  have g := geo5 t
  show i ∈ ((View.whole main_v19_1).slice (win0_5.rect t)).set
  rw [View.set_slice_whole, Rect.mem_set_unit]
  intro a
  match a with
  | ⟨0, _⟩ => show win0_5.index t 0 * 1024 ≤ (i 0 : Nat) ∧ (i 0 : Nat) < win0_5.index t 0 * 1024 + 1024; rw [g.1]; omega
  | ⟨1, _⟩ => show win0_5.index t 1 * 1024 ≤ (i 1 : Nat) ∧ (i 1 : Nat) < win0_5.index t 1 * 1024 + 1024; rw [g.2]; omega

theorem final1 : (dats m 0 c).arrAt 5 cfg0.N = arr1 (m ((c : Thread nD τ).loc main_arg0)) (m ((c : Thread nD τ).loc main_arg1)) :=
  (dats m 0 c).arrAt_eq_of_cover 5 _ (fun t _ => flushed_eq1 m c t) cover1

end

end Cert.KeyV

/-! ## The reference -/

namespace Cert.KeyV

open Idealize.ShloMosaic Idealize.SL.Sem

section
open Cert.KeyReferenceIdeal Cert.KeyReferenceIdeal.Gen

/-- The rotation of every head's pairs, read at a row and a column of the joined heads. -/
theorem rope_at (K : FVec Ideal S4x2048x16x128 .f32) (C S : FVec Ideal S2048x64 .f32) (r : Fin 8192) (q : Fin 2048) :
    shapeCast S8192x2048 (concatenate S4x2048x16x128 3 [⟨S4x2048x16x64, subf (mulf (extractStridedSlice S4x2048x16x64 ![0, 0, 0, 0] K slices_S4x2048x16x128_S4x2048x16x64_0_0_0_0) (broadcastInDim S4x2048x16x64 ![0, 1, 2, 3] bcast_S1x2048x1x64_S4x2048x16x64_0_1_2_3 (broadcastInDim S1x2048x1x64 ![1, 3] bcast_S2048x64_S1x2048x1x64_1_3 C))) (mulf (extractStridedSlice S4x2048x16x64 ![0, 0, 0, 64] K slices_S4x2048x16x128_S4x2048x16x64_0_0_0_64) (broadcastInDim S4x2048x16x64 ![0, 1, 2, 3] bcast_S1x2048x1x64_S4x2048x16x64_0_1_2_3 (broadcastInDim S1x2048x1x64 ![1, 3] bcast_S2048x64_S1x2048x1x64_1_3 S)))⟩, ⟨S4x2048x16x64, addf (mulf (extractStridedSlice S4x2048x16x64 ![0, 0, 0, 0] K slices_S4x2048x16x128_S4x2048x16x64_0_0_0_0) (broadcastInDim S4x2048x16x64 ![0, 1, 2, 3] bcast_S1x2048x1x64_S4x2048x16x64_0_1_2_3 (broadcastInDim S1x2048x1x64 ![1, 3] bcast_S2048x64_S1x2048x1x64_1_3 S))) (mulf (extractStridedSlice S4x2048x16x64 ![0, 0, 0, 64] K slices_S4x2048x16x128_S4x2048x16x64_0_0_0_64) (broadcastInDim S4x2048x16x64 ![0, 1, 2, 3] bcast_S1x2048x1x64_S4x2048x16x64_0_1_2_3 (broadcastInDim S1x2048x1x64 ![1, 3] bcast_S2048x64_S1x2048x1x64_1_3 C)))⟩] concatenates_S4x2048x16x64_S4x2048x16x64_S4x2048x16x128_d3) shapeCasts_S4x2048x16x128_S8192x2048 (ix2 r q)
      = if h : q.val % 128 < 64 then (K (ix4 ⟨r.val / 2048, by omega⟩ ⟨r.val % 2048, by omega⟩ ⟨q.val / 128, by omega⟩ ⟨q.val % 128, by omega⟩) : EReal) * C (ix2 ⟨r.val % 2048, by omega⟩ ⟨q.val % 128, h⟩) - K (ix4 ⟨r.val / 2048, by omega⟩ ⟨r.val % 2048, by omega⟩ ⟨q.val / 128, by omega⟩ ⟨64 + q.val % 128, by omega⟩) * S (ix2 ⟨r.val % 2048, by omega⟩ ⟨q.val % 128, h⟩)
        else (K (ix4 ⟨r.val / 2048, by omega⟩ ⟨r.val % 2048, by omega⟩ ⟨q.val / 128, by omega⟩ ⟨q.val % 128 - 64, by omega⟩) : EReal) * S (ix2 ⟨r.val % 2048, by omega⟩ ⟨q.val % 128 - 64, by omega⟩) + K (ix4 ⟨r.val / 2048, by omega⟩ ⟨r.val % 2048, by omega⟩ ⟨q.val / 128, by omega⟩ ⟨64 + (q.val % 128 - 64), by omega⟩) * C (ix2 ⟨r.val % 2048, by omega⟩ ⟨q.val % 128 - 64, by omega⟩) := by
  pointwise

/-- The product split into heads, read at an entry. -/
theorem heads_at (a : FVec Ideal S8192x4096 .bf16) (w : FVec Ideal S4096x18432 .f32) (r : Fin 8192) (q : Fin 2048) (d : Fin 128) :
    shapeCast S4x2048x16x128 (Host.dotGeneral dot_S8192x4096_S4096x2048_S8192x2048_1_0_0_1_n_n none (extf .f32 a bitsLt_bf16_f32) (extractStridedSlice S4096x2048 ![0, 2048] w slices_S4096x18432_S4096x2048_0_2048)) shapeCasts_S8192x2048_S4x2048x16x128 (ix4 ⟨r.val / 2048, by omega⟩ ⟨r.val % 2048, by omega⟩ ⟨q.val / 128, by omega⟩ d)
      = ∑ k : Fin 4096, (a (ix2 r k) : EReal) * w (ix2 k ⟨2048 + (q.val / 128 * 128 + d.val), by omega⟩) := by
  have e : r.val / 2048 * 2048 + r.val % 2048 = r.val := by omega
  pointwise [e]

theorem cos_at (s : Fin 2048) (j : Fin 64) : (Host.cos (mulf (broadcastInDim S2048x64 ![0, 1] bcast_S2048x1_S2048x64_0_1 (broadcastInDim S2048x1 ![0] bcast_S2048_S2048x1_0 (sitofp .f32 (iotaInDim S2048 32 0)))) (broadcastInDim S2048x64 ![0, 1] bcast_S1x64_S2048x64_0_1 (broadcastInDim S1x64 ![1] bcast_S64_S1x64_1 (Host.powf (broadcastInDim S64 ![] bcast_S_S64 (constant S_ .f32 0x461C4000#32)) (Host.divf (Host.negf (sitofp .f32 (iotaInDim S64 32 0))) (broadcastInDim S64 ![] bcast_S_S64 (constant S_ .f32 0x42800000#32))))))) : FVec Ideal S2048x64 .f32) (ix2 s j) = Ideal.cos (angle s j) := by
  unfold angle
  pointwise

theorem sin_at (s : Fin 2048) (j : Fin 64) : (Host.sin (mulf (broadcastInDim S2048x64 ![0, 1] bcast_S2048x1_S2048x64_0_1 (broadcastInDim S2048x1 ![0] bcast_S2048_S2048x1_0 (sitofp .f32 (iotaInDim S2048 32 0)))) (broadcastInDim S2048x64 ![0, 1] bcast_S1x64_S2048x64_0_1 (broadcastInDim S1x64 ![1] bcast_S64_S1x64_1 (Host.powf (broadcastInDim S64 ![] bcast_S_S64 (constant S_ .f32 0x461C4000#32)) (Host.divf (Host.negf (sitofp .f32 (iotaInDim S64 32 0))) (broadcastInDim S64 ![] bcast_S_S64 (constant S_ .f32 0x42800000#32))))))) : FVec Ideal S2048x64 .f32) (ix2 s j) = Ideal.sin (angle s j) := by
  unfold angle
  pointwise

end

theorem frame_r : Cert.quiescent_KeyReferenceIdeal := fun m ρ _ =>
  (θ_run Cert.KeyReferenceIdeal.defs _ _).mono (fun r h => ⟨fun c => (h c).2.2, sem_eq_zero_of_no_sems (by decide) r.2⟩)
    (Cert.KeyReferenceIdeal.Value.run (F := Ideal) m ρ)

theorem algebraic : Cert.algebraic_KeyIdeal_KeyReferenceIdeal := by
  intro m ρ m' ρ' _ hagree
  refine ⟨fun c => arr (m ((c.tc : Thread Cert.KeyIdeal.nD Cert.KeyIdeal.τ).loc Cert.KeyIdeal.main_arg0)) (m ((c.tc : Thread Cert.KeyIdeal.nD Cert.KeyIdeal.τ).loc Cert.KeyIdeal.main_arg1)), fun c => arr1 (m ((c.tc : Thread Cert.KeyIdeal.nD Cert.KeyIdeal.τ).loc Cert.KeyIdeal.main_arg0)) (m ((c.tc : Thread Cert.KeyIdeal.nD Cert.KeyIdeal.τ).loc Cert.KeyIdeal.main_arg1)), ?_, ?_⟩
  · exact (θ_run Cert.KeyIdeal.defs _ _).mono (fun r h c => ⟨(h c).1.trans (final m c), (h c).2.1.trans (final1 m c), (h c).2.2⟩)
      (Cert.KeyIdeal.Value.run_blocks (F := Ideal) m ρ)
  · refine (θ_run Cert.KeyReferenceIdeal.defs _ _).mono (fun r h c => ⟨(h c).1.trans ?_, (h c).2.1.trans ?_, (h c).2.2⟩)
      (Cert.KeyReferenceIdeal.Value.run (F := Ideal) m' ρ')
    · have hg := hagree c
      unfold Cert.KeyReferenceIdeal.Value.res_main_v34
      rw [hg.1, hg.2]
      funext i
      idx_vars i
      refine (rope_at _ _ _ i0 i1).trans ?_
      show _ = at' _ _ i0 i1
      unfold at' cosT sinT
      by_cases h : i1.val % 128 < 64
      · have e1 : i1.val / 128 * 128 + i1.val % 128 = i1.val := by omega
        have e2 : (i1.val % 128 + 64) % 128 = 64 + i1.val % 128 := by omega
        simp only [h, ↓reduceDIte, heads_at, e1, e2, mul_neg, sub_eq_add_neg]
        rw [← cos_at, ← sin_at]
      · have e1 : i1.val / 128 * 128 + (64 + (i1.val % 128 - 64)) = i1.val := by omega
        have e2 : (i1.val % 128 + 64) % 128 = i1.val % 128 - 64 := by omega
        simp only [h, ↓reduceDIte, heads_at, e1, e2]
        rw [← cos_at, ← sin_at]
        exact add_comm _ _
    · have hg := hagree c
      unfold Cert.KeyReferenceIdeal.Value.res_main_v35
      rw [hg.1, hg.2]
      funext i
      idx_vars i
      refine (rope_at _ _ _ i0 i1).trans ?_
      show _ = at' _ _ i0 i1
      unfold at' cosT sinT
      by_cases h : i1.val % 128 < 64
      · have e1 : i1.val / 128 * 128 + i1.val % 128 = i1.val := by omega
        have e2 : (i1.val % 128 + 64) % 128 = 64 + i1.val % 128 := by omega
        simp only [h, ↓reduceDIte, heads_at, e1, e2, mul_neg, sub_eq_add_neg]
        rw [← cos_at, ← sin_at]
      · have e1 : i1.val / 128 * 128 + (64 + (i1.val % 128 - 64)) = i1.val := by omega
        have e2 : (i1.val % 128 + 64) % 128 = i1.val % 128 - 64 := by omega
        simp only [h, ↓reduceDIte, heads_at, e1, e2]
        rw [← cos_at, ← sin_at]
        exact add_comm _ _

end Cert.KeyV
-- ==== Proof.Val.lean ====
module

public import proofs.«01_k».proof.Defs
public import proofs.«01_k».proof.Proof.Gen.ValIdeal.Value
public import proofs.«01_k».proof.Proof.Gen.ValReferenceIdeal.Run
public import Idealize.ShloMosaic.Lib.Pointwise
public import Idealize.ShloMosaic.Lib.StableHlo.ReadAt
public import Idealize.ShloMosaic.Adequacy
public import Idealize.ShloMosaic.Init

@[expose] public section

set_option maxRecDepth 16384

noncomputable section

/-! # The values -/

namespace Cert.ValV

open Cert.ValIdeal Cert.ValIdeal.Gen Idealize.ShloMosaic Idealize.ShloMosaic.TcCoe
open Idealize.ShloMosaic.Pipeline (Dat)

set_option maxHeartbeats 400000

/-- Row `r`, column `q` of the result. -/
def at' (a : Vec Ideal S8192x4096 .bf16) (w : Vec Ideal S4096x18432 .f32) (r : Fin 8192) (q : Fin 2048) : EReal :=
  (∑ k : Fin 4096, (a (ix2 r k) : EReal) * w (ix2 k ⟨4096 + q.val, by omega⟩))

def arr (a : Vec Ideal S8192x4096 .bf16) (w : Vec Ideal S4096x18432 .f32) : Vec Ideal S8192x2048 .f32 := fun i => at' a w (i 0) (i 1)

def arr1 (a : Vec Ideal S8192x4096 .bf16) (w : Vec Ideal S4096x18432 .f32) : Vec Ideal S8192x2048 .bf16 := fun i => at' a w (i 0) (i 1)

theorem out_at (x0 : Vec Ideal S1024x4096 .bf16) (x1 : Vec Ideal S4096x1024 .bf16) (r : Fin 1024) (q : Fin 1024) :
    (out0_2 x0 x1 (ix2 r q) : EReal) = (∑ k : Fin 4096, (x0 (ix2 r k) : EReal) * x1 (ix2 k q)) := by
  have hz : (![0, 0] : Fin 2 → Nat) = fun _ => 0 := by funext a; fin_cases a <;> rfl
  have hz3 : (![0, 0, 0] : Fin 3 → Nat) = fun _ => 0 := by funext a; fin_cases a <;> rfl
  unfold out0_2
  rw [View.canon_unit_zero hz]
  repeat rw [View.ld_unit_zero hz]
  try rw [View.ld_unit_zero hz3]
  pointwise [k0_pay1, k0_pay2]

theorem out_at1 (x0 : Vec Ideal S1024x4096 .bf16) (x1 : Vec Ideal S4096x1024 .bf16) (r : Fin 1024) (q : Fin 1024) :
    (out0_3 x0 x1 (ix2 r q) : EReal) = (∑ k : Fin 4096, (x0 (ix2 r k) : EReal) * x1 (ix2 k q)) := by
  have hz : (![0, 0] : Fin 2 → Nat) = fun _ => 0 := by funext a; fin_cases a <;> rfl
  have hz3 : (![0, 0, 0] : Fin 3 → Nat) = fun _ => 0 := by funext a; fin_cases a <;> rfl
  unfold out0_3
  rw [View.canon_unit_zero hz]
  repeat rw [View.ld_unit_zero hz]
  try rw [View.ld_unit_zero hz3]
  pointwise [k0_pay1, k0_pay2]

theorem geo0 : ∀ t : Fin cfg0.N, win0_0.index t 0 = t.val / 2 ∧ win0_0.index t 1 = 0 :=
  (by decide +kernel : ∀ t : Fin grid0.N, _)

theorem geo1 : ∀ t : Fin cfg0.N, win0_1.index t 0 = 0 ∧ win0_1.index t 1 = 4 + t.val % 2 :=
  (by decide +kernel : ∀ t : Fin grid0.N, _)

theorem geo2 : ∀ t : Fin cfg0.N, win0_2.index t 0 = t.val / 2 ∧ win0_2.index t 1 = t.val % 2 :=
  (by decide +kernel : ∀ t : Fin grid0.N, _)

theorem geo3 : ∀ t : Fin cfg0.N, win0_3.index t 0 = t.val / 2 ∧ win0_3.index t 1 = t.val % 2 :=
  (by decide +kernel : ∀ t : Fin grid0.N, _)

section
variable (m : (ℓ : Loc nD τ sig) → Buf (Elt Ideal) ℓ) (c : Dev nD)

theorem lt (t : Fin cfg0.N) : t.val < 16 := by have h := t.isLt; have : cfg0.N = 16 := N_0; omega

theorem v0_at (k : Fin 4096) (q : Fin 18432) : (V m c main_v0 (ix2 k q) : EReal) = (m ((c : Thread nD τ).loc main_arg1)) (ix2 k q) := by
  unfold V
  after_reads_at

theorem iblk0 (t : Fin cfg0.N) (y0 : Fin 1024) (y1 : Fin 4096) :
    have := lt t
    iblk m c 0 t (ix2 y0 y1) = (m ((c : Thread nD τ).loc main_arg0)) (ix2 ⟨1024 * (t.val / 2) + y0.val, by omega⟩ y1) := by
  have ht := lt t
  have g := geo0 t
  refine congrArg (m ((c : Thread nD τ).loc main_arg0)) (funext fun a => Fin.ext ?_)
  match a with
  | ⟨0, _⟩ => show win0_0.index t 0 * 1024 + 1 * y0.val = 1024 * (t.val / 2) + y0.val; rw [g.1]; omega
  | ⟨1, _⟩ => show win0_0.index t 1 * 4096 + 1 * y1.val = y1.val; rw [g.2]; omega

theorem iblk1 (t : Fin cfg0.N) (y0 : Fin 4096) (y1 : Fin 1024) :
    have := lt t
    (iblk m c 1 t (ix2 y0 y1) : EReal) = (m ((c : Thread nD τ).loc main_arg1)) (ix2 y0 ⟨4096 + (1024 * (t.val % 2) + y1.val), by omega⟩) := by
  have ht := lt t
  have g := geo1 t
  refine Eq.trans (b := (V m c main_v0 (ix2 y0 ⟨4096 + (1024 * (t.val % 2) + y1.val), by omega⟩) : EReal)) ?_ (v0_at m c y0 _)
  refine congrArg (V m c main_v0) (funext fun a => Fin.ext ?_)
  match a with
  | ⟨0, _⟩ => show win0_1.index t 0 * 4096 + 1 * y0.val = y0.val; rw [g.1]; omega
  | ⟨1, _⟩ => show win0_1.index t 1 * 1024 + 1 * y1.val = 4096 + (1024 * (t.val % 2) + y1.val); rw [g.2]; omega

theorem flushed_eq (t : Fin cfg0.N) :
    (dats m 0 c).flushed 2 t = ((cfg0.win 2).blk t).view.read (Elt Ideal)
      (arr (m ((c : Thread nD τ).loc main_arg0)) (m ((c : Thread nD τ).loc main_arg1))) := by
  rw [Value.flushed2]
  funext y
  have hy0 : (y 0).val < 1024 := (y 0).isLt
  have hy1 : (y 1).val < 1024 := (y 1).isLt
  have g := geo2 t
  have ht := lt t
  have e : (((cfg0.win 2).blk t).view.emb y : S8192x2048.Idx)
      = (ix2 ⟨1024 * (t.val / 2) + (y 0).val, by omega⟩ ⟨1024 * (t.val % 2) + (y 1).val, by omega⟩) := by
    funext a
    refine Fin.ext ?_
    match a with
    | ⟨0, _⟩ => show win0_2.index t 0 * 1024 + 1 * (y 0).val = 1024 * (t.val / 2) + (y 0).val; rw [g.1]; omega
    | ⟨1, _⟩ => show win0_2.index t 1 * 1024 + 1 * (y 1).val = 1024 * (t.val % 2) + (y 1).val; rw [g.2]; omega
  refine Eq.trans ?_ (Eq.trans (out_at (iblk m c 0 t) (iblk m c 1 t) ⟨(y 0).val, hy0⟩ ⟨(y 1).val, hy1⟩) ?_)
  · refine congrArg (out0_2 _ _) (funext fun a => Fin.ext ?_)
    match a with
    | ⟨0, _⟩ => rfl
    | ⟨1, _⟩ => rfl
  · show _ = arr (m ((c : Thread nD τ).loc main_arg0)) (m ((c : Thread nD τ).loc main_arg1)) (((cfg0.win 2).blk t).view.emb y)
    rw [e]
    show _ = at' (m ((c : Thread nD τ).loc main_arg0)) (m ((c : Thread nD τ).loc main_arg1)) ⟨1024 * (t.val / 2) + (y 0).val, by omega⟩ ⟨1024 * (t.val % 2) + (y 1).val, by omega⟩
    unfold at'
    simp only [iblk0, iblk1]
    try rfl

theorem cover (i : S8192x2048.Idx) : ∃ t : Fin cfg0.N, (cfg0.win 2).flush t = true ∧ i ∈ ((cfg0.win 2).blk t).view.set := by
  have h0 : (i 0 : Nat) < 8192 := (i 0).isLt
  have h1 : (i 1 : Nat) < 2048 := (i 1).isLt
  have hN : cfg0.N = 16 := N_0
  refine ⟨⟨(i 0).val / 1024 * 2 + (i 1).val / 1024, by omega⟩, flush0_2 _, ?_⟩
  generalize ht : (⟨(i 0).val / 1024 * 2 + (i 1).val / 1024, _⟩ : Fin cfg0.N) = t
  have hv : t.val = (i 0).val / 1024 * 2 + (i 1).val / 1024 := by rw [← ht]
  have g := geo2 t
  show i ∈ ((View.whole main_v1_0).slice (win0_2.rect t)).set
  rw [View.set_slice_whole, Rect.mem_set_unit]
  intro a
  match a with
  | ⟨0, _⟩ => show win0_2.index t 0 * 1024 ≤ (i 0 : Nat) ∧ (i 0 : Nat) < win0_2.index t 0 * 1024 + 1024; rw [g.1]; omega
  | ⟨1, _⟩ => show win0_2.index t 1 * 1024 ≤ (i 1 : Nat) ∧ (i 1 : Nat) < win0_2.index t 1 * 1024 + 1024; rw [g.2]; omega

theorem final : (dats m 0 c).arrAt 2 cfg0.N = arr (m ((c : Thread nD τ).loc main_arg0)) (m ((c : Thread nD τ).loc main_arg1)) :=
  (dats m 0 c).arrAt_eq_of_cover 2 _ (fun t _ => flushed_eq m c t) cover

theorem flushed_eq1 (t : Fin cfg0.N) :
    (dats m 0 c).flushed 3 t = ((cfg0.win 3).blk t).view.read (Elt Ideal)
      (arr1 (m ((c : Thread nD τ).loc main_arg0)) (m ((c : Thread nD τ).loc main_arg1))) := by
  rw [Value.flushed3]
  funext y
  have hy0 : (y 0).val < 1024 := (y 0).isLt
  have hy1 : (y 1).val < 1024 := (y 1).isLt
  have g := geo3 t
  have ht := lt t
  have e : (((cfg0.win 3).blk t).view.emb y : S8192x2048.Idx)
      = (ix2 ⟨1024 * (t.val / 2) + (y 0).val, by omega⟩ ⟨1024 * (t.val % 2) + (y 1).val, by omega⟩) := by
    funext a
    refine Fin.ext ?_
    match a with
    | ⟨0, _⟩ => show win0_3.index t 0 * 1024 + 1 * (y 0).val = 1024 * (t.val / 2) + (y 0).val; rw [g.1]; omega
    | ⟨1, _⟩ => show win0_3.index t 1 * 1024 + 1 * (y 1).val = 1024 * (t.val % 2) + (y 1).val; rw [g.2]; omega
  refine Eq.trans ?_ (Eq.trans (out_at1 (iblk m c 0 t) (iblk m c 1 t) ⟨(y 0).val, hy0⟩ ⟨(y 1).val, hy1⟩) ?_)
  · refine congrArg (out0_3 _ _) (funext fun a => Fin.ext ?_)
    match a with
    | ⟨0, _⟩ => rfl
    | ⟨1, _⟩ => rfl
  · show _ = arr1 (m ((c : Thread nD τ).loc main_arg0)) (m ((c : Thread nD τ).loc main_arg1)) (((cfg0.win 3).blk t).view.emb y)
    rw [e]
    show _ = at' (m ((c : Thread nD τ).loc main_arg0)) (m ((c : Thread nD τ).loc main_arg1)) ⟨1024 * (t.val / 2) + (y 0).val, by omega⟩ ⟨1024 * (t.val % 2) + (y 1).val, by omega⟩
    unfold at'
    simp only [iblk0, iblk1]
    try rfl

theorem cover1 (i : S8192x2048.Idx) : ∃ t : Fin cfg0.N, (cfg0.win 3).flush t = true ∧ i ∈ ((cfg0.win 3).blk t).view.set := by
  have h0 : (i 0 : Nat) < 8192 := (i 0).isLt
  have h1 : (i 1 : Nat) < 2048 := (i 1).isLt
  have hN : cfg0.N = 16 := N_0
  refine ⟨⟨(i 0).val / 1024 * 2 + (i 1).val / 1024, by omega⟩, flush0_3 _, ?_⟩
  generalize ht : (⟨(i 0).val / 1024 * 2 + (i 1).val / 1024, _⟩ : Fin cfg0.N) = t
  have hv : t.val = (i 0).val / 1024 * 2 + (i 1).val / 1024 := by rw [← ht]
  have g := geo3 t
  show i ∈ ((View.whole main_v1_1).slice (win0_3.rect t)).set
  rw [View.set_slice_whole, Rect.mem_set_unit]
  intro a
  match a with
  | ⟨0, _⟩ => show win0_3.index t 0 * 1024 ≤ (i 0 : Nat) ∧ (i 0 : Nat) < win0_3.index t 0 * 1024 + 1024; rw [g.1]; omega
  | ⟨1, _⟩ => show win0_3.index t 1 * 1024 ≤ (i 1 : Nat) ∧ (i 1 : Nat) < win0_3.index t 1 * 1024 + 1024; rw [g.2]; omega

theorem final1 : (dats m 0 c).arrAt 3 cfg0.N = arr1 (m ((c : Thread nD τ).loc main_arg0)) (m ((c : Thread nD τ).loc main_arg1)) :=
  (dats m 0 c).arrAt_eq_of_cover 3 _ (fun t _ => flushed_eq1 m c t) cover1

end

end Cert.ValV

/-! ## The reference -/

namespace Cert.ValV

open Idealize.ShloMosaic Idealize.SL.Sem

theorem frame_r : Cert.quiescent_ValReferenceIdeal := fun m ρ _ =>
  (θ_run Cert.ValReferenceIdeal.defs _ _).mono (fun r h => ⟨fun c => (h c).2.2, sem_eq_zero_of_no_sems (by decide) r.2⟩)
    (Cert.ValReferenceIdeal.Value.run (F := Ideal) m ρ)

theorem algebraic : Cert.algebraic_ValIdeal_ValReferenceIdeal := by
  intro m ρ m' ρ' _ hagree
  refine ⟨fun c => arr (m ((c.tc : Thread Cert.ValIdeal.nD Cert.ValIdeal.τ).loc Cert.ValIdeal.main_arg0)) (m ((c.tc : Thread Cert.ValIdeal.nD Cert.ValIdeal.τ).loc Cert.ValIdeal.main_arg1)), fun c => arr1 (m ((c.tc : Thread Cert.ValIdeal.nD Cert.ValIdeal.τ).loc Cert.ValIdeal.main_arg0)) (m ((c.tc : Thread Cert.ValIdeal.nD Cert.ValIdeal.τ).loc Cert.ValIdeal.main_arg1)), ?_, ?_⟩
  · exact (θ_run Cert.ValIdeal.defs _ _).mono (fun r h c => ⟨(h c).1.trans (final m c), (h c).2.1.trans (final1 m c), (h c).2.2⟩)
      (Cert.ValIdeal.Value.run_blocks (F := Ideal) m ρ)
  · refine (θ_run Cert.ValReferenceIdeal.defs _ _).mono (fun r h c => ⟨(h c).1.trans ?_, (h c).2.1.trans ?_, (h c).2.2⟩)
      (Cert.ValReferenceIdeal.Value.run (F := Ideal) m' ρ')
    · have hg := hagree c
      rw [hg.1, hg.2]
      funext i
      idx_vars i
      unfold arr at'
      pointwise
    · have hg := hagree c
      rw [hg.1, hg.2]
      funext i
      idx_vars i
      unfold arr1 at'
      pointwise

end Cert.ValV
-- ==== Proof.Query.lean ====
module

public import proofs.«01_k».proof.Defs
public import proofs.«01_k».proof.Proof.Gen.QueryIdeal.Value
public import proofs.«01_k».proof.Proof.Gen.QueryReferenceIdeal.Run
public import Idealize.ShloMosaic.Lib.Pointwise
public import Idealize.ShloMosaic.Lib.StableHlo.ReadAt
public import Idealize.ShloMosaic.Adequacy
public import Idealize.ShloMosaic.Init

@[expose] public section

set_option maxRecDepth 16384

noncomputable section

/-! # The queries -/

namespace Cert.QueryV

open Cert.QueryIdeal Cert.QueryIdeal.Gen Idealize.ShloMosaic Idealize.ShloMosaic.TcCoe
open Idealize.ShloMosaic.Pipeline (Dat)

set_option maxHeartbeats 400000

/-- The angle of pair `j` of a head at position `s`. -/
def angle (s : Fin 2048) (j : Fin 64) : EReal :=
  FloatOps.sitofp (F := Ideal) .f32 (BitVec.ofNat 32 s.val) * Ideal.pow (Ideal.ofBits .f32 0x461C4000#32) (Ideal.div (-FloatOps.sitofp (F := Ideal) .f32 (BitVec.ofNat 32 j.val)) (Ideal.ofBits .f32 0x42800000#32))

/-- The cosines' table: the pairs' cosines twice. -/
def cosT (s : Fin 2048) (d : Fin 128) : EReal :=
  if h : d.val < 64 then Ideal.cos (angle s ⟨d.val, h⟩) else Ideal.cos (angle s ⟨d.val - 64, by omega⟩)

/-- The sines' table: the pairs' sines negated, then the pairs' sines. -/
def sinT (s : Fin 2048) (d : Fin 128) : EReal :=
  if h : d.val < 64 then -Ideal.sin (angle s ⟨d.val, h⟩) else Ideal.sin (angle s ⟨d.val - 64, by omega⟩)

section
variable (x0 : Vec Ideal S1024x4096 .bf16) (x1 : Vec Ideal S4096x1024 .bf16) (x2 x3 : Vec Ideal S1024x128 .f32)

/-- Row `r`, column `q` of a block, from the blocks read. -/
def block (r : Fin 1024) (q : Fin 1024) : EReal :=
  (∑ k : Fin 4096, (x0 (ix2 r k) : EReal) * x1 (ix2 k q)) * x2 (ix2 r ⟨q.val % 128, by omega⟩) + (∑ k : Fin 4096, (x0 (ix2 r k) : EReal) * x1 (ix2 k ⟨q.val / 128 * 128 + (q.val % 128 + 64) % 128, by omega⟩)) * x3 (ix2 r ⟨q.val % 128, by omega⟩)

/-- The block at a head's columns `o …`. -/
theorem block_head (o : Nat) (h : o % 128 = 0) (inb) (r : Fin 1024) (d : Fin 128) :
    (fun y : S1024x1024.Idx => block x0 x1 x2 x3 (y 0) (y 1)) ((Rect.unit (s := S1024x1024) ![0, o] S1024x128.size inb).idx (ix2 r d))
      = (∑ k : Fin 4096, (x0 (ix2 r k) : EReal) * x1 (ix2 k ⟨o + d.val, by have := inb 1; have : o + 128 ≤ 1024 := this; omega⟩)) * x2 (ix2 r d)
        + (∑ k : Fin 4096, (x0 (ix2 r k) : EReal) * x1 (ix2 k ⟨o + (d.val + 128 - 64) % 128, by have := inb 1; have : o + 128 ≤ 1024 := this; omega⟩)) * x3 (ix2 r d) := by
  have ho : o + 128 ≤ 1024 := inb 1
  have e0 : (((Rect.unit (s := S1024x1024) ![0, o] S1024x128.size inb).idx (ix2 r d)) 0 : Fin 1024) = r := Fin.ext (show 0 + 1 * r.val = r.val by omega)
  have e1 : (((Rect.unit (s := S1024x1024) ![0, o] S1024x128.size inb).idx (ix2 r d)) 1 : Fin 1024) = (⟨o + d.val, by omega⟩ : Fin 1024) := Fin.ext (show o + 1 * d.val = o + d.val by omega)
  show block x0 x1 x2 x3 _ _ = _
  rw [e0, e1]
  unfold block
  have e2 : (o + d.val) % 128 = d.val := by omega
  have e3 : (o + d.val) / 128 * 128 + (d.val + 64) % 128 = o + (d.val + 128 - 64) % 128 := by omega
  simp only [e2, e3, Fin.eta]

end

/-- Row `r`, column `q` of the result. -/
def at' (a : Vec Ideal S8192x4096 .bf16) (w : Vec Ideal S4096x18432 .f32) (r : Fin 8192) (q : Fin 2048) : EReal :=
  (∑ k : Fin 4096, (a (ix2 r k) : EReal) * w (ix2 k ⟨q.val, by omega⟩)) * cosT ⟨r.val % 2048, by omega⟩ ⟨q.val % 128, by omega⟩ + (∑ k : Fin 4096, (a (ix2 r k) : EReal) * w (ix2 k ⟨(q.val / 128 * 128 + (q.val % 128 + 64) % 128), by omega⟩)) * sinT ⟨r.val % 2048, by omega⟩ ⟨q.val % 128, by omega⟩

def arr (a : Vec Ideal S8192x4096 .bf16) (w : Vec Ideal S4096x18432 .f32) : Vec Ideal S8192x2048 .bf16 := fun i => at' a w (i 0) (i 1)

theorem out_at (x0 : Vec Ideal S1024x4096 .bf16) (x1 : Vec Ideal S4096x1024 .bf16) (x2 : Vec Ideal S1024x128 .f32) (x3 : Vec Ideal S1024x128 .f32) (r : Fin 1024) (q : Fin 1024) :
    (out0_4 x0 x1 x2 x3 (ix2 r q) : EReal) = (∑ k : Fin 4096, (x0 (ix2 r k) : EReal) * x1 (ix2 k q)) * x2 (ix2 r ⟨q.val % 128, by omega⟩) + (∑ k : Fin 4096, (x0 (ix2 r k) : EReal) * x1 (ix2 k ⟨q.val / 128 * 128 + (q.val % 128 + 64) % 128, by omega⟩)) * x3 (ix2 r ⟨q.val % 128, by omega⟩) := by
  have hz : (![0, 0] : Fin 2 → Nat) = fun _ => 0 := by funext a; fin_cases a <;> rfl
  unfold out0_4 k0_pay14 k0_pay13 k0_pay12
  repeat rw [View.ld_unit_zero hz]
  refine (View.canon_apply_of_pieces (fun y => block x0 x1 x2 x3 (y 0) (y 1)) _ ?_ (ix2 r q) (cover0_4 _ _ _ _ _ _ _ _ _)).trans rfl
  intro pc hpc
  rcases List.mem_cons.mp hpc with rfl | hpc
  · intro (z : S1024x128.Idx)
    idx_vars z
    refine Eq.trans ?_ (block_head x0 x1 x2 x3 896 rfl _ z0 z1).symm
    pointwise [k0_pay1, k0_pay2, k0_pay3, k0_pay4, k0_pay5, k0_pay6, k0_pay7, k0_pay8, k0_pay9, k0_pay10, k0_pay11]
  rcases List.mem_cons.mp hpc with rfl | hpc
  · intro (z : S1024x128.Idx)
    idx_vars z
    refine Eq.trans ?_ (block_head x0 x1 x2 x3 768 rfl _ z0 z1).symm
    pointwise [k0_pay1, k0_pay2, k0_pay3, k0_pay4, k0_pay5, k0_pay6, k0_pay7, k0_pay8, k0_pay9, k0_pay10, k0_pay11]
  rcases List.mem_cons.mp hpc with rfl | hpc
  · intro (z : S1024x128.Idx)
    idx_vars z
    refine Eq.trans ?_ (block_head x0 x1 x2 x3 640 rfl _ z0 z1).symm
    pointwise [k0_pay1, k0_pay2, k0_pay3, k0_pay4, k0_pay5, k0_pay6, k0_pay7, k0_pay8, k0_pay9, k0_pay10, k0_pay11]
  rcases List.mem_cons.mp hpc with rfl | hpc
  · intro (z : S1024x128.Idx)
    idx_vars z
    refine Eq.trans ?_ (block_head x0 x1 x2 x3 512 rfl _ z0 z1).symm
    pointwise [k0_pay1, k0_pay2, k0_pay3, k0_pay4, k0_pay5, k0_pay6, k0_pay7, k0_pay8, k0_pay9, k0_pay10, k0_pay11]
  rcases List.mem_cons.mp hpc with rfl | hpc
  · intro (z : S1024x128.Idx)
    idx_vars z
    refine Eq.trans ?_ (block_head x0 x1 x2 x3 384 rfl _ z0 z1).symm
    pointwise [k0_pay1, k0_pay2, k0_pay3, k0_pay4, k0_pay5, k0_pay6, k0_pay7, k0_pay8, k0_pay9, k0_pay10, k0_pay11]
  rcases List.mem_cons.mp hpc with rfl | hpc
  · intro (z : S1024x128.Idx)
    idx_vars z
    refine Eq.trans ?_ (block_head x0 x1 x2 x3 256 rfl _ z0 z1).symm
    pointwise [k0_pay1, k0_pay2, k0_pay3, k0_pay4, k0_pay5, k0_pay6, k0_pay7, k0_pay8, k0_pay9, k0_pay10, k0_pay11]
  rcases List.mem_cons.mp hpc with rfl | hpc
  · intro (z : S1024x128.Idx)
    idx_vars z
    refine Eq.trans ?_ (block_head x0 x1 x2 x3 128 rfl _ z0 z1).symm
    pointwise [k0_pay1, k0_pay2, k0_pay3, k0_pay4, k0_pay5, k0_pay6, k0_pay7, k0_pay8, k0_pay9, k0_pay10, k0_pay11]
  rcases List.mem_cons.mp hpc with rfl | hpc
  · intro (z : S1024x128.Idx)
    idx_vars z
    refine Eq.trans ?_ (block_head x0 x1 x2 x3 0 rfl _ z0 z1).symm
    pointwise [k0_pay1, k0_pay2, k0_pay3, k0_pay4, k0_pay5, k0_pay6, k0_pay7, k0_pay8, k0_pay9, k0_pay10, k0_pay11]
  nomatch hpc

theorem geo0 : ∀ t : Fin cfg0.N, win0_0.index t 0 = t.val / 2 ∧ win0_0.index t 1 = 0 :=
  (by decide +kernel : ∀ t : Fin grid0.N, _)

theorem geo1 : ∀ t : Fin cfg0.N, win0_1.index t 0 = 0 ∧ win0_1.index t 1 = t.val % 2 :=
  (by decide +kernel : ∀ t : Fin grid0.N, _)

theorem geo2 : ∀ t : Fin cfg0.N, win0_2.index t 0 = t.val / 2 % 2 ∧ win0_2.index t 1 = 0 :=
  (by decide +kernel : ∀ t : Fin grid0.N, _)

theorem geo3 : ∀ t : Fin cfg0.N, win0_3.index t 0 = t.val / 2 % 2 ∧ win0_3.index t 1 = 0 :=
  (by decide +kernel : ∀ t : Fin grid0.N, _)

theorem geo4 : ∀ t : Fin cfg0.N, win0_4.index t 0 = t.val / 2 ∧ win0_4.index t 1 = t.val % 2 :=
  (by decide +kernel : ∀ t : Fin grid0.N, _)

section
variable (m : (ℓ : Loc nD τ sig) → Buf (Elt Ideal) ℓ) (c : Dev nD)

theorem lt (t : Fin cfg0.N) : t.val < 16 := by have h := t.isLt; have : cfg0.N = 16 := N_0; omega

theorem v18_at (k : Fin 4096) (q : Fin 18432) : (V m c main_v18 (ix2 k q) : EReal) = (m ((c : Thread nD τ).loc main_arg1)) (ix2 k q) := by
  unfold V
  after_reads_at

theorem v15_at (s : Fin 2048) (d : Fin 128) : (V m c main_v15 (ix2 s d) : EReal) = cosT s d := by
  unfold V cosT angle
  after_reads_at

theorem v17_at (s : Fin 2048) (d : Fin 128) : (V m c main_v17 (ix2 s d) : EReal) = sinT s d := by
  unfold V sinT angle
  after_reads_at

theorem iblk0 (t : Fin cfg0.N) (y0 : Fin 1024) (y1 : Fin 4096) :
    have := lt t
    iblk m c 0 t (ix2 y0 y1) = (m ((c : Thread nD τ).loc main_arg0)) (ix2 ⟨1024 * (t.val / 2) + y0.val, by omega⟩ y1) := by
  have ht := lt t
  have g := geo0 t
  refine congrArg (m ((c : Thread nD τ).loc main_arg0)) (funext fun a => Fin.ext ?_)
  match a with
  | ⟨0, _⟩ => show win0_0.index t 0 * 1024 + 1 * y0.val = 1024 * (t.val / 2) + y0.val; rw [g.1]; omega
  | ⟨1, _⟩ => show win0_0.index t 1 * 4096 + 1 * y1.val = y1.val; rw [g.2]; omega

theorem iblk1 (t : Fin cfg0.N) (y0 : Fin 4096) (y1 : Fin 1024) :
    have := lt t
    (iblk m c 1 t (ix2 y0 y1) : EReal) = (m ((c : Thread nD τ).loc main_arg1)) (ix2 y0 ⟨1024 * (t.val % 2) + y1.val, by omega⟩) := by
  have ht := lt t
  have g := geo1 t
  refine Eq.trans (b := (V m c main_v18 (ix2 y0 ⟨1024 * (t.val % 2) + y1.val, by omega⟩) : EReal)) ?_ (v18_at m c y0 _)
  refine congrArg (V m c main_v18) (funext fun a => Fin.ext ?_)
  match a with
  | ⟨0, _⟩ => show win0_1.index t 0 * 4096 + 1 * y0.val = y0.val; rw [g.1]; omega
  | ⟨1, _⟩ => show win0_1.index t 1 * 1024 + 1 * y1.val = 1024 * (t.val % 2) + y1.val; rw [g.2]; omega

theorem iblk2 (t : Fin cfg0.N) (y0 : Fin 1024) (y1 : Fin 128) :
    have := lt t
    (iblk m c 2 t (ix2 y0 y1) : EReal) = cosT ⟨1024 * (t.val / 2 % 2) + y0.val, by omega⟩ y1 := by
  have ht := lt t
  have g := geo2 t
  refine Eq.trans (b := (V m c main_v15 (ix2 ⟨1024 * (t.val / 2 % 2) + y0.val, by omega⟩ y1) : EReal)) ?_ (v15_at m c _ y1)
  refine congrArg (V m c main_v15) (funext fun a => Fin.ext ?_)
  match a with
  | ⟨0, _⟩ => show win0_2.index t 0 * 1024 + 1 * y0.val = 1024 * (t.val / 2 % 2) + y0.val; rw [g.1]; omega
  | ⟨1, _⟩ => show win0_2.index t 1 * 128 + 1 * y1.val = y1.val; rw [g.2]; omega

theorem iblk3 (t : Fin cfg0.N) (y0 : Fin 1024) (y1 : Fin 128) :
    have := lt t
    (iblk m c 3 t (ix2 y0 y1) : EReal) = sinT ⟨1024 * (t.val / 2 % 2) + y0.val, by omega⟩ y1 := by
  have ht := lt t
  have g := geo3 t
  refine Eq.trans (b := (V m c main_v17 (ix2 ⟨1024 * (t.val / 2 % 2) + y0.val, by omega⟩ y1) : EReal)) ?_ (v17_at m c _ y1)
  refine congrArg (V m c main_v17) (funext fun a => Fin.ext ?_)
  match a with
  | ⟨0, _⟩ => show win0_3.index t 0 * 1024 + 1 * y0.val = 1024 * (t.val / 2 % 2) + y0.val; rw [g.1]; omega
  | ⟨1, _⟩ => show win0_3.index t 1 * 128 + 1 * y1.val = y1.val; rw [g.2]; omega

theorem flushed_eq (t : Fin cfg0.N) :
    (dats m 0 c).flushed 4 t = ((cfg0.win 4).blk t).view.read (Elt Ideal)
      (arr (m ((c : Thread nD τ).loc main_arg0)) (m ((c : Thread nD τ).loc main_arg1))) := by
  rw [Value.flushed4]
  funext y
  have hy0 : (y 0).val < 1024 := (y 0).isLt
  have hy1 : (y 1).val < 1024 := (y 1).isLt
  have g := geo4 t
  have ht := lt t
  have e : (((cfg0.win 4).blk t).view.emb y : S8192x2048.Idx)
      = (ix2 ⟨1024 * (t.val / 2) + (y 0).val, by omega⟩ ⟨1024 * (t.val % 2) + (y 1).val, by omega⟩) := by
    funext a
    refine Fin.ext ?_
    match a with
    | ⟨0, _⟩ => show win0_4.index t 0 * 1024 + 1 * (y 0).val = 1024 * (t.val / 2) + (y 0).val; rw [g.1]; omega
    | ⟨1, _⟩ => show win0_4.index t 1 * 1024 + 1 * (y 1).val = 1024 * (t.val % 2) + (y 1).val; rw [g.2]; omega
  refine Eq.trans ?_ (Eq.trans (out_at (iblk m c 0 t) (iblk m c 1 t) (iblk m c 2 t) (iblk m c 3 t) ⟨(y 0).val, hy0⟩ ⟨(y 1).val, hy1⟩) ?_)
  · refine congrArg (out0_4 _ _ _ _) (funext fun a => Fin.ext ?_)
    match a with
    | ⟨0, _⟩ => rfl
    | ⟨1, _⟩ => rfl
  · show _ = arr (m ((c : Thread nD τ).loc main_arg0)) (m ((c : Thread nD τ).loc main_arg1)) (((cfg0.win 4).blk t).view.emb y)
    rw [e]
    show _ = at' (m ((c : Thread nD τ).loc main_arg0)) (m ((c : Thread nD τ).loc main_arg1)) ⟨1024 * (t.val / 2) + (y 0).val, by omega⟩ ⟨1024 * (t.val % 2) + (y 1).val, by omega⟩
    have e5 : (1024 * (t.val / 2) + (y 0).val) % 2048 = 1024 * (t.val / 2 % 2) + (y 0).val := by omega
    have e6 : (1024 * (t.val % 2) + (y 1).val) % 128 = (y 1).val % 128 := by omega
    have e7 : (1024 * (t.val % 2) + (y 1).val) / 128 * 128 + ((y 1).val % 128 + 64) % 128 = 1024 * (t.val % 2) + ((y 1).val / 128 * 128 + ((y 1).val % 128 + 64) % 128) := by omega
    unfold at'
    simp only [iblk0, iblk1, iblk2, iblk3, e5, e6, e7]
    try rfl

theorem cover (i : S8192x2048.Idx) : ∃ t : Fin cfg0.N, (cfg0.win 4).flush t = true ∧ i ∈ ((cfg0.win 4).blk t).view.set := by
  have h0 : (i 0 : Nat) < 8192 := (i 0).isLt
  have h1 : (i 1 : Nat) < 2048 := (i 1).isLt
  have hN : cfg0.N = 16 := N_0
  refine ⟨⟨(i 0).val / 1024 * 2 + (i 1).val / 1024, by omega⟩, flush0_4 _, ?_⟩
  generalize ht : (⟨(i 0).val / 1024 * 2 + (i 1).val / 1024, _⟩ : Fin cfg0.N) = t
  have hv : t.val = (i 0).val / 1024 * 2 + (i 1).val / 1024 := by rw [← ht]
  have g := geo4 t
  show i ∈ ((View.whole main_v19).slice (win0_4.rect t)).set
  rw [View.set_slice_whole, Rect.mem_set_unit]
  intro a
  match a with
  | ⟨0, _⟩ => show win0_4.index t 0 * 1024 ≤ (i 0 : Nat) ∧ (i 0 : Nat) < win0_4.index t 0 * 1024 + 1024; rw [g.1]; omega
  | ⟨1, _⟩ => show win0_4.index t 1 * 1024 ≤ (i 1 : Nat) ∧ (i 1 : Nat) < win0_4.index t 1 * 1024 + 1024; rw [g.2]; omega

theorem final : (dats m 0 c).arrAt 4 cfg0.N = arr (m ((c : Thread nD τ).loc main_arg0)) (m ((c : Thread nD τ).loc main_arg1)) :=
  (dats m 0 c).arrAt_eq_of_cover 4 _ (fun t _ => flushed_eq m c t) cover

end

end Cert.QueryV

/-! ## The reference -/

namespace Cert.QueryV

open Idealize.ShloMosaic Idealize.SL.Sem

section
open Cert.QueryReferenceIdeal Cert.QueryReferenceIdeal.Gen

/-- The rotation of every head's pairs, read at a row and a column of the joined heads. -/
theorem rope_at (K : FVec Ideal S4x2048x16x128 .f32) (C S : FVec Ideal S2048x64 .f32) (r : Fin 8192) (q : Fin 2048) :
    shapeCast S8192x2048 (concatenate S4x2048x16x128 3 [⟨S4x2048x16x64, subf (mulf (extractStridedSlice S4x2048x16x64 ![0, 0, 0, 0] K slices_S4x2048x16x128_S4x2048x16x64_0_0_0_0) (broadcastInDim S4x2048x16x64 ![0, 1, 2, 3] bcast_S1x2048x1x64_S4x2048x16x64_0_1_2_3 (broadcastInDim S1x2048x1x64 ![1, 3] bcast_S2048x64_S1x2048x1x64_1_3 C))) (mulf (extractStridedSlice S4x2048x16x64 ![0, 0, 0, 64] K slices_S4x2048x16x128_S4x2048x16x64_0_0_0_64) (broadcastInDim S4x2048x16x64 ![0, 1, 2, 3] bcast_S1x2048x1x64_S4x2048x16x64_0_1_2_3 (broadcastInDim S1x2048x1x64 ![1, 3] bcast_S2048x64_S1x2048x1x64_1_3 S)))⟩, ⟨S4x2048x16x64, addf (mulf (extractStridedSlice S4x2048x16x64 ![0, 0, 0, 0] K slices_S4x2048x16x128_S4x2048x16x64_0_0_0_0) (broadcastInDim S4x2048x16x64 ![0, 1, 2, 3] bcast_S1x2048x1x64_S4x2048x16x64_0_1_2_3 (broadcastInDim S1x2048x1x64 ![1, 3] bcast_S2048x64_S1x2048x1x64_1_3 S))) (mulf (extractStridedSlice S4x2048x16x64 ![0, 0, 0, 64] K slices_S4x2048x16x128_S4x2048x16x64_0_0_0_64) (broadcastInDim S4x2048x16x64 ![0, 1, 2, 3] bcast_S1x2048x1x64_S4x2048x16x64_0_1_2_3 (broadcastInDim S1x2048x1x64 ![1, 3] bcast_S2048x64_S1x2048x1x64_1_3 C)))⟩] concatenates_S4x2048x16x64_S4x2048x16x64_S4x2048x16x128_d3) shapeCasts_S4x2048x16x128_S8192x2048 (ix2 r q)
      = if h : q.val % 128 < 64 then (K (ix4 ⟨r.val / 2048, by omega⟩ ⟨r.val % 2048, by omega⟩ ⟨q.val / 128, by omega⟩ ⟨q.val % 128, by omega⟩) : EReal) * C (ix2 ⟨r.val % 2048, by omega⟩ ⟨q.val % 128, h⟩) - K (ix4 ⟨r.val / 2048, by omega⟩ ⟨r.val % 2048, by omega⟩ ⟨q.val / 128, by omega⟩ ⟨64 + q.val % 128, by omega⟩) * S (ix2 ⟨r.val % 2048, by omega⟩ ⟨q.val % 128, h⟩)
        else (K (ix4 ⟨r.val / 2048, by omega⟩ ⟨r.val % 2048, by omega⟩ ⟨q.val / 128, by omega⟩ ⟨q.val % 128 - 64, by omega⟩) : EReal) * S (ix2 ⟨r.val % 2048, by omega⟩ ⟨q.val % 128 - 64, by omega⟩) + K (ix4 ⟨r.val / 2048, by omega⟩ ⟨r.val % 2048, by omega⟩ ⟨q.val / 128, by omega⟩ ⟨64 + (q.val % 128 - 64), by omega⟩) * C (ix2 ⟨r.val % 2048, by omega⟩ ⟨q.val % 128 - 64, by omega⟩) := by
  pointwise

/-- The product split into heads, read at an entry. -/
theorem heads_at (a : FVec Ideal S8192x4096 .bf16) (w : FVec Ideal S4096x18432 .f32) (r : Fin 8192) (q : Fin 2048) (d : Fin 128) :
    shapeCast S4x2048x16x128 (Host.dotGeneral dot_S8192x4096_S4096x2048_S8192x2048_1_0_0_1_n_n none (extf .f32 a bitsLt_bf16_f32) (extractStridedSlice S4096x2048 ![0, 0] w slices_S4096x18432_S4096x2048_0_0)) shapeCasts_S8192x2048_S4x2048x16x128 (ix4 ⟨r.val / 2048, by omega⟩ ⟨r.val % 2048, by omega⟩ ⟨q.val / 128, by omega⟩ d)
      = ∑ k : Fin 4096, (a (ix2 r k) : EReal) * w (ix2 k ⟨(q.val / 128 * 128 + d.val), by omega⟩) := by
  have e : r.val / 2048 * 2048 + r.val % 2048 = r.val := by omega
  pointwise [e]

theorem cos_at (s : Fin 2048) (j : Fin 64) : (Host.cos (mulf (broadcastInDim S2048x64 ![0, 1] bcast_S2048x1_S2048x64_0_1 (broadcastInDim S2048x1 ![0] bcast_S2048_S2048x1_0 (sitofp .f32 (iotaInDim S2048 32 0)))) (broadcastInDim S2048x64 ![0, 1] bcast_S1x64_S2048x64_0_1 (broadcastInDim S1x64 ![1] bcast_S64_S1x64_1 (Host.powf (broadcastInDim S64 ![] bcast_S_S64 (constant S_ .f32 0x461C4000#32)) (Host.divf (Host.negf (sitofp .f32 (iotaInDim S64 32 0))) (broadcastInDim S64 ![] bcast_S_S64 (constant S_ .f32 0x42800000#32))))))) : FVec Ideal S2048x64 .f32) (ix2 s j) = Ideal.cos (angle s j) := by
  unfold angle
  pointwise

theorem sin_at (s : Fin 2048) (j : Fin 64) : (Host.sin (mulf (broadcastInDim S2048x64 ![0, 1] bcast_S2048x1_S2048x64_0_1 (broadcastInDim S2048x1 ![0] bcast_S2048_S2048x1_0 (sitofp .f32 (iotaInDim S2048 32 0)))) (broadcastInDim S2048x64 ![0, 1] bcast_S1x64_S2048x64_0_1 (broadcastInDim S1x64 ![1] bcast_S64_S1x64_1 (Host.powf (broadcastInDim S64 ![] bcast_S_S64 (constant S_ .f32 0x461C4000#32)) (Host.divf (Host.negf (sitofp .f32 (iotaInDim S64 32 0))) (broadcastInDim S64 ![] bcast_S_S64 (constant S_ .f32 0x42800000#32))))))) : FVec Ideal S2048x64 .f32) (ix2 s j) = Ideal.sin (angle s j) := by
  unfold angle
  pointwise

end

theorem frame_r : Cert.quiescent_QueryReferenceIdeal := fun m ρ _ =>
  (θ_run Cert.QueryReferenceIdeal.defs _ _).mono (fun r h => ⟨fun c => (h c).2, sem_eq_zero_of_no_sems (by decide) r.2⟩)
    (Cert.QueryReferenceIdeal.Value.run (F := Ideal) m ρ)

theorem algebraic : Cert.algebraic_QueryIdeal_QueryReferenceIdeal := by
  intro m ρ m' ρ' _ hagree
  refine ⟨fun c => arr (m ((c.tc : Thread Cert.QueryIdeal.nD Cert.QueryIdeal.τ).loc Cert.QueryIdeal.main_arg0)) (m ((c.tc : Thread Cert.QueryIdeal.nD Cert.QueryIdeal.τ).loc Cert.QueryIdeal.main_arg1)), ?_, ?_⟩
  · exact (θ_run Cert.QueryIdeal.defs _ _).mono (fun r h c => ⟨(h c).1.trans (final m c), (h c).2⟩)
      (Cert.QueryIdeal.Value.run_blocks (F := Ideal) m ρ)
  · refine (θ_run Cert.QueryReferenceIdeal.defs _ _).mono (fun r h c => ⟨(h c).1.trans ?_, (h c).2⟩)
      (Cert.QueryReferenceIdeal.Value.run (F := Ideal) m' ρ')
    have hg := hagree c
    unfold Cert.QueryReferenceIdeal.Value.res_main_v35
    rw [hg.1, hg.2]
    funext i
    idx_vars i
    refine (rope_at _ _ _ i0 i1).trans ?_
    show _ = at' _ _ i0 i1
    unfold at' cosT sinT
    by_cases h : i1.val % 128 < 64
    · have e1 : i1.val / 128 * 128 + i1.val % 128 = i1.val := by omega
      have e2 : (i1.val % 128 + 64) % 128 = 64 + i1.val % 128 := by omega
      simp only [h, ↓reduceDIte, heads_at, e1, e2, mul_neg, sub_eq_add_neg]
      rw [← cos_at, ← sin_at]
    · have e1 : i1.val / 128 * 128 + (64 + (i1.val % 128 - 64)) = i1.val := by omega
      have e2 : (i1.val % 128 + 64) % 128 = i1.val % 128 - 64 := by omega
      simp only [h, ↓reduceDIte, heads_at, e1, e2]
      rw [← cos_at, ← sin_at]
      exact add_comm _ _

end Cert.QueryV
-- ==== Proof.Norm.lean ====
module

public import proofs.«01_k».proof.Defs
public import proofs.«01_k».proof.Proof.Gen.NormIdeal.Value
public import proofs.«01_k».proof.Proof.Gen.NormReferenceIdeal.Run
public import Idealize.ShloMosaic.Lib.Pointwise
public import Idealize.ShloMosaic.Lib.StableHlo.ReadAt
public import Idealize.ShloMosaic.Adequacy
public import Idealize.ShloMosaic.Init

@[expose] public section

set_option maxRecDepth 16384

noncomputable section

/-! # The first norm and its modulation -/

namespace Cert.NormV

open Cert.NormIdeal Cert.NormIdeal.Gen Idealize.ShloMosaic Idealize.ShloMosaic.TcCoe
open Idealize.ShloMosaic.Pipeline (Dat)

set_option maxHeartbeats 400000

/-- Row `r`, column `q` of the result. -/
def at' (x : Vec Ideal S8192x4096 .f32) (g : Vec Ideal S4096 .f32) (mod : Vec Ideal S4x24576 .f32) (r : Fin 8192) (q : Fin 4096) : EReal :=
  (x (ix2 r q) : EReal) * Ideal.rsqrt (Ideal.div (∑ k : Fin 4096, (x (ix2 r k) : EReal) * x (ix2 r k)) (Ideal.ofBits .f32 0x45800000#32) + Ideal.ofBits .f32 0x358637BD#32) * g (ix1 q) * (1 + mod (ix2 ⟨r.val / 2048, by omega⟩ ⟨4096 + q.val, by omega⟩)) + mod (ix2 ⟨r.val / 2048, by omega⟩ ⟨q.val, by omega⟩)

def arr (x : Vec Ideal S8192x4096 .f32) (g : Vec Ideal S4096 .f32) (mod : Vec Ideal S4x24576 .f32) : Vec Ideal S8192x4096 .bf16 := fun i => at' x g mod (i 0) (i 1)

theorem out_at (x0 : Vec Ideal S512x4096 .f32) (x1 : Vec Ideal S1x4096 .f32) (x2 : Vec Ideal S1x1x4096 .f32) (x3 : Vec Ideal S1x1x4096 .f32) (r : Fin 512) (q : Fin 4096) :
    (out0_4 x0 x1 x2 x3 (ix2 r q) : EReal) = (x0 (ix2 r q) : EReal) * Ideal.rsqrt (Ideal.div (∑ k : Fin 4096, (x0 (ix2 r k) : EReal) * x0 (ix2 r k)) (Ideal.ofBits .f32 0x45800000#32) + Ideal.ofBits .f32 0x358637BD#32) * x1 (ix2 0 q) * (1 + x2 (ix3 0 0 q)) + x3 (ix3 0 0 q) := by
  have hz : (![0, 0] : Fin 2 → Nat) = fun _ => 0 := by funext a; fin_cases a <;> rfl
  have hz3 : (![0, 0, 0] : Fin 3 → Nat) = fun _ => 0 := by funext a; fin_cases a <;> rfl
  unfold out0_4
  rw [View.canon_unit_zero hz]
  repeat rw [View.ld_unit_zero hz]
  try rw [View.ld_unit_zero hz3]
  pointwise [k0_pay1]

theorem geo0 : ∀ t : Fin cfg0.N, win0_0.index t 0 = t.val ∧ win0_0.index t 1 = 0 :=
  (by decide +kernel : ∀ t : Fin grid0.N, _)

theorem geo1 : ∀ t : Fin cfg0.N, win0_1.index t 0 = 0 ∧ win0_1.index t 1 = 0 :=
  (by decide +kernel : ∀ t : Fin grid0.N, _)

theorem geo2 : ∀ t : Fin cfg0.N, win0_2.index t 0 = t.val / 4 * 6 + 1 ∧ win0_2.index t 1 = 0 ∧ win0_2.index t 2 = 0 :=
  (by decide +kernel : ∀ t : Fin grid0.N, _)

theorem geo3 : ∀ t : Fin cfg0.N, win0_3.index t 0 = t.val / 4 * 6 ∧ win0_3.index t 1 = 0 ∧ win0_3.index t 2 = 0 :=
  (by decide +kernel : ∀ t : Fin grid0.N, _)

theorem geo4 : ∀ t : Fin cfg0.N, win0_4.index t 0 = t.val ∧ win0_4.index t 1 = 0 :=
  (by decide +kernel : ∀ t : Fin grid0.N, _)

section
variable (m : (ℓ : Loc nD τ sig) → Buf (Elt Ideal) ℓ) (c : Dev nD)

theorem lt (t : Fin cfg0.N) : t.val < 16 := by have h := t.isLt; have : cfg0.N = 16 := N_0; omega

theorem v1_at (z : Fin 1) (q : Fin 4096) : (V m c main_v1 (ix2 z q) : EReal) = (m ((c : Thread nD τ).loc main_arg1)) (ix1 q) := by
  unfold V
  after_reads_at

theorem v0_at (p : Fin 4) (s : Fin 6) (z : Fin 1) (q : Fin 4096) :
    (V m c main_v0 (ix3 ⟨p.val * 6 + s.val, by omega⟩ z q) : EReal) = (m ((c : Thread nD τ).loc main_arg2)) (ix2 p ⟨s.val * 4096 + q.val, by omega⟩) := by
  unfold V
  after_reads_at
  refine congrArg (m (c, Proc.tc.devRef main_arg2)) (congrArg₂ ix2 rfl (Fin.ext ?_))
  show (p.val * 6 + s.val) % 6 * 4096 + q.val = s.val * 4096 + q.val
  omega

theorem iblk0 (t : Fin cfg0.N) (y0 : Fin 512) (y1 : Fin 4096) :
    have := lt t
    iblk m c 0 t (ix2 y0 y1) = (m ((c : Thread nD τ).loc main_arg0)) (ix2 ⟨512 * (t.val) + y0.val, by omega⟩ y1) := by
  have ht := lt t
  have g := geo0 t
  refine congrArg (m ((c : Thread nD τ).loc main_arg0)) (funext fun a => Fin.ext ?_)
  match a with
  | ⟨0, _⟩ => show win0_0.index t 0 * 512 + 1 * y0.val = 512 * (t.val) + y0.val; rw [g.1]; omega
  | ⟨1, _⟩ => show win0_0.index t 1 * 4096 + 1 * y1.val = y1.val; rw [g.2]; omega

theorem iblk1 (t : Fin cfg0.N) (y0 : Fin 1) (y1 : Fin 4096) :
    have := lt t
    (iblk m c 1 t (ix2 y0 y1) : EReal) = (m ((c : Thread nD τ).loc main_arg1)) (ix1 y1) := by
  have ht := lt t
  have g := geo1 t
  refine Eq.trans (b := (V m c main_v1 (ix2 y0 y1) : EReal)) ?_ (v1_at m c y0 y1)
  refine congrArg (V m c main_v1) (funext fun a => Fin.ext ?_)
  match a with
  | ⟨0, _⟩ => show win0_1.index t 0 * 1 + 1 * y0.val = y0.val; rw [g.1]; omega
  | ⟨1, _⟩ => show win0_1.index t 1 * 4096 + 1 * y1.val = y1.val; rw [g.2]; omega

theorem iblk2 (t : Fin cfg0.N) (y0 : Fin 1) (y1 : Fin 1) (y2 : Fin 4096) :
    have := lt t
    (iblk m c 2 t (ix3 y0 y1 y2) : EReal) = (m ((c : Thread nD τ).loc main_arg2)) (ix2 ⟨t.val / 4, by omega⟩ ⟨4096 + y2.val, by omega⟩) := by
  have ht := lt t
  have g := geo2 t
  refine Eq.trans (b := (V m c main_v0 (ix3 ⟨t.val / 4 * 6 + 1, by omega⟩ y1 y2) : EReal)) ?_ (v0_at m c ⟨t.val / 4, by omega⟩ 1 y1 _)
  refine congrArg (V m c main_v0) (funext fun a => Fin.ext ?_)
  match a with
  | ⟨0, _⟩ => show win0_2.index t 0 * 1 + 1 * y0.val = t.val / 4 * 6 + 1; rw [g.1]; omega
  | ⟨1, _⟩ => show win0_2.index t 1 * 1 + 1 * y1.val = y1.val; rw [g.2.1]; omega
  | ⟨2, _⟩ => show win0_2.index t 2 * 4096 + 1 * y2.val = y2.val; rw [g.2.2]; omega

theorem iblk3 (t : Fin cfg0.N) (y0 : Fin 1) (y1 : Fin 1) (y2 : Fin 4096) :
    have := lt t
    (iblk m c 3 t (ix3 y0 y1 y2) : EReal) = (m ((c : Thread nD τ).loc main_arg2)) (ix2 ⟨t.val / 4, by omega⟩ ⟨0 * 4096 + y2.val, by omega⟩) := by
  have ht := lt t
  have g := geo3 t
  refine Eq.trans (b := (V m c main_v0 (ix3 ⟨t.val / 4 * 6, by omega⟩ y1 y2) : EReal)) ?_ (v0_at m c ⟨t.val / 4, by omega⟩ 0 y1 _)
  refine congrArg (V m c main_v0) (funext fun a => Fin.ext ?_)
  match a with
  | ⟨0, _⟩ => show win0_3.index t 0 * 1 + 1 * y0.val = t.val / 4 * 6; rw [g.1]; omega
  | ⟨1, _⟩ => show win0_3.index t 1 * 1 + 1 * y1.val = y1.val; rw [g.2.1]; omega
  | ⟨2, _⟩ => show win0_3.index t 2 * 4096 + 1 * y2.val = y2.val; rw [g.2.2]; omega

theorem flushed_eq (t : Fin cfg0.N) :
    (dats m 0 c).flushed 4 t = ((cfg0.win 4).blk t).view.read (Elt Ideal)
      (arr (m ((c : Thread nD τ).loc main_arg0)) (m ((c : Thread nD τ).loc main_arg1)) (m ((c : Thread nD τ).loc main_arg2))) := by
  rw [Value.flushed4]
  funext y
  have hy0 : (y 0).val < 512 := (y 0).isLt
  have hy1 : (y 1).val < 4096 := (y 1).isLt
  have g := geo4 t
  have ht := lt t
  have e : (((cfg0.win 4).blk t).view.emb y : S8192x4096.Idx)
      = (ix2 ⟨512 * (t.val) + (y 0).val, by omega⟩ ⟨(y 1).val, by omega⟩) := by
    funext a
    refine Fin.ext ?_
    match a with
    | ⟨0, _⟩ => show win0_4.index t 0 * 512 + 1 * (y 0).val = 512 * (t.val) + (y 0).val; rw [g.1]; omega
    | ⟨1, _⟩ => show win0_4.index t 1 * 4096 + 1 * (y 1).val = (y 1).val; rw [g.2]; omega
  refine Eq.trans ?_ (Eq.trans (out_at (iblk m c 0 t) (iblk m c 1 t) (iblk m c 2 t) (iblk m c 3 t) ⟨(y 0).val, hy0⟩ ⟨(y 1).val, hy1⟩) ?_)
  · refine congrArg (out0_4 _ _ _ _) (funext fun a => Fin.ext ?_)
    match a with
    | ⟨0, _⟩ => rfl
    | ⟨1, _⟩ => rfl
  · show _ = arr (m ((c : Thread nD τ).loc main_arg0)) (m ((c : Thread nD τ).loc main_arg1)) (m ((c : Thread nD τ).loc main_arg2)) (((cfg0.win 4).blk t).view.emb y)
    rw [e]
    show _ = at' (m ((c : Thread nD τ).loc main_arg0)) (m ((c : Thread nD τ).loc main_arg1)) (m ((c : Thread nD τ).loc main_arg2)) ⟨512 * (t.val) + (y 0).val, by omega⟩ ⟨(y 1).val, by omega⟩
    have e5 : (512 * t.val + (y 0).val) / 2048 = t.val / 4 := by omega
    have e6 : 0 * 4096 + (y 1).val = (y 1).val := by omega
    unfold at'
    simp only [iblk0, iblk1, iblk2, iblk3, e5, e6]
    try rfl

theorem cover (i : S8192x4096.Idx) : ∃ t : Fin cfg0.N, (cfg0.win 4).flush t = true ∧ i ∈ ((cfg0.win 4).blk t).view.set := by
  have h0 : (i 0 : Nat) < 8192 := (i 0).isLt
  have h1 : (i 1 : Nat) < 4096 := (i 1).isLt
  have hN : cfg0.N = 16 := N_0
  refine ⟨⟨(i 0).val / 512, by omega⟩, flush0_4 _, ?_⟩
  generalize ht : (⟨(i 0).val / 512, _⟩ : Fin cfg0.N) = t
  have hv : t.val = (i 0).val / 512 := by rw [← ht]
  have g := geo4 t
  show i ∈ ((View.whole main_v2).slice (win0_4.rect t)).set
  rw [View.set_slice_whole, Rect.mem_set_unit]
  intro a
  match a with
  | ⟨0, _⟩ => show win0_4.index t 0 * 512 ≤ (i 0 : Nat) ∧ (i 0 : Nat) < win0_4.index t 0 * 512 + 512; rw [g.1]; omega
  | ⟨1, _⟩ => show win0_4.index t 1 * 4096 ≤ (i 1 : Nat) ∧ (i 1 : Nat) < win0_4.index t 1 * 4096 + 4096; rw [g.2]; omega

theorem final : (dats m 0 c).arrAt 4 cfg0.N = arr (m ((c : Thread nD τ).loc main_arg0)) (m ((c : Thread nD τ).loc main_arg1)) (m ((c : Thread nD τ).loc main_arg2)) :=
  (dats m 0 c).arrAt_eq_of_cover 4 _ (fun t _ => flushed_eq m c t) cover

end

end Cert.NormV

/-! ## The reference -/

namespace Cert.NormV

open Idealize.ShloMosaic Idealize.SL.Sem

section
open Cert.NormReferenceIdeal Cert.NormReferenceIdeal.Gen

/-- The groups' rows below each other, read at a row. -/
theorem fold_at (v : FVec Ideal S4x2048x4096 .f32) (r : Fin 8192) (q : Fin 4096) :
    truncf .bf16 (shapeCast S8192x4096 v shapeCasts_S4x2048x4096_S8192x4096) bitsLt_bf16_f32 (ix2 r q) = v (ix3 ⟨r.val / 2048, by omega⟩ ⟨r.val % 2048, by omega⟩ q) := by
  pointwise

/-- The rows of one group after the other, read in a group. -/
theorem split_at (v : FVec Ideal S8192x4096 .f32) (p : Fin 4) (s : Fin 2048) (q : Fin 4096) :
    shapeCast S4x2048x4096 v shapeCasts_S8192x4096_S4x2048x4096 (ix3 p s q) = v (ix2 ⟨p.val * 2048 + s.val, by omega⟩ q) := by
  pointwise

/-- A row over the root of its mean square, times the gain. -/
theorem rms_at (X : FVec Ideal S4x2048x4096 .f32) (g : FVec Ideal S4096 .f32) (p : Fin 4) (s : Fin 2048) (q : Fin 4096) :
    mulf (mulf X (broadcastInDim S4x2048x4096 ![0, 1, 2] bcast_S4x2048x1_S4x2048x4096_0_1_2 (Host.rsqrt (addf (Host.divf (broadcastInDim S4x2048x1 ![0, 1] bcast_S4x2048_S4x2048x1_0_1 (Host.reduceAdd (mulf X X) (constant S_ .f32 0x00000000#32) reducesTo_S4x2048x4096_S4x2048_d2 h_S_)) (broadcastInDim S4x2048x1 ![] bcast_S_S4x2048x1 (constant S_ .f32 0x45800000#32))) (broadcastInDim S4x2048x1 ![] bcast_S_S4x2048x1 (constant S_ .f32 0x358637BD#32)))))) (broadcastInDim S4x2048x4096 ![0, 1, 2] bcast_S1x1x4096_S4x2048x4096_0_1_2 (broadcastInDim S1x1x4096 ![2] bcast_S4096_S1x1x4096_2 g)) (ix3 p s q)
      = (X (ix3 p s q) : EReal) * Ideal.rsqrt (Ideal.div (∑ k : Fin 4096, (X (ix3 p s k) : EReal) * X (ix3 p s k)) (Ideal.ofBits .f32 0x45800000#32) + Ideal.ofBits .f32 0x358637BD#32) * g (ix1 q) := by
  pointwise

/-- The two parts of the conditioning put on a row. -/
theorem modulate_at (X : FVec Ideal S4x2048x4096 .f32) (d : FVec Ideal S4x24576 .f32) (p : Fin 4) (s : Fin 2048) (q : Fin 4096) :
    addf (mulf X (broadcastInDim S4x2048x4096 ![0, 1, 2] bcast_S4x1x4096_S4x2048x4096_0_1_2 (addf (broadcastInDim S4x1x4096 ![] bcast_S_S4x1x4096 (constant S_ .f32 0x3F800000#32)) (extractStridedSlice S4x1x4096 ![0, 0, 4096] (broadcastInDim S4x1x24576 ![0, 2] bcast_S4x24576_S4x1x24576_0_2 d) slices_S4x1x24576_S4x1x4096_0_0_4096)))) (broadcastInDim S4x2048x4096 ![0, 1, 2] bcast_S4x1x4096_S4x2048x4096_0_1_2 (extractStridedSlice S4x1x4096 ![0, 0, 0] (broadcastInDim S4x1x24576 ![0, 2] bcast_S4x24576_S4x1x24576_0_2 d) slices_S4x1x24576_S4x1x4096_0_0_0)) (ix3 p s q)
      = (X (ix3 p s q) : EReal) * (1 + d (ix2 p ⟨4096 + q.val, by omega⟩)) + d (ix2 p ⟨q.val, by omega⟩) := by
  pointwise

end

theorem frame_r : Cert.quiescent_NormReferenceIdeal := fun m ρ _ =>
  (θ_run Cert.NormReferenceIdeal.defs _ _).mono (fun r h => ⟨fun c => (h c).2, sem_eq_zero_of_no_sems (by decide) r.2⟩)
    (Cert.NormReferenceIdeal.Value.run (F := Ideal) m ρ)

theorem algebraic : Cert.algebraic_NormIdeal_NormReferenceIdeal := by
  intro m ρ m' ρ' _ hagree
  refine ⟨fun c => arr (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)), ?_, ?_⟩
  · exact (θ_run Cert.NormIdeal.defs _ _).mono (fun r h c => ⟨(h c).1.trans (final m c), (h c).2⟩)
      (Cert.NormIdeal.Value.run_blocks (F := Ideal) m ρ)
  · refine (θ_run Cert.NormReferenceIdeal.defs _ _).mono (fun r h c => ⟨(h c).1.trans ?_, (h c).2⟩)
      (Cert.NormReferenceIdeal.Value.run (F := Ideal) m' ρ')
    have hg := hagree c
    rw [hg.1, hg.2.1, hg.2.2]
    funext i
    idx_vars i
    have e : i0.val / 2048 * 2048 + i0.val % 2048 = i0.val := by omega
    refine (fold_at _ i0 i1).trans ?_
    rw [modulate_at, rms_at]
    simp_rw [split_at]
    unfold arr at'
    pointwise [e]

end Cert.NormV
-- ==== Proof.Fin.lean ====
module

public import proofs.«01_k».proof.Defs
public import proofs.«01_k».proof.Proof.Gen.FinIdeal.Value
public import proofs.«01_k».proof.Proof.Gen.FinReferenceIdeal.Run
public import Idealize.ShloMosaic.Lib.Pointwise
public import Idealize.ShloMosaic.Lib.StableHlo.ReadAt
public import Idealize.ShloMosaic.Adequacy
public import Idealize.ShloMosaic.Init

@[expose] public section

set_option maxRecDepth 16384

noncomputable section

/-! # The last norm -/

namespace Cert.FinV

open Cert.FinIdeal Cert.FinIdeal.Gen Idealize.ShloMosaic Idealize.ShloMosaic.TcCoe
open Idealize.ShloMosaic.Pipeline (Dat)

set_option maxHeartbeats 400000

/-- Row `r`, column `q` of the result. -/
def at' (x : Vec Ideal S8192x4096 .f32) (g : Vec Ideal S4096 .f32) (r : Fin 8192) (q : Fin 4096) : EReal :=
  (x (ix2 r q) : EReal) * Ideal.rsqrt (Ideal.div (∑ k : Fin 4096, (x (ix2 r k) : EReal) * x (ix2 r k)) (Ideal.ofBits .f32 0x45800000#32) + Ideal.ofBits .f32 0x358637BD#32) * g (ix1 q)

def arr (x : Vec Ideal S8192x4096 .f32) (g : Vec Ideal S4096 .f32) : Vec Ideal S8192x4096 .f32 := fun i => at' x g (i 0) (i 1)

theorem out_at (x0 : Vec Ideal S512x4096 .f32) (x1 : Vec Ideal S1x4096 .f32) (r : Fin 512) (q : Fin 4096) :
    (out0_2 x0 x1 (ix2 r q) : EReal) = (x0 (ix2 r q) : EReal) * Ideal.rsqrt (Ideal.div (∑ k : Fin 4096, (x0 (ix2 r k) : EReal) * x0 (ix2 r k)) (Ideal.ofBits .f32 0x45800000#32) + Ideal.ofBits .f32 0x358637BD#32) * x1 (ix2 0 q) := by
  have hz : (![0, 0] : Fin 2 → Nat) = fun _ => 0 := by funext a; fin_cases a <;> rfl
  have hz3 : (![0, 0, 0] : Fin 3 → Nat) = fun _ => 0 := by funext a; fin_cases a <;> rfl
  unfold out0_2
  rw [View.canon_unit_zero hz]
  repeat rw [View.ld_unit_zero hz]
  try rw [View.ld_unit_zero hz3]
  pointwise [k0_pay1]

theorem geo0 : ∀ t : Fin cfg0.N, win0_0.index t 0 = t.val ∧ win0_0.index t 1 = 0 :=
  (by decide +kernel : ∀ t : Fin grid0.N, _)

theorem geo1 : ∀ t : Fin cfg0.N, win0_1.index t 0 = 0 ∧ win0_1.index t 1 = 0 :=
  (by decide +kernel : ∀ t : Fin grid0.N, _)

theorem geo2 : ∀ t : Fin cfg0.N, win0_2.index t 0 = t.val ∧ win0_2.index t 1 = 0 :=
  (by decide +kernel : ∀ t : Fin grid0.N, _)

section
variable (m : (ℓ : Loc nD τ sig) → Buf (Elt Ideal) ℓ) (c : Dev nD)

theorem lt (t : Fin cfg0.N) : t.val < 16 := by have h := t.isLt; have : cfg0.N = 16 := N_0; omega

theorem v0_at (z : Fin 1) (q : Fin 4096) : (V m c main_v0 (ix2 z q) : EReal) = (m ((c : Thread nD τ).loc main_arg1)) (ix1 q) := by
  unfold V
  after_reads_at

theorem iblk0 (t : Fin cfg0.N) (y0 : Fin 512) (y1 : Fin 4096) :
    have := lt t
    iblk m c 0 t (ix2 y0 y1) = (m ((c : Thread nD τ).loc main_arg0)) (ix2 ⟨512 * (t.val) + y0.val, by omega⟩ y1) := by
  have ht := lt t
  have g := geo0 t
  refine congrArg (m ((c : Thread nD τ).loc main_arg0)) (funext fun a => Fin.ext ?_)
  match a with
  | ⟨0, _⟩ => show win0_0.index t 0 * 512 + 1 * y0.val = 512 * (t.val) + y0.val; rw [g.1]; omega
  | ⟨1, _⟩ => show win0_0.index t 1 * 4096 + 1 * y1.val = y1.val; rw [g.2]; omega

theorem iblk1 (t : Fin cfg0.N) (y0 : Fin 1) (y1 : Fin 4096) :
    have := lt t
    (iblk m c 1 t (ix2 y0 y1) : EReal) = (m ((c : Thread nD τ).loc main_arg1)) (ix1 y1) := by
  have ht := lt t
  have g := geo1 t
  refine Eq.trans (b := (V m c main_v0 (ix2 y0 y1) : EReal)) ?_ (v0_at m c y0 y1)
  refine congrArg (V m c main_v0) (funext fun a => Fin.ext ?_)
  match a with
  | ⟨0, _⟩ => show win0_1.index t 0 * 1 + 1 * y0.val = y0.val; rw [g.1]; omega
  | ⟨1, _⟩ => show win0_1.index t 1 * 4096 + 1 * y1.val = y1.val; rw [g.2]; omega

theorem flushed_eq (t : Fin cfg0.N) :
    (dats m 0 c).flushed 2 t = ((cfg0.win 2).blk t).view.read (Elt Ideal)
      (arr (m ((c : Thread nD τ).loc main_arg0)) (m ((c : Thread nD τ).loc main_arg1))) := by
  rw [Value.flushed2]
  funext y
  have hy0 : (y 0).val < 512 := (y 0).isLt
  have hy1 : (y 1).val < 4096 := (y 1).isLt
  have g := geo2 t
  have ht := lt t
  have e : (((cfg0.win 2).blk t).view.emb y : S8192x4096.Idx)
      = (ix2 ⟨512 * (t.val) + (y 0).val, by omega⟩ ⟨(y 1).val, by omega⟩) := by
    funext a
    refine Fin.ext ?_
    match a with
    | ⟨0, _⟩ => show win0_2.index t 0 * 512 + 1 * (y 0).val = 512 * (t.val) + (y 0).val; rw [g.1]; omega
    | ⟨1, _⟩ => show win0_2.index t 1 * 4096 + 1 * (y 1).val = (y 1).val; rw [g.2]; omega
  refine Eq.trans ?_ (Eq.trans (out_at (iblk m c 0 t) (iblk m c 1 t) ⟨(y 0).val, hy0⟩ ⟨(y 1).val, hy1⟩) ?_)
  · refine congrArg (out0_2 _ _) (funext fun a => Fin.ext ?_)
    match a with
    | ⟨0, _⟩ => rfl
    | ⟨1, _⟩ => rfl
  · show _ = arr (m ((c : Thread nD τ).loc main_arg0)) (m ((c : Thread nD τ).loc main_arg1)) (((cfg0.win 2).blk t).view.emb y)
    rw [e]
    show _ = at' (m ((c : Thread nD τ).loc main_arg0)) (m ((c : Thread nD τ).loc main_arg1)) ⟨512 * (t.val) + (y 0).val, by omega⟩ ⟨(y 1).val, by omega⟩
    unfold at'
    simp only [iblk0, iblk1]
    try rfl

theorem cover (i : S8192x4096.Idx) : ∃ t : Fin cfg0.N, (cfg0.win 2).flush t = true ∧ i ∈ ((cfg0.win 2).blk t).view.set := by
  have h0 : (i 0 : Nat) < 8192 := (i 0).isLt
  have h1 : (i 1 : Nat) < 4096 := (i 1).isLt
  have hN : cfg0.N = 16 := N_0
  refine ⟨⟨(i 0).val / 512, by omega⟩, flush0_2 _, ?_⟩
  generalize ht : (⟨(i 0).val / 512, _⟩ : Fin cfg0.N) = t
  have hv : t.val = (i 0).val / 512 := by rw [← ht]
  have g := geo2 t
  show i ∈ ((View.whole main_v1).slice (win0_2.rect t)).set
  rw [View.set_slice_whole, Rect.mem_set_unit]
  intro a
  match a with
  | ⟨0, _⟩ => show win0_2.index t 0 * 512 ≤ (i 0 : Nat) ∧ (i 0 : Nat) < win0_2.index t 0 * 512 + 512; rw [g.1]; omega
  | ⟨1, _⟩ => show win0_2.index t 1 * 4096 ≤ (i 1 : Nat) ∧ (i 1 : Nat) < win0_2.index t 1 * 4096 + 4096; rw [g.2]; omega

theorem final : (dats m 0 c).arrAt 2 cfg0.N = arr (m ((c : Thread nD τ).loc main_arg0)) (m ((c : Thread nD τ).loc main_arg1)) :=
  (dats m 0 c).arrAt_eq_of_cover 2 _ (fun t _ => flushed_eq m c t) cover

end

end Cert.FinV

/-! ## The reference -/

namespace Cert.FinV

open Idealize.ShloMosaic Idealize.SL.Sem

section
open Cert.FinReferenceIdeal Cert.FinReferenceIdeal.Gen

/-- The groups' rows below each other, read at a row. -/
theorem fold_at (v : FVec Ideal S4x2048x4096 .f32) (r : Fin 8192) (q : Fin 4096) :
    shapeCast S8192x4096 v shapeCasts_S4x2048x4096_S8192x4096 (ix2 r q) = v (ix3 ⟨r.val / 2048, by omega⟩ ⟨r.val % 2048, by omega⟩ q) := by
  pointwise

/-- The rows of one group after the other, read in a group. -/
theorem split_at (v : FVec Ideal S8192x4096 .f32) (p : Fin 4) (s : Fin 2048) (q : Fin 4096) :
    shapeCast S4x2048x4096 v shapeCasts_S8192x4096_S4x2048x4096 (ix3 p s q) = v (ix2 ⟨p.val * 2048 + s.val, by omega⟩ q) := by
  pointwise

/-- A row over the root of its mean square, times the gain. -/
theorem rms_at (X : FVec Ideal S4x2048x4096 .f32) (g : FVec Ideal S4096 .f32) (p : Fin 4) (s : Fin 2048) (q : Fin 4096) :
    mulf (mulf X (broadcastInDim S4x2048x4096 ![0, 1, 2] bcast_S4x2048x1_S4x2048x4096_0_1_2 (Host.rsqrt (addf (Host.divf (broadcastInDim S4x2048x1 ![0, 1] bcast_S4x2048_S4x2048x1_0_1 (Host.reduceAdd (mulf X X) (constant S_ .f32 0x00000000#32) reducesTo_S4x2048x4096_S4x2048_d2 h_S_)) (broadcastInDim S4x2048x1 ![] bcast_S_S4x2048x1 (constant S_ .f32 0x45800000#32))) (broadcastInDim S4x2048x1 ![] bcast_S_S4x2048x1 (constant S_ .f32 0x358637BD#32)))))) (broadcastInDim S4x2048x4096 ![0, 1, 2] bcast_S1x1x4096_S4x2048x4096_0_1_2 (broadcastInDim S1x1x4096 ![2] bcast_S4096_S1x1x4096_2 g)) (ix3 p s q)
      = (X (ix3 p s q) : EReal) * Ideal.rsqrt (Ideal.div (∑ k : Fin 4096, (X (ix3 p s k) : EReal) * X (ix3 p s k)) (Ideal.ofBits .f32 0x45800000#32) + Ideal.ofBits .f32 0x358637BD#32) * g (ix1 q) := by
  pointwise

end

theorem frame_r : Cert.quiescent_FinReferenceIdeal := fun m ρ _ =>
  (θ_run Cert.FinReferenceIdeal.defs _ _).mono (fun r h => ⟨fun c => (h c).2, sem_eq_zero_of_no_sems (by decide) r.2⟩)
    (Cert.FinReferenceIdeal.Value.run (F := Ideal) m ρ)

theorem algebraic : Cert.algebraic_FinIdeal_FinReferenceIdeal := by
  intro m ρ m' ρ' _ hagree
  refine ⟨fun c => arr (m ((c.tc : Thread Cert.FinIdeal.nD Cert.FinIdeal.τ).loc Cert.FinIdeal.main_arg0)) (m ((c.tc : Thread Cert.FinIdeal.nD Cert.FinIdeal.τ).loc Cert.FinIdeal.main_arg1)), ?_, ?_⟩
  · exact (θ_run Cert.FinIdeal.defs _ _).mono (fun r h c => ⟨(h c).1.trans (final m c), (h c).2⟩)
      (Cert.FinIdeal.Value.run_blocks (F := Ideal) m ρ)
  · refine (θ_run Cert.FinReferenceIdeal.defs _ _).mono (fun r h c => ⟨(h c).1.trans ?_, (h c).2⟩)
      (Cert.FinReferenceIdeal.Value.run (F := Ideal) m' ρ')
    have hg := hagree c
    rw [hg.1, hg.2]
    funext i
    idx_vars i
    have e : i0.val / 2048 * 2048 + i0.val % 2048 = i0.val := by omega
    refine (fold_at _ i0 i1).trans ?_
    rw [rms_at]
    simp_rw [split_at]
    unfold arr at'
    pointwise [e]

end Cert.FinV
-- ==== Proof.Ada.lean ====
module

public import proofs.«01_k».proof.Defs
public import proofs.«01_k».proof.Proof.Gen.AdaIdeal.Value
public import proofs.«01_k».proof.Proof.Gen.AdaReferenceIdeal.Run
public import Idealize.ShloMosaic.Lib.Pointwise
public import Idealize.ShloMosaic.Lib.StableHlo.ReadAt
public import Idealize.ShloMosaic.Adequacy
public import Idealize.ShloMosaic.Init

@[expose] public section

set_option maxRecDepth 16384

noncomputable section

/-! # The conditioning of both groups -/

namespace Cert.AdaV

open Cert.AdaIdeal Cert.AdaIdeal.Gen Idealize.ShloMosaic Idealize.ShloMosaic.TcCoe
open Idealize.ShloMosaic.Pipeline (Dat)

set_option maxHeartbeats 400000

/-- Row `r` of the conditioning: both groups' rows below each other, then zeros. -/
def crow (cp : Vec Ideal S4x4096 .f32) (cs : Vec Ideal S32x4096 .f32) (r : Fin 40) (k : Fin 4096) : EReal :=
  if h : r.val < 4 then cp (ix2 ⟨r.val, h⟩ k) else if h' : r.val < 36 then cs (ix2 ⟨r.val - 4, by omega⟩ k) else 0

/-- Row `r`, column `q` of the result. -/
def at' (cp : Vec Ideal S4x4096 .f32) (cs : Vec Ideal S32x4096 .f32) (w : Vec Ideal S4096x24576 .f32) (b : Vec Ideal S24576 .f32) (r : Fin 40) (q : Fin 24576) : EReal :=
  (∑ k : Fin 4096, crow cp cs r k * w (ix2 k q)) + b (ix1 q)

def arr (cp : Vec Ideal S4x4096 .f32) (cs : Vec Ideal S32x4096 .f32) (w : Vec Ideal S4096x24576 .f32) (b : Vec Ideal S24576 .f32) : Vec Ideal S40x24576 .f32 := fun i => at' cp cs w b (i 0) (i 1)

theorem out_at (x0 : Vec Ideal S40x4096 .f32) (x1 : Vec Ideal S4096x512 .f32) (x2 : Vec Ideal S1x512 .f32) (r : Fin 40) (q : Fin 512) :
    (out0_3 x0 x1 x2 (ix2 r q) : EReal) = (∑ k : Fin 4096, (x0 (ix2 r k) : EReal) * x1 (ix2 k q)) + x2 (ix2 0 q) := by
  have hz : (![0, 0] : Fin 2 → Nat) = fun _ => 0 := by funext a; fin_cases a <;> rfl
  have hz3 : (![0, 0, 0] : Fin 3 → Nat) = fun _ => 0 := by funext a; fin_cases a <;> rfl
  unfold out0_3
  rw [View.canon_unit_zero hz]
  repeat rw [View.ld_unit_zero hz]
  try rw [View.ld_unit_zero hz3]
  pointwise [k0_pay1]

theorem geo0 : ∀ t : Fin cfg0.N, win0_0.index t 0 = 0 ∧ win0_0.index t 1 = 0 :=
  (by decide +kernel : ∀ t : Fin grid0.N, _)

theorem geo1 : ∀ t : Fin cfg0.N, win0_1.index t 0 = 0 ∧ win0_1.index t 1 = t.val :=
  (by decide +kernel : ∀ t : Fin grid0.N, _)

theorem geo2 : ∀ t : Fin cfg0.N, win0_2.index t 0 = 0 ∧ win0_2.index t 1 = t.val :=
  (by decide +kernel : ∀ t : Fin grid0.N, _)

theorem geo3 : ∀ t : Fin cfg0.N, win0_3.index t 0 = 0 ∧ win0_3.index t 1 = t.val :=
  (by decide +kernel : ∀ t : Fin grid0.N, _)

section
variable (m : (ℓ : Loc nD τ sig) → Buf (Elt Ideal) ℓ) (c : Dev nD)

theorem lt (t : Fin cfg0.N) : t.val < 48 := by have h := t.isLt; have : cfg0.N = 48 := N_0; omega

theorem zero_at : ((constant (F := Ideal) S_ .f32 0x00000000#32) ix0 : EReal) = (0 : EReal) := by
  pointwise

theorem v1_at (r : Fin 40) (k : Fin 4096) : (V m c main_v1 (ix2 r k) : EReal) = crow (m ((c : Thread nD τ).loc main_arg0)) (m ((c : Thread nD τ).loc main_arg1)) r k := by
  unfold V crow
  after_reads_at
  by_cases h : r.val < 4
  · simp only [h, ↓reduceDIte]
  by_cases h' : r.val < 36
  · simp only [h, h', show r.val - 4 < 32 by omega, ↓reduceDIte]
  · simp only [h, h', show ¬ r.val - 4 < 32 by omega, ↓reduceDIte]
    refine (congrFun (StableHlo.unary_result' _ _ _ _) _).trans ?_
    refine Eq.trans ?_ zero_at
    rfl

theorem v2_at (z : Fin 1) (q : Fin 24576) : (V m c main_v2 (ix2 z q) : EReal) = (m ((c : Thread nD τ).loc main_arg3)) (ix1 q) := by
  unfold V
  after_reads_at

theorem iblk0 (t : Fin cfg0.N) (y0 : Fin 40) (y1 : Fin 4096) :
    have := lt t
    (iblk m c 0 t (ix2 y0 y1) : EReal) = crow (m ((c : Thread nD τ).loc main_arg0)) (m ((c : Thread nD τ).loc main_arg1)) y0 y1 := by
  have ht := lt t
  have g := geo0 t
  refine Eq.trans (b := (V m c main_v1 (ix2 y0 y1) : EReal)) ?_ (v1_at m c y0 y1)
  refine congrArg (V m c main_v1) (funext fun a => Fin.ext ?_)
  match a with
  | ⟨0, _⟩ => show win0_0.index t 0 * 40 + 1 * y0.val = y0.val; rw [g.1]; omega
  | ⟨1, _⟩ => show win0_0.index t 1 * 4096 + 1 * y1.val = y1.val; rw [g.2]; omega

theorem iblk1 (t : Fin cfg0.N) (y0 : Fin 4096) (y1 : Fin 512) :
    have := lt t
    iblk m c 1 t (ix2 y0 y1) = (m ((c : Thread nD τ).loc main_arg2)) (ix2 y0 ⟨512 * (t.val) + y1.val, by omega⟩) := by
  have ht := lt t
  have g := geo1 t
  refine congrArg (m ((c : Thread nD τ).loc main_arg2)) (funext fun a => Fin.ext ?_)
  match a with
  | ⟨0, _⟩ => show win0_1.index t 0 * 4096 + 1 * y0.val = y0.val; rw [g.1]; omega
  | ⟨1, _⟩ => show win0_1.index t 1 * 512 + 1 * y1.val = 512 * (t.val) + y1.val; rw [g.2]; omega

theorem iblk2 (t : Fin cfg0.N) (y0 : Fin 1) (y1 : Fin 512) :
    have := lt t
    (iblk m c 2 t (ix2 y0 y1) : EReal) = (m ((c : Thread nD τ).loc main_arg3)) (ix1 ⟨512 * t.val + y1.val, by omega⟩) := by
  have ht := lt t
  have g := geo2 t
  refine Eq.trans (b := (V m c main_v2 (ix2 y0 ⟨512 * (t.val) + y1.val, by omega⟩) : EReal)) ?_ (v2_at m c y0 _)
  refine congrArg (V m c main_v2) (funext fun a => Fin.ext ?_)
  match a with
  | ⟨0, _⟩ => show win0_2.index t 0 * 1 + 1 * y0.val = y0.val; rw [g.1]; omega
  | ⟨1, _⟩ => show win0_2.index t 1 * 512 + 1 * y1.val = 512 * (t.val) + y1.val; rw [g.2]; omega

theorem flushed_eq (t : Fin cfg0.N) :
    (dats m 0 c).flushed 3 t = ((cfg0.win 3).blk t).view.read (Elt Ideal)
      (arr (m ((c : Thread nD τ).loc main_arg0)) (m ((c : Thread nD τ).loc main_arg1)) (m ((c : Thread nD τ).loc main_arg2)) (m ((c : Thread nD τ).loc main_arg3))) := by
  rw [Value.flushed3]
  funext y
  have hy0 : (y 0).val < 40 := (y 0).isLt
  have hy1 : (y 1).val < 512 := (y 1).isLt
  have g := geo3 t
  have ht := lt t
  have e : (((cfg0.win 3).blk t).view.emb y : S40x24576.Idx)
      = (ix2 ⟨(y 0).val, by omega⟩ ⟨512 * (t.val) + (y 1).val, by omega⟩) := by
    funext a
    refine Fin.ext ?_
    match a with
    | ⟨0, _⟩ => show win0_3.index t 0 * 40 + 1 * (y 0).val = (y 0).val; rw [g.1]; omega
    | ⟨1, _⟩ => show win0_3.index t 1 * 512 + 1 * (y 1).val = 512 * (t.val) + (y 1).val; rw [g.2]; omega
  refine Eq.trans ?_ (Eq.trans (out_at (iblk m c 0 t) (iblk m c 1 t) (iblk m c 2 t) ⟨(y 0).val, hy0⟩ ⟨(y 1).val, hy1⟩) ?_)
  · refine congrArg (out0_3 _ _ _) (funext fun a => Fin.ext ?_)
    match a with
    | ⟨0, _⟩ => rfl
    | ⟨1, _⟩ => rfl
  · show _ = arr (m ((c : Thread nD τ).loc main_arg0)) (m ((c : Thread nD τ).loc main_arg1)) (m ((c : Thread nD τ).loc main_arg2)) (m ((c : Thread nD τ).loc main_arg3)) (((cfg0.win 3).blk t).view.emb y)
    rw [e]
    show _ = at' (m ((c : Thread nD τ).loc main_arg0)) (m ((c : Thread nD τ).loc main_arg1)) (m ((c : Thread nD τ).loc main_arg2)) (m ((c : Thread nD τ).loc main_arg3)) ⟨(y 0).val, by omega⟩ ⟨512 * (t.val) + (y 1).val, by omega⟩
    unfold at'
    simp only [iblk0, iblk1, iblk2]
    try rfl

theorem cover (i : S40x24576.Idx) : ∃ t : Fin cfg0.N, (cfg0.win 3).flush t = true ∧ i ∈ ((cfg0.win 3).blk t).view.set := by
  have h0 : (i 0 : Nat) < 40 := (i 0).isLt
  have h1 : (i 1 : Nat) < 24576 := (i 1).isLt
  have hN : cfg0.N = 48 := N_0
  refine ⟨⟨(i 1).val / 512, by omega⟩, flush0_3 _, ?_⟩
  generalize ht : (⟨(i 1).val / 512, _⟩ : Fin cfg0.N) = t
  have hv : t.val = (i 1).val / 512 := by rw [← ht]
  have g := geo3 t
  show i ∈ ((View.whole main_v3).slice (win0_3.rect t)).set
  rw [View.set_slice_whole, Rect.mem_set_unit]
  intro a
  match a with
  | ⟨0, _⟩ => show win0_3.index t 0 * 40 ≤ (i 0 : Nat) ∧ (i 0 : Nat) < win0_3.index t 0 * 40 + 40; rw [g.1]; omega
  | ⟨1, _⟩ => show win0_3.index t 1 * 512 ≤ (i 1 : Nat) ∧ (i 1 : Nat) < win0_3.index t 1 * 512 + 512; rw [g.2]; omega

theorem final : (dats m 0 c).arrAt 3 cfg0.N = arr (m ((c : Thread nD τ).loc main_arg0)) (m ((c : Thread nD τ).loc main_arg1)) (m ((c : Thread nD τ).loc main_arg2)) (m ((c : Thread nD τ).loc main_arg3)) :=
  (dats m 0 c).arrAt_eq_of_cover 3 _ (fun t _ => flushed_eq m c t) cover

end

end Cert.AdaV

/-! ## The reference -/

namespace Cert.AdaV

open Idealize.ShloMosaic Idealize.SL.Sem

theorem frame_r : Cert.quiescent_AdaReferenceIdeal := fun m ρ _ =>
  (θ_run Cert.AdaReferenceIdeal.defs _ _).mono (fun r h => ⟨fun c => (h c).2, sem_eq_zero_of_no_sems (by decide) r.2⟩)
    (Cert.AdaReferenceIdeal.Value.run (F := Ideal) m ρ)

theorem algebraic : Cert.algebraic_AdaIdeal_AdaReferenceIdeal := by
  intro m ρ m' ρ' _ hagree
  refine ⟨fun c => arr (m ((c.tc : Thread Cert.AdaIdeal.nD Cert.AdaIdeal.τ).loc Cert.AdaIdeal.main_arg0)) (m ((c.tc : Thread Cert.AdaIdeal.nD Cert.AdaIdeal.τ).loc Cert.AdaIdeal.main_arg1)) (m ((c.tc : Thread Cert.AdaIdeal.nD Cert.AdaIdeal.τ).loc Cert.AdaIdeal.main_arg2)) (m ((c.tc : Thread Cert.AdaIdeal.nD Cert.AdaIdeal.τ).loc Cert.AdaIdeal.main_arg3)), ?_, ?_⟩
  · exact (θ_run Cert.AdaIdeal.defs _ _).mono (fun r h c => ⟨(h c).1.trans (final m c), (h c).2⟩)
      (Cert.AdaIdeal.Value.run_blocks (F := Ideal) m ρ)
  · refine (θ_run Cert.AdaReferenceIdeal.defs _ _).mono (fun r h c => ⟨(h c).1.trans ?_, (h c).2⟩)
      (Cert.AdaReferenceIdeal.Value.run (F := Ideal) m' ρ')
    have hg := hagree c
    rw [hg.1, hg.2.1, hg.2.2.1, hg.2.2.2]
    funext i
    idx_vars i
    unfold arr at'
    pointwise
    unfold crow
    by_cases h : i0.val < 4
    · simp [h]
    · by_cases h' : i0.val < 36
      · simp [h, h', show i0.val - 4 < 32 by omega]
      · simp [h, h', show ¬ i0.val - 4 < 32 by omega]

end Cert.AdaV
-- ==== Proof.Sfin.lean ====
module

public import proofs.«01_k».proof.Defs
public import proofs.«01_k».proof.Proof.Gen.SfinIdeal.Value
public import proofs.«01_k».proof.Proof.Gen.SfinReferenceIdeal.Run
public import Idealize.ShloMosaic.Lib.Pointwise
public import Idealize.ShloMosaic.Lib.StableHlo.ReadAt
public import Idealize.ShloMosaic.Adequacy
public import Idealize.ShloMosaic.Init

@[expose] public section

set_option maxRecDepth 16384

noncomputable section

/-! # The last norm of the sample -/

namespace Cert.SfinV

open Cert.SfinIdeal Cert.SfinIdeal.Gen Idealize.ShloMosaic Idealize.ShloMosaic.TcCoe
open Idealize.ShloMosaic.Pipeline (Dat)

set_option maxHeartbeats 400000

/-- Row `r`, column `q` of the result. -/
def at' (x : Vec Ideal S128x4096 .f32) (g : Vec Ideal S4096 .f32) (r : Fin 128) (q : Fin 4096) : EReal :=
  (x (ix2 r q) : EReal) * Ideal.rsqrt (Ideal.div (∑ k : Fin 4096, (x (ix2 r k) : EReal) * x (ix2 r k)) (Ideal.ofBits .f32 0x45800000#32) + Ideal.ofBits .f32 0x358637BD#32) * g (ix1 q)

def arr (x : Vec Ideal S128x4096 .f32) (g : Vec Ideal S4096 .f32) : Vec Ideal S128x4096 .f32 := fun i => at' x g (i 0) (i 1)

theorem out_at (x0 : Vec Ideal S128x4096 .f32) (x1 : Vec Ideal S1x4096 .f32) (r : Fin 128) (q : Fin 4096) :
    (out0_2 x0 x1 (ix2 r q) : EReal) = (x0 (ix2 r q) : EReal) * Ideal.rsqrt (Ideal.div (∑ k : Fin 4096, (x0 (ix2 r k) : EReal) * x0 (ix2 r k)) (Ideal.ofBits .f32 0x45800000#32) + Ideal.ofBits .f32 0x358637BD#32) * x1 (ix2 0 q) := by
  have hz : (![0, 0] : Fin 2 → Nat) = fun _ => 0 := by funext a; fin_cases a <;> rfl
  have hz3 : (![0, 0, 0] : Fin 3 → Nat) = fun _ => 0 := by funext a; fin_cases a <;> rfl
  unfold out0_2
  rw [View.canon_unit_zero hz]
  repeat rw [View.ld_unit_zero hz]
  try rw [View.ld_unit_zero hz3]
  pointwise [k0_pay1]

theorem geo0 : ∀ t : Fin cfg0.N, win0_0.index t 0 = t.val ∧ win0_0.index t 1 = 0 :=
  (by decide +kernel : ∀ t : Fin grid0.N, _)

theorem geo1 : ∀ t : Fin cfg0.N, win0_1.index t 0 = 0 ∧ win0_1.index t 1 = 0 :=
  (by decide +kernel : ∀ t : Fin grid0.N, _)

theorem geo2 : ∀ t : Fin cfg0.N, win0_2.index t 0 = t.val ∧ win0_2.index t 1 = 0 :=
  (by decide +kernel : ∀ t : Fin grid0.N, _)

section
variable (m : (ℓ : Loc nD τ sig) → Buf (Elt Ideal) ℓ) (c : Dev nD)

theorem lt (t : Fin cfg0.N) : t.val < 1 := by have h := t.isLt; have : cfg0.N = 1 := N_0; omega

theorem v0_at (z : Fin 1) (q : Fin 4096) : (V m c main_v0 (ix2 z q) : EReal) = (m ((c : Thread nD τ).loc main_arg1)) (ix1 q) := by
  unfold V
  after_reads_at

theorem iblk0 (t : Fin cfg0.N) (y0 : Fin 128) (y1 : Fin 4096) :
    have := lt t
    iblk m c 0 t (ix2 y0 y1) = (m ((c : Thread nD τ).loc main_arg0)) (ix2 ⟨128 * (t.val) + y0.val, by omega⟩ y1) := by
  have ht := lt t
  have g := geo0 t
  refine congrArg (m ((c : Thread nD τ).loc main_arg0)) (funext fun a => Fin.ext ?_)
  match a with
  | ⟨0, _⟩ => show win0_0.index t 0 * 128 + 1 * y0.val = 128 * (t.val) + y0.val; rw [g.1]; omega
  | ⟨1, _⟩ => show win0_0.index t 1 * 4096 + 1 * y1.val = y1.val; rw [g.2]; omega

theorem iblk1 (t : Fin cfg0.N) (y0 : Fin 1) (y1 : Fin 4096) :
    have := lt t
    (iblk m c 1 t (ix2 y0 y1) : EReal) = (m ((c : Thread nD τ).loc main_arg1)) (ix1 y1) := by
  have ht := lt t
  have g := geo1 t
  refine Eq.trans (b := (V m c main_v0 (ix2 y0 y1) : EReal)) ?_ (v0_at m c y0 y1)
  refine congrArg (V m c main_v0) (funext fun a => Fin.ext ?_)
  match a with
  | ⟨0, _⟩ => show win0_1.index t 0 * 1 + 1 * y0.val = y0.val; rw [g.1]; omega
  | ⟨1, _⟩ => show win0_1.index t 1 * 4096 + 1 * y1.val = y1.val; rw [g.2]; omega

theorem flushed_eq (t : Fin cfg0.N) :
    (dats m 0 c).flushed 2 t = ((cfg0.win 2).blk t).view.read (Elt Ideal)
      (arr (m ((c : Thread nD τ).loc main_arg0)) (m ((c : Thread nD τ).loc main_arg1))) := by
  rw [Value.flushed2]
  funext y
  have hy0 : (y 0).val < 128 := (y 0).isLt
  have hy1 : (y 1).val < 4096 := (y 1).isLt
  have g := geo2 t
  have ht := lt t
  have e : (((cfg0.win 2).blk t).view.emb y : S128x4096.Idx)
      = (ix2 ⟨128 * (t.val) + (y 0).val, by omega⟩ ⟨(y 1).val, by omega⟩) := by
    funext a
    refine Fin.ext ?_
    match a with
    | ⟨0, _⟩ => show win0_2.index t 0 * 128 + 1 * (y 0).val = 128 * (t.val) + (y 0).val; rw [g.1]; omega
    | ⟨1, _⟩ => show win0_2.index t 1 * 4096 + 1 * (y 1).val = (y 1).val; rw [g.2]; omega
  refine Eq.trans ?_ (Eq.trans (out_at (iblk m c 0 t) (iblk m c 1 t) ⟨(y 0).val, hy0⟩ ⟨(y 1).val, hy1⟩) ?_)
  · refine congrArg (out0_2 _ _) (funext fun a => Fin.ext ?_)
    match a with
    | ⟨0, _⟩ => rfl
    | ⟨1, _⟩ => rfl
  · show _ = arr (m ((c : Thread nD τ).loc main_arg0)) (m ((c : Thread nD τ).loc main_arg1)) (((cfg0.win 2).blk t).view.emb y)
    rw [e]
    show _ = at' (m ((c : Thread nD τ).loc main_arg0)) (m ((c : Thread nD τ).loc main_arg1)) ⟨128 * (t.val) + (y 0).val, by omega⟩ ⟨(y 1).val, by omega⟩
    unfold at'
    simp only [iblk0, iblk1]
    try rfl

theorem cover (i : S128x4096.Idx) : ∃ t : Fin cfg0.N, (cfg0.win 2).flush t = true ∧ i ∈ ((cfg0.win 2).blk t).view.set := by
  have h0 : (i 0 : Nat) < 128 := (i 0).isLt
  have h1 : (i 1 : Nat) < 4096 := (i 1).isLt
  have hN : cfg0.N = 1 := N_0
  refine ⟨⟨(i 0).val / 128, by omega⟩, flush0_2 _, ?_⟩
  generalize ht : (⟨(i 0).val / 128, _⟩ : Fin cfg0.N) = t
  have hv : t.val = (i 0).val / 128 := by rw [← ht]
  have g := geo2 t
  show i ∈ ((View.whole main_v1).slice (win0_2.rect t)).set
  rw [View.set_slice_whole, Rect.mem_set_unit]
  intro a
  match a with
  | ⟨0, _⟩ => show win0_2.index t 0 * 128 ≤ (i 0 : Nat) ∧ (i 0 : Nat) < win0_2.index t 0 * 128 + 128; rw [g.1]; omega
  | ⟨1, _⟩ => show win0_2.index t 1 * 4096 ≤ (i 1 : Nat) ∧ (i 1 : Nat) < win0_2.index t 1 * 4096 + 4096; rw [g.2]; omega

theorem final : (dats m 0 c).arrAt 2 cfg0.N = arr (m ((c : Thread nD τ).loc main_arg0)) (m ((c : Thread nD τ).loc main_arg1)) :=
  (dats m 0 c).arrAt_eq_of_cover 2 _ (fun t _ => flushed_eq m c t) cover

end

end Cert.SfinV

/-! ## The reference -/

namespace Cert.SfinV

open Idealize.ShloMosaic Idealize.SL.Sem

section
open Cert.SfinReferenceIdeal Cert.SfinReferenceIdeal.Gen

/-- The groups' rows below each other, read at a row. -/
theorem fold_at (v : FVec Ideal S32x4x4096 .f32) (r : Fin 128) (q : Fin 4096) :
    shapeCast S128x4096 v shapeCasts_S32x4x4096_S128x4096 (ix2 r q) = v (ix3 ⟨r.val / 4, by omega⟩ ⟨r.val % 4, by omega⟩ q) := by
  pointwise

/-- The rows of one group after the other, read in a group. -/
theorem split_at (v : FVec Ideal S128x4096 .f32) (p : Fin 32) (s : Fin 4) (q : Fin 4096) :
    shapeCast S32x4x4096 v shapeCasts_S128x4096_S32x4x4096 (ix3 p s q) = v (ix2 ⟨p.val * 4 + s.val, by omega⟩ q) := by
  pointwise

/-- A row over the root of its mean square, times the gain. -/
theorem rms_at (X : FVec Ideal S32x4x4096 .f32) (g : FVec Ideal S4096 .f32) (p : Fin 32) (s : Fin 4) (q : Fin 4096) :
    mulf (mulf X (broadcastInDim S32x4x4096 ![0, 1, 2] bcast_S32x4x1_S32x4x4096_0_1_2 (Host.rsqrt (addf (Host.divf (broadcastInDim S32x4x1 ![0, 1] bcast_S32x4_S32x4x1_0_1 (Host.reduceAdd (mulf X X) (constant S_ .f32 0x00000000#32) reducesTo_S32x4x4096_S32x4_d2 h_S_)) (broadcastInDim S32x4x1 ![] bcast_S_S32x4x1 (constant S_ .f32 0x45800000#32))) (broadcastInDim S32x4x1 ![] bcast_S_S32x4x1 (constant S_ .f32 0x358637BD#32)))))) (broadcastInDim S32x4x4096 ![0, 1, 2] bcast_S1x1x4096_S32x4x4096_0_1_2 (broadcastInDim S1x1x4096 ![2] bcast_S4096_S1x1x4096_2 g)) (ix3 p s q)
      = (X (ix3 p s q) : EReal) * Ideal.rsqrt (Ideal.div (∑ k : Fin 4096, (X (ix3 p s k) : EReal) * X (ix3 p s k)) (Ideal.ofBits .f32 0x45800000#32) + Ideal.ofBits .f32 0x358637BD#32) * g (ix1 q) := by
  pointwise

end

theorem frame_r : Cert.quiescent_SfinReferenceIdeal := fun m ρ _ =>
  (θ_run Cert.SfinReferenceIdeal.defs _ _).mono (fun r h => ⟨fun c => (h c).2, sem_eq_zero_of_no_sems (by decide) r.2⟩)
    (Cert.SfinReferenceIdeal.Value.run (F := Ideal) m ρ)

theorem algebraic : Cert.algebraic_SfinIdeal_SfinReferenceIdeal := by
  intro m ρ m' ρ' _ hagree
  refine ⟨fun c => arr (m ((c.tc : Thread Cert.SfinIdeal.nD Cert.SfinIdeal.τ).loc Cert.SfinIdeal.main_arg0)) (m ((c.tc : Thread Cert.SfinIdeal.nD Cert.SfinIdeal.τ).loc Cert.SfinIdeal.main_arg1)), ?_, ?_⟩
  · exact (θ_run Cert.SfinIdeal.defs _ _).mono (fun r h c => ⟨(h c).1.trans (final m c), (h c).2⟩)
      (Cert.SfinIdeal.Value.run_blocks (F := Ideal) m ρ)
  · refine (θ_run Cert.SfinReferenceIdeal.defs _ _).mono (fun r h c => ⟨(h c).1.trans ?_, (h c).2⟩)
      (Cert.SfinReferenceIdeal.Value.run (F := Ideal) m' ρ')
    have hg := hagree c
    rw [hg.1, hg.2]
    funext i
    idx_vars i
    have e : i0.val / 4 * 4 + i0.val % 4 = i0.val := by omega
    refine (fold_at _ i0 i1).trans ?_
    rw [rms_at]
    simp_rw [split_at]
    unfold arr at'
    pointwise [e]

end Cert.SfinV
-- ==== Proof.Skey.lean ====
module

public import proofs.«01_k».proof.Defs
public import proofs.«01_k».proof.Proof.Gen.SkeyIdeal.Value
public import proofs.«01_k».proof.Proof.Gen.SkeyReferenceIdeal.Run
public import Idealize.ShloMosaic.Lib.Pointwise
public import Idealize.ShloMosaic.Lib.StableHlo.ReadAt
public import Idealize.ShloMosaic.Adequacy
public import Idealize.ShloMosaic.Init

@[expose] public section

set_option maxRecDepth 16384

noncomputable section

/-! # The keys of the sample -/

namespace Cert.SkeyV

open Cert.SkeyIdeal Cert.SkeyIdeal.Gen Idealize.ShloMosaic Idealize.ShloMosaic.TcCoe
open Idealize.ShloMosaic.Pipeline (Dat)

set_option maxHeartbeats 400000

/-- The angle of pair `j` of a head at the sample's position `s`. -/
def angle (s : Fin 4) (j : Fin 64) : EReal :=
  FloatOps.sitofp (F := Ideal) .f32 (IntOp.addi 8192#32 (BitVec.ofNat 32 s.val)) * Ideal.pow (Ideal.ofBits .f32 0x461C4000#32) (Ideal.div (-FloatOps.sitofp (F := Ideal) .f32 (BitVec.ofNat 32 j.val)) (Ideal.ofBits .f32 0x42800000#32))

/-- The cosines' table: the pairs' cosines twice. -/
def cosT (s : Fin 4) (d : Fin 128) : EReal :=
  if h : d.val < 64 then Ideal.cos (angle s ⟨d.val, h⟩) else Ideal.cos (angle s ⟨d.val - 64, by omega⟩)

/-- The sines' table: the pairs' sines negated, then the pairs' sines. -/
def sinT (s : Fin 4) (d : Fin 128) : EReal :=
  if h : d.val < 64 then -Ideal.sin (angle s ⟨d.val, h⟩) else Ideal.sin (angle s ⟨d.val - 64, by omega⟩)

section
variable (x0 : Vec Ideal S128x4096 .bf16) (x1 : Vec Ideal S4096x1024 .bf16) (x2 x3 : Vec Ideal S128x128 .f32)

/-- Row `r`, column `q` of a block, from the blocks read. -/
def block (r : Fin 128) (q : Fin 1024) : EReal :=
  (∑ k : Fin 4096, (x0 (ix2 r k) : EReal) * x1 (ix2 k q)) * x2 (ix2 r ⟨q.val % 128, by omega⟩) + (∑ k : Fin 4096, (x0 (ix2 r k) : EReal) * x1 (ix2 k ⟨q.val / 128 * 128 + (q.val % 128 + 64) % 128, by omega⟩)) * x3 (ix2 r ⟨q.val % 128, by omega⟩)

/-- The block at a head's columns `o …`. -/
theorem block_head (o : Nat) (h : o % 128 = 0) (inb) (r : Fin 128) (d : Fin 128) :
    (fun y : S128x1024.Idx => block x0 x1 x2 x3 (y 0) (y 1)) ((Rect.unit (s := S128x1024) ![0, o] S128x128.size inb).idx (ix2 r d))
      = (∑ k : Fin 4096, (x0 (ix2 r k) : EReal) * x1 (ix2 k ⟨o + d.val, by have := inb 1; have : o + 128 ≤ 1024 := this; omega⟩)) * x2 (ix2 r d)
        + (∑ k : Fin 4096, (x0 (ix2 r k) : EReal) * x1 (ix2 k ⟨o + (d.val + 128 - 64) % 128, by have := inb 1; have : o + 128 ≤ 1024 := this; omega⟩)) * x3 (ix2 r d) := by
  have ho : o + 128 ≤ 1024 := inb 1
  have e0 : (((Rect.unit (s := S128x1024) ![0, o] S128x128.size inb).idx (ix2 r d)) 0 : Fin 128) = r := Fin.ext (show 0 + 1 * r.val = r.val by omega)
  have e1 : (((Rect.unit (s := S128x1024) ![0, o] S128x128.size inb).idx (ix2 r d)) 1 : Fin 1024) = (⟨o + d.val, by omega⟩ : Fin 1024) := Fin.ext (show o + 1 * d.val = o + d.val by omega)
  show block x0 x1 x2 x3 _ _ = _
  rw [e0, e1]
  unfold block
  have e2 : (o + d.val) % 128 = d.val := by omega
  have e3 : (o + d.val) / 128 * 128 + (d.val + 64) % 128 = o + (d.val + 128 - 64) % 128 := by omega
  simp only [e2, e3, Fin.eta]

end

/-- Row `r`, column `q` of the result. -/
def at' (a : Vec Ideal S128x4096 .bf16) (w : Vec Ideal S4096x18432 .f32) (r : Fin 128) (q : Fin 2048) : EReal :=
  (∑ k : Fin 4096, (a (ix2 r k) : EReal) * w (ix2 k ⟨2048 + q.val, by omega⟩)) * cosT ⟨r.val % 4, by omega⟩ ⟨q.val % 128, by omega⟩ + (∑ k : Fin 4096, (a (ix2 r k) : EReal) * w (ix2 k ⟨2048 + (q.val / 128 * 128 + (q.val % 128 + 64) % 128), by omega⟩)) * sinT ⟨r.val % 4, by omega⟩ ⟨q.val % 128, by omega⟩

def arr (a : Vec Ideal S128x4096 .bf16) (w : Vec Ideal S4096x18432 .f32) : Vec Ideal S128x2048 .f32 := fun i => at' a w (i 0) (i 1)

theorem out_at (x0 : Vec Ideal S128x4096 .bf16) (x1 : Vec Ideal S4096x1024 .bf16) (x2 : Vec Ideal S128x128 .f32) (x3 : Vec Ideal S128x128 .f32) (r : Fin 128) (q : Fin 1024) :
    (out0_4 x0 x1 x2 x3 (ix2 r q) : EReal) = (∑ k : Fin 4096, (x0 (ix2 r k) : EReal) * x1 (ix2 k q)) * x2 (ix2 r ⟨q.val % 128, by omega⟩) + (∑ k : Fin 4096, (x0 (ix2 r k) : EReal) * x1 (ix2 k ⟨q.val / 128 * 128 + (q.val % 128 + 64) % 128, by omega⟩)) * x3 (ix2 r ⟨q.val % 128, by omega⟩) := by
  have hz : (![0, 0] : Fin 2 → Nat) = fun _ => 0 := by funext a; fin_cases a <;> rfl
  unfold out0_4 k0_pay15 k0_pay14 k0_pay13
  repeat rw [View.ld_unit_zero hz]
  refine (View.canon_apply_of_pieces (fun y => block x0 x1 x2 x3 (y 0) (y 1)) _ ?_ (ix2 r q) (cover0_4 _ _ _ _ _ _ _ _ _)).trans rfl
  intro pc hpc
  rcases List.mem_cons.mp hpc with rfl | hpc
  · intro (z : S128x128.Idx)
    idx_vars z
    refine Eq.trans ?_ (block_head x0 x1 x2 x3 896 rfl _ z0 z1).symm
    pointwise [k0_pay1, k0_pay2, k0_pay3, k0_pay4, k0_pay8, k0_pay9, k0_pay10, k0_pay11, k0_pay12, k0_pay5, k0_pay6, k0_pay7]
  rcases List.mem_cons.mp hpc with rfl | hpc
  · intro (z : S128x128.Idx)
    idx_vars z
    refine Eq.trans ?_ (block_head x0 x1 x2 x3 768 rfl _ z0 z1).symm
    pointwise [k0_pay1, k0_pay2, k0_pay3, k0_pay4, k0_pay8, k0_pay9, k0_pay10, k0_pay11, k0_pay12, k0_pay5, k0_pay6, k0_pay7]
  rcases List.mem_cons.mp hpc with rfl | hpc
  · intro (z : S128x128.Idx)
    idx_vars z
    refine Eq.trans ?_ (block_head x0 x1 x2 x3 640 rfl _ z0 z1).symm
    pointwise [k0_pay1, k0_pay2, k0_pay3, k0_pay4, k0_pay8, k0_pay9, k0_pay10, k0_pay11, k0_pay12, k0_pay5, k0_pay6, k0_pay7]
  rcases List.mem_cons.mp hpc with rfl | hpc
  · intro (z : S128x128.Idx)
    idx_vars z
    refine Eq.trans ?_ (block_head x0 x1 x2 x3 512 rfl _ z0 z1).symm
    pointwise [k0_pay1, k0_pay2, k0_pay3, k0_pay4, k0_pay8, k0_pay9, k0_pay10, k0_pay11, k0_pay12, k0_pay5, k0_pay6, k0_pay7]
  rcases List.mem_cons.mp hpc with rfl | hpc
  · intro (z : S128x128.Idx)
    idx_vars z
    refine Eq.trans ?_ (block_head x0 x1 x2 x3 384 rfl _ z0 z1).symm
    pointwise [k0_pay1, k0_pay2, k0_pay3, k0_pay4, k0_pay8, k0_pay9, k0_pay10, k0_pay11, k0_pay12, k0_pay5, k0_pay6, k0_pay7]
  rcases List.mem_cons.mp hpc with rfl | hpc
  · intro (z : S128x128.Idx)
    idx_vars z
    refine Eq.trans ?_ (block_head x0 x1 x2 x3 256 rfl _ z0 z1).symm
    pointwise [k0_pay1, k0_pay2, k0_pay3, k0_pay4, k0_pay8, k0_pay9, k0_pay10, k0_pay11, k0_pay12, k0_pay5, k0_pay6, k0_pay7]
  rcases List.mem_cons.mp hpc with rfl | hpc
  · intro (z : S128x128.Idx)
    idx_vars z
    refine Eq.trans ?_ (block_head x0 x1 x2 x3 128 rfl _ z0 z1).symm
    pointwise [k0_pay1, k0_pay2, k0_pay3, k0_pay4, k0_pay8, k0_pay9, k0_pay10, k0_pay11, k0_pay12, k0_pay5, k0_pay6, k0_pay7]
  rcases List.mem_cons.mp hpc with rfl | hpc
  · intro (z : S128x128.Idx)
    idx_vars z
    refine Eq.trans ?_ (block_head x0 x1 x2 x3 0 rfl _ z0 z1).symm
    pointwise [k0_pay1, k0_pay2, k0_pay3, k0_pay4, k0_pay8, k0_pay9, k0_pay10, k0_pay11, k0_pay12, k0_pay5, k0_pay6, k0_pay7]
  nomatch hpc

theorem geo0 : ∀ t : Fin cfg0.N, win0_0.index t 0 = t.val / 2 ∧ win0_0.index t 1 = 0 :=
  (by decide +kernel : ∀ t : Fin grid0.N, _)

theorem geo1 : ∀ t : Fin cfg0.N, win0_1.index t 0 = 0 ∧ win0_1.index t 1 = 2 + t.val % 2 :=
  (by decide +kernel : ∀ t : Fin grid0.N, _)

theorem geo2 : ∀ t : Fin cfg0.N, win0_2.index t 0 = t.val / 2 ∧ win0_2.index t 1 = 0 :=
  (by decide +kernel : ∀ t : Fin grid0.N, _)

theorem geo3 : ∀ t : Fin cfg0.N, win0_3.index t 0 = t.val / 2 ∧ win0_3.index t 1 = 0 :=
  (by decide +kernel : ∀ t : Fin grid0.N, _)

theorem geo4 : ∀ t : Fin cfg0.N, win0_4.index t 0 = t.val / 2 ∧ win0_4.index t 1 = t.val % 2 :=
  (by decide +kernel : ∀ t : Fin grid0.N, _)

section
variable (m : (ℓ : Loc nD τ sig) → Buf (Elt Ideal) ℓ) (c : Dev nD)

theorem lt (t : Fin cfg0.N) : t.val < 2 := by have h := t.isLt; have : cfg0.N = 2 := N_0; omega

theorem v23_at (k : Fin 4096) (q : Fin 18432) : (V m c main_v23 (ix2 k q) : EReal) = (m ((c : Thread nD τ).loc main_arg1)) (ix2 k q) := by
  unfold V
  after_reads_at

theorem v20_at (r : Fin 128) (d : Fin 128) : (V m c main_v20 (ix2 r d) : EReal) = cosT ⟨r.val % 4, by omega⟩ d := by
  unfold V cosT angle
  after_reads_at

theorem v22_at (r : Fin 128) (d : Fin 128) : (V m c main_v22 (ix2 r d) : EReal) = sinT ⟨r.val % 4, by omega⟩ d := by
  unfold V sinT angle
  after_reads_at

theorem iblk0 (t : Fin cfg0.N) (y0 : Fin 128) (y1 : Fin 4096) :
    have := lt t
    iblk m c 0 t (ix2 y0 y1) = (m ((c : Thread nD τ).loc main_arg0)) (ix2 ⟨128 * (t.val / 2) + y0.val, by omega⟩ y1) := by
  have ht := lt t
  have g := geo0 t
  refine congrArg (m ((c : Thread nD τ).loc main_arg0)) (funext fun a => Fin.ext ?_)
  match a with
  | ⟨0, _⟩ => show win0_0.index t 0 * 128 + 1 * y0.val = 128 * (t.val / 2) + y0.val; rw [g.1]; omega
  | ⟨1, _⟩ => show win0_0.index t 1 * 4096 + 1 * y1.val = y1.val; rw [g.2]; omega

theorem iblk1 (t : Fin cfg0.N) (y0 : Fin 4096) (y1 : Fin 1024) :
    have := lt t
    (iblk m c 1 t (ix2 y0 y1) : EReal) = (m ((c : Thread nD τ).loc main_arg1)) (ix2 y0 ⟨2048 + (1024 * (t.val % 2) + y1.val), by omega⟩) := by
  have ht := lt t
  have g := geo1 t
  refine Eq.trans (b := (V m c main_v23 (ix2 y0 ⟨2048 + (1024 * (t.val % 2) + y1.val), by omega⟩) : EReal)) ?_ (v23_at m c y0 _)
  refine congrArg (V m c main_v23) (funext fun a => Fin.ext ?_)
  match a with
  | ⟨0, _⟩ => show win0_1.index t 0 * 4096 + 1 * y0.val = y0.val; rw [g.1]; omega
  | ⟨1, _⟩ => show win0_1.index t 1 * 1024 + 1 * y1.val = 2048 + (1024 * (t.val % 2) + y1.val); rw [g.2]; omega

theorem iblk2 (t : Fin cfg0.N) (y0 : Fin 128) (y1 : Fin 128) :
    have := lt t
    (iblk m c 2 t (ix2 y0 y1) : EReal) = cosT ⟨(128 * (t.val / 2) + y0.val) % 4, by omega⟩ y1 := by
  have ht := lt t
  have g := geo2 t
  refine Eq.trans (b := (V m c main_v20 (ix2 ⟨128 * (t.val / 2) + y0.val, by omega⟩ y1) : EReal)) ?_ (v20_at m c _ y1)
  refine congrArg (V m c main_v20) (funext fun a => Fin.ext ?_)
  match a with
  | ⟨0, _⟩ => show win0_2.index t 0 * 128 + 1 * y0.val = 128 * (t.val / 2) + y0.val; rw [g.1]; omega
  | ⟨1, _⟩ => show win0_2.index t 1 * 128 + 1 * y1.val = y1.val; rw [g.2]; omega

theorem iblk3 (t : Fin cfg0.N) (y0 : Fin 128) (y1 : Fin 128) :
    have := lt t
    (iblk m c 3 t (ix2 y0 y1) : EReal) = sinT ⟨(128 * (t.val / 2) + y0.val) % 4, by omega⟩ y1 := by
  have ht := lt t
  have g := geo3 t
  refine Eq.trans (b := (V m c main_v22 (ix2 ⟨128 * (t.val / 2) + y0.val, by omega⟩ y1) : EReal)) ?_ (v22_at m c _ y1)
  refine congrArg (V m c main_v22) (funext fun a => Fin.ext ?_)
  match a with
  | ⟨0, _⟩ => show win0_3.index t 0 * 128 + 1 * y0.val = 128 * (t.val / 2) + y0.val; rw [g.1]; omega
  | ⟨1, _⟩ => show win0_3.index t 1 * 128 + 1 * y1.val = y1.val; rw [g.2]; omega

theorem flushed_eq (t : Fin cfg0.N) :
    (dats m 0 c).flushed 4 t = ((cfg0.win 4).blk t).view.read (Elt Ideal)
      (arr (m ((c : Thread nD τ).loc main_arg0)) (m ((c : Thread nD τ).loc main_arg1))) := by
  rw [Value.flushed4]
  funext y
  have hy0 : (y 0).val < 128 := (y 0).isLt
  have hy1 : (y 1).val < 1024 := (y 1).isLt
  have g := geo4 t
  have ht := lt t
  have e : (((cfg0.win 4).blk t).view.emb y : S128x2048.Idx)
      = (ix2 ⟨128 * (t.val / 2) + (y 0).val, by omega⟩ ⟨1024 * (t.val % 2) + (y 1).val, by omega⟩) := by
    funext a
    refine Fin.ext ?_
    match a with
    | ⟨0, _⟩ => show win0_4.index t 0 * 128 + 1 * (y 0).val = 128 * (t.val / 2) + (y 0).val; rw [g.1]; omega
    | ⟨1, _⟩ => show win0_4.index t 1 * 1024 + 1 * (y 1).val = 1024 * (t.val % 2) + (y 1).val; rw [g.2]; omega
  refine Eq.trans ?_ (Eq.trans (out_at (iblk m c 0 t) (iblk m c 1 t) (iblk m c 2 t) (iblk m c 3 t) ⟨(y 0).val, hy0⟩ ⟨(y 1).val, hy1⟩) ?_)
  · refine congrArg (out0_4 _ _ _ _) (funext fun a => Fin.ext ?_)
    match a with
    | ⟨0, _⟩ => rfl
    | ⟨1, _⟩ => rfl
  · show _ = arr (m ((c : Thread nD τ).loc main_arg0)) (m ((c : Thread nD τ).loc main_arg1)) (((cfg0.win 4).blk t).view.emb y)
    rw [e]
    show _ = at' (m ((c : Thread nD τ).loc main_arg0)) (m ((c : Thread nD τ).loc main_arg1)) ⟨128 * (t.val / 2) + (y 0).val, by omega⟩ ⟨1024 * (t.val % 2) + (y 1).val, by omega⟩
    have e6 : (1024 * (t.val % 2) + (y 1).val) % 128 = (y 1).val % 128 := by omega
    have e7 : (1024 * (t.val % 2) + (y 1).val) / 128 * 128 + ((y 1).val % 128 + 64) % 128 = 1024 * (t.val % 2) + ((y 1).val / 128 * 128 + ((y 1).val % 128 + 64) % 128) := by omega
    unfold at'
    simp only [iblk0, iblk1, iblk2, iblk3, e6, e7]
    try rfl

theorem cover (i : S128x2048.Idx) : ∃ t : Fin cfg0.N, (cfg0.win 4).flush t = true ∧ i ∈ ((cfg0.win 4).blk t).view.set := by
  have h0 : (i 0 : Nat) < 128 := (i 0).isLt
  have h1 : (i 1 : Nat) < 2048 := (i 1).isLt
  have hN : cfg0.N = 2 := N_0
  refine ⟨⟨(i 0).val / 128 * 2 + (i 1).val / 1024, by omega⟩, flush0_4 _, ?_⟩
  generalize ht : (⟨(i 0).val / 128 * 2 + (i 1).val / 1024, _⟩ : Fin cfg0.N) = t
  have hv : t.val = (i 0).val / 128 * 2 + (i 1).val / 1024 := by rw [← ht]
  have g := geo4 t
  show i ∈ ((View.whole main_v24).slice (win0_4.rect t)).set
  rw [View.set_slice_whole, Rect.mem_set_unit]
  intro a
  match a with
  | ⟨0, _⟩ => show win0_4.index t 0 * 128 ≤ (i 0 : Nat) ∧ (i 0 : Nat) < win0_4.index t 0 * 128 + 128; rw [g.1]; omega
  | ⟨1, _⟩ => show win0_4.index t 1 * 1024 ≤ (i 1 : Nat) ∧ (i 1 : Nat) < win0_4.index t 1 * 1024 + 1024; rw [g.2]; omega

theorem final : (dats m 0 c).arrAt 4 cfg0.N = arr (m ((c : Thread nD τ).loc main_arg0)) (m ((c : Thread nD τ).loc main_arg1)) :=
  (dats m 0 c).arrAt_eq_of_cover 4 _ (fun t _ => flushed_eq m c t) cover

end

end Cert.SkeyV

/-! ## The reference -/

namespace Cert.SkeyV

open Idealize.ShloMosaic Idealize.SL.Sem

section
open Cert.SkeyReferenceIdeal Cert.SkeyReferenceIdeal.Gen

/-- The rotation of every head's pairs, read at a row and a column of the joined heads. -/
theorem rope_at (K : FVec Ideal S32x4x16x128 .f32) (C S : FVec Ideal S4x64 .f32) (r : Fin 128) (q : Fin 2048) :
    shapeCast S128x2048 (concatenate S32x4x16x128 3 [⟨S32x4x16x64, subf (mulf (extractStridedSlice S32x4x16x64 ![0, 0, 0, 0] K slices_S32x4x16x128_S32x4x16x64_0_0_0_0) (broadcastInDim S32x4x16x64 ![0, 1, 2, 3] bcast_S1x4x1x64_S32x4x16x64_0_1_2_3 (broadcastInDim S1x4x1x64 ![1, 3] bcast_S4x64_S1x4x1x64_1_3 C))) (mulf (extractStridedSlice S32x4x16x64 ![0, 0, 0, 64] K slices_S32x4x16x128_S32x4x16x64_0_0_0_64) (broadcastInDim S32x4x16x64 ![0, 1, 2, 3] bcast_S1x4x1x64_S32x4x16x64_0_1_2_3 (broadcastInDim S1x4x1x64 ![1, 3] bcast_S4x64_S1x4x1x64_1_3 S)))⟩, ⟨S32x4x16x64, addf (mulf (extractStridedSlice S32x4x16x64 ![0, 0, 0, 0] K slices_S32x4x16x128_S32x4x16x64_0_0_0_0) (broadcastInDim S32x4x16x64 ![0, 1, 2, 3] bcast_S1x4x1x64_S32x4x16x64_0_1_2_3 (broadcastInDim S1x4x1x64 ![1, 3] bcast_S4x64_S1x4x1x64_1_3 S))) (mulf (extractStridedSlice S32x4x16x64 ![0, 0, 0, 64] K slices_S32x4x16x128_S32x4x16x64_0_0_0_64) (broadcastInDim S32x4x16x64 ![0, 1, 2, 3] bcast_S1x4x1x64_S32x4x16x64_0_1_2_3 (broadcastInDim S1x4x1x64 ![1, 3] bcast_S4x64_S1x4x1x64_1_3 C)))⟩] concatenates_S32x4x16x64_S32x4x16x64_S32x4x16x128_d3) shapeCasts_S32x4x16x128_S128x2048 (ix2 r q)
      = if h : q.val % 128 < 64 then (K (ix4 ⟨r.val / 4, by omega⟩ ⟨r.val % 4, by omega⟩ ⟨q.val / 128, by omega⟩ ⟨q.val % 128, by omega⟩) : EReal) * C (ix2 ⟨r.val % 4, by omega⟩ ⟨q.val % 128, h⟩) - K (ix4 ⟨r.val / 4, by omega⟩ ⟨r.val % 4, by omega⟩ ⟨q.val / 128, by omega⟩ ⟨64 + q.val % 128, by omega⟩) * S (ix2 ⟨r.val % 4, by omega⟩ ⟨q.val % 128, h⟩)
        else (K (ix4 ⟨r.val / 4, by omega⟩ ⟨r.val % 4, by omega⟩ ⟨q.val / 128, by omega⟩ ⟨q.val % 128 - 64, by omega⟩) : EReal) * S (ix2 ⟨r.val % 4, by omega⟩ ⟨q.val % 128 - 64, by omega⟩) + K (ix4 ⟨r.val / 4, by omega⟩ ⟨r.val % 4, by omega⟩ ⟨q.val / 128, by omega⟩ ⟨64 + (q.val % 128 - 64), by omega⟩) * C (ix2 ⟨r.val % 4, by omega⟩ ⟨q.val % 128 - 64, by omega⟩) := by
  pointwise

/-- The product split into heads, read at an entry. -/
theorem heads_at (a : FVec Ideal S128x4096 .bf16) (w : FVec Ideal S4096x18432 .f32) (r : Fin 128) (q : Fin 2048) (d : Fin 128) :
    shapeCast S32x4x16x128 (Host.dotGeneral dot_S128x4096_S4096x2048_S128x2048_1_0_0_1_n_n none (extf .f32 a bitsLt_bf16_f32) (extractStridedSlice S4096x2048 ![0, 2048] w slices_S4096x18432_S4096x2048_0_2048)) shapeCasts_S128x2048_S32x4x16x128 (ix4 ⟨r.val / 4, by omega⟩ ⟨r.val % 4, by omega⟩ ⟨q.val / 128, by omega⟩ d)
      = ∑ k : Fin 4096, (a (ix2 r k) : EReal) * w (ix2 k ⟨2048 + (q.val / 128 * 128 + d.val), by omega⟩) := by
  have e : r.val / 4 * 4 + r.val % 4 = r.val := by omega
  pointwise [e]

theorem cos_at (s : Fin 4) (j : Fin 64) : (Host.cos (mulf (broadcastInDim S4x64 ![0, 1] bcast_S4x1_S4x64_0_1 (broadcastInDim S4x1 ![0] bcast_S4_S4x1_0 (sitofp .f32 (addi (broadcastInDim S4 ![] bcast_S_S4 (constantI S_ 32 8192#32)) (iotaInDim S4 32 0))))) (broadcastInDim S4x64 ![0, 1] bcast_S1x64_S4x64_0_1 (broadcastInDim S1x64 ![1] bcast_S64_S1x64_1 (Host.powf (broadcastInDim S64 ![] bcast_S_S64 (constant S_ .f32 0x461C4000#32)) (Host.divf (Host.negf (sitofp .f32 (iotaInDim S64 32 0))) (broadcastInDim S64 ![] bcast_S_S64 (constant S_ .f32 0x42800000#32))))))) : FVec Ideal S4x64 .f32) (ix2 s j) = Ideal.cos (angle s j) := by
  unfold angle
  pointwise

theorem sin_at (s : Fin 4) (j : Fin 64) : (Host.sin (mulf (broadcastInDim S4x64 ![0, 1] bcast_S4x1_S4x64_0_1 (broadcastInDim S4x1 ![0] bcast_S4_S4x1_0 (sitofp .f32 (addi (broadcastInDim S4 ![] bcast_S_S4 (constantI S_ 32 8192#32)) (iotaInDim S4 32 0))))) (broadcastInDim S4x64 ![0, 1] bcast_S1x64_S4x64_0_1 (broadcastInDim S1x64 ![1] bcast_S64_S1x64_1 (Host.powf (broadcastInDim S64 ![] bcast_S_S64 (constant S_ .f32 0x461C4000#32)) (Host.divf (Host.negf (sitofp .f32 (iotaInDim S64 32 0))) (broadcastInDim S64 ![] bcast_S_S64 (constant S_ .f32 0x42800000#32))))))) : FVec Ideal S4x64 .f32) (ix2 s j) = Ideal.sin (angle s j) := by
  unfold angle
  pointwise

end

theorem frame_r : Cert.quiescent_SkeyReferenceIdeal := fun m ρ _ =>
  (θ_run Cert.SkeyReferenceIdeal.defs _ _).mono (fun r h => ⟨fun c => (h c).2, sem_eq_zero_of_no_sems (by decide) r.2⟩)
    (Cert.SkeyReferenceIdeal.Value.run (F := Ideal) m ρ)

theorem algebraic : Cert.algebraic_SkeyIdeal_SkeyReferenceIdeal := by
  intro m ρ m' ρ' _ hagree
  refine ⟨fun c => arr (m ((c.tc : Thread Cert.SkeyIdeal.nD Cert.SkeyIdeal.τ).loc Cert.SkeyIdeal.main_arg0)) (m ((c.tc : Thread Cert.SkeyIdeal.nD Cert.SkeyIdeal.τ).loc Cert.SkeyIdeal.main_arg1)), ?_, ?_⟩
  · exact (θ_run Cert.SkeyIdeal.defs _ _).mono (fun r h c => ⟨(h c).1.trans (final m c), (h c).2⟩)
      (Cert.SkeyIdeal.Value.run_blocks (F := Ideal) m ρ)
  · refine (θ_run Cert.SkeyReferenceIdeal.defs _ _).mono (fun r h c => ⟨(h c).1.trans ?_, (h c).2⟩)
      (Cert.SkeyReferenceIdeal.Value.run (F := Ideal) m' ρ')
    have hg := hagree c
    unfold Cert.SkeyReferenceIdeal.Value.res_main_v36
    rw [hg.1, hg.2]
    funext i
    idx_vars i
    refine (rope_at _ _ _ i0 i1).trans ?_
    show _ = at' _ _ i0 i1
    unfold at' cosT sinT
    by_cases h : i1.val % 128 < 64
    · have e1 : i1.val / 128 * 128 + i1.val % 128 = i1.val := by omega
      have e2 : (i1.val % 128 + 64) % 128 = 64 + i1.val % 128 := by omega
      simp only [h, ↓reduceDIte, heads_at, e1, e2, mul_neg, sub_eq_add_neg]
      rw [← cos_at, ← sin_at]
    · have e1 : i1.val / 128 * 128 + (64 + (i1.val % 128 - 64)) = i1.val := by omega
      have e2 : (i1.val % 128 + 64) % 128 = i1.val % 128 - 64 := by omega
      simp only [h, ↓reduceDIte, heads_at, e1, e2]
      rw [← cos_at, ← sin_at]
      exact add_comm _ _

end Cert.SkeyV
-- ==== Proof.Sval.lean ====
module

public import proofs.«01_k».proof.Defs
public import proofs.«01_k».proof.Proof.Gen.SvalIdeal.Value
public import proofs.«01_k».proof.Proof.Gen.SvalReferenceIdeal.Run
public import Idealize.ShloMosaic.Lib.Pointwise
public import Idealize.ShloMosaic.Lib.StableHlo.ReadAt
public import Idealize.ShloMosaic.Adequacy
public import Idealize.ShloMosaic.Init

@[expose] public section

set_option maxRecDepth 16384

noncomputable section

/-! # The values of the sample -/

namespace Cert.SvalV

open Cert.SvalIdeal Cert.SvalIdeal.Gen Idealize.ShloMosaic Idealize.ShloMosaic.TcCoe
open Idealize.ShloMosaic.Pipeline (Dat)

set_option maxHeartbeats 400000

/-- Row `r`, column `q` of the result. -/
def at' (a : Vec Ideal S128x4096 .bf16) (w : Vec Ideal S4096x18432 .f32) (r : Fin 128) (q : Fin 2048) : EReal :=
  (∑ k : Fin 4096, (a (ix2 r k) : EReal) * w (ix2 k ⟨4096 + q.val, by omega⟩))

def arr (a : Vec Ideal S128x4096 .bf16) (w : Vec Ideal S4096x18432 .f32) : Vec Ideal S128x2048 .f32 := fun i => at' a w (i 0) (i 1)

theorem out_at (x0 : Vec Ideal S128x4096 .bf16) (x1 : Vec Ideal S4096x1024 .bf16) (r : Fin 128) (q : Fin 1024) :
    (out0_2 x0 x1 (ix2 r q) : EReal) = (∑ k : Fin 4096, (x0 (ix2 r k) : EReal) * x1 (ix2 k q)) := by
  have hz : (![0, 0] : Fin 2 → Nat) = fun _ => 0 := by funext a; fin_cases a <;> rfl
  have hz3 : (![0, 0, 0] : Fin 3 → Nat) = fun _ => 0 := by funext a; fin_cases a <;> rfl
  unfold out0_2
  rw [View.canon_unit_zero hz]
  repeat rw [View.ld_unit_zero hz]
  try rw [View.ld_unit_zero hz3]
  pointwise [k0_pay1]

theorem geo0 : ∀ t : Fin cfg0.N, win0_0.index t 0 = t.val / 2 ∧ win0_0.index t 1 = 0 :=
  (by decide +kernel : ∀ t : Fin grid0.N, _)

theorem geo1 : ∀ t : Fin cfg0.N, win0_1.index t 0 = 0 ∧ win0_1.index t 1 = 4 + t.val % 2 :=
  (by decide +kernel : ∀ t : Fin grid0.N, _)

theorem geo2 : ∀ t : Fin cfg0.N, win0_2.index t 0 = t.val / 2 ∧ win0_2.index t 1 = t.val % 2 :=
  (by decide +kernel : ∀ t : Fin grid0.N, _)

section
variable (m : (ℓ : Loc nD τ sig) → Buf (Elt Ideal) ℓ) (c : Dev nD)

theorem lt (t : Fin cfg0.N) : t.val < 2 := by have h := t.isLt; have : cfg0.N = 2 := N_0; omega

theorem v0_at (k : Fin 4096) (q : Fin 18432) : (V m c main_v0 (ix2 k q) : EReal) = (m ((c : Thread nD τ).loc main_arg1)) (ix2 k q) := by
  unfold V
  after_reads_at

theorem iblk0 (t : Fin cfg0.N) (y0 : Fin 128) (y1 : Fin 4096) :
    have := lt t
    iblk m c 0 t (ix2 y0 y1) = (m ((c : Thread nD τ).loc main_arg0)) (ix2 ⟨128 * (t.val / 2) + y0.val, by omega⟩ y1) := by
  have ht := lt t
  have g := geo0 t
  refine congrArg (m ((c : Thread nD τ).loc main_arg0)) (funext fun a => Fin.ext ?_)
  match a with
  | ⟨0, _⟩ => show win0_0.index t 0 * 128 + 1 * y0.val = 128 * (t.val / 2) + y0.val; rw [g.1]; omega
  | ⟨1, _⟩ => show win0_0.index t 1 * 4096 + 1 * y1.val = y1.val; rw [g.2]; omega

theorem iblk1 (t : Fin cfg0.N) (y0 : Fin 4096) (y1 : Fin 1024) :
    have := lt t
    (iblk m c 1 t (ix2 y0 y1) : EReal) = (m ((c : Thread nD τ).loc main_arg1)) (ix2 y0 ⟨4096 + (1024 * (t.val % 2) + y1.val), by omega⟩) := by
  have ht := lt t
  have g := geo1 t
  refine Eq.trans (b := (V m c main_v0 (ix2 y0 ⟨4096 + (1024 * (t.val % 2) + y1.val), by omega⟩) : EReal)) ?_ (v0_at m c y0 _)
  refine congrArg (V m c main_v0) (funext fun a => Fin.ext ?_)
  match a with
  | ⟨0, _⟩ => show win0_1.index t 0 * 4096 + 1 * y0.val = y0.val; rw [g.1]; omega
  | ⟨1, _⟩ => show win0_1.index t 1 * 1024 + 1 * y1.val = 4096 + (1024 * (t.val % 2) + y1.val); rw [g.2]; omega

theorem flushed_eq (t : Fin cfg0.N) :
    (dats m 0 c).flushed 2 t = ((cfg0.win 2).blk t).view.read (Elt Ideal)
      (arr (m ((c : Thread nD τ).loc main_arg0)) (m ((c : Thread nD τ).loc main_arg1))) := by
  rw [Value.flushed2]
  funext y
  have hy0 : (y 0).val < 128 := (y 0).isLt
  have hy1 : (y 1).val < 1024 := (y 1).isLt
  have g := geo2 t
  have ht := lt t
  have e : (((cfg0.win 2).blk t).view.emb y : S128x2048.Idx)
      = (ix2 ⟨128 * (t.val / 2) + (y 0).val, by omega⟩ ⟨1024 * (t.val % 2) + (y 1).val, by omega⟩) := by
    funext a
    refine Fin.ext ?_
    match a with
    | ⟨0, _⟩ => show win0_2.index t 0 * 128 + 1 * (y 0).val = 128 * (t.val / 2) + (y 0).val; rw [g.1]; omega
    | ⟨1, _⟩ => show win0_2.index t 1 * 1024 + 1 * (y 1).val = 1024 * (t.val % 2) + (y 1).val; rw [g.2]; omega
  refine Eq.trans ?_ (Eq.trans (out_at (iblk m c 0 t) (iblk m c 1 t) ⟨(y 0).val, hy0⟩ ⟨(y 1).val, hy1⟩) ?_)
  · refine congrArg (out0_2 _ _) (funext fun a => Fin.ext ?_)
    match a with
    | ⟨0, _⟩ => rfl
    | ⟨1, _⟩ => rfl
  · show _ = arr (m ((c : Thread nD τ).loc main_arg0)) (m ((c : Thread nD τ).loc main_arg1)) (((cfg0.win 2).blk t).view.emb y)
    rw [e]
    show _ = at' (m ((c : Thread nD τ).loc main_arg0)) (m ((c : Thread nD τ).loc main_arg1)) ⟨128 * (t.val / 2) + (y 0).val, by omega⟩ ⟨1024 * (t.val % 2) + (y 1).val, by omega⟩
    unfold at'
    simp only [iblk0, iblk1]
    try rfl

theorem cover (i : S128x2048.Idx) : ∃ t : Fin cfg0.N, (cfg0.win 2).flush t = true ∧ i ∈ ((cfg0.win 2).blk t).view.set := by
  have h0 : (i 0 : Nat) < 128 := (i 0).isLt
  have h1 : (i 1 : Nat) < 2048 := (i 1).isLt
  have hN : cfg0.N = 2 := N_0
  refine ⟨⟨(i 0).val / 128 * 2 + (i 1).val / 1024, by omega⟩, flush0_2 _, ?_⟩
  generalize ht : (⟨(i 0).val / 128 * 2 + (i 1).val / 1024, _⟩ : Fin cfg0.N) = t
  have hv : t.val = (i 0).val / 128 * 2 + (i 1).val / 1024 := by rw [← ht]
  have g := geo2 t
  show i ∈ ((View.whole main_v1).slice (win0_2.rect t)).set
  rw [View.set_slice_whole, Rect.mem_set_unit]
  intro a
  match a with
  | ⟨0, _⟩ => show win0_2.index t 0 * 128 ≤ (i 0 : Nat) ∧ (i 0 : Nat) < win0_2.index t 0 * 128 + 128; rw [g.1]; omega
  | ⟨1, _⟩ => show win0_2.index t 1 * 1024 ≤ (i 1 : Nat) ∧ (i 1 : Nat) < win0_2.index t 1 * 1024 + 1024; rw [g.2]; omega

theorem final : (dats m 0 c).arrAt 2 cfg0.N = arr (m ((c : Thread nD τ).loc main_arg0)) (m ((c : Thread nD τ).loc main_arg1)) :=
  (dats m 0 c).arrAt_eq_of_cover 2 _ (fun t _ => flushed_eq m c t) cover

end

end Cert.SvalV

/-! ## The reference -/

namespace Cert.SvalV

open Idealize.ShloMosaic Idealize.SL.Sem

theorem frame_r : Cert.quiescent_SvalReferenceIdeal := fun m ρ _ =>
  (θ_run Cert.SvalReferenceIdeal.defs _ _).mono (fun r h => ⟨fun c => (h c).2, sem_eq_zero_of_no_sems (by decide) r.2⟩)
    (Cert.SvalReferenceIdeal.Value.run (F := Ideal) m ρ)

theorem algebraic : Cert.algebraic_SvalIdeal_SvalReferenceIdeal := by
  intro m ρ m' ρ' _ hagree
  refine ⟨fun c => arr (m ((c.tc : Thread Cert.SvalIdeal.nD Cert.SvalIdeal.τ).loc Cert.SvalIdeal.main_arg0)) (m ((c.tc : Thread Cert.SvalIdeal.nD Cert.SvalIdeal.τ).loc Cert.SvalIdeal.main_arg1)), ?_, ?_⟩
  · exact (θ_run Cert.SvalIdeal.defs _ _).mono (fun r h c => ⟨(h c).1.trans (final m c), (h c).2⟩)
      (Cert.SvalIdeal.Value.run_blocks (F := Ideal) m ρ)
  · refine (θ_run Cert.SvalReferenceIdeal.defs _ _).mono (fun r h c => ⟨(h c).1.trans ?_, (h c).2⟩)
      (Cert.SvalReferenceIdeal.Value.run (F := Ideal) m' ρ')
    have hg := hagree c
    rw [hg.1, hg.2]
    funext i
    idx_vars i
    unfold arr at'
    pointwise

end Cert.SvalV
-- ==== Proof.Sglu.lean ====
module

public import proofs.«01_k».proof.Defs
public import proofs.«01_k».proof.Proof.Gen.SgluIdeal.Value
public import proofs.«01_k».proof.Proof.Gen.SgluReferenceIdeal.Run
public import Idealize.ShloMosaic.Lib.Pointwise
public import Idealize.ShloMosaic.Lib.StableHlo.ReadAt
public import Idealize.ShloMosaic.Adequacy
public import Idealize.ShloMosaic.Init

@[expose] public section

set_option maxRecDepth 16384

noncomputable section

/-! # The gated linear unit of the sample -/

namespace Cert.SgluV

open Cert.SgluIdeal Cert.SgluIdeal.Gen Idealize.ShloMosaic Idealize.ShloMosaic.TcCoe
open Idealize.ShloMosaic.Pipeline (Dat)

set_option maxHeartbeats 400000

/-- Row `r`, column `q` of the result. -/
def at' (a : Vec Ideal S128x4096 .bf16) (w : Vec Ideal S4096x18432 .f32) (r : Fin 128) (q : Fin 2048) : EReal :=
  (∑ k : Fin 4096, (a (ix2 r k) : EReal) * w (ix2 k ⟨6144 + q.val, by omega⟩)) * Ideal.logistic (∑ k : Fin 4096, (a (ix2 r k) : EReal) * w (ix2 k ⟨8192 + q.val, by omega⟩))

def arr (a : Vec Ideal S128x4096 .bf16) (w : Vec Ideal S4096x18432 .f32) : Vec Ideal S128x2048 .f32 := fun i => at' a w (i 0) (i 1)

theorem out_at (x0 : Vec Ideal S128x4096 .bf16) (x1 : Vec Ideal S4096x512 .bf16) (x2 : Vec Ideal S4096x512 .bf16) (r : Fin 128) (q : Fin 512) :
    (out0_3 x0 x1 x2 (ix2 r q) : EReal) = (∑ k : Fin 4096, (x0 (ix2 r k) : EReal) * x1 (ix2 k q)) * Ideal.logistic (∑ k : Fin 4096, (x0 (ix2 r k) : EReal) * x2 (ix2 k q)) := by
  have hz : (![0, 0] : Fin 2 → Nat) = fun _ => 0 := by funext a; fin_cases a <;> rfl
  have hz3 : (![0, 0, 0] : Fin 3 → Nat) = fun _ => 0 := by funext a; fin_cases a <;> rfl
  unfold out0_3
  rw [View.canon_unit_zero hz]
  repeat rw [View.ld_unit_zero hz]
  try rw [View.ld_unit_zero hz3]
  pointwise [k0_pay1]

theorem geo0 : ∀ t : Fin cfg0.N, win0_0.index t 0 = t.val / 4 ∧ win0_0.index t 1 = 0 :=
  (by decide +kernel : ∀ t : Fin grid0.N, _)

theorem geo1 : ∀ t : Fin cfg0.N, win0_1.index t 0 = 0 ∧ win0_1.index t 1 = 12 + t.val % 4 :=
  (by decide +kernel : ∀ t : Fin grid0.N, _)

theorem geo2 : ∀ t : Fin cfg0.N, win0_2.index t 0 = 0 ∧ win0_2.index t 1 = 16 + t.val % 4 :=
  (by decide +kernel : ∀ t : Fin grid0.N, _)

theorem geo3 : ∀ t : Fin cfg0.N, win0_3.index t 0 = t.val / 4 ∧ win0_3.index t 1 = t.val % 4 :=
  (by decide +kernel : ∀ t : Fin grid0.N, _)

section
variable (m : (ℓ : Loc nD τ sig) → Buf (Elt Ideal) ℓ) (c : Dev nD)

theorem lt (t : Fin cfg0.N) : t.val < 4 := by have h := t.isLt; have : cfg0.N = 4 := N_0; omega

theorem v0_at (k : Fin 4096) (q : Fin 18432) : (V m c main_v0 (ix2 k q) : EReal) = (m ((c : Thread nD τ).loc main_arg1)) (ix2 k q) := by
  unfold V
  after_reads_at

theorem iblk0 (t : Fin cfg0.N) (y0 : Fin 128) (y1 : Fin 4096) :
    have := lt t
    iblk m c 0 t (ix2 y0 y1) = (m ((c : Thread nD τ).loc main_arg0)) (ix2 ⟨128 * (t.val / 4) + y0.val, by omega⟩ y1) := by
  have ht := lt t
  have g := geo0 t
  refine congrArg (m ((c : Thread nD τ).loc main_arg0)) (funext fun a => Fin.ext ?_)
  match a with
  | ⟨0, _⟩ => show win0_0.index t 0 * 128 + 1 * y0.val = 128 * (t.val / 4) + y0.val; rw [g.1]; omega
  | ⟨1, _⟩ => show win0_0.index t 1 * 4096 + 1 * y1.val = y1.val; rw [g.2]; omega

theorem iblk1 (t : Fin cfg0.N) (y0 : Fin 4096) (y1 : Fin 512) :
    have := lt t
    (iblk m c 1 t (ix2 y0 y1) : EReal) = (m ((c : Thread nD τ).loc main_arg1)) (ix2 y0 ⟨6144 + (512 * (t.val % 4) + y1.val), by omega⟩) := by
  have ht := lt t
  have g := geo1 t
  refine Eq.trans (b := (V m c main_v0 (ix2 y0 ⟨6144 + (512 * (t.val % 4) + y1.val), by omega⟩) : EReal)) ?_ (v0_at m c y0 _)
  refine congrArg (V m c main_v0) (funext fun a => Fin.ext ?_)
  match a with
  | ⟨0, _⟩ => show win0_1.index t 0 * 4096 + 1 * y0.val = y0.val; rw [g.1]; omega
  | ⟨1, _⟩ => show win0_1.index t 1 * 512 + 1 * y1.val = 6144 + (512 * (t.val % 4) + y1.val); rw [g.2]; omega

theorem iblk2 (t : Fin cfg0.N) (y0 : Fin 4096) (y1 : Fin 512) :
    have := lt t
    (iblk m c 2 t (ix2 y0 y1) : EReal) = (m ((c : Thread nD τ).loc main_arg1)) (ix2 y0 ⟨8192 + (512 * (t.val % 4) + y1.val), by omega⟩) := by
  have ht := lt t
  have g := geo2 t
  refine Eq.trans (b := (V m c main_v0 (ix2 y0 ⟨8192 + (512 * (t.val % 4) + y1.val), by omega⟩) : EReal)) ?_ (v0_at m c y0 _)
  refine congrArg (V m c main_v0) (funext fun a => Fin.ext ?_)
  match a with
  | ⟨0, _⟩ => show win0_2.index t 0 * 4096 + 1 * y0.val = y0.val; rw [g.1]; omega
  | ⟨1, _⟩ => show win0_2.index t 1 * 512 + 1 * y1.val = 8192 + (512 * (t.val % 4) + y1.val); rw [g.2]; omega

theorem flushed_eq (t : Fin cfg0.N) :
    (dats m 0 c).flushed 3 t = ((cfg0.win 3).blk t).view.read (Elt Ideal)
      (arr (m ((c : Thread nD τ).loc main_arg0)) (m ((c : Thread nD τ).loc main_arg1))) := by
  rw [Value.flushed3]
  funext y
  have hy0 : (y 0).val < 128 := (y 0).isLt
  have hy1 : (y 1).val < 512 := (y 1).isLt
  have g := geo3 t
  have ht := lt t
  have e : (((cfg0.win 3).blk t).view.emb y : S128x2048.Idx)
      = (ix2 ⟨128 * (t.val / 4) + (y 0).val, by omega⟩ ⟨512 * (t.val % 4) + (y 1).val, by omega⟩) := by
    funext a
    refine Fin.ext ?_
    match a with
    | ⟨0, _⟩ => show win0_3.index t 0 * 128 + 1 * (y 0).val = 128 * (t.val / 4) + (y 0).val; rw [g.1]; omega
    | ⟨1, _⟩ => show win0_3.index t 1 * 512 + 1 * (y 1).val = 512 * (t.val % 4) + (y 1).val; rw [g.2]; omega
  refine Eq.trans ?_ (Eq.trans (out_at (iblk m c 0 t) (iblk m c 1 t) (iblk m c 2 t) ⟨(y 0).val, hy0⟩ ⟨(y 1).val, hy1⟩) ?_)
  · refine congrArg (out0_3 _ _ _) (funext fun a => Fin.ext ?_)
    match a with
    | ⟨0, _⟩ => rfl
    | ⟨1, _⟩ => rfl
  · show _ = arr (m ((c : Thread nD τ).loc main_arg0)) (m ((c : Thread nD τ).loc main_arg1)) (((cfg0.win 3).blk t).view.emb y)
    rw [e]
    show _ = at' (m ((c : Thread nD τ).loc main_arg0)) (m ((c : Thread nD τ).loc main_arg1)) ⟨128 * (t.val / 4) + (y 0).val, by omega⟩ ⟨512 * (t.val % 4) + (y 1).val, by omega⟩
    unfold at'
    simp only [iblk0, iblk1, iblk2]
    try rfl

theorem cover (i : S128x2048.Idx) : ∃ t : Fin cfg0.N, (cfg0.win 3).flush t = true ∧ i ∈ ((cfg0.win 3).blk t).view.set := by
  have h0 : (i 0 : Nat) < 128 := (i 0).isLt
  have h1 : (i 1 : Nat) < 2048 := (i 1).isLt
  have hN : cfg0.N = 4 := N_0
  refine ⟨⟨(i 0).val / 128 * 4 + (i 1).val / 512, by omega⟩, flush0_3 _, ?_⟩
  generalize ht : (⟨(i 0).val / 128 * 4 + (i 1).val / 512, _⟩ : Fin cfg0.N) = t
  have hv : t.val = (i 0).val / 128 * 4 + (i 1).val / 512 := by rw [← ht]
  have g := geo3 t
  show i ∈ ((View.whole main_v1).slice (win0_3.rect t)).set
  rw [View.set_slice_whole, Rect.mem_set_unit]
  intro a
  match a with
  | ⟨0, _⟩ => show win0_3.index t 0 * 128 ≤ (i 0 : Nat) ∧ (i 0 : Nat) < win0_3.index t 0 * 128 + 128; rw [g.1]; omega
  | ⟨1, _⟩ => show win0_3.index t 1 * 512 ≤ (i 1 : Nat) ∧ (i 1 : Nat) < win0_3.index t 1 * 512 + 512; rw [g.2]; omega

theorem final : (dats m 0 c).arrAt 3 cfg0.N = arr (m ((c : Thread nD τ).loc main_arg0)) (m ((c : Thread nD τ).loc main_arg1)) :=
  (dats m 0 c).arrAt_eq_of_cover 3 _ (fun t _ => flushed_eq m c t) cover

end

end Cert.SgluV

/-! ## The reference -/

namespace Cert.SgluV

open Idealize.ShloMosaic Idealize.SL.Sem

theorem frame_r : Cert.quiescent_SgluReferenceIdeal := fun m ρ _ =>
  (θ_run Cert.SgluReferenceIdeal.defs _ _).mono (fun r h => ⟨fun c => (h c).2, sem_eq_zero_of_no_sems (by decide) r.2⟩)
    (Cert.SgluReferenceIdeal.Value.run (F := Ideal) m ρ)

theorem algebraic : Cert.algebraic_SgluIdeal_SgluReferenceIdeal := by
  intro m ρ m' ρ' _ hagree
  refine ⟨fun c => arr (m ((c.tc : Thread Cert.SgluIdeal.nD Cert.SgluIdeal.τ).loc Cert.SgluIdeal.main_arg0)) (m ((c.tc : Thread Cert.SgluIdeal.nD Cert.SgluIdeal.τ).loc Cert.SgluIdeal.main_arg1)), ?_, ?_⟩
  · exact (θ_run Cert.SgluIdeal.defs _ _).mono (fun r h c => ⟨(h c).1.trans (final m c), (h c).2⟩)
      (Cert.SgluIdeal.Value.run_blocks (F := Ideal) m ρ)
  · refine (θ_run Cert.SgluReferenceIdeal.defs _ _).mono (fun r h c => ⟨(h c).1.trans ?_, (h c).2⟩)
      (Cert.SgluReferenceIdeal.Value.run (F := Ideal) m' ρ')
    have hg := hagree c
    rw [hg.1, hg.2]
    funext i
    idx_vars i
    unfold arr at'
    pointwise [Ideal.logistic]
    have e : 6144 + (2048 + i1.val) = 8192 + i1.val := by omega
    simp only [e]

end Cert.SgluV
-- ==== Proof.Sconv.lean ====
module

public import proofs.«01_k».proof.Defs
public import proofs.«01_k».proof.Proof.Gen.SconvIdeal.Value
public import proofs.«01_k».proof.Proof.Gen.SconvReferenceIdeal.Run
public import proofs.«01_k».proof.Proof.MobaBody
public import Idealize.ShloMosaic.Lib.Pointwise
public import Idealize.ShloMosaic.Lib.StableHlo.ReadAt
public import Idealize.ShloMosaic.Adequacy
public import Idealize.ShloMosaic.Init

@[expose] public section

set_option maxRecDepth 16384

noncomputable section

/-! # The causal convolution of the sample, its norm and its swish -/

namespace Cert.SconvV

open Cert.SconvIdeal Cert.SconvIdeal.Gen Idealize.ShloMosaic Idealize.ShloMosaic.TcCoe
open Idealize.ShloMosaic.Pipeline (Dat)

set_option maxHeartbeats 400000

/-! ## The mathematics of one sequence -/

/-- The sequence's 30 rows before and its 4 rows below each other. -/
def padded (x0 : Vec Ideal S1x30x2048 .f32) (x1 : Vec Ideal S1x4x2048 .f32) (p : Fin 34) (q : Fin 2048) : EReal :=
  if h : p.val < 30 then x0 (ix3 0 ⟨p.val, h⟩ q) else x1 (ix3 0 ⟨p.val - 30, by omega⟩ q)

/-- The bias and the 31 products of row `r`. -/
def conv (U : Fin 34 → Fin 2048 → EReal) (w : Fin 31 → Fin 2048 → EReal) (b : Fin 2048 → EReal) (r : Fin 4) (q : Fin 2048) : EReal :=
  b q + ∑ t : Fin 31, U ⟨t.val + r.val, by omega⟩ q * w t q

/-- The rows before and the rows of sequence `p` below each other. -/
def hist (x : Vec Ideal S128x2048 .f32) (s : Vec Ideal S32x30x2048 .f32) (p : Fin 32) (u : Fin 34) (q : Fin 2048) : EReal :=
  if h : u.val < 30 then s (ix3 p ⟨u.val, h⟩ q) else x (ix2 ⟨4 * p.val + (u.val - 30), by omega⟩ q)

/-- A row's mean. -/
def mean (y : Fin 2048 → EReal) : EReal := Ideal.div (∑ k, y k) (Ideal.ofBits .f32 0x45000000#32)

/-- A row normalized, scaled and shifted. -/
def norm (y g b : Fin 2048 → EReal) (q : Fin 2048) : EReal :=
  (y q - mean y) * Ideal.rsqrt (mean (fun k => (y k - mean y) * (y k - mean y)) + Ideal.ofBits .f32 0x358637BD#32) * g q + b q

/-- The swish. -/
def swish (z : EReal) : EReal := z * Ideal.logistic z

/-- The result at sequence `p`, row `r`, column `q`. -/
def at' (x : Vec Ideal S128x2048 .f32) (s : Vec Ideal S32x30x2048 .f32) (w : Vec Ideal S31x2048 .f32) (b g e : Vec Ideal S2048 .f32) (p : Fin 32) (r : Fin 4) (q : Fin 2048) : EReal :=
  swish (norm (conv (hist x s p) (fun t q => w (ix2 t q)) (fun q => b (ix1 q)) r) (fun k => g (ix1 k)) (fun k => e (ix1 k)) q)

def arr (x : Vec Ideal S128x2048 .f32) (s : Vec Ideal S32x30x2048 .f32) (w : Vec Ideal S31x2048 .f32) (b g e : Vec Ideal S2048 .f32) : Vec Ideal S32x4x2048 .f32 := fun i => at' x s w b g e (i 0) (i 1) (i 2)

/-- Adding up in turn is adding the sum. -/
theorem foldl_add {α : Type} (f : α → EReal) : ∀ (L : List α) (b : EReal), L.foldl (fun a t => a + f t) b = b + (L.map f).sum
  | [], b => by simp
  | t :: L, b => by
    rw [List.foldl_cons, foldl_add f L, List.map_cons, List.sum_cons, add_assoc]

theorem sum_taps (f : Fin 31 → EReal) : ((List.finRange 31).map f).sum = ∑ t, f t := by
  rw [Fin.sum_univ_def]

/-! ## A chunk of the convolution -/

section
variable (c : Dev nD) (arg2 : Memref sig .tc .vmem S1x30x2048 .f32) (harg2 : arg2.IsWhole) (arg3 : Memref sig .tc .vmem S1x4x2048 .f32) (harg3 : arg3.IsWhole)
  (arg4 : Memref sig .tc .vmem S31x2048 .f32) (harg4 : arg4.IsWhole) (arg5 : Memref sig .tc .vmem S1x2048 .f32) (harg5 : arg5.IsWhole)
  (arg6 : Memref sig .tc .vmem S1x2048 .f32) (harg6 : arg6.IsWhole) (arg7 : Memref sig .tc .vmem S1x2048 .f32) (harg7 : arg7.IsWhole)
  (arg8 : Memref sig .tc .vmem S1x4x2048 .f32) (harg8 : arg8.IsWhole) (arg9 : Memref sig .tc .vmem S36x2048 .f32) (harg9 : arg9.IsWhole)
  (arg10 : Memref sig .tc .vmem S4x2048 .f32) (harg10 : arg10.IsWhole)
  (x0 : Vec Ideal S1x30x2048 .f32) (x1 : Vec Ideal S1x4x2048 .f32) (x2 : Vec Ideal S31x2048 .f32) (x3 x4 x5 : Vec Ideal S1x2048 .f32)

theorem inb_pad (t : Fin 31) (o : Nat) (ho : o + 256 ≤ 2048) : ∀ a, (![2 + t.val, o] : Fin 2 → Nat) a + S4x256.size a ≤ S36x2048.size a := fun a =>
  match a with
  | ⟨0, _⟩ => show 2 + t.val + 4 ≤ 36 by omega
  | ⟨1, _⟩ => show o + 256 ≤ 2048 from ho

theorem inb_tap (t : Fin 31) (o : Nat) (ho : o + 256 ≤ 2048) : ∀ a, (![t.val, o] : Fin 2 → Nat) a + S1x256.size a ≤ S31x2048.size a := fun a =>
  match a with
  | ⟨0, _⟩ => show t.val + 1 ≤ 31 by omega
  | ⟨1, _⟩ => show o + 256 ≤ 2048 from ho

theorem inb_bias (o : Nat) (ho : o + 256 ≤ 2048) : ∀ a, (![0, o] : Fin 2 → Nat) a + S1x256.size a ≤ S1x2048.size a := fun a =>
  match a with
  | ⟨0, _⟩ => show 0 + 1 ≤ 1 by omega
  | ⟨1, _⟩ => show o + 256 ≤ 2048 from ho

/-- One tap: its shifted rows times its weights, added. -/
def tap (o : Nat) (ho : o + 256 ≤ 2048) (acc : FVec Ideal S4x256 .f32) (t : Fin 31) : FVec Ideal S4x256 .f32 :=
  addf acc (mulf (arg9.view.readCov (kernelRun0_A.sl.HS0_2 c arg2 harg2 arg3 harg3 x0 x1) (Rect.unit (s := S36x2048) ![2 + t.val, o] S4x256.size (inb_pad t o ho)).toLoadRect)
    (broadcastTo S4x256 (View.readAt (Elt Ideal) arg4.view (Rect.unit (s := S31x2048) ![t.val, o] S1x256.size (inb_tap t o ho)).toLoadRect (harg4.unread x2) : Vec Ideal S1x256 .f32) broadcasts_S1x256_S4x256))

/-- The bias of a chunk's columns, in every row. -/
def bias (o : Nat) (ho : o + 256 ≤ 2048) : FVec Ideal S4x256 .f32 :=
  broadcastTo S4x256 (shapeCast S1x256 (shapeCast S1x256 (View.readAt (Elt Ideal) arg5.view (Rect.unit (s := S1x2048) ![0, o] S1x256.size (inb_bias o ho)).toLoadRect (harg5.unread x3) : Vec Ideal S1x256 .f32) shapeCasts_S1x256_S1x256) shapeCasts_S1x256_S1x256) broadcasts_S1x256_S4x256

/-- What the body stores at a chunk's columns. -/
def chunk (o : Nat) (ho : o + 256 ≤ 2048) : FVec Ideal S4x256 .f32 :=
  shapeCast S4x256 ((List.finRange 31).foldl (tap c arg2 harg2 arg3 harg3 arg4 harg4 arg9 x0 x1 x2 o ho) (bias arg5 harg5 x3 o ho)) shapeCasts_S4x256_S4x256

theorem pad_at (t : Fin 31) (o : Nat) (ho : o + 256 ≤ 2048) (r : Fin 4) (j : Fin 256) :
    (arg9.view.readCov (kernelRun0_A.sl.HS0_2 c arg2 harg2 arg3 harg3 x0 x1) (Rect.unit (s := S36x2048) ![2 + t.val, o] S4x256.size (inb_pad t o ho)).toLoadRect (ix2 r j) : EReal)
      = padded x0 x1 ⟨t.val + r.val, by omega⟩ ⟨o + j.val, by omega⟩ := by
  have hz3 : (![0, 0, 0] : Fin 3 → Nat) = fun _ => 0 := by funext a; fin_cases a <;> rfl
  have h0 : (Rect.unit (s := S36x2048) ![2 + t.val, o] S4x256.size (inb_pad t o ho)).toLoadRect.idx (ix2 r j) = ix2 (⟨2 + t.val + r.val, by omega⟩ : Fin 36) (⟨o + j.val, by omega⟩ : Fin 2048) := by
    funext a
    refine Fin.ext ?_
    match a with
    | ⟨0, _⟩ => show 2 + t.val + 1 * r.val = 2 + t.val + r.val; omega
    | ⟨1, _⟩ => show o + 1 * j.val = o + j.val; omega
  rw [View.readCov_eq_canon']
  show View.canon _ ((Rect.unit (s := S36x2048) ![2 + t.val, o] S4x256.size (inb_pad t o ho)).toLoadRect.idx (ix2 r j)) = _
  rw [h0]
  unfold kernelRun0_A.sl.HS0_2 padded
  rw [View.readAt_eq_ld, harg3.read_unread, View.readAt_eq_ld, harg2.read_unread]
  rw [View.ld_unit_zero hz3, View.ld_unit_zero hz3]
  by_cases h : t.val + r.val < 30
  · rw [Cert.Moba.canon_skip _ _ _ _ _ _ 0 (by show 2 + t.val + r.val < 32 ∨ 32 + 4 ≤ 2 + t.val + r.val; omega)]
    rw [Cert.Moba.canon_unit _ _ _ _ _ _ (ix2 (⟨t.val + r.val, h⟩ : Fin 30) (⟨o + j.val, by omega⟩ : Fin 2048)) (fun a => by
      match a with
      | ⟨0, _⟩ => show 2 + t.val + r.val = 2 + (t.val + r.val); omega
      | ⟨1, _⟩ => show o + j.val = 0 + (o + j.val); omega)]
    simp only [h, ↓reduceDIte]
    pointwise [k0_pay2]
  · rw [Cert.Moba.canon_unit _ _ _ _ _ _ (ix2 (⟨t.val + r.val - 30, by omega⟩ : Fin 4) (⟨o + j.val, by omega⟩ : Fin 2048)) (fun a => by
      match a with
      | ⟨0, _⟩ => show 2 + t.val + r.val = 32 + (t.val + r.val - 30); omega
      | ⟨1, _⟩ => show o + j.val = 0 + (o + j.val); omega)]
    simp only [h, ↓reduceDIte]
    pointwise [k0_pay3]

theorem tap_at (o : Nat) (ho : o + 256 ≤ 2048) (acc : FVec Ideal S4x256 .f32) (t : Fin 31) (r : Fin 4) (j : Fin 256) :
    (tap c arg2 harg2 arg3 harg3 arg4 harg4 arg9 x0 x1 x2 o ho acc t (ix2 r j) : EReal)
      = acc (ix2 r j) + padded x0 x1 ⟨t.val + r.val, by omega⟩ ⟨o + j.val, by omega⟩ * x2 (ix2 t ⟨o + j.val, by omega⟩) := by
  rw [← pad_at c arg2 harg2 arg3 harg3 arg9 x0 x1 t o ho r j]
  unfold tap
  rw [View.readAt_eq_ld, harg4.read_unread]
  pointwise

theorem taps_at (o : Nat) (ho : o + 256 ≤ 2048) (r : Fin 4) (j : Fin 256) : ∀ (L : List (Fin 31)) (acc : FVec Ideal S4x256 .f32),
    (L.foldl (tap c arg2 harg2 arg3 harg3 arg4 harg4 arg9 x0 x1 x2 o ho) acc (ix2 r j) : EReal)
      = L.foldl (fun a t => a + padded x0 x1 ⟨t.val + r.val, by omega⟩ ⟨o + j.val, by omega⟩ * x2 (ix2 t ⟨o + j.val, by omega⟩)) (acc (ix2 r j) : EReal)
  | [], acc => rfl
  | t :: L, acc => by
    rw [List.foldl_cons, List.foldl_cons, taps_at o ho r j L, tap_at]

theorem chunk_at (o : Nat) (ho : o + 256 ≤ 2048) (r : Fin 4) (j : Fin 256) :
    (chunk c arg2 harg2 arg3 harg3 arg4 harg4 arg5 harg5 arg9 x0 x1 x2 x3 o ho (ix2 r j) : EReal)
      = conv (padded x0 x1) (fun t q => x2 (ix2 t q)) (fun q => x3 (ix2 0 q)) r ⟨o + j.val, by omega⟩ := by
  have hb : (bias arg5 harg5 x3 o ho (ix2 r j) : EReal) = x3 (ix2 0 ⟨o + j.val, by omega⟩) := by
    unfold bias
    rw [View.readAt_eq_ld, harg5.read_unread]
    pointwise
  have hc : (chunk c arg2 harg2 arg3 harg3 arg4 harg4 arg5 harg5 arg9 x0 x1 x2 x3 o ho (ix2 r j) : EReal)
      = (List.finRange 31).foldl (tap c arg2 harg2 arg3 harg3 arg4 harg4 arg9 x0 x1 x2 o ho) (bias arg5 harg5 x3 o ho) (ix2 r j) := by
    unfold chunk
    generalize (List.finRange 31).foldl (tap c arg2 harg2 arg3 harg3 arg4 harg4 arg9 x0 x1 x2 o ho) (bias arg5 harg5 x3 o ho) = z
    pointwise
  rw [hc, taps_at, foldl_add, sum_taps, hb]
  rfl

theorem inb_piece (k : Fin 8) : ∀ a, (![0, 256 * k.val] : Fin 2 → Nat) a + S4x256.size a ≤ S4x2048.size a := fun a =>
  match a with
  | ⟨0, _⟩ => show 0 + 4 ≤ 4 by omega
  | ⟨1, _⟩ => show 256 * k.val + 256 ≤ 2048 by omega

/-- The chunk of columns `256 k`. -/
def piece (k : Fin 8) : View.Piece (Elt Ideal) S4x2048 .f32 :=
  ⟨Rect.unit (s := S4x2048) ![0, 256 * k.val] S4x256.size (inb_piece k),
    chunk c arg2 harg2 arg3 harg3 arg4 harg4 arg5 harg5 arg9 x0 x1 x2 x3 (256 * k.val) (by omega)⟩

theorem pieces : kernelRun0_A.sl.HS1_8 c arg2 harg2 arg3 harg3 arg4 harg4 arg5 harg5 arg9 x0 x1 x2 x3
    = [7, 6, 5, 4, 3, 2, 1, 0].map (piece c arg2 harg2 arg3 harg3 arg4 harg4 arg5 harg5 arg9 x0 x1 x2 x3) := rfl

theorem store_at (r : Fin 4) (q : Fin 2048) :
    (View.canon (kernelRun0_A.sl.HS1_8 c arg2 harg2 arg3 harg3 arg4 harg4 arg5 harg5 arg9 x0 x1 x2 x3) (ix2 r q) : EReal)
      = conv (padded x0 x1) (fun t q => x2 (ix2 t q)) (fun q => x3 (ix2 0 q)) r q := by
  rw [pieces]
  refine (View.canon_apply_of_pieces (fun y => conv (padded x0 x1) (fun t q => x2 (ix2 t q)) (fun q => x3 (ix2 0 q)) (y 0) (y 1)) _ ?_ (ix2 r q) ?_).trans rfl
  · intro p hp x
    obtain ⟨k, -, rfl⟩ := List.mem_map.mp hp
    obtain ⟨x, rfl⟩ : ∃ z : Fin 4 × Fin 256, x = ix2 z.1 z.2 := ⟨(x 0, x 1), by funext a; match a with | ⟨0, _⟩ => rfl | ⟨1, _⟩ => rfl⟩
    refine (chunk_at c arg2 harg2 arg3 harg3 arg4 harg4 arg5 harg5 arg9 x0 x1 x2 x3 (256 * k.val) (by omega) x.1 x.2).trans ?_
    have e0 : ((piece c arg2 harg2 arg3 harg3 arg4 harg4 arg5 harg5 arg9 x0 x1 x2 x3 k).1.emb (ix2 x.1 x.2) 0 : Fin 4) = x.1 := Fin.ext (by show 0 + 1 * x.1.val = x.1.val; omega)
    have e1 : ((piece c arg2 harg2 arg3 harg3 arg4 harg4 arg5 harg5 arg9 x0 x1 x2 x3 k).1.emb (ix2 x.1 x.2) 1 : Fin 2048) = ⟨256 * k.val + x.2.val, show 256 * k.val + x.2.val < 2048 by omega⟩ := Fin.ext (by show 256 * k.val + 1 * x.2.val = 256 * k.val + x.2.val; omega)
    exact (congr (congrArg (conv _ _ _) e0) e1).symm
  · refine ⟨piece c arg2 harg2 arg3 harg3 arg4 harg4 arg5 harg5 arg9 x0 x1 x2 x3 ⟨q.val / 256, by omega⟩, List.mem_map.mpr ⟨_, ?_, rfl⟩, ?_⟩
    · generalize (⟨q.val / 256, _⟩ : Fin 8) = k
      revert k
      decide
    · refine (Rect.mem_set_unit (inb := inb_piece ⟨q.val / 256, by omega⟩)).mpr fun a => ?_
      match a with
      | ⟨0, _⟩ => show 0 ≤ r.val ∧ r.val < 0 + 4; omega
      | ⟨1, _⟩ => show 256 * (q.val / 256) ≤ q.val ∧ q.val < 256 * (q.val / 256) + 256; omega

theorem tail_at (g b : FVec Ideal S1x2048 .f32) (y : Vec Ideal S4x2048 .f32) (r : Fin 4) (q : Fin 2048) :
    (k0_pay1 g b y (ix3 0 r q) : EReal) = swish (norm (fun k => y (ix2 r k)) (fun k => g (ix2 0 k)) (fun k => b (ix2 0 k)) q) := by
  unfold swish norm mean
  pointwise [k0_pay1]

theorem out_at (i : grid0.Coords) (r : Fin 4) (q : Fin 2048) :
    (out0_A_6 c i arg2 harg2 arg3 harg3 arg4 harg4 arg5 harg5 arg6 harg6 arg7 harg7 arg8 harg8 arg9 harg9 arg10 harg10 x0 x1 x2 x3 x4 x5 (ix3 0 r q) : EReal)
      = swish (norm (conv (padded x0 x1) (fun t q => x2 (ix2 t q)) (fun q => x3 (ix2 0 q)) r) (fun k => x4 (ix2 0 k)) (fun k => x5 (ix2 0 k)) q) := by
  have hz : (![0, 0] : Fin 2 → Nat) = fun _ => 0 := by funext a; fin_cases a <;> rfl
  have hz3 : (![0, 0, 0] : Fin 3 → Nat) = fun _ => 0 := by funext a; fin_cases a <;> rfl
  have hg : kernelRun0_A.sl.r_51 c arg6 harg6 x4 = x4 := by
    unfold kernelRun0_A.sl.r_51
    rw [View.readAt_eq_ld, harg6.read_unread, View.ld_unit_zero hz]
    funext i
    idx_vars i
    pointwise [k0_pay50]
  have hb : kernelRun0_A.sl.r_52 c arg7 harg7 x5 = x5 := by
    unfold kernelRun0_A.sl.r_52
    rw [View.readAt_eq_ld, harg7.read_unread, View.ld_unit_zero hz]
    funext i
    idx_vars i
    pointwise [k0_pay51]
  have hy : ∀ k : Fin 2048, (kernelRun0_A.sl.v1310 c arg2 harg2 arg3 harg3 arg4 harg4 arg5 harg5 arg9 arg10 x0 x1 x2 x3 (ix2 r k) : EReal)
      = conv (padded x0 x1) (fun t q => x2 (ix2 t q)) (fun q => x3 (ix2 0 q)) r k := fun k => by
    rw [← store_at c arg2 harg2 arg3 harg3 arg4 harg4 arg5 harg5 arg9 x0 x1 x2 x3 r k]
    unfold kernelRun0_A.sl.v1310
    rw [View.readCov_eq_canon']
    refine congrArg (View.canon _) (funext fun a => Fin.ext ?_)
    match a with
    | ⟨0, _⟩ => show 0 + 1 * r.val = r.val; omega
    | ⟨1, _⟩ => show 0 + 1 * k.val = k.val; omega
  unfold out0_A_6
  rw [View.read_writes_junk_eq_canon]
  show (View.canon (Val := Elt Ideal) (e := .f32) [⟨Rect.unit (s := S1x4x2048) ![0, 0, 0] S1x4x2048.size inb_S1x4x2048_S1x4x2048_0_0_0, k0_pay1 (kernelRun0_A.sl.r_51 c arg6 harg6 x4) (kernelRun0_A.sl.r_52 c arg7 harg7 x5) (kernelRun0_A.sl.v1310 c arg2 harg2 arg3 harg3 arg4 harg4 arg5 harg5 arg9 arg10 x0 x1 x2 x3)⟩] (ix3 0 r q) : EReal) = _
  rw [View.canon_unit_zero hz3]
  rw [hg, hb, tail_at]
  simp only [hy]

end

/-! ## From the blocks to the array -/

theorem geo0 : ∀ t : Fin cfg0.N, win0_0.index t 0 = t.val ∧ win0_0.index t 1 = 0 ∧ win0_0.index t 2 = 0 :=
  (by decide +kernel : ∀ t : Fin grid0.N, _)

theorem geo1 : ∀ t : Fin cfg0.N, win0_1.index t 0 = t.val ∧ win0_1.index t 1 = 0 ∧ win0_1.index t 2 = 0 :=
  (by decide +kernel : ∀ t : Fin grid0.N, _)

theorem geo2 : ∀ t : Fin cfg0.N, win0_2.index t 0 = 0 ∧ win0_2.index t 1 = 0 :=
  (by decide +kernel : ∀ t : Fin grid0.N, _)

theorem geo3 : ∀ t : Fin cfg0.N, win0_3.index t 0 = 0 ∧ win0_3.index t 1 = 0 :=
  (by decide +kernel : ∀ t : Fin grid0.N, _)

theorem geo4 : ∀ t : Fin cfg0.N, win0_4.index t 0 = 0 ∧ win0_4.index t 1 = 0 :=
  (by decide +kernel : ∀ t : Fin grid0.N, _)

theorem geo5 : ∀ t : Fin cfg0.N, win0_5.index t 0 = 0 ∧ win0_5.index t 1 = 0 :=
  (by decide +kernel : ∀ t : Fin grid0.N, _)

theorem geo6 : ∀ t : Fin cfg0.N, win0_6.index t 0 = t.val ∧ win0_6.index t 1 = 0 ∧ win0_6.index t 2 = 0 :=
  (by decide +kernel : ∀ t : Fin grid0.N, _)

section
variable (m : (ℓ : Loc nD τ sig) → Buf (Elt Ideal) ℓ) (c : Dev nD)

theorem lt (t : Fin cfg0.N) : t.val < 32 := by have h := t.isLt; have : cfg0.N = 32 := N_0; omega

theorem v0_at (p : Fin 32) (r : Fin 4) (q : Fin 2048) : (V m c main_v0 (ix3 p r q) : EReal) = (m ((c : Thread nD τ).loc main_arg0)) (ix2 ⟨4 * p.val + r.val, by omega⟩ q) := by
  have e : p.val * 4 + r.val = 4 * p.val + r.val := by omega
  unfold V
  after_reads_at
  simp only [e]

theorem v1_at (z : Fin 1) (q : Fin 2048) : (V m c main_v1 (ix2 z q) : EReal) = (m ((c : Thread nD τ).loc main_arg3)) (ix1 q) := by
  unfold V
  after_reads_at

theorem v2_at (z : Fin 1) (q : Fin 2048) : (V m c main_v2 (ix2 z q) : EReal) = (m ((c : Thread nD τ).loc main_arg4)) (ix1 q) := by
  unfold V
  after_reads_at

theorem v3_at (z : Fin 1) (q : Fin 2048) : (V m c main_v3 (ix2 z q) : EReal) = (m ((c : Thread nD τ).loc main_arg5)) (ix1 q) := by
  unfold V
  after_reads_at

theorem iblk0 (t : Fin cfg0.N) (z : Fin 1) (y0 : Fin 30) (y1 : Fin 2048) :
    (iblk m c 0 t (ix3 z y0 y1) : EReal) = (m ((c : Thread nD τ).loc main_arg1)) (ix3 ⟨t.val, lt t⟩ y0 y1) := by
  have g := geo0 t
  refine congrArg (m ((c : Thread nD τ).loc main_arg1)) (funext fun a => Fin.ext ?_)
  match a with
  | ⟨0, _⟩ => show win0_0.index t 0 * 1 + 1 * z.val = t.val; rw [g.1]; omega
  | ⟨1, _⟩ => show win0_0.index t 1 * 30 + 1 * y0.val = y0.val; rw [g.2.1]; omega
  | ⟨2, _⟩ => show win0_0.index t 2 * 2048 + 1 * y1.val = y1.val; rw [g.2.2]; omega

theorem iblk1 (t : Fin cfg0.N) (z : Fin 1) (y0 : Fin 4) (y1 : Fin 2048) :
    have := lt t
    (iblk m c 1 t (ix3 z y0 y1) : EReal) = (m ((c : Thread nD τ).loc main_arg0)) (ix2 ⟨4 * t.val + y0.val, by omega⟩ y1) := by
  have g := geo1 t
  refine Eq.trans (b := (V m c main_v0 (ix3 ⟨t.val, lt t⟩ y0 y1) : EReal)) ?_ (v0_at m c ⟨t.val, lt t⟩ y0 y1)
  refine congrArg (V m c main_v0) (funext fun a => Fin.ext ?_)
  match a with
  | ⟨0, _⟩ => show win0_1.index t 0 * 1 + 1 * z.val = t.val; rw [g.1]; omega
  | ⟨1, _⟩ => show win0_1.index t 1 * 4 + 1 * y0.val = y0.val; rw [g.2.1]; omega
  | ⟨2, _⟩ => show win0_1.index t 2 * 2048 + 1 * y1.val = y1.val; rw [g.2.2]; omega

theorem iblk2 (t : Fin cfg0.N) (y0 : Fin 31) (y1 : Fin 2048) :
    (iblk m c 2 t (ix2 y0 y1) : EReal) = (m ((c : Thread nD τ).loc main_arg2)) (ix2 y0 y1) := by
  have g := geo2 t
  refine congrArg (m ((c : Thread nD τ).loc main_arg2)) (funext fun a => Fin.ext ?_)
  match a with
  | ⟨0, _⟩ => show win0_2.index t 0 * 31 + 1 * y0.val = y0.val; rw [g.1]; omega
  | ⟨1, _⟩ => show win0_2.index t 1 * 2048 + 1 * y1.val = y1.val; rw [g.2]; omega

theorem iblk3 (t : Fin cfg0.N) (z : Fin 1) (y1 : Fin 2048) :
    (iblk m c 3 t (ix2 z y1) : EReal) = (m ((c : Thread nD τ).loc main_arg3)) (ix1 y1) := by
  have g := geo3 t
  refine Eq.trans (b := (V m c main_v1 (ix2 z y1) : EReal)) ?_ (v1_at m c z y1)
  refine congrArg (V m c main_v1) (funext fun a => Fin.ext ?_)
  match a with
  | ⟨0, _⟩ => show win0_3.index t 0 * 1 + 1 * z.val = z.val; rw [g.1]; omega
  | ⟨1, _⟩ => show win0_3.index t 1 * 2048 + 1 * y1.val = y1.val; rw [g.2]; omega

theorem iblk4 (t : Fin cfg0.N) (z : Fin 1) (y1 : Fin 2048) :
    (iblk m c 4 t (ix2 z y1) : EReal) = (m ((c : Thread nD τ).loc main_arg4)) (ix1 y1) := by
  have g := geo4 t
  refine Eq.trans (b := (V m c main_v2 (ix2 z y1) : EReal)) ?_ (v2_at m c z y1)
  refine congrArg (V m c main_v2) (funext fun a => Fin.ext ?_)
  match a with
  | ⟨0, _⟩ => show win0_4.index t 0 * 1 + 1 * z.val = z.val; rw [g.1]; omega
  | ⟨1, _⟩ => show win0_4.index t 1 * 2048 + 1 * y1.val = y1.val; rw [g.2]; omega

theorem iblk5 (t : Fin cfg0.N) (z : Fin 1) (y1 : Fin 2048) :
    (iblk m c 5 t (ix2 z y1) : EReal) = (m ((c : Thread nD τ).loc main_arg5)) (ix1 y1) := by
  have g := geo5 t
  refine Eq.trans (b := (V m c main_v3 (ix2 z y1) : EReal)) ?_ (v3_at m c z y1)
  refine congrArg (V m c main_v3) (funext fun a => Fin.ext ?_)
  match a with
  | ⟨0, _⟩ => show win0_5.index t 0 * 1 + 1 * z.val = z.val; rw [g.1]; omega
  | ⟨1, _⟩ => show win0_5.index t 1 * 2048 + 1 * y1.val = y1.val; rw [g.2]; omega

theorem flushed_eq (t : Fin cfg0.N) :
    (dats m 0 c).flushed 6 t = ((cfg0.win 6).blk t).view.read (Elt Ideal)
      (arr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  rw [Value.flushed6_A]
  funext y
  have hy0 : (y 0).val < 1 := (y 0).isLt
  have hy1 : (y 1).val < 4 := (y 1).isLt
  have hy2 : (y 2).val < 2048 := (y 2).isLt
  have g := geo6 t
  have ht := lt t
  have e : (((cfg0.win 6).blk t).view.emb y : S32x4x2048.Idx)
      = (ix3 ⟨t.val, ht⟩ ⟨(y 1).val, hy1⟩ ⟨(y 2).val, hy2⟩) := by
    funext a
    refine Fin.ext ?_
    match a with
    | ⟨0, _⟩ => show win0_6.index t 0 * 1 + 1 * (y 0).val = t.val; rw [g.1]; omega
    | ⟨1, _⟩ => show win0_6.index t 1 * 4 + 1 * (y 1).val = (y 1).val; rw [g.2.1]; omega
    | ⟨2, _⟩ => show win0_6.index t 2 * 2048 + 1 * (y 2).val = (y 2).val; rw [g.2.2]; omega
  refine Eq.trans ?_ (Eq.trans (out_at c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t) (iblk m c 4 t) (iblk m c 5 t) (grid0.coords t) ⟨(y 1).val, hy1⟩ ⟨(y 2).val, hy2⟩) ?_)
  · refine congrArg (out0_A_6 _ _ _ _ _ _ _ _ _ _ _ _ _ _ _ _ _ _ _ _ _ _ _ _ _ _) (funext fun a => Fin.ext ?_)
    match a with
    | ⟨0, _⟩ => show (y 0).val = 0; omega
    | ⟨1, _⟩ => rfl
    | ⟨2, _⟩ => rfl
  · show _ = arr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 6).blk t).view.emb y)
    rw [e]
    show _ = at' (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨t.val, ht⟩ ⟨(y 1).val, hy1⟩ ⟨(y 2).val, hy2⟩
    have hp : padded (iblk m c 0 t) (iblk m c 1 t) = hist (m ((c : Thread nD τ).loc main_arg0)) (m ((c : Thread nD τ).loc main_arg1)) ⟨t.val, ht⟩ := by
      funext u q
      unfold padded hist
      by_cases h : u.val < 30
      · simp only [h, ↓reduceDIte]
        exact iblk0 m c t 0 _ q
      · simp only [h, ↓reduceDIte]
        exact iblk1 m c t 0 _ q
    unfold at'
    rw [hp]
    simp only [iblk2, iblk3, iblk4, iblk5]

theorem cover (i : S32x4x2048.Idx) : ∃ t : Fin cfg0.N, (cfg0.win 6).flush t = true ∧ i ∈ ((cfg0.win 6).blk t).view.set := by
  have h0 : (i 0 : Nat) < 32 := (i 0).isLt
  have h1 : (i 1 : Nat) < 4 := (i 1).isLt
  have h2 : (i 2 : Nat) < 2048 := (i 2).isLt
  have hN : cfg0.N = 32 := N_0
  refine ⟨⟨(i 0).val, by omega⟩, flush0_6 _, ?_⟩
  generalize ht : (⟨(i 0).val, _⟩ : Fin cfg0.N) = t
  have hv : t.val = (i 0).val := by rw [← ht]
  have g := geo6 t
  show i ∈ ((View.whole main_v4).slice (win0_6.rect t)).set
  rw [View.set_slice_whole, Rect.mem_set_unit]
  intro a
  match a with
  | ⟨0, _⟩ => show win0_6.index t 0 * 1 ≤ (i 0 : Nat) ∧ (i 0 : Nat) < win0_6.index t 0 * 1 + 1; rw [g.1]; omega
  | ⟨1, _⟩ => show win0_6.index t 1 * 4 ≤ (i 1 : Nat) ∧ (i 1 : Nat) < win0_6.index t 1 * 4 + 4; rw [g.2.1]; omega
  | ⟨2, _⟩ => show win0_6.index t 2 * 2048 ≤ (i 2 : Nat) ∧ (i 2 : Nat) < win0_6.index t 2 * 2048 + 2048; rw [g.2.2]; omega

theorem final : (dats m 0 c).arrAt 6 cfg0.N = arr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 6 _ (fun t _ => flushed_eq m c t) cover

end

end Cert.SconvV

/-! ## The reference -/

namespace Cert.SconvV

open Idealize.ShloMosaic Idealize.SL.Sem

section
open Cert.SconvReferenceIdeal Cert.SconvReferenceIdeal.Gen Cert.SconvReferenceIdeal.Value
variable (V0 : Valuation τ sig (Elt Ideal))

theorem slices_rows (t : Fin 31) : S32x34x2048.Slices ![0, t.val, 0] S32x4x2048 := by
  revert t
  decide

theorem slices_tap (t : Fin 31) : S31x2048.Slices ![t.val, 0] S1x2048 := by
  revert t
  decide

/-- One tap of the reference. -/
def tapR (u : FVec Ideal S32x34x2048 .f32) (w : FVec Ideal S31x2048 .f32) (acc : FVec Ideal S32x4x2048 .f32) (t : Fin 31) : FVec Ideal S32x4x2048 .f32 :=
  addf acc (mulf (extractStridedSlice S32x4x2048 ![0, t.val, 0] u (slices_rows t)) (broadcastInDim S32x4x2048 ![0, 1, 2] bcast_S1x1x2048_S32x4x2048_0_1_2 (broadcastInDim S1x1x2048 ![2] bcast_S2048_S1x1x2048_2 (shapeCast S2048 (extractStridedSlice S1x2048 ![t.val, 0] w (slices_tap t)) shapeCasts_S1x2048_S2048))))

theorem tapR_at (u : FVec Ideal S32x34x2048 .f32) (w : FVec Ideal S31x2048 .f32) (acc : FVec Ideal S32x4x2048 .f32) (t : Fin 31) (p : Fin 32) (r : Fin 4) (q : Fin 2048) :
    (tapR u w acc t (ix3 p r q) : EReal) = acc (ix3 p r q) + u (ix3 p ⟨t.val + r.val, by omega⟩ q) * w (ix2 t q) := by
  unfold tapR
  pointwise

theorem tapsR_at (u : FVec Ideal S32x34x2048 .f32) (w : FVec Ideal S31x2048 .f32) (p : Fin 32) (r : Fin 4) (q : Fin 2048) : ∀ (L : List (Fin 31)) (acc : FVec Ideal S32x4x2048 .f32),
    (L.foldl (tapR u w) acc (ix3 p r q) : EReal) = L.foldl (fun a t => a + u (ix3 p ⟨t.val + r.val, by omega⟩ q) * w (ix2 t q)) (acc (ix3 p r q) : EReal)
  | [], acc => rfl
  | t :: L, acc => by
    rw [List.foldl_cons, List.foldl_cons, tapsR_at u w p r q L, tapR_at]

theorem taps_eq : res_main_v222 V0 = addf ((List.finRange 31).foldl (tapR (res_main_v1 V0) (V0 (Proc.devRef .tc main_arg2))) (broadcastInDim S32x4x2048 ![] bcast_S_S32x4x2048 (constant S_ .f32 0x00000000#32)))
    (broadcastInDim S32x4x2048 ![0, 1, 2] bcast_S1x1x2048_S32x4x2048_0_1_2 (broadcastInDim S1x1x2048 ![2] bcast_S2048_S1x1x2048_2 (V0 (Proc.devRef .tc main_arg3)))) := rfl

theorem cat_at (p : Fin 32) (u : Fin 34) (q : Fin 2048) :
    (res_main_v1 V0 (ix3 p u q) : EReal) = hist (V0 (Proc.devRef .tc main_arg0)) (V0 (Proc.devRef .tc main_arg1)) p u q := by
  have e : p.val * 4 + (u.val - 30) = 4 * p.val + (u.val - 30) := by omega
  unfold res_main_v1 hist
  pointwise [e]

theorem conv_at (p : Fin 32) (r : Fin 4) (q : Fin 2048) :
    (res_main_v222 V0 (ix3 p r q) : EReal)
      = conv (hist (V0 (Proc.devRef .tc main_arg0)) (V0 (Proc.devRef .tc main_arg1)) p) (fun t q => V0 (Proc.devRef .tc main_arg2) (ix2 t q)) (fun q => V0 (Proc.devRef .tc main_arg3) (ix1 q)) r q := by
  have hs : ∀ (a : FVec Ideal S32x4x2048 .f32) (b : FVec Ideal S2048 .f32), (addf a (broadcastInDim S32x4x2048 ![0, 1, 2] bcast_S1x1x2048_S32x4x2048_0_1_2 (broadcastInDim S1x1x2048 ![2] bcast_S2048_S1x1x2048_2 b)) (ix3 p r q) : EReal) = a (ix3 p r q) + b (ix1 q) := fun a b => by
    pointwise
  have hz : ((broadcastInDim S32x4x2048 ![] bcast_S_S32x4x2048 (constant S_ .f32 0x00000000#32) : FVec Ideal S32x4x2048 .f32) (ix3 p r q) : EReal) = 0 := by
    pointwise
  rw [taps_eq, hs, tapsR_at, foldl_add, sum_taps, hz, zero_add, add_comm]
  unfold conv
  simp only [cat_at]

theorem norm_at (p : Fin 32) (r : Fin 4) (q : Fin 2048) :
    (res_main_v246 V0 (ix3 p r q) : EReal)
      = norm (fun k => res_main_v222 V0 (ix3 p r k)) (fun k => V0 (Proc.devRef .tc main_arg4) (ix1 k)) (fun k => V0 (Proc.devRef .tc main_arg5) (ix1 k)) q := by
  unfold res_main_v246 res_main_v228 res_main_v226 norm mean
  generalize res_main_v222 V0 = y
  generalize V0 (Proc.devRef .tc main_arg4) = g
  generalize V0 (Proc.devRef .tc main_arg5) = b
  pointwise

theorem swish_at (z : FVec Ideal S32x4x2048 .f32) (p : Fin 32) (r : Fin 4) (q : Fin 2048) :
    (mulf z (Host.divf (broadcastInDim S32x4x2048 ![] bcast_S_S32x4x2048 (constant S_ .f32 0x3F800000#32)) (addf (broadcastInDim S32x4x2048 ![] bcast_S_S32x4x2048 (constant S_ .f32 0x3F800000#32)) (Host.exp (Host.negf z)))) (ix3 p r q) : EReal) = swish (z (ix3 p r q)) := by
  unfold swish
  pointwise [Ideal.logistic]

end

theorem frame_r : Cert.quiescent_SconvReferenceIdeal := fun m ρ _ =>
  (θ_run Cert.SconvReferenceIdeal.defs _ _).mono (fun r h => ⟨fun c => (h c).2, sem_eq_zero_of_no_sems (by decide) r.2⟩)
    (Cert.SconvReferenceIdeal.Value.run (F := Ideal) m ρ)

theorem algebraic : Cert.algebraic_SconvIdeal_SconvReferenceIdeal := by
  intro m ρ m' ρ' _ hagree
  refine ⟨fun c => arr (m ((c.tc : Thread Cert.SconvIdeal.nD Cert.SconvIdeal.τ).loc Cert.SconvIdeal.main_arg0)) (m ((c.tc : Thread Cert.SconvIdeal.nD Cert.SconvIdeal.τ).loc Cert.SconvIdeal.main_arg1)) (m ((c.tc : Thread Cert.SconvIdeal.nD Cert.SconvIdeal.τ).loc Cert.SconvIdeal.main_arg2)) (m ((c.tc : Thread Cert.SconvIdeal.nD Cert.SconvIdeal.τ).loc Cert.SconvIdeal.main_arg3)) (m ((c.tc : Thread Cert.SconvIdeal.nD Cert.SconvIdeal.τ).loc Cert.SconvIdeal.main_arg4)) (m ((c.tc : Thread Cert.SconvIdeal.nD Cert.SconvIdeal.τ).loc Cert.SconvIdeal.main_arg5)), ?_, ?_⟩
  · exact (θ_run Cert.SconvIdeal.defs _ _).mono (fun r h c => ⟨(h c).1.trans (final m c), (h c).2⟩)
      (Cert.SconvIdeal.Value.run_blocks (F := Ideal) m ρ)
  · refine (θ_run Cert.SconvReferenceIdeal.defs _ _).mono (fun r h c => ⟨(h c).1.trans ?_, (h c).2⟩)
      (Cert.SconvReferenceIdeal.Value.run (F := Ideal) m' ρ')
    obtain ⟨g0, g1, g2, g3, g4, g5⟩ := hagree c
    funext i
    idx_vars i
    refine (swish_at _ i0 i1 i2).trans ?_
    rw [norm_at]
    simp only [conv_at]
    show _ = at' _ _ _ _ _ _ i0 i1 i2
    unfold at'
    rw [← g0, ← g1, ← g2, ← g3, ← g4, ← g5]

end Cert.SconvV
-- ==== Proof.lean ====
/- The layer's calls: each kernel program and its reference run, and each kernel's idealization computes what its reference
   computes. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Ffa
public import proofs.«01_k».proof.Proof.Gen.Ffa.Skeleton
public import proofs.«01_k».proof.Proof.Gen.Ffa.Launch
public import proofs.«01_k».proof.Proof.Gen.Ffa.Points
public import proofs.«01_k».proof.Proof.Gen.Ffa.Frame
public import proofs.«01_k».proof.Proof.Gen.FfaIdeal
public import proofs.«01_k».proof.Proof.Gen.FfaIdeal.Skeleton
public import proofs.«01_k».proof.Proof.Gen.FfaIdeal.Launch
public import proofs.«01_k».proof.Proof.Gen.FfaIdeal.Points
public import proofs.«01_k».proof.Proof.Gen.FfaIdeal.Frame
public import proofs.«01_k».proof.Proof.Gen.FfaIdeal.Value
public import proofs.«01_k».proof.Proof.Gen.FfaReferenceIdeal.Run
public import proofs.«01_k».proof.Proof.Gen.Ffb
public import proofs.«01_k».proof.Proof.Gen.Ffb.Skeleton
public import proofs.«01_k».proof.Proof.Gen.Ffb.Launch
public import proofs.«01_k».proof.Proof.Gen.Ffb.Points
public import proofs.«01_k».proof.Proof.Gen.Ffb.Frame
public import proofs.«01_k».proof.Proof.Gen.FfbIdeal
public import proofs.«01_k».proof.Proof.Gen.FfbIdeal.Skeleton
public import proofs.«01_k».proof.Proof.Gen.FfbIdeal.Launch
public import proofs.«01_k».proof.Proof.Gen.FfbIdeal.Points
public import proofs.«01_k».proof.Proof.Gen.FfbIdeal.Frame
public import proofs.«01_k».proof.Proof.Gen.FfbIdeal.Value
public import proofs.«01_k».proof.Proof.Gen.FfbReferenceIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeReferenceIdeal.Run
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutReferenceIdeal.Run
public import proofs.«01_k».proof.Proof.Gen.Glu
public import proofs.«01_k».proof.Proof.Gen.Glu.Skeleton
public import proofs.«01_k».proof.Proof.Gen.Glu.Launch
public import proofs.«01_k».proof.Proof.Gen.Glu.Points
public import proofs.«01_k».proof.Proof.Gen.Glu.Frame
public import proofs.«01_k».proof.Proof.Gen.GluIdeal
public import proofs.«01_k».proof.Proof.Gen.GluIdeal.Skeleton
public import proofs.«01_k».proof.Proof.Gen.GluIdeal.Launch
public import proofs.«01_k».proof.Proof.Gen.GluIdeal.Points
public import proofs.«01_k».proof.Proof.Gen.GluIdeal.Frame
public import proofs.«01_k».proof.Proof.Gen.GluIdeal.Value
public import proofs.«01_k».proof.Proof.Gen.GluReferenceIdeal.Run
public import proofs.«01_k».proof.Proof.Gen.Key
public import proofs.«01_k».proof.Proof.Gen.Key.Skeleton
public import proofs.«01_k».proof.Proof.Gen.Key.Launch
public import proofs.«01_k».proof.Proof.Gen.Key.Points
public import proofs.«01_k».proof.Proof.Gen.Key.Frame
public import proofs.«01_k».proof.Proof.Gen.KeyIdeal
public import proofs.«01_k».proof.Proof.Gen.KeyIdeal.Skeleton
public import proofs.«01_k».proof.Proof.Gen.KeyIdeal.Launch
public import proofs.«01_k».proof.Proof.Gen.KeyIdeal.Points
public import proofs.«01_k».proof.Proof.Gen.KeyIdeal.Frame
public import proofs.«01_k».proof.Proof.Gen.KeyIdeal.Value
public import proofs.«01_k».proof.Proof.Gen.KeyReferenceIdeal.Run
public import proofs.«01_k».proof.Proof.Gen.Val
public import proofs.«01_k».proof.Proof.Gen.Val.Skeleton
public import proofs.«01_k».proof.Proof.Gen.Val.Launch
public import proofs.«01_k».proof.Proof.Gen.Val.Points
public import proofs.«01_k».proof.Proof.Gen.Val.Frame
public import proofs.«01_k».proof.Proof.Gen.ValIdeal
public import proofs.«01_k».proof.Proof.Gen.ValIdeal.Skeleton
public import proofs.«01_k».proof.Proof.Gen.ValIdeal.Launch
public import proofs.«01_k».proof.Proof.Gen.ValIdeal.Points
public import proofs.«01_k».proof.Proof.Gen.ValIdeal.Frame
public import proofs.«01_k».proof.Proof.Gen.ValIdeal.Value
public import proofs.«01_k».proof.Proof.Gen.ValReferenceIdeal.Run
public import proofs.«01_k».proof.Proof.Gen.Query
public import proofs.«01_k».proof.Proof.Gen.Query.Skeleton
public import proofs.«01_k».proof.Proof.Gen.Query.Launch
public import proofs.«01_k».proof.Proof.Gen.Query.Points
public import proofs.«01_k».proof.Proof.Gen.Query.Frame
public import proofs.«01_k».proof.Proof.Gen.QueryIdeal
public import proofs.«01_k».proof.Proof.Gen.QueryIdeal.Skeleton
public import proofs.«01_k».proof.Proof.Gen.QueryIdeal.Launch
public import proofs.«01_k».proof.Proof.Gen.QueryIdeal.Points
public import proofs.«01_k».proof.Proof.Gen.QueryIdeal.Frame
public import proofs.«01_k».proof.Proof.Gen.QueryIdeal.Value
public import proofs.«01_k».proof.Proof.Gen.QueryReferenceIdeal.Run
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormReferenceIdeal.Run
public import proofs.«01_k».proof.Proof.Gen.Fin
public import proofs.«01_k».proof.Proof.Gen.Fin.Skeleton
public import proofs.«01_k».proof.Proof.Gen.Fin.Launch
public import proofs.«01_k».proof.Proof.Gen.Fin.Points
public import proofs.«01_k».proof.Proof.Gen.Fin.Frame
public import proofs.«01_k».proof.Proof.Gen.FinIdeal
public import proofs.«01_k».proof.Proof.Gen.FinIdeal.Skeleton
public import proofs.«01_k».proof.Proof.Gen.FinIdeal.Launch
public import proofs.«01_k».proof.Proof.Gen.FinIdeal.Points
public import proofs.«01_k».proof.Proof.Gen.FinIdeal.Frame
public import proofs.«01_k».proof.Proof.Gen.FinIdeal.Value
public import proofs.«01_k».proof.Proof.Gen.FinReferenceIdeal.Run
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaIdeal.Value
public import proofs.«01_k».proof.Proof.Gen.AdaReferenceIdeal.Run
public import proofs.«01_k».proof.Proof.Gen.Sfin
public import proofs.«01_k».proof.Proof.Gen.Sfin.Skeleton
public import proofs.«01_k».proof.Proof.Gen.Sfin.Launch
public import proofs.«01_k».proof.Proof.Gen.Sfin.Points
public import proofs.«01_k».proof.Proof.Gen.Sfin.Frame
public import proofs.«01_k».proof.Proof.Gen.SfinIdeal
public import proofs.«01_k».proof.Proof.Gen.SfinIdeal.Skeleton
public import proofs.«01_k».proof.Proof.Gen.SfinIdeal.Launch
public import proofs.«01_k».proof.Proof.Gen.SfinIdeal.Points
public import proofs.«01_k».proof.Proof.Gen.SfinIdeal.Frame
public import proofs.«01_k».proof.Proof.Gen.SfinIdeal.Value
public import proofs.«01_k».proof.Proof.Gen.SfinReferenceIdeal.Run
public import proofs.«01_k».proof.Proof.Gen.Skey
public import proofs.«01_k».proof.Proof.Gen.Skey.Skeleton
public import proofs.«01_k».proof.Proof.Gen.Skey.Launch
public import proofs.«01_k».proof.Proof.Gen.Skey.Points
public import proofs.«01_k».proof.Proof.Gen.Skey.Frame
public import proofs.«01_k».proof.Proof.Gen.SkeyIdeal
public import proofs.«01_k».proof.Proof.Gen.SkeyIdeal.Skeleton
public import proofs.«01_k».proof.Proof.Gen.SkeyIdeal.Launch
public import proofs.«01_k».proof.Proof.Gen.SkeyIdeal.Points
public import proofs.«01_k».proof.Proof.Gen.SkeyIdeal.Frame
public import proofs.«01_k».proof.Proof.Gen.SkeyIdeal.Value
public import proofs.«01_k».proof.Proof.Gen.SkeyReferenceIdeal.Run
public import proofs.«01_k».proof.Proof.Gen.Sval
public import proofs.«01_k».proof.Proof.Gen.Sval.Skeleton
public import proofs.«01_k».proof.Proof.Gen.Sval.Launch
public import proofs.«01_k».proof.Proof.Gen.Sval.Points
public import proofs.«01_k».proof.Proof.Gen.Sval.Frame
public import proofs.«01_k».proof.Proof.Gen.SvalIdeal
public import proofs.«01_k».proof.Proof.Gen.SvalIdeal.Skeleton
public import proofs.«01_k».proof.Proof.Gen.SvalIdeal.Launch
public import proofs.«01_k».proof.Proof.Gen.SvalIdeal.Points
public import proofs.«01_k».proof.Proof.Gen.SvalIdeal.Frame
public import proofs.«01_k».proof.Proof.Gen.SvalIdeal.Value
public import proofs.«01_k».proof.Proof.Gen.SvalReferenceIdeal.Run
public import proofs.«01_k».proof.Proof.Gen.Sglu
public import proofs.«01_k».proof.Proof.Gen.Sglu.Skeleton
public import proofs.«01_k».proof.Proof.Gen.Sglu.Launch
public import proofs.«01_k».proof.Proof.Gen.Sglu.Points
public import proofs.«01_k».proof.Proof.Gen.Sglu.Frame
public import proofs.«01_k».proof.Proof.Gen.SgluIdeal
public import proofs.«01_k».proof.Proof.Gen.SgluIdeal.Skeleton
public import proofs.«01_k».proof.Proof.Gen.SgluIdeal.Launch
public import proofs.«01_k».proof.Proof.Gen.SgluIdeal.Points
public import proofs.«01_k».proof.Proof.Gen.SgluIdeal.Frame
public import proofs.«01_k».proof.Proof.Gen.SgluIdeal.Value
public import proofs.«01_k».proof.Proof.Gen.SgluReferenceIdeal.Run
public import proofs.«01_k».proof.Proof.Gen.Sconv
public import proofs.«01_k».proof.Proof.Gen.Sconv.Skeleton
public import proofs.«01_k».proof.Proof.Gen.Sconv.Launch
public import proofs.«01_k».proof.Proof.Gen.Sconv.Points
public import proofs.«01_k».proof.Proof.Gen.Sconv.Frame
public import proofs.«01_k».proof.Proof.Gen.SconvIdeal
public import proofs.«01_k».proof.Proof.Gen.SconvIdeal.Skeleton
public import proofs.«01_k».proof.Proof.Gen.SconvIdeal.Launch
public import proofs.«01_k».proof.Proof.Gen.SconvIdeal.Points
public import proofs.«01_k».proof.Proof.Gen.SconvIdeal.Frame
public import proofs.«01_k».proof.Proof.Gen.SconvIdeal.Value
public import proofs.«01_k».proof.Proof.Gen.SconvReferenceIdeal.Run
public import proofs.«01_k».proof.Proof.MobaPre
public import proofs.«01_k».proof.Proof.Ffa
public import proofs.«01_k».proof.Proof.Ffb
public import proofs.«01_k».proof.Proof.Merge
public import proofs.«01_k».proof.Proof.Out
public import proofs.«01_k».proof.Proof.Glu
public import proofs.«01_k».proof.Proof.Key
public import proofs.«01_k».proof.Proof.Val
public import proofs.«01_k».proof.Proof.Query
public import proofs.«01_k».proof.Proof.Norm
public import proofs.«01_k».proof.Proof.Fin
public import proofs.«01_k».proof.Proof.Ada
public import proofs.«01_k».proof.Proof.Sfin
public import proofs.«01_k».proof.Proof.Skey
public import proofs.«01_k».proof.Proof.Sval
public import proofs.«01_k».proof.Proof.Sglu
public import proofs.«01_k».proof.Proof.Sconv
public import Idealize.ShloMosaic.Adequacy
public import Idealize.ShloMosaic.Init

@[expose] public section

noncomputable section

namespace Cert.Proof

open Idealize.ShloMosaic Idealize.SL.Sem Cert.Kernel

/-- The reference runs and declares no semaphore. -/
theorem frame_r : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's idealization ends with the reference's result, once every query and key is a number. -/
theorem algebraic : Cert.algebraic_KernelIdeal_ReferenceIdeal_pre_finite_qk := by
  intro m ρ m' ρ' hpre hagree
  have hreal := fun c => Cert.MobaRef.real_of_pre _ _ _ (hpre c)
  refine ⟨fun c => Cert.Moba.attnArr (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.Moba.final m c (hreal c).2), (h c).2⟩)
      (Cert.KernelIdeal.Value.run_blocks (F := Ideal) m ρ)
  · refine (θ_run Cert.ReferenceIdeal.defs _ _).mono (fun r h c => ⟨(h c).1.trans ?_, (h c).2⟩)
      (Cert.ReferenceIdeal.Value.run (F := Ideal) m' ρ')
    rw [Cert.MobaRef.res_eq, (hagree c).1, (hagree c).2.1, (hagree c).2.2]
    exact Cert.MobaRef.refArr_eq _ _ _ (hreal c).1 (hreal c).2

/-- Every claim of every call: the programs' facts, the frames, then each idealization and value claim. -/
theorem claim : Cert.Claim :=
  ⟨Cert.Kernel.Gen.facts, Cert.KernelIdeal.Gen.facts, Cert.ReferenceIdeal.Gen.facts,
    Cert.Ffa.Gen.facts, Cert.FfaIdeal.Gen.facts, Cert.FfaReferenceIdeal.Gen.facts,
    Cert.Ffb.Gen.facts, Cert.FfbIdeal.Gen.facts, Cert.FfbReferenceIdeal.Gen.facts,
    Cert.Merge.Gen.facts, Cert.MergeIdeal.Gen.facts, Cert.MergeReferenceIdeal.Gen.facts,
    Cert.Out.Gen.facts, Cert.OutIdeal.Gen.facts, Cert.OutReferenceIdeal.Gen.facts,
    Cert.Glu.Gen.facts, Cert.GluIdeal.Gen.facts, Cert.GluReferenceIdeal.Gen.facts,
    Cert.Key.Gen.facts, Cert.KeyIdeal.Gen.facts, Cert.KeyReferenceIdeal.Gen.facts,
    Cert.Val.Gen.facts, Cert.ValIdeal.Gen.facts, Cert.ValReferenceIdeal.Gen.facts,
    Cert.Query.Gen.facts, Cert.QueryIdeal.Gen.facts, Cert.QueryReferenceIdeal.Gen.facts,
    Cert.Norm.Gen.facts, Cert.NormIdeal.Gen.facts, Cert.NormReferenceIdeal.Gen.facts,
    Cert.Fin.Gen.facts, Cert.FinIdeal.Gen.facts, Cert.FinReferenceIdeal.Gen.facts,
    Cert.Ada.Gen.facts, Cert.AdaIdeal.Gen.facts, Cert.AdaReferenceIdeal.Gen.facts,
    Cert.Sfin.Gen.facts, Cert.SfinIdeal.Gen.facts, Cert.SfinReferenceIdeal.Gen.facts,
    Cert.Skey.Gen.facts, Cert.SkeyIdeal.Gen.facts, Cert.SkeyReferenceIdeal.Gen.facts,
    Cert.Sval.Gen.facts, Cert.SvalIdeal.Gen.facts, Cert.SvalReferenceIdeal.Gen.facts,
    Cert.Sglu.Gen.facts, Cert.SgluIdeal.Gen.facts, Cert.SgluReferenceIdeal.Gen.facts,
    Cert.Sconv.Gen.facts, Cert.SconvIdeal.Gen.facts, Cert.SconvReferenceIdeal.Gen.facts,
    Cert.MobaRef.preFacts,
    fun m ρ _ => Cert.Kernel.Gen.frame m ρ, fun m ρ _ => Cert.KernelIdeal.Gen.frame m ρ,
    fun m ρ _ => Cert.KernelIdeal.Gen.frame m ρ, frame_r, fun m ρ _ => frame_r m ρ trivial,
    fun m ρ _ => Cert.Ffa.Gen.frame m ρ, fun m ρ _ => Cert.FfaIdeal.Gen.frame m ρ, Cert.FfaV.frame_r,
    fun m ρ _ => Cert.Ffb.Gen.frame m ρ, fun m ρ _ => Cert.FfbIdeal.Gen.frame m ρ, Cert.FfbV.frame_r,
    fun m ρ _ => Cert.Merge.Gen.frame m ρ, fun m ρ _ => Cert.MergeIdeal.Gen.frame m ρ, Cert.MergeV.frame_r,
    fun m ρ _ => Cert.Out.Gen.frame m ρ, fun m ρ _ => Cert.OutIdeal.Gen.frame m ρ, Cert.OutV.frame_r,
    fun m ρ _ => Cert.Glu.Gen.frame m ρ, fun m ρ _ => Cert.GluIdeal.Gen.frame m ρ, Cert.GluV.frame_r,
    fun m ρ _ => Cert.Key.Gen.frame m ρ, fun m ρ _ => Cert.KeyIdeal.Gen.frame m ρ, Cert.KeyV.frame_r,
    fun m ρ _ => Cert.Val.Gen.frame m ρ, fun m ρ _ => Cert.ValIdeal.Gen.frame m ρ, Cert.ValV.frame_r,
    fun m ρ _ => Cert.Query.Gen.frame m ρ, fun m ρ _ => Cert.QueryIdeal.Gen.frame m ρ, Cert.QueryV.frame_r,
    fun m ρ _ => Cert.Norm.Gen.frame m ρ, fun m ρ _ => Cert.NormIdeal.Gen.frame m ρ, Cert.NormV.frame_r,
    fun m ρ _ => Cert.Fin.Gen.frame m ρ, fun m ρ _ => Cert.FinIdeal.Gen.frame m ρ, Cert.FinV.frame_r,
    fun m ρ _ => Cert.Ada.Gen.frame m ρ, fun m ρ _ => Cert.AdaIdeal.Gen.frame m ρ, Cert.AdaV.frame_r,
    fun m ρ _ => Cert.Sfin.Gen.frame m ρ, fun m ρ _ => Cert.SfinIdeal.Gen.frame m ρ, Cert.SfinV.frame_r,
    fun m ρ _ => Cert.Skey.Gen.frame m ρ, fun m ρ _ => Cert.SkeyIdeal.Gen.frame m ρ, Cert.SkeyV.frame_r,
    fun m ρ _ => Cert.Sval.Gen.frame m ρ, fun m ρ _ => Cert.SvalIdeal.Gen.frame m ρ, Cert.SvalV.frame_r,
    fun m ρ _ => Cert.Sglu.Gen.frame m ρ, fun m ρ _ => Cert.SgluIdeal.Gen.frame m ρ, Cert.SgluV.frame_r,
    fun m ρ _ => Cert.Sconv.Gen.frame m ρ, fun m ρ _ => Cert.SconvIdeal.Gen.frame m ρ, Cert.SconvV.frame_r,
    trivial, algebraic,
    trivial, Cert.FfaV.algebraic,
    trivial, Cert.FfbV.algebraic,
    trivial, Cert.MergeV.algebraic,
    trivial, Cert.OutV.algebraic,
    trivial, Cert.GluV.algebraic,
    trivial, Cert.KeyV.algebraic,
    trivial, Cert.ValV.algebraic,
    trivial, Cert.QueryV.algebraic,
    trivial, Cert.NormV.algebraic,
    trivial, Cert.FinV.algebraic,
    trivial, Cert.AdaV.algebraic,
    trivial, Cert.SfinV.algebraic,
    trivial, Cert.SkeyV.algebraic,
    trivial, Cert.SvalV.algebraic,
    trivial, Cert.SgluV.algebraic,
    trivial, Cert.SconvV.algebraic⟩

end Cert.Proof

end
